-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_parameters [hPre_finite_parameters : Cert.Pre_finite_parameters.Facts] (m : (ℓ : Loc Cert.KernelIdeal.nD Cert.KernelIdeal.τ Cert.KernelIdeal.sig) → Buf (Elt Ideal) ℓ) : Prop :=
  ∀ c : Dev Cert.KernelIdeal.nD,
    (Cert.Pre_finite_parameters.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_parameters [hPre_finite_parameters : Cert.Pre_finite_parameters.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_parameters.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Experts [hPre_experts_in_range : Cert.Pre_experts_in_range.Facts] (m : (ℓ : Loc Cert.Experts.nD Cert.Experts.τ Cert.Experts.sig) → Buf (Elt Bits) ℓ) : Prop :=
  ∀ c : Dev Cert.Experts.nD,
    (Cert.Pre_experts_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_experts_in_range : Cert.Pre_experts_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_experts_in_range [hPre_experts_in_range : Cert.Pre_experts_in_range.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_experts_in_range.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseReferenceIdeal (m : (ℓ : Loc Cert.DenseReferenceIdeal.nD Cert.DenseReferenceIdeal.τ Cert.DenseReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_parameters [hKernelIdeal : Cert.KernelIdeal.Facts] [hPre_finite_parameters : Cert.Pre_finite_parameters.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_parameters m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_parameters [hReferenceIdeal : Cert.ReferenceIdeal.Facts] [hPre_finite_parameters : Cert.Pre_finite_parameters.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_parameters m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Experts [hExperts : Cert.Experts.Facts] [hPre_experts_in_range : Cert.Pre_experts_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_ExpertsReferenceIdeal_pre_experts_in_range [hExpertsReferenceIdeal : Cert.ExpertsReferenceIdeal.Facts] [hPre_experts_in_range : Cert.Pre_experts_in_range.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_experts_in_range m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4))
      ∧ r.2.sem = fun _ => 0)

def quiescent_DenseReferenceIdeal [hDenseReferenceIdeal : Cert.DenseReferenceIdeal.Facts] : Prop :=
  ∀ (m : (ℓ : Loc Cert.DenseReferenceIdeal.nD Cert.DenseReferenceIdeal.τ Cert.DenseReferenceIdeal.sig) → Buf (Elt Ideal) ℓ) (g : Dev Cert.DenseReferenceIdeal.nD → PrngReg), Pre_DenseReferenceIdeal m →
    θ_run (Cert.DenseReferenceIdeal.defs (F := Ideal)) (onTc (τ := Cert.DenseReferenceIdeal.τ) (Cert.DenseReferenceIdeal.main (F := Ideal))) ⟨m, fun _ => 0, g⟩ (fun r => (∀ c : Dev Cert.DenseReferenceIdeal.nD,
      r.2.mem ((c.tc : Thread Cert.DenseReferenceIdeal.nD Cert.DenseReferenceIdeal.τ).loc Cert.DenseReferenceIdeal.main_arg0) = m ((c.tc : Thread Cert.DenseReferenceIdeal.nD Cert.DenseReferenceIdeal.τ).loc Cert.DenseReferenceIdeal.main_arg0)
      ∧ r.2.mem ((c.tc : Thread Cert.DenseReferenceIdeal.nD Cert.DenseReferenceIdeal.τ).loc Cert.DenseReferenceIdeal.main_arg1) = m ((c.tc : Thread Cert.DenseReferenceIdeal.nD Cert.DenseReferenceIdeal.τ).loc Cert.DenseReferenceIdeal.main_arg1)
      ∧ r.2.mem ((c.tc : Thread Cert.DenseReferenceIdeal.nD Cert.DenseReferenceIdeal.τ).loc Cert.DenseReferenceIdeal.main_arg2) = m ((c.tc : Thread Cert.DenseReferenceIdeal.nD Cert.DenseReferenceIdeal.τ).loc Cert.DenseReferenceIdeal.main_arg2)
      ∧ r.2.mem ((c.tc : Thread Cert.DenseReferenceIdeal.nD Cert.DenseReferenceIdeal.τ).loc Cert.DenseReferenceIdeal.main_arg3) = m ((c.tc : Thread Cert.DenseReferenceIdeal.nD Cert.DenseReferenceIdeal.τ).loc Cert.DenseReferenceIdeal.main_arg3)
      ∧ r.2.mem ((c.tc : Thread Cert.DenseReferenceIdeal.nD Cert.DenseReferenceIdeal.τ).loc Cert.DenseReferenceIdeal.main_arg4) = m ((c.tc : Thread Cert.DenseReferenceIdeal.nD Cert.DenseReferenceIdeal.τ).loc Cert.DenseReferenceIdeal.main_arg4))
      ∧ r.2.sem = fun _ => 0)

def preserves_Kernel_KernelIdeal : Prop :=
  True

def algebraic_KernelIdeal_ReferenceIdeal_pre_finite_parameters [hKernelIdeal : Cert.KernelIdeal.Facts] [hReferenceIdeal : Cert.ReferenceIdeal.Facts] [hPre_finite_parameters : Cert.Pre_finite_parameters.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_parameters m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v43) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v16) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v33) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6))

def preserves_Dense_DenseIdeal : Prop :=
  True

def algebraic_DenseIdeal_DenseReferenceIdeal [hDenseIdeal : Cert.DenseIdeal.Facts] [hDenseReferenceIdeal : Cert.DenseReferenceIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseReferenceIdeal.nD Cert.DenseReferenceIdeal.τ Cert.DenseReferenceIdeal.sig) → Buf (Elt Ideal) ℓ) (g' : Dev Cert.DenseReferenceIdeal.nD → PrngReg), Pre_DenseIdeal m →
    (∀ c : Dev Cert.DenseIdeal.nD,
      m' ((c.tc : Thread Cert.DenseReferenceIdeal.nD Cert.DenseReferenceIdeal.τ).loc Cert.DenseReferenceIdeal.main_arg0) = m ((c.tc : Thread Cert.DenseIdeal.nD Cert.DenseIdeal.τ).loc Cert.DenseIdeal.main_arg0)
      ∧ m' ((c.tc : Thread Cert.DenseReferenceIdeal.nD Cert.DenseReferenceIdeal.τ).loc Cert.DenseReferenceIdeal.main_arg1) = m ((c.tc : Thread Cert.DenseIdeal.nD Cert.DenseIdeal.τ).loc Cert.DenseIdeal.main_arg1)
      ∧ m' ((c.tc : Thread Cert.DenseReferenceIdeal.nD Cert.DenseReferenceIdeal.τ).loc Cert.DenseReferenceIdeal.main_arg2) = m ((c.tc : Thread Cert.DenseIdeal.nD Cert.DenseIdeal.τ).loc Cert.DenseIdeal.main_arg2)
      ∧ m' ((c.tc : Thread Cert.DenseReferenceIdeal.nD Cert.DenseReferenceIdeal.τ).loc Cert.DenseReferenceIdeal.main_arg3) = m ((c.tc : Thread Cert.DenseIdeal.nD Cert.DenseIdeal.τ).loc Cert.DenseIdeal.main_arg3)
      ∧ m' ((c.tc : Thread Cert.DenseReferenceIdeal.nD Cert.DenseReferenceIdeal.τ).loc Cert.DenseReferenceIdeal.main_arg4) = m ((c.tc : Thread Cert.DenseIdeal.nD Cert.DenseIdeal.τ).loc Cert.DenseIdeal.main_arg4)) →
    ∃ (v0 : (c : Dev Cert.DenseIdeal.nD) → Buf (Elt Ideal) ((c.tc : Thread Cert.DenseIdeal.nD Cert.DenseIdeal.τ).loc Cert.DenseIdeal.main_v6)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v6) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4))
      ∧ θ_run (Cert.DenseReferenceIdeal.defs (F := Ideal)) (onTc (τ := Cert.DenseReferenceIdeal.τ) (Cert.DenseReferenceIdeal.main (F := Ideal))) ⟨m', fun _ => 0, g'⟩ (fun r => ∀ c : Dev Cert.DenseReferenceIdeal.nD,
          r.2.mem ((c.tc : Thread Cert.DenseReferenceIdeal.nD Cert.DenseReferenceIdeal.τ).loc Cert.DenseReferenceIdeal.main_v26) = v0 c
          ∧ r.2.mem ((c.tc : Thread Cert.DenseReferenceIdeal.nD Cert.DenseReferenceIdeal.τ).loc Cert.DenseReferenceIdeal.main_arg0) = m' ((c.tc : Thread Cert.DenseReferenceIdeal.nD Cert.DenseReferenceIdeal.τ).loc Cert.DenseReferenceIdeal.main_arg0)
          ∧ r.2.mem ((c.tc : Thread Cert.DenseReferenceIdeal.nD Cert.DenseReferenceIdeal.τ).loc Cert.DenseReferenceIdeal.main_arg1) = m' ((c.tc : Thread Cert.DenseReferenceIdeal.nD Cert.DenseReferenceIdeal.τ).loc Cert.DenseReferenceIdeal.main_arg1)
          ∧ r.2.mem ((c.tc : Thread Cert.DenseReferenceIdeal.nD Cert.DenseReferenceIdeal.τ).loc Cert.DenseReferenceIdeal.main_arg2) = m' ((c.tc : Thread Cert.DenseReferenceIdeal.nD Cert.DenseReferenceIdeal.τ).loc Cert.DenseReferenceIdeal.main_arg2)
          ∧ r.2.mem ((c.tc : Thread Cert.DenseReferenceIdeal.nD Cert.DenseReferenceIdeal.τ).loc Cert.DenseReferenceIdeal.main_arg3) = m' ((c.tc : Thread Cert.DenseReferenceIdeal.nD Cert.DenseReferenceIdeal.τ).loc Cert.DenseReferenceIdeal.main_arg3)
          ∧ r.2.mem ((c.tc : Thread Cert.DenseReferenceIdeal.nD Cert.DenseReferenceIdeal.τ).loc Cert.DenseReferenceIdeal.main_arg4) = m' ((c.tc : Thread Cert.DenseReferenceIdeal.nD Cert.DenseReferenceIdeal.τ).loc Cert.DenseReferenceIdeal.main_arg4))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hInProj : Cert.InProj.Facts) (hInProjIdeal : Cert.InProjIdeal.Facts) (hInProjReferenceIdeal : Cert.InProjReferenceIdeal.Facts) (hMerge : Cert.Merge.Facts) (hMergeIdeal : Cert.MergeIdeal.Facts) (hMergeReferenceIdeal : Cert.MergeReferenceIdeal.Facts) (hDense : Cert.Dense.Facts) (hDenseIdeal : Cert.DenseIdeal.Facts) (hDenseReferenceIdeal : Cert.DenseReferenceIdeal.Facts) (hPre_finite_parameters : Cert.Pre_finite_parameters.Facts) (hPre_experts_in_range : Cert.Pre_experts_in_range.Facts),
    quiescent_Kernel (hKernel := hKernel)
    ∧ quiescent_KernelIdeal (hKernelIdeal := hKernelIdeal)
    ∧ quiescent_KernelIdeal_pre_finite_parameters (hKernelIdeal := hKernelIdeal) (hPre_finite_parameters := hPre_finite_parameters)
    ∧ quiescent_ReferenceIdeal (hReferenceIdeal := hReferenceIdeal)
    ∧ quiescent_ReferenceIdeal_pre_finite_parameters (hReferenceIdeal := hReferenceIdeal) (hPre_finite_parameters := hPre_finite_parameters)
    ∧ quiescent_Experts (hExperts := hExperts) (hPre_experts_in_range := hPre_experts_in_range)
    ∧ quiescent_ExpertsIdeal (hExpertsIdeal := hExpertsIdeal) (hPre_experts_in_range := hPre_experts_in_range)
    ∧ quiescent_ExpertsReferenceIdeal (hExpertsReferenceIdeal := hExpertsReferenceIdeal)
    ∧ quiescent_ExpertsReferenceIdeal_pre_experts_in_range (hExpertsReferenceIdeal := hExpertsReferenceIdeal) (hPre_experts_in_range := hPre_experts_in_range)
    ∧ quiescent_InProj (hInProj := hInProj)
    ∧ quiescent_InProjIdeal (hInProjIdeal := hInProjIdeal)
    ∧ quiescent_InProjReferenceIdeal (hInProjReferenceIdeal := hInProjReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Dense (hDense := hDense)
    ∧ quiescent_DenseIdeal (hDenseIdeal := hDenseIdeal)
    ∧ quiescent_DenseReferenceIdeal (hDenseReferenceIdeal := hDenseReferenceIdeal)
    ∧ preserves_Kernel_KernelIdeal
    ∧ algebraic_KernelIdeal_ReferenceIdeal_pre_finite_parameters (hKernelIdeal := hKernelIdeal) (hReferenceIdeal := hReferenceIdeal) (hPre_finite_parameters := hPre_finite_parameters)
    ∧ preserves_Experts_ExpertsIdeal
    ∧ algebraic_ExpertsIdeal_ExpertsReferenceIdeal (hExpertsIdeal := hExpertsIdeal) (hExpertsReferenceIdeal := hExpertsReferenceIdeal) (hPre_experts_in_range := hPre_experts_in_range)
    ∧ preserves_InProj_InProjIdeal
    ∧ algebraic_InProjIdeal_InProjReferenceIdeal (hInProjIdeal := hInProjIdeal) (hInProjReferenceIdeal := hInProjReferenceIdeal)
    ∧ preserves_Merge_MergeIdeal
    ∧ algebraic_MergeIdeal_MergeReferenceIdeal (hMergeIdeal := hMergeIdeal) (hMergeReferenceIdeal := hMergeReferenceIdeal)
    ∧ preserves_Dense_DenseIdeal
    ∧ algebraic_DenseIdeal_DenseReferenceIdeal (hDenseIdeal := hDenseIdeal) (hDenseReferenceIdeal := hDenseReferenceIdeal)
-- ==== Pre_experts_in_range.lean ====
abbrev S69632x2048 : Shape := ⟨2, ![69632, 2048]⟩
abbrev S1x2048 : Shape := ⟨2, ![1, 2048]⟩
abbrev S2x8x2048x7168 : Shape := ⟨4, ![2, 8, 2048, 7168]⟩
abbrev S2x8x7168x2048 : Shape := ⟨4, ![2, 8, 7168, 2048]⟩
abbrev S136 : Shape := ⟨1, ![136]⟩
abbrev S_ : Shape := ⟨0, ![]⟩

class Facts : Prop where
  bcast_S_S136 : S_.BroadcastsInDim S136 (![] : Fin 0 → Fin S136.rank)
  reducesTo_S136_S_d0 : S136.ReducesTo [0] S_
  h_S_ : 0 < S_.numel

variable [Facts]

def fn {F : FTy → Type} [FloatOps F] (main_arg0 : FVec F S69632x2048 .f32) (main_arg1 : FVec F S1x2048 .f32) (main_arg2 : FVec F S2x8x2048x7168 .bf16) (main_arg3 : FVec F S2x8x2048x7168 .bf16) (main_arg4 : FVec F S2x8x7168x2048 .bf16) (main_arg5 : IVec S136 32) (main_arg6 : IVec S136 32) : IVec S_ 1 :=
  let main_c : IVec S_ 32 := constantI S_ 32 0#32
  let main_v0 : IVec S136 32 := broadcastInDim S136 ![] bcast_S_S136 main_c
  let main_v1 : IVec S136 1 := cmpi .sge main_arg5 main_v0
  let main_c_0 : IVec S_ 32 := constantI S_ 32 8#32
  let main_v2 : IVec S136 32 := broadcastInDim S136 ![] bcast_S_S136 main_c_0
  let main_v3 : IVec S136 1 := cmpi .slt main_arg5 main_v2
  let main_v4 : IVec S136 1 := andi main_v1 main_v3
  let main_c_1 : IVec S_ 1 := constantI S_ 1 1#1
  let main_v5 : IVec S_ 1 := (fun x v => Host.reduce IntOp.andi x v reducesTo_S136_S_d0 h_S_) main_v4 main_c_1
  main_v5
-- ==== Pre_finite_parameters.lean ====
abbrev S32768x9216 : Shape := ⟨2, ![32768, 9216]⟩
abbrev S16x513 : Shape := ⟨2, ![16, 513]⟩
abbrev S64 : Shape := ⟨1, ![64]⟩
abbrev S_ : Shape := ⟨0, ![]⟩

class Facts : Prop where
  bcast_S_S16x513 : S_.BroadcastsInDim S16x513 (![] : Fin 0 → Fin S16x513.rank)
  reducesTo_S16x513_S_d0_1 : S16x513.ReducesTo [0, 1] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S32768x9216 .bf16) (main_arg1 : FVec F S16x513 .f32) (main_arg2 : FVec F S64 .f32) (main_arg3 : FVec F S64 .f32) : IVec S_ 1 :=
  let main_v0 : FVec F S16x513 .f32 := Host.absf main_arg1
  let main_cst : FVec F S_ .f32 := constant S_ .f32 0x7F800000#32
  let main_v1 : FVec F S16x513 .f32 := broadcastInDim S16x513 ![] bcast_S_S16x513 main_cst
  let main_v2 : IVec S16x513 1 := cmpf .olt main_v0 main_v1
  let main_c : IVec S_ 1 := constantI S_ 1 1#1
  let main_v3 : IVec S_ 1 := (fun x v => Host.reduce IntOp.andi x v reducesTo_S16x513_S_d0_1 h_S_) main_v2 main_c
  let main_v4 : FVec F S64 .f32 := Host.absf main_arg2
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S32768x9216 : Shape := ⟨2, ![32768, 9216]⟩
abbrev S16x513 : Shape := ⟨2, ![16, 513]⟩
abbrev S64 : Shape := ⟨1, ![64]⟩
abbrev S768 : Shape := ⟨1, ![768]⟩
abbrev S256 : Shape := ⟨1, ![256]⟩
abbrev S_ : Shape := ⟨0, ![]⟩
abbrev S1024 : Shape := ⟨1, ![1024]⟩
abbrev S3 : Shape := ⟨1, ![3]⟩
abbrev S3x1 : Shape := ⟨2, ![3, 1]⟩
abbrev S1x1024 : Shape := ⟨2, ![1, 1024]⟩
abbrev S3x1024 : Shape := ⟨2, ![3, 1024]⟩
abbrev S3x1024x1 : Shape := ⟨3, ![3, 1024, 1]⟩
abbrev S16x3x1024 : Shape := ⟨3, ![16, 3, 1024]⟩
abbrev S3x16x1024 : Shape := ⟨3, ![3, 16, 1024]⟩
abbrev S1x3x1x16x1x1024 : Shape := ⟨6, ![1, 3, 1, 16, 1, 1024]⟩
abbrev S1x3x1x16x256x1024 : Shape := ⟨6, ![1, 3, 1, 16, 256, 1024]⟩
abbrev S3x16x262144 : Shape := ⟨3, ![3, 16, 262144]⟩
abbrev S3x16x261888 : Shape := ⟨3, ![3, 16, 261888]⟩
abbrev S3x16x256x1023 : Shape := ⟨4, ![3, 16, 256, 1023]⟩
abbrev S3x16x256x768 : Shape := ⟨4, ![3, 16, 256, 768]⟩
abbrev S3x1x1 : Shape := ⟨3, ![3, 1, 1]⟩
abbrev S1x256x1 : Shape := ⟨3, ![1, 256, 1]⟩
abbrev S3x256x1 : Shape := ⟨3, ![3, 256, 1]⟩
abbrev S1x1x768 : Shape := ⟨3, ![1, 1, 768]⟩
abbrev S3x256x768 : Shape := ⟨3, ![3, 256, 768]⟩
abbrev S3x1x256x768 : Shape := ⟨4, ![3, 1, 256, 768]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S32768x1024 : Shape := ⟨2, ![32768, 1024]⟩
abbrev S256x1024 : Shape := ⟨2, ![256, 1024]⟩
abbrev S2048x1024 : Shape := ⟨2, ![2048, 1024]⟩
abbrev S1x16x256x768 : Shape := ⟨4, ![1, 16, 256, 768]⟩
abbrev S8x512x128 : Shape := ⟨3, ![8, 512, 128]⟩
abbrev S256x128 : Shape := ⟨2, ![256, 128]⟩
abbrev S1x256x128 : Shape := ⟨3, ![1, 256, 128]⟩
abbrev S768x128 : Shape := ⟨2, ![768, 128]⟩
abbrev S1x512x128 : Shape := ⟨3, ![1, 512, 128]⟩
abbrev S512x128 : Shape := ⟨2, ![512, 128]⟩
abbrev S512x768 : Shape := ⟨2, ![512, 768]⟩
abbrev S1x2x256x768 : Shape := ⟨4, ![1, 2, 256, 768]⟩
abbrev S2x256x768 : Shape := ⟨3, ![2, 256, 768]⟩
abbrev S512 : Shape := ⟨1, ![512]⟩
abbrev S512x1 : Shape := ⟨2, ![512, 1]⟩
abbrev S768x256 : Shape := ⟨2, ![768, 256]⟩
abbrev S512x256 : Shape := ⟨2, ![512, 256]⟩

abbrev nBuf : Space → Nat
  | .hbm => 154
  | .vmem => 14
  | .smem => 0
  | _ => 0

abbrev hbmTy0_0 (i : Nat) : BufTy := match i % 128 with
  | 0 => ⟨S32768x9216, .bf16⟩
  | 1 => ⟨S16x513, .f32⟩
  | 2 => ⟨S64, .f32⟩
  | 3 => ⟨S64, .f32⟩
  | 4 => ⟨S768, .i32⟩
  | 5 => ⟨S256, .i32⟩
  | 6 => ⟨S_, .i32⟩
  | 7 => ⟨S256, .i32⟩
  | 8 => ⟨S256, .i32⟩
  | 9 => ⟨S1024, .i32⟩
  | 10 => ⟨S3, .i32⟩
  | 11 => ⟨S_, .i32⟩
  | 12 => ⟨S3, .i32⟩
  | 13 => ⟨S3, .i32⟩
  | 14 => ⟨S3x1, .i32⟩
  | 15 => ⟨S1x1024, .i32⟩
  | 16 => ⟨S3x1024, .i32⟩
  | 17 => ⟨S3x1024, .i32⟩
  | 18 => ⟨S3x1024, .i32⟩
  | 19 => ⟨S_, .i32⟩
  | 20 => ⟨S_, .i32⟩
  | 21 => ⟨S_, .i32⟩
  | 22 => ⟨S3x1024, .i32⟩
  | 23 => ⟨S3x1024, .i32⟩
  | 24 => ⟨S_, .i32⟩
  | 25 => ⟨S3x1024, .i32⟩
  | 26 => ⟨S3x1024, .i32⟩
  | 27 => ⟨S_, .i32⟩
  | 28 => ⟨S3x1024, .i32⟩
  | 29 => ⟨S3x1024, .i32⟩
  | 30 => ⟨S_, .i32⟩
  | 31 => ⟨S3x1024, .i32⟩
  | 32 => ⟨S3x1024, .i1⟩
  | 33 => ⟨S_, .i32⟩
  | 34 => ⟨S3x1024, .i32⟩
  | 35 => ⟨S3x1024, .i32⟩
  | 36 => ⟨S3x1024, .i32⟩
  | 37 => ⟨S3x1024x1, .i32⟩
  | 38 => ⟨S16x3x1024, .f32⟩
  | 39 => ⟨S3x16x1024, .f32⟩
  | 40 => ⟨S1x3x1x16x1x1024, .f32⟩
  | 41 => ⟨S1x3x1x16x256x1024, .f32⟩
  | 42 => ⟨S3x16x262144, .f32⟩
  | 43 => ⟨S3x16x261888, .f32⟩
  | 44 => ⟨S3x16x256x1023, .f32⟩
  | 45 => ⟨S3x16x256x768, .f32⟩
  | 46 => ⟨S3x1x1, .i32⟩
  | 47 => ⟨S256, .i32⟩
  | 48 => ⟨S1x256x1, .i32⟩
  | 49 => ⟨S3x256x1, .i32⟩
  | 50 => ⟨S3x256x1, .i32⟩
  | 51 => ⟨S3x256x1, .i32⟩
  | 52 => ⟨S768, .i32⟩
  | 53 => ⟨S1x1x768, .i32⟩
  | 54 => ⟨S_, .i32⟩
  | 55 => ⟨S_, .i32⟩
  | 56 => ⟨S3x256x1, .i32⟩
  | 57 => ⟨S3x256x1, .i32⟩
  | 58 => ⟨S3x256x1, .i32⟩
  | 59 => ⟨S_, .i32⟩
  | 60 => ⟨S3x256x1, .i32⟩
  | 61 => ⟨S3x256x1, .i1⟩
  | 62 => ⟨S3x256x1, .i32⟩
  | 63 => ⟨S3x256x1, .i32⟩
  | 64 => ⟨S_, .i32⟩
  | 65 => ⟨S3x256x1, .i32⟩
  | 66 => ⟨S3x256x1, .i1⟩
  | 67 => ⟨S3x256x1, .i1⟩
  | 68 => ⟨S_, .i32⟩
  | 69 => ⟨S3x256x1, .i32⟩
  | 70 => ⟨S3x256x1, .i32⟩
  | 71 => ⟨S3x256x1, .i32⟩
  | 72 => ⟨S_, .i32⟩
  | 73 => ⟨S_, .i32⟩
  | 74 => ⟨S1x1x768, .i32⟩
  | 75 => ⟨S1x1x768, .i32⟩
  | 76 => ⟨S1x1x768, .i32⟩
  | 77 => ⟨S_, .i32⟩
  | 78 => ⟨S1x1x768, .i32⟩
  | 79 => ⟨S1x1x768, .i1⟩
  | 80 => ⟨S1x1x768, .i32⟩
  | 81 => ⟨S1x1x768, .i32⟩
  | 82 => ⟨S_, .i32⟩
  | 83 => ⟨S1x1x768, .i32⟩
  | 84 => ⟨S1x1x768, .i1⟩
  | 85 => ⟨S1x1x768, .i1⟩
  | 86 => ⟨S_, .i32⟩
  | 87 => ⟨S1x1x768, .i32⟩
  | 88 => ⟨S1x1x768, .i32⟩
  | 89 => ⟨S1x1x768, .i32⟩
  | 90 => ⟨S3x256x768, .i32⟩
  | 91 => ⟨S3x256x768, .i32⟩
  | 92 => ⟨S3x256x768, .i32⟩
  | 93 => ⟨S_, .i32⟩
  | 94 => ⟨S3x256x768, .i32⟩
  | 95 => ⟨S3x256x768, .i1⟩
  | 96 => ⟨S_, .i32⟩
  | 97 => ⟨S3x256x768, .i32⟩
  | 98 => ⟨S3x256x768, .i1⟩
  | 99 => ⟨S3x256x768, .i1⟩
  | 100 => ⟨S3x1x256x768, .i1⟩
  | 101 => ⟨S_, .f32⟩
  | 102 => ⟨S_, .f32⟩
  | 103 => ⟨S_, .f32⟩
  | 104 => ⟨S_, .f32⟩
  | 105 => ⟨S3x16x256x768, .f32⟩
  | 106 => ⟨S3x16x256x768, .f32⟩
  | 107 => ⟨S_, .f32⟩
  | 108 => ⟨S_, .f32⟩
  | 109 => ⟨S3x16x256x768, .i1⟩
  | 110 => ⟨S3x16x256x768, .f32⟩
  | 111 => ⟨S3x16x256x768, .f32⟩
  | 112 => ⟨S1x64, .f32⟩
  | 113 => ⟨S2x64, .f32⟩
  | 114 => ⟨S128, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S128, .f32⟩
  | 122 => ⟨S128, .f32⟩
  | 123 => ⟨S1x128, .f32⟩
  | 124 => ⟨S1x64, .f32⟩
  | 125 => ⟨S2x64, .f32⟩
  | 126 => ⟨S128, .f32⟩
  | 127 => ⟨S1x128, .f32⟩
  | _ => ⟨S32768x9216, .bf16⟩

abbrev hbmTy0_1 (i : Nat) : BufTy := match i % 128 with
  | 0 => ⟨S128, .i32⟩
  | 1 => ⟨S_, .i32⟩
  | 2 => ⟨S_, .i32⟩
  | 3 => ⟨S128, .i32⟩
  | 4 => ⟨S128, .i32⟩
  | 5 => ⟨S128, .i32⟩
  | 6 => ⟨S_, .i32⟩
  | 7 => ⟨S128, .i32⟩
  | 8 => ⟨S128, .i1⟩
  | 9 => ⟨S128, .i32⟩
  | 10 => ⟨S128, .i32⟩
  | 11 => ⟨S_, .i32⟩
  | 12 => ⟨S128, .i32⟩
  | 13 => ⟨S128, .i1⟩
  | 14 => ⟨S128, .i1⟩
  | 15 => ⟨S_, .i32⟩
  | 16 => ⟨S128, .i32⟩
  | 17 => ⟨S128, .i32⟩
  | 18 => ⟨S128, .i32⟩
  | 19 => ⟨S128x1, .i32⟩
  | 20 => ⟨S1x128, .i32⟩
  | 21 => ⟨S128x128, .i32⟩
  | 22 => ⟨S128x128, .i32⟩
  | 23 => ⟨S128x128, .i1⟩
  | 24 => ⟨S128x128, .bf16⟩
  | 25 => ⟨S32768x1024, .bf16⟩
  | _ => ⟨S32768x9216, .bf16⟩

abbrev hbmTy (i : Nat) : BufTy := match i / 128 with
  | 0 => hbmTy0_0 i
  | 1 => hbmTy0_1 i
  | _ => ⟨S32768x9216, .bf16⟩

abbrev bufTy : (tb : Table) → Fin (tcTables nBuf tb) → BufTy
  | .hbm, ⟨i, _⟩ => hbmTy i
  | .local _ .vmem, ⟨0, _⟩ => ⟨S256x1024, .bf16⟩
  | .local _ .vmem, ⟨1, _⟩ => ⟨S256x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S1x16x256x768, .f32⟩
  | .local _ .vmem, ⟨6, _⟩ => ⟨S1x16x256x768, .f32⟩
  | .local _ .vmem, ⟨7, _⟩ => ⟨S1x128, .f32⟩
  | .local _ .vmem, ⟨8, _⟩ => ⟨S1x128, .f32⟩
  | .local _ .vmem, ⟨9, _⟩ => ⟨S128x128, .bf16⟩
  | .local _ .vmem, ⟨10, _⟩ => ⟨S256x1024, .bf16⟩
  | .local _ .vmem, ⟨11, _⟩ => ⟨S256x1024, .bf16⟩
  | .local _ .vmem, ⟨12, _⟩ => ⟨S2048x1024, .bf16⟩
  | .local _ .vmem, ⟨13, _⟩ => ⟨S8x512x128, .bf16⟩
  | _, _ => ⟨S32768x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_c_2 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_c_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_6 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_c : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_0 : Ref sig .tc := ⟨.hbm, 68, rfl⟩
abbrev main_call1_v12 : Ref sig .tc := ⟨.hbm, 69, rfl⟩
abbrev main_call1_v13 : Ref sig .tc := ⟨.hbm, 70, rfl⟩
abbrev main_v38 : Ref sig .tc := ⟨.hbm, 71, rfl⟩
abbrev main_c_7 : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_v5 : Ref sig .tc := ⟨.hbm, 78, rfl⟩
abbrev main_call2_v6 : Ref sig .tc := ⟨.hbm, 79, rfl⟩
abbrev main_call2_v7 : Ref sig .tc := ⟨.hbm, 80, rfl⟩
abbrev main_call2_v8 : Ref sig .tc := ⟨.hbm, 81, rfl⟩
abbrev main_call2_c : Ref sig .tc := ⟨.hbm, 82, rfl⟩
abbrev main_call2_v9 : Ref sig .tc := ⟨.hbm, 83, rfl⟩
abbrev main_call2_v10 : Ref sig .tc := ⟨.hbm, 84, rfl⟩
abbrev main_call2_v11 : Ref sig .tc := ⟨.hbm, 85, rfl⟩
abbrev main_call2_c_0 : Ref sig .tc := ⟨.hbm, 86, rfl⟩
abbrev main_call2_v12 : Ref sig .tc := ⟨.hbm, 87, rfl⟩
abbrev main_call2_v13 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_c_8 : Ref sig .tc := ⟨.hbm, 93, rfl⟩
abbrev main_v43 : Ref sig .tc := ⟨.hbm, 94, rfl⟩
abbrev main_v44 : Ref sig .tc := ⟨.hbm, 95, rfl⟩
abbrev main_c_9 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_cst : Ref sig .tc := ⟨.hbm, 101, rfl⟩
abbrev main_v49 : Ref sig .tc := ⟨.hbm, 102, rfl⟩
abbrev main_cst_10 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_cst_11 : Ref sig .tc := ⟨.hbm, 107, rfl⟩
abbrev main_call3_v0 : Ref sig .tc := ⟨.hbm, 108, rfl⟩
abbrev main_call3_v1 : Ref sig .tc := ⟨.hbm, 109, rfl⟩
abbrev main_call3_v2 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_cst_12 : Ref sig .tc := ⟨.hbm, 115, rfl⟩
abbrev main_v57 : Ref sig .tc := ⟨.hbm, 116, rfl⟩
abbrev main_cst_13 : Ref sig .tc := ⟨.hbm, 117, rfl⟩
abbrev main_v58 : Ref sig .tc := ⟨.hbm, 118, rfl⟩
abbrev main_cst_14 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_c_15 : Ref sig .tc := ⟨.hbm, 129, rfl⟩
abbrev main_call4_v0 : Ref sig .tc := ⟨.hbm, 130, rfl⟩
abbrev main_call4_v1 : Ref sig .tc := ⟨.hbm, 131, rfl⟩
abbrev main_call4_v2 : Ref sig .tc := ⟨.hbm, 132, rfl⟩
abbrev main_call4_v3 : Ref sig .tc := ⟨.hbm, 133, rfl⟩
abbrev main_call4_v4 : Ref sig .tc := ⟨.hbm, 134, rfl⟩
abbrev main_call4_v5 : Ref sig .tc := ⟨.hbm, 135, rfl⟩
abbrev main_call4_v6 : Ref sig .tc := ⟨.hbm, 136, rfl⟩
abbrev main_call4_v7 : Ref sig .tc := ⟨.hbm, 137, rfl⟩
abbrev main_call4_v8 : Ref sig .tc := ⟨.hbm, 138, rfl⟩
abbrev main_call4_c : Ref sig .tc := ⟨.hbm, 139, rfl⟩
abbrev main_call4_v9 : Ref sig .tc := ⟨.hbm, 140, rfl⟩
abbrev main_call4_v10 : Ref sig .tc := ⟨.hbm, 141, rfl⟩
abbrev main_call4_v11 : Ref sig .tc := ⟨.hbm, 142, rfl⟩
abbrev main_call4_c_0 : Ref sig .tc := ⟨.hbm, 143, rfl⟩
abbrev main_call4_v12 : Ref sig .tc := ⟨.hbm, 144, rfl⟩
abbrev main_call4_v13 : Ref sig .tc := ⟨.hbm, 145, rfl⟩
abbrev main_v68 : Ref sig .tc := ⟨.hbm, 146, rfl⟩
abbrev main_v69 : Ref sig .tc := ⟨.hbm, 147, rfl⟩
abbrev main_v70 : Ref sig .tc := ⟨.hbm, 148, rfl⟩
abbrev main_v71 : Ref sig .tc := ⟨.hbm, 149, rfl⟩
abbrev main_v72 : Ref sig .tc := ⟨.hbm, 150, rfl⟩
abbrev main_v73 : Ref sig .tc := ⟨.hbm, 151, rfl⟩
abbrev main_v74 : Ref sig .tc := ⟨.hbm, 152, rfl⟩
abbrev main_v75 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_238 : BitVec 32 := 0#32
  let c16_i32 : BitVec 32 := 16#32
  let v466 : BitVec 32 := Scalar.addi c0_i32_238 c16_i32
  let c1_i32 : BitVec 32 := 1#32
  ⟨c0_i32_238, v466, c1_i32⟩
def k0_mult1 (k0_t1 : Fin k0_t1_loop.trips) : BitVec 32 :=
  let c0_i32_238 : BitVec 32 := 0#32
  let c1_i32 : BitVec 32 := 1#32
  let arg12 : BitVec 32 := Scf.iv c0_i32_238 c1_i32 k0_t1
  let c128_i32 : BitVec 32 := 128#32
  let v467 : BitVec 32 := Scalar.muli arg12 c128_i32
  v467
def k0_off1 (k0_t1 : Fin k0_t1_loop.trips) : Fin 2 → Nat :=
  let c0_i32_238 : BitVec 32 := 0#32
  let c1_i32 : BitVec 32 := 1#32
  let arg12 : BitVec 32 := Scf.iv c0_i32_238 c1_i32 k0_t1
  let c128_i32 : BitVec 32 := 128#32
  let v467 : BitVec 32 := Scalar.muli arg12 c128_i32
  let v468 : BitVec 32 := v467
  let v469 : Index := Scalar.indexCast v468
  let c0_240 : Index := 0#32
  ![v469.toNat, 0]
def k0_off2 (k0_t1 : Fin k0_t1_loop.trips) : Fin 2 → Nat :=
  let c0_i32_238 : BitVec 32 := 0#32
  let c1_i32 : BitVec 32 := 1#32
  let arg12 : BitVec 32 := Scf.iv c0_i32_238 c1_i32 k0_t1
  let c128_i32 : BitVec 32 := 128#32
  let v467 : BitVec 32 := Scalar.muli arg12 c128_i32
  let v468 : BitVec 32 := v467
  let v492 : Index := Scalar.indexCast v468
  let c128_249 : Index := 128#32
  ![v492.toNat, 128]
def k0_off3 (k0_t1 : Fin k0_t1_loop.trips) : Fin 2 → Nat :=
  let c0_i32_238 : BitVec 32 := 0#32
  let c1_i32 : BitVec 32 := 1#32
  let arg12 : BitVec 32 := Scf.iv c0_i32_238 c1_i32 k0_t1
  let c128_i32 : BitVec 32 := 128#32
  let v467 : BitVec 32 := Scalar.muli arg12 c128_i32
  let v468 : BitVec 32 := v467
  let v515 : Index := Scalar.indexCast v468
  let c256_258 : Index := 256#32
  ![v515.toNat, 256]
def k0_off4 (k0_t1 : Fin k0_t1_loop.trips) : Fin 2 → Nat :=
  let c0_i32_238 : BitVec 32 := 0#32
  let c1_i32 : BitVec 32 := 1#32
  let arg12 : BitVec 32 := Scf.iv c0_i32_238 c1_i32 k0_t1
  let c128_i32 : BitVec 32 := 128#32
  let v467 : BitVec 32 := Scalar.muli arg12 c128_i32
  let v468 : BitVec 32 := v467
  let v538 : Index := Scalar.indexCast v468
  let c384_267 : Index := 384#32
  ![v538.toNat, 384]
def k0_off5 (k0_t1 : Fin k0_t1_loop.trips) : Fin 2 → Nat :=
  let c0_i32_238 : BitVec 32 := 0#32
  let c1_i32 : BitVec 32 := 1#32
  let arg12 : BitVec 32 := Scf.iv c0_i32_238 c1_i32 k0_t1
  let c128_i32 : BitVec 32 := 128#32
  let v467 : BitVec 32 := Scalar.muli arg12 c128_i32
  let v468 : BitVec 32 := v467
  let v561 : Index := Scalar.indexCast v468
  let c512_276 : Index := 512#32
  ![v561.toNat, 512]
def k0_off6 (k0_t1 : Fin k0_t1_loop.trips) : Fin 2 → Nat :=
  let c0_i32_238 : BitVec 32 := 0#32
  let c1_i32 : BitVec 32 := 1#32
  let arg12 : BitVec 32 := Scf.iv c0_i32_238 c1_i32 k0_t1
  let c128_i32 : BitVec 32 := 128#32
  let v467 : BitVec 32 := Scalar.muli arg12 c128_i32
  let v468 : BitVec 32 := v467
  let v584 : Index := Scalar.indexCast v468
  let c640_285 : Index := 640#32
  ![v584.toNat, 640]
def k0_off7 (k0_t1 : Fin k0_t1_loop.trips) : Fin 2 → Nat :=
  let c0_i32_238 : BitVec 32 := 0#32
  let c1_i32 : BitVec 32 := 1#32
  let arg12 : BitVec 32 := Scf.iv c0_i32_238 c1_i32 k0_t1
  let c128_i32 : BitVec 32 := 128#32
  let v467 : BitVec 32 := Scalar.muli arg12 c128_i32
  let v468 : BitVec 32 := v467
  let v607 : Index := Scalar.indexCast v468
  let c768_294 : Index := 768#32
  ![v607.toNat, 768]
def k0_off8 (k0_t1 : Fin k0_t1_loop.trips) : Fin 2 → Nat :=
  let c0_i32_238 : BitVec 32 := 0#32
  let c1_i32 : BitVec 32 := 1#32
  let arg12 : BitVec 32 := Scf.iv c0_i32_238 c1_i32 k0_t1
  let c128_i32 : BitVec 32 := 128#32
  let v467 : BitVec 32 := Scalar.muli arg12 c128_i32
  let v468 : BitVec 32 := v467
  let v630 : Index := Scalar.indexCast v468
  let c896_303 : Index := 896#32
  ![v630.toNat, 896]
def k0_mult2 (i : grid0.Coords) : BitVec 32 :=
  let arg1 : BitVec 32 := BitVec.ofNat 32 (i 1).val
  let c256_i32 : BitVec 32 := 256#32
  let v238 : BitVec 32 := Scalar.muli arg1 c256_i32
  let c512_i32 : BitVec 32 := 512#32
  let v239 : BitVec 32 := Scalar.subi v238 c512_i32
  let c0_i32_121 : BitVec 32 := 0#32
  let v240 : BitVec 32 := Scalar.maxsi v239 c0_i32_121
  v240
def k0_off9 (i : grid0.Coords) : Fin 2 → Nat :=
  let arg1 : BitVec 32 := BitVec.ofNat 32 (i 1).val
  let c256_i32 : BitVec 32 := 256#32
  let v238 : BitVec 32 := Scalar.muli arg1 c256_i32
  let c512_i32 : BitVec 32 := 512#32
  let v239 : BitVec 32 := Scalar.subi v238 c512_i32
  let c0_i32_121 : BitVec 32 := 0#32
  let v240 : BitVec 32 := Scalar.maxsi v239 c0_i32_121
  let v241 : BitVec 32 := v240
  let v242 : Index := Scalar.indexCast v241
  let c0_122 : Index := 0#32
  ![v242.toNat, 0]
def k0_off10 (i : grid0.Coords) : Fin 2 → Nat :=
  let arg1 : BitVec 32 := BitVec.ofNat 32 (i 1).val
  let c256_i32 : BitVec 32 := 256#32
  let v238 : BitVec 32 := Scalar.muli arg1 c256_i32
  let c512_i32 : BitVec 32 := 512#32
  let v239 : BitVec 32 := Scalar.subi v238 c512_i32
  let c0_i32_121 : BitVec 32 := 0#32
  let v240 : BitVec 32 := Scalar.maxsi v239 c0_i32_121
  let v241 : BitVec 32 := v240
  let v270 : Index := Scalar.indexCast v241
  let c128_137 : Index := 128#32
  ![v270.toNat, 128]
def k0_off11 (i : grid0.Coords) : Fin 2 → Nat :=
  let arg1 : BitVec 32 := BitVec.ofNat 32 (i 1).val
  let c256_i32 : BitVec 32 := 256#32
  let v238 : BitVec 32 := Scalar.muli arg1 c256_i32
  let c512_i32 : BitVec 32 := 512#32
  let v239 : BitVec 32 := Scalar.subi v238 c512_i32
  let c0_i32_121 : BitVec 32 := 0#32
  let v240 : BitVec 32 := Scalar.maxsi v239 c0_i32_121
  let v241 : BitVec 32 := v240
  let v298 : Index := Scalar.indexCast v241
  let c256_152 : Index := 256#32
  ![v298.toNat, 256]
def k0_off12 (i : grid0.Coords) : Fin 2 → Nat :=
  let arg1 : BitVec 32 := BitVec.ofNat 32 (i 1).val
  let c256_i32 : BitVec 32 := 256#32
  let v238 : BitVec 32 := Scalar.muli arg1 c256_i32
  let c512_i32 : BitVec 32 := 512#32
  let v239 : BitVec 32 := Scalar.subi v238 c512_i32
  let c0_i32_121 : BitVec 32 := 0#32
  let v240 : BitVec 32 := Scalar.maxsi v239 c0_i32_121
  let v241 : BitVec 32 := v240
  let v326 : Index := Scalar.indexCast v241
  let c384_167 : Index := 384#32
  ![v326.toNat, 384]
def k0_off13 (i : grid0.Coords) : Fin 2 → Nat :=
  let arg1 : BitVec 32 := BitVec.ofNat 32 (i 1).val
  let c256_i32 : BitVec 32 := 256#32
  let v238 : BitVec 32 := Scalar.muli arg1 c256_i32
  let c512_i32 : BitVec 32 := 512#32
  let v239 : BitVec 32 := Scalar.subi v238 c512_i32
  let c0_i32_121 : BitVec 32 := 0#32
  let v240 : BitVec 32 := Scalar.maxsi v239 c0_i32_121
  let v241 : BitVec 32 := v240
  let v354 : Index := Scalar.indexCast v241
  let c512_182 : Index := 512#32
  ![v354.toNat, 512]
def k0_off14 (i : grid0.Coords) : Fin 2 → Nat :=
  let arg1 : BitVec 32 := BitVec.ofNat 32 (i 1).val
  let c256_i32 : BitVec 32 := 256#32
  let v238 : BitVec 32 := Scalar.muli arg1 c256_i32
  let c512_i32 : BitVec 32 := 512#32
  let v239 : BitVec 32 := Scalar.subi v238 c512_i32
  let c0_i32_121 : BitVec 32 := 0#32
  let v240 : BitVec 32 := Scalar.maxsi v239 c0_i32_121
  let v241 : BitVec 32 := v240
  let v382 : Index := Scalar.indexCast v241
  let c640_196 : Index := 640#32
  ![v382.toNat, 640]
def k0_off15 (i : grid0.Coords) : Fin 2 → Nat :=
  let arg1 : BitVec 32 := BitVec.ofNat 32 (i 1).val
  let c256_i32 : BitVec 32 := 256#32
  let v238 : BitVec 32 := Scalar.muli arg1 c256_i32
  let c512_i32 : BitVec 32 := 512#32
  let v239 : BitVec 32 := Scalar.subi v238 c512_i32
  let c0_i32_121 : BitVec 32 := 0#32
  let v240 : BitVec 32 := Scalar.maxsi v239 c0_i32_121
  let v241 : BitVec 32 := v240
  let v410 : Index := Scalar.indexCast v241
  let c768_210 : Index := 768#32
  ![v410.toNat, 768]
def k0_off16 (i : grid0.Coords) : Fin 2 → Nat :=
  let arg1 : BitVec 32 := BitVec.ofNat 32 (i 1).val
  let c256_i32 : BitVec 32 := 256#32
  let v238 : BitVec 32 := Scalar.muli arg1 c256_i32
  let c512_i32 : BitVec 32 := 512#32
  let v239 : BitVec 32 := Scalar.subi v238 c512_i32
  let c0_i32_121 : BitVec 32 := 0#32
  let v240 : BitVec 32 := Scalar.maxsi v239 c0_i32_121
  let v241 : BitVec 32 := v240
  let v438 : Index := Scalar.indexCast v241
  let c896_224 : Index := 896#32
  ![v438.toNat, 896]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.minsi arg1 c2_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S32768x9216 : Shape := ⟨2, ![32768, 9216]⟩
abbrev S16x513 : Shape := ⟨2, ![16, 513]⟩
abbrev S64 : Shape := ⟨1, ![64]⟩
abbrev S16x2048x9216 : Shape := ⟨3, ![16, 2048, 9216]⟩
abbrev S16x2048x1024 : Shape := ⟨3, ![16, 2048, 1024]⟩
abbrev S16x2048x16x64 : Shape := ⟨4, ![16, 2048, 16, 64]⟩
abbrev S_ : Shape := ⟨0, ![]⟩
abbrev S16x2048x16 : Shape := ⟨3, ![16, 2048, 16]⟩
abbrev S16x2048x16x1 : Shape := ⟨4, ![16, 2048, 16, 1]⟩
abbrev S1x1x1x64 : Shape := ⟨4, ![1, 1, 1, 64]⟩
abbrev S16x2560x16x64 : Shape := ⟨4, ![16, 2560, 16, 64]⟩
abbrev S16x32x64x16x64 : Shape := ⟨5, ![16, 32, 64, 16, 64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S32 : Shape := ⟨1, ![32]⟩
abbrev S32x1 : Shape := ⟨2, ![32, 1]⟩
abbrev S32x576 : Shape := ⟨2, ![32, 576]⟩
abbrev S32x576x1 : Shape := ⟨3, ![32, 576, 1]⟩
abbrev S16x32x576x16x64 : Shape := ⟨5, ![16, 32, 576, 16, 64]⟩
abbrev S16x32x16x64x576 : Shape := ⟨5, ![16, 32, 16, 64, 576]⟩
abbrev S1x1x16x64x576 : Shape := ⟨5, ![1, 1, 16, 64, 576]⟩
abbrev S1x32x1x1x576 : Shape := ⟨5, ![1, 32, 1, 1, 576]⟩
abbrev S16x32x16x64 : Shape := ⟨4, ![16, 32, 16, 64]⟩
abbrev S16x32x16x64x1 : Shape := ⟨5, ![16, 32, 16, 64, 1]⟩
abbrev S16x32x16x64x64 : Shape := ⟨5, ![16, 32, 16, 64, 64]⟩
abbrev S32768x1024 : Shape := ⟨2, ![32768, 1024]⟩

abbrev nBuf : Space → Nat
  | .hbm => 143
  | .vmem => 0
  | .smem => 0
  | _ => 0

abbrev hbmTy0_0 (i : Nat) : BufTy := match i % 128 with
  | 0 => ⟨S32768x9216, .bf16⟩
  | 1 => ⟨S16x513, .f32⟩
  | 2 => ⟨S64, .f32⟩
  | 3 => ⟨S64, .f32⟩
  | 4 => ⟨S32768x9216, .f32⟩
  | 5 => ⟨S16x2048x9216, .f32⟩
  | 6 => ⟨S16x2048x1024, .f32⟩
  | 7 => ⟨S16x2048x16x64, .f32⟩
  | 8 => ⟨S16x2048x16x64, .f32⟩
  | 9 => ⟨S_, .f32⟩
  | 10 => ⟨S16x2048x16, .f32⟩
  | 11 => ⟨S16x2048x16x1, .f32⟩
  | 12 => ⟨S_, .f32⟩
  | 13 => ⟨S16x2048x16x1, .f32⟩
  | 14 => ⟨S16x2048x16x1, .f32⟩
  | 15 => ⟨S_, .f32⟩
  | 16 => ⟨S16x2048x16x1, .f32⟩
  | 17 => ⟨S16x2048x16x1, .f32⟩
  | 18 => ⟨S16x2048x16x1, .f32⟩
  | 19 => ⟨S16x2048x16x64, .f32⟩
  | 20 => ⟨S16x2048x16x64, .f32⟩
  | 21 => ⟨S1x1x1x64, .f32⟩
  | 22 => ⟨S16x2048x16x64, .f32⟩
  | 23 => ⟨S16x2048x16x64, .f32⟩
  | 24 => ⟨S16x2048x1024, .f32⟩
  | 25 => ⟨S16x2048x16x64, .f32⟩
  | 26 => ⟨S16x2048x16x64, .f32⟩
  | 27 => ⟨S_, .f32⟩
  | 28 => ⟨S16x2048x16, .f32⟩
  | 29 => ⟨S16x2048x16x1, .f32⟩
  | 30 => ⟨S_, .f32⟩
  | 31 => ⟨S16x2048x16x1, .f32⟩
  | 32 => ⟨S16x2048x16x1, .f32⟩
  | 33 => ⟨S_, .f32⟩
  | 34 => ⟨S16x2048x16x1, .f32⟩
  | 35 => ⟨S16x2048x16x1, .f32⟩
  | 36 => ⟨S16x2048x16x1, .f32⟩
  | 37 => ⟨S16x2048x16x64, .f32⟩
  | 38 => ⟨S16x2048x16x64, .f32⟩
  | 39 => ⟨S1x1x1x64, .f32⟩
  | 40 => ⟨S16x2048x16x64, .f32⟩
  | 41 => ⟨S16x2048x16x64, .f32⟩
  | 42 => ⟨S16x2048x1024, .f32⟩
  | 43 => ⟨S16x2048x16x64, .f32⟩
  | 44 => ⟨S_, .i32⟩
  | 45 => ⟨S_, .f32⟩
  | 46 => ⟨S16x2560x16x64, .f32⟩
  | 47 => ⟨S_, .i32⟩
  | 48 => ⟨S_, .f32⟩
  | 49 => ⟨S16x2560x16x64, .f32⟩
  | 50 => ⟨S16x32x64x16x64, .f32⟩
  | 51 => ⟨S64, .i32⟩
  | 52 => ⟨S_, .i32⟩
  | 53 => ⟨S64, .i32⟩
  | 54 => ⟨S64, .i32⟩
  | 55 => ⟨S64x1, .i32⟩
  | 56 => ⟨S576, .i32⟩
  | 57 => ⟨S1x576, .i32⟩
  | 58 => ⟨S64x576, .i32⟩
  | 59 => ⟨S64x576, .i32⟩
  | 60 => ⟨S64x576, .i32⟩
  | 61 => ⟨S_, .i32⟩
  | 62 => ⟨S_, .i32⟩
  | 63 => ⟨S_, .i32⟩
  | 64 => ⟨S64x576, .i32⟩
  | 65 => ⟨S64x576, .i32⟩
  | 66 => ⟨S_, .i32⟩
  | 67 => ⟨S64x576, .i32⟩
  | 68 => ⟨S64x576, .i32⟩
  | 69 => ⟨S_, .i32⟩
  | 70 => ⟨S64x576, .i32⟩
  | 71 => ⟨S64x576, .i32⟩
  | 72 => ⟨S_, .i32⟩
  | 73 => ⟨S64x576, .i32⟩
  | 74 => ⟨S64x576, .i1⟩
  | 75 => ⟨S_, .i32⟩
  | 76 => ⟨S64x576, .i32⟩
  | 77 => ⟨S64x576, .i32⟩
  | 78 => ⟨S64x576, .i32⟩
  | 79 => ⟨S64x576x1, .i32⟩
  | 80 => ⟨S16x64x576, .f32⟩
  | 81 => ⟨S32, .i32⟩
  | 82 => ⟨S32x1, .i32⟩
  | 83 => ⟨S_, .i32⟩
  | 84 => ⟨S32x1, .i32⟩
  | 85 => ⟨S32x1, .i32⟩
  | 86 => ⟨S576, .i32⟩
  | 87 => ⟨S1x576, .i32⟩
  | 88 => ⟨S32x576, .i32⟩
  | 89 => ⟨S32x576, .i32⟩
  | 90 => ⟨S32x576, .i32⟩
  | 91 => ⟨S_, .i32⟩
  | 92 => ⟨S32x576, .i32⟩
  | 93 => ⟨S32x576, .i1⟩
  | 94 => ⟨S_, .i32⟩
  | 95 => ⟨S32x576, .i32⟩
  | 96 => ⟨S32x576, .i32⟩
  | 97 => ⟨S32x576, .i32⟩
  | 98 => ⟨S32x576x1, .i32⟩
  | 99 => ⟨S16x32x576x16x64, .f32⟩
  | 100 => ⟨S_, .i32⟩
  | 101 => ⟨S32x576, .i32⟩
  | 102 => ⟨S32x576, .i1⟩
  | 103 => ⟨S_, .i32⟩
  | 104 => ⟨S32x576, .i32⟩
  | 105 => ⟨S32x576, .i32⟩
  | 106 => ⟨S32x576, .i32⟩
  | 107 => ⟨S32x576x1, .i32⟩
  | 108 => ⟨S16x32x576x16x64, .f32⟩
  | 109 => ⟨S16x32x16x64x576, .f32⟩
  | 110 => ⟨S_, .f32⟩
  | 111 => ⟨S16x32x16x64x576, .f32⟩
  | 112 => ⟨S16x32x16x64x576, .f32⟩
  | 113 => ⟨S1x1x16x64x576, .f32⟩
  | 114 => ⟨S16x32x16x64x576, .f32⟩
  | 115 => ⟨S16x32x16x64x576, .f32⟩
  | 116 => ⟨S_, .i32⟩
  | 117 => ⟨S32x576, .i32⟩
  | 118 => ⟨S32x576, .i1⟩
  | 119 => ⟨S1x32x1x1x576, .i1⟩
  | 120 => ⟨S_, .f32⟩
  | 121 => ⟨S_, .f32⟩
  | 122 => ⟨S16x32x16x64x576, .i1⟩
  | 123 => ⟨S16x32x16x64x576, .f32⟩
  | 124 => ⟨S16x32x16x64x576, .f32⟩
  | 125 => ⟨S_, .f32⟩
  | 126 => ⟨S16x32x16x64, .f32⟩
  | 127 => ⟨S_, .f32⟩
  | _ => ⟨S32768x9216, .bf16⟩

abbrev hbmTy0_1 (i : Nat) : BufTy := match i % 128 with
  | 0 => ⟨S16x32x16x64, .f32⟩
  | 1 => ⟨S16x32x16x64, .f32⟩
  | 2 => ⟨S16x32x16x64x1, .f32⟩
  | 3 => ⟨S16x32x16x64x576, .f32⟩
  | 4 => ⟨S16x32x16x64x576, .f32⟩
  | 5 => ⟨S16x32x16x64x576, .f32⟩
  | 6 => ⟨S_, .f32⟩
  | 7 => ⟨S16x32x16x64, .f32⟩
  | 8 => ⟨S16x32x16x64x1, .f32⟩
  | 9 => ⟨S16x32x16x64x576, .f32⟩
  | 10 => ⟨S16x32x16x64x576, .f32⟩
  | 11 => ⟨S16x32x16x64x64, .f32⟩
  | 12 => ⟨S16x32x64x16x64, .f32⟩
  | 13 => ⟨S32768x1024, .f32⟩
  | 14 => ⟨S32768x1024, .bf16⟩
  | _ => ⟨S32768x9216, .bf16⟩

abbrev hbmTy (i : Nat) : BufTy := match i / 128 with
  | 0 => hbmTy0_0 i
  | 1 => hbmTy0_1 i
  | _ => ⟨S32768x9216, .bf16⟩

abbrev bufTy : (tb : Table) → Fin (tcTables nBuf tb) → BufTy
  | .hbm, ⟨i, _⟩ => hbmTy i
  | _, _ => ⟨S32768x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c : Ref sig .tc := ⟨.hbm, 44, rfl⟩
abbrev main_call0_v0 : Ref sig .tc := ⟨.hbm, 45, rfl⟩
abbrev main_v34 : Ref sig .tc := ⟨.hbm, 46, rfl⟩
abbrev main_c_5 : Ref sig .tc := ⟨.hbm, 47, rfl⟩
abbrev main_call1_v0 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_7 : Ref sig .tc := ⟨.hbm, 61, rfl⟩
abbrev main_c_8 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_c_11 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_12 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_13 : Ref sig .tc := ⟨.hbm, 91, rfl⟩
abbrev main_v65 : Ref sig .tc := ⟨.hbm, 92, rfl⟩
abbrev main_v66 : Ref sig .tc := ⟨.hbm, 93, rfl⟩
abbrev main_c_14 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_15 : Ref sig .tc := ⟨.hbm, 100, rfl⟩
abbrev main_v72 : Ref sig .tc := ⟨.hbm, 101, rfl⟩
abbrev main_v73 : Ref sig .tc := ⟨.hbm, 102, rfl⟩
abbrev main_c_16 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_17 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_c_18 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_19 : Ref sig .tc := ⟨.hbm, 120, rfl⟩
abbrev main_call3_v0 : Ref sig .tc := ⟨.hbm, 121, rfl⟩
abbrev main_call3_v1 : Ref sig .tc := ⟨.hbm, 122, rfl⟩
abbrev main_call3_v2 : Ref sig .tc := ⟨.hbm, 123, rfl⟩
abbrev main_v88 : Ref sig .tc := ⟨.hbm, 124, rfl⟩
abbrev main_cst_20 : Ref sig .tc := ⟨.hbm, 125, rfl⟩
abbrev main_v89 : Ref sig .tc := ⟨.hbm, 126, rfl⟩
abbrev main_cst_21 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_cst_22 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩

abbrev nD : Nat := 1
abbrev τ : Topo := Topo.v7x

variable {F : FTy → Type} [FloatOps F]
-- ==== Experts.lean ====
abbrev S69632x2048 : Shape := ⟨2, ![69632, 2048]⟩
abbrev S1x2048 : Shape := ⟨2, ![1, 2048]⟩
abbrev S2x8x2048x7168 : Shape := ⟨4, ![2, 8, 2048, 7168]⟩
abbrev S2x8x7168x2048 : Shape := ⟨4, ![2, 8, 7168, 2048]⟩
abbrev S136 : Shape := ⟨1, ![136]⟩
abbrev S512x2048 : Shape := ⟨2, ![512, 2048]⟩
abbrev S1x1x2048x1024 : Shape := ⟨4, ![1, 1, 2048, 1024]⟩
abbrev S1 : Shape := ⟨1, ![1]⟩
abbrev S1x1x1024x2048 : Shape := ⟨4, ![1, 1, 1024, 2048]⟩
abbrev S64x2048 : Shape := ⟨2, ![64, 2048]⟩
abbrev S64 : Shape := ⟨1, ![64]⟩
abbrev S64x1 : Shape := ⟨2, ![64, 1]⟩
abbrev S2048x1024 : Shape := ⟨2, ![2048, 1024]⟩
abbrev S512x1024 : Shape := ⟨2, ![512, 1024]⟩
abbrev S1024x2048 : Shape := ⟨2, ![1024, 2048]⟩

abbrev nBuf : Space → Nat
  | .hbm => 6
  | .vmem => 12
  | .smem => 2
  | _ => 0

abbrev bufTy : (tb : Table) → Fin (tcTables nBuf tb) → BufTy
  | .hbm, ⟨0, _⟩ => ⟨S69632x2048, .f32⟩
  | .hbm, ⟨1, _⟩ => ⟨S1x2048, .f32⟩
  | .hbm, ⟨2, _⟩ => ⟨S2x8x2048x7168, .bf16⟩
  | .hbm, ⟨3, _⟩ => ⟨S2x8x2048x7168, .bf16⟩
  | .hbm, ⟨4, _⟩ => ⟨S2x8x7168x2048, .bf16⟩
  | .hbm, ⟨5, _⟩ => ⟨S69632x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048x1024, .bf16⟩
  | .local _ .vmem, ⟨4, _⟩ => ⟨S1x1x2048x1024, .bf16⟩
  | .local _ .vmem, ⟨5, _⟩ => ⟨S1x1x2048x1024, .bf16⟩
  | .local _ .vmem, ⟨6, _⟩ => ⟨S1x1x2048x1024, .bf16⟩
  | .local _ .vmem, ⟨7, _⟩ => ⟨S1x1x1024x2048, .bf16⟩
  | .local _ .vmem, ⟨8, _⟩ => ⟨S1x1x1024x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .smem, ⟨0, _⟩ => ⟨S136, .i32⟩
  | .local _ .smem, ⟨1, _⟩ => ⟨S136, .i32⟩
  | _, _ => ⟨S69632x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_arg5 : Ref sig .tc := ⟨.smem, 0, rfl⟩
abbrev main_arg6 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![136, 7], ![false, false]⟩

abbrev pre0 : Pipeline.Prefetch sig := ⟨2, ![main_arg5.idx, main_arg6.idx], fun | 0 => main_arg5.names | 1 => main_arg6.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_2 : BitVec 32 := 0#32
  let c8_i32 : BitVec 32 := 8#32
  let v8 : BitVec 32 := Scalar.addi c0_i32_2 c8_i32
  let c1_i32_3 : BitVec 32 := 1#32
  ⟨c0_i32_2, v8, c1_i32_3⟩
def k0_mult1 (k0_t1 : Fin k0_t1_loop.trips) : BitVec 32 :=
  let c0_i32_2 : BitVec 32 := 0#32
  let c1_i32_3 : BitVec 32 := 1#32
  let arg11 : BitVec 32 := Scf.iv c0_i32_2 c1_i32_3 k0_t1
  let c64_i32 : BitVec 32 := 64#32
  let v11 : BitVec 32 := Scalar.muli arg11 c64_i32
  v11
def k0_off2 (k0_t1 : Fin k0_t1_loop.trips) : Fin 2 → Nat :=
  let c0_i32_2 : BitVec 32 := 0#32
  let c1_i32_3 : BitVec 32 := 1#32
  let arg11 : BitVec 32 := Scf.iv c0_i32_2 c1_i32_3 k0_t1
  let c64_i32 : BitVec 32 := 64#32
  let v11 : BitVec 32 := Scalar.muli arg11 c64_i32
  let v12 : BitVec 32 := v11
  let v13 : Index := Scalar.indexCast v12
  let c0_6 : Index := 0#32
  ![v13.toNat, 0]
def k0_cond2 (v4 : BitVec 32) : BitVec 1 :=
  let c1_i32 : BitVec 32 := 1#32
  let v5 : BitVec 1 := Scalar.cmpi .eq v4 c1_i32
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S136.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let v2 : Index := Scalar.indexCast arg0
  let v3 : BitVec 32 := pf.at 1 (Rect.unit (s := S136) ![v2.toNat] S1.size (k0_off1_inb i)) numel1_S1
  let c1_i32 : BitVec 32 := 1#32
  let v4 : BitVec 1 := Scalar.cmpi .eq v3 c1_i32
  let c6_i32 : BitVec 32 := 6#32
  let v5 : BitVec 32 := Scalar.select v4 arg1 c6_i32
  let c0_i32 : BitVec 32 := 0#32
  let c0_i32_0 : BitVec 32 := 0#32
  let c0_i32_1 : BitVec 32 := 0#32
  ![c0_i32.toNat, v1.toNat, c0_i32_0.toNat, v5.toNat]

def cc0_transform_3 (k0_off1_inb : ∀ i : grid0.Coords, ∀ a, (k0_off1 i) a + S1.size a ≤ S136.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let v2 : Index := Scalar.indexCast arg0
  let v3 : BitVec 32 := pf.at 1 (Rect.unit (s := S136) ![v2.toNat] S1.size (k0_off1_inb i)) numel1_S1
  let c1_i32 : BitVec 32 := 1#32
  let v4 : BitVec 1 := Scalar.cmpi .eq v3 c1_i32
  let c6_i32 : BitVec 32 := 6#32
  let v5 : BitVec 32 := Scalar.select v4 arg1 c6_i32
  let c0_i32 : BitVec 32 := 0#32
  let c0_i32_0 : BitVec 32 := 0#32
  let c0_i32_1 : BitVec 32 := 0#32
  ![c0_i32.toNat, v1.toNat, c0_i32_0.toNat, v5.toNat]

def cc0_transform_4 (k0_off1_inb : ∀ i : grid0.Coords, ∀ a, (k0_off1 i) a + S1.size a ≤ S136.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let v2 : Index := Scalar.indexCast arg0
  let v3 : BitVec 32 := pf.at 1 (Rect.unit (s := S136) ![v2.toNat] S1.size (k0_off1_inb i)) numel1_S1
  let c1_i32 : BitVec 32 := 1#32
  let v4 : BitVec 1 := Scalar.cmpi .eq v3 c1_i32
  let c6_i32 : BitVec 32 := 6#32
  let v5 : BitVec 32 := Scalar.select v4 arg1 c6_i32
  let c0_i32 : BitVec 32 := 0#32
  let c0_i32_0 : BitVec 32 := 0#32
  let c0_i32_1 : BitVec 32 := 0#32
  ![c0_i32.toNat, v1.toNat, v5.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ExpertsReferenceIdeal.lean ====
abbrev S69632x2048 : Shape := ⟨2, ![69632, 2048]⟩
abbrev S1x2048 : Shape := ⟨2, ![1, 2048]⟩
abbrev S2x8x2048x7168 : Shape := ⟨4, ![2, 8, 2048, 7168]⟩
abbrev S2x8x7168x2048 : Shape := ⟨4, ![2, 8, 7168, 2048]⟩
abbrev S136 : Shape := ⟨1, ![136]⟩
abbrev S_ : Shape := ⟨0, ![]⟩
abbrev S69632 : Shape := ⟨1, ![69632]⟩
abbrev S69632x1 : Shape := ⟨2, ![69632, 1]⟩
abbrev S1x8x2048x7168 : Shape := ⟨4, ![1, 8, 2048, 7168]⟩
abbrev S8x2048x7168 : Shape := ⟨3, ![8, 2048, 7168]⟩
abbrev S8x7168x69632 : Shape := ⟨3, ![8, 7168, 69632]⟩
abbrev S8x69632x7168 : Shape := ⟨3, ![8, 69632, 7168]⟩
abbrev S1x8x7168x2048 : Shape := ⟨4, ![1, 8, 7168, 2048]⟩
abbrev S8x7168x2048 : Shape := ⟨3, ![8, 7168, 2048]⟩
abbrev S8x69632x2048 : Shape := ⟨3, ![8, 69632, 2048]⟩
abbrev S1x136 : Shape := ⟨2, ![1, 136]⟩
abbrev S8 : Shape := ⟨1, ![8]⟩
abbrev S8x1 : Shape := ⟨2, ![8, 1]⟩
abbrev S8x136 : Shape := ⟨2, ![8, 136]⟩
abbrev S8x136x1 : Shape := ⟨3, ![8, 136, 1]⟩
abbrev S8x136x512 : Shape := ⟨3, ![8, 136, 512]⟩
abbrev S8x69632x1 : Shape := ⟨3, ![8, 69632, 1]⟩

abbrev nBuf : Space → Nat
  | .hbm => 68
  | .vmem => 0
  | .smem => 0
  | _ => 0

abbrev bufTy : (tb : Table) → Fin (tcTables nBuf tb) → BufTy
  | .hbm, ⟨0, _⟩ => ⟨S69632x2048, .f32⟩
  | .hbm, ⟨1, _⟩ => ⟨S1x2048, .f32⟩
  | .hbm, ⟨2, _⟩ => ⟨S2x8x2048x7168, .bf16⟩
  | .hbm, ⟨3, _⟩ => ⟨S2x8x2048x7168, .bf16⟩
  | .hbm, ⟨4, _⟩ => ⟨S2x8x7168x2048, .bf16⟩
  | .hbm, ⟨5, _⟩ => ⟨S136, .i32⟩
  | .hbm, ⟨6, _⟩ => ⟨S136, .i32⟩
  | .hbm, ⟨7, _⟩ => ⟨S69632x2048, .f32⟩
  | .hbm, ⟨8, _⟩ => ⟨S_, .f32⟩
  | .hbm, ⟨9, _⟩ => ⟨S69632, .f32⟩
  | .hbm, ⟨10, _⟩ => ⟨S69632x1, .f32⟩
  | .hbm, ⟨11, _⟩ => ⟨S_, .f32⟩
  | .hbm, ⟨12, _⟩ => ⟨S69632x1, .f32⟩
  | .hbm, ⟨13, _⟩ => ⟨S69632x1, .f32⟩
  | .hbm, ⟨14, _⟩ => ⟨S_, .f32⟩
  | .hbm, ⟨15, _⟩ => ⟨S69632x1, .f32⟩
  | .hbm, ⟨16, _⟩ => ⟨S69632x1, .f32⟩
  | .hbm, ⟨17, _⟩ => ⟨S69632x1, .f32⟩
  | .hbm, ⟨18, _⟩ => ⟨S69632x2048, .f32⟩
  | .hbm, ⟨19, _⟩ => ⟨S69632x2048, .f32⟩
  | .hbm, ⟨20, _⟩ => ⟨S69632x2048, .f32⟩
  | .hbm, ⟨21, _⟩ => ⟨S69632x2048, .f32⟩
  | .hbm, ⟨22, _⟩ => ⟨S1x8x2048x7168, .bf16⟩
  | .hbm, ⟨23, _⟩ => ⟨S8x2048x7168, .bf16⟩
  | .hbm, ⟨24, _⟩ => ⟨S8x2048x7168, .f32⟩
  | .hbm, ⟨25, _⟩ => ⟨S8x7168x69632, .f32⟩
  | .hbm, ⟨26, _⟩ => ⟨S8x69632x7168, .f32⟩
  | .hbm, ⟨27, _⟩ => ⟨S1x8x2048x7168, .bf16⟩
  | .hbm, ⟨28, _⟩ => ⟨S8x2048x7168, .bf16⟩
  | .hbm, ⟨29, _⟩ => ⟨S8x2048x7168, .f32⟩
  | .hbm, ⟨30, _⟩ => ⟨S8x7168x69632, .f32⟩
  | .hbm, ⟨31, _⟩ => ⟨S8x69632x7168, .f32⟩
  | .hbm, ⟨32, _⟩ => ⟨S8x69632x7168, .f32⟩
  | .hbm, ⟨33, _⟩ => ⟨S8x69632x7168, .f32⟩
  | .hbm, ⟨34, _⟩ => ⟨S_, .f32⟩
  | .hbm, ⟨35, _⟩ => ⟨S8x69632x7168, .f32⟩
  | .hbm, ⟨36, _⟩ => ⟨S8x69632x7168, .f32⟩
  | .hbm, ⟨37, _⟩ => ⟨S_, .f32⟩
  | .hbm, ⟨38, _⟩ => ⟨S8x69632x7168, .f32⟩
  | .hbm, ⟨39, _⟩ => ⟨S8x69632x7168, .f32⟩
  | .hbm, ⟨40, _⟩ => ⟨S8x69632x7168, .f32⟩
  | .hbm, ⟨41, _⟩ => ⟨S8x69632x7168, .f32⟩
  | .hbm, ⟨42, _⟩ => ⟨S1x8x7168x2048, .bf16⟩
  | .hbm, ⟨43, _⟩ => ⟨S8x7168x2048, .bf16⟩
  | .hbm, ⟨44, _⟩ => ⟨S8x7168x2048, .f32⟩
  | .hbm, ⟨45, _⟩ => ⟨S8x69632x2048, .f32⟩
  | .hbm, ⟨46, _⟩ => ⟨S1x136, .i32⟩
  | .hbm, ⟨47, _⟩ => ⟨S8, .i32⟩
  | .hbm, ⟨48, _⟩ => ⟨S8x1, .i32⟩
  | .hbm, ⟨49, _⟩ => ⟨S8x136, .i32⟩
  | .hbm, ⟨50, _⟩ => ⟨S8x136, .i32⟩
  | .hbm, ⟨51, _⟩ => ⟨S8x136, .i1⟩
  | .hbm, ⟨52, _⟩ => ⟨S_, .i32⟩
  | .hbm, ⟨53, _⟩ => ⟨S136, .i32⟩
  | .hbm, ⟨54, _⟩ => ⟨S136, .i1⟩
  | .hbm, ⟨55, _⟩ => ⟨S1x136, .i1⟩
  | .hbm, ⟨56, _⟩ => ⟨S8x136, .i1⟩
  | .hbm, ⟨57, _⟩ => ⟨S8x136, .i1⟩
  | .hbm, ⟨58, _⟩ => ⟨S8x136x1, .i1⟩
  | .hbm, ⟨59, _⟩ => ⟨S8x136x512, .i1⟩
  | .hbm, ⟨60, _⟩ => ⟨S8x69632x1, .i1⟩
  | .hbm, ⟨61, _⟩ => ⟨S_, .f32⟩
  | .hbm, ⟨62, _⟩ => ⟨S_, .f32⟩
  | .hbm, ⟨63, _⟩ => ⟨S8x69632x2048, .i1⟩
  | .hbm, ⟨64, _⟩ => ⟨S8x69632x2048, .f32⟩
  | .hbm, ⟨65, _⟩ => ⟨S8x69632x2048, .f32⟩
  | .hbm, ⟨66, _⟩ => ⟨S_, .f32⟩
  | .hbm, ⟨67, _⟩ => ⟨S69632x2048, .f32⟩
  | _, _ => ⟨S69632x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_2 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v42 : Ref sig .tc := ⟨.hbm, 65, rfl⟩
abbrev main_cst_3 : Ref sig .tc := ⟨.hbm, 66, rfl⟩
abbrev main_v43 : Ref sig .tc := ⟨.hbm, 67, rfl⟩

abbrev nD : Nat := 1
abbrev τ : Topo := Topo.v7x

variable {F : FTy → Type} [FloatOps F]
-- ==== InProj.lean ====
abbrev S32768x2048 : Shape := ⟨2, ![32768, 2048]⟩
abbrev S1x2048 : Shape := ⟨2, ![1, 2048]⟩
abbrev S4x2048x9216 : Shape := ⟨3, ![4, 2048, 9216]⟩
abbrev S32768x9216 : Shape := ⟨2, ![32768, 9216]⟩
abbrev S1024x2048 : Shape := ⟨2, ![1024, 2048]⟩
abbrev S1x2048x2304 : Shape := ⟨3, ![1, 2048, 2304]⟩
abbrev S1024x2304 : Shape := ⟨2, ![1024, 2304]⟩
abbrev S64x2048 : Shape := ⟨2, ![64, 2048]⟩
abbrev S64 : Shape := ⟨1, ![64]⟩
abbrev S64x1 : Shape := ⟨2, ![64, 1]⟩
abbrev S2048x2304 : Shape := ⟨2, ![2048, 2304]⟩

abbrev nBuf : Space → Nat
  | .hbm => 4
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S4x2048x9216, .bf16⟩
  | .hbm, ⟨3, _⟩ => ⟨S32768x9216, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x2304, .bf16⟩
  | .local _ .vmem, ⟨4, _⟩ => ⟨S1x2048x2304, .bf16⟩
  | .local _ .vmem, ⟨5, _⟩ => ⟨S1024x2304, .bf16⟩
  | .local _ .vmem, ⟨6, _⟩ => ⟨S1024x2304, .bf16⟩
  | .local _ .vmem, ⟨7, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_7 : BitVec 32 := 0#32
  let c16_i32 : BitVec 32 := 16#32
  let v9 : BitVec 32 := Scalar.addi c0_i32_7 c16_i32
  let c1_i32 : BitVec 32 := 1#32
  ⟨c0_i32_7, v9, c1_i32⟩
def k0_mult1 (k0_t1 : Fin k0_t1_loop.trips) : BitVec 32 :=
  let c0_i32_7 : BitVec 32 := 0#32
  let c1_i32 : BitVec 32 := 1#32
  let arg7 : BitVec 32 := Scf.iv c0_i32_7 c1_i32 k0_t1
  let c64_i32 : BitVec 32 := 64#32
  let v10 : BitVec 32 := Scalar.muli arg7 c64_i32
  v10
def k0_off1 (k0_t1 : Fin k0_t1_loop.trips) : Fin 2 → Nat :=
  let c0_i32_7 : BitVec 32 := 0#32
  let c1_i32 : BitVec 32 := 1#32
  let arg7 : BitVec 32 := Scf.iv c0_i32_7 c1_i32 k0_t1
  let c64_i32 : BitVec 32 := 64#32
  let v10 : BitVec 32 := Scalar.muli arg7 c64_i32
  let v11 : BitVec 32 := v10
  let v12 : Index := Scalar.indexCast v11
  let c0_9 : Index := 0#32
  ![v12.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2304 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjReferenceIdeal.lean ====
abbrev S32768x2048 : Shape := ⟨2, ![32768, 2048]⟩
abbrev S1x2048 : Shape := ⟨2, ![1, 2048]⟩
abbrev S4x2048x9216 : Shape := ⟨3, ![4, 2048, 9216]⟩
abbrev S_ : Shape := ⟨0, ![]⟩
abbrev S32768 : Shape := ⟨1, ![32768]⟩
abbrev S32768x1 : Shape := ⟨2, ![32768, 1]⟩
abbrev S1x2048x9216 : Shape := ⟨3, ![1, 2048, 9216]⟩
abbrev S2048x9216 : Shape := ⟨2, ![2048, 9216]⟩
abbrev S32768x9216 : Shape := ⟨2, ![32768, 9216]⟩

abbrev nBuf : Space → Nat
  | .hbm => 23
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S4x2048x9216, .bf16⟩
  | .hbm, ⟨3, _⟩ => ⟨S32768x2048, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x2048, .f32⟩
  | .hbm, ⟨15, _⟩ => ⟨S32768x2048, .f32⟩
  | .hbm, ⟨16, _⟩ => ⟨S32768x2048, .f32⟩
  | .hbm, ⟨17, _⟩ => ⟨S32768x2048, .f32⟩
  | .hbm, ⟨18, _⟩ => ⟨S1x2048x9216, .bf16⟩
  | .hbm, ⟨19, _⟩ => ⟨S2048x9216, .bf16⟩
  | .hbm, ⟨20, _⟩ => ⟨S2048x9216, .f32⟩
  | .hbm, ⟨21, _⟩ => ⟨S32768x9216, .f32⟩
  | .hbm, ⟨22, _⟩ => ⟨S32768x9216, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Merge.lean ====
abbrev S32768x9216 : Shape := ⟨2, ![32768, 9216]⟩
abbrev S32768x1024 : Shape := ⟨2, ![32768, 1024]⟩
abbrev S32768x2048 : Shape := ⟨2, ![32768, 2048]⟩
abbrev S4x1024x2048 : Shape := ⟨3, ![4, 1024, 2048]⟩
abbrev S4x2048x2048 : Shape := ⟨3, ![4, 2048, 2048]⟩
abbrev S512x1024 : Shape := ⟨2, ![512, 1024]⟩
abbrev S512x2048 : Shape := ⟨2, ![512, 2048]⟩
abbrev S1x1024x2048 : Shape := ⟨3, ![1, 1024, 2048]⟩
abbrev S1x2048x2048 : Shape := ⟨3, ![1, 2048, 2048]⟩
abbrev S1x1024x512 : Shape := ⟨3, ![1, 1024, 512]⟩
abbrev S1024x512 : Shape := ⟨2, ![1024, 512]⟩
abbrev S512x512 : Shape := ⟨2, ![512, 512]⟩
abbrev S1x2048x512 : Shape := ⟨3, ![1, 2048, 512]⟩
abbrev S2048x512 : Shape := ⟨2, ![2048, 512]⟩

abbrev nBuf : Space → Nat
  | .hbm => 8
  | .vmem => 20
  | .smem => 0
  | _ => 0

abbrev bufTy : (tb : Table) → Fin (tcTables nBuf tb) → BufTy
  | .hbm, ⟨0, _⟩ => ⟨S32768x9216, .bf16⟩
  | .hbm, ⟨1, _⟩ => ⟨S32768x1024, .bf16⟩
  | .hbm, ⟨2, _⟩ => ⟨S32768x1024, .bf16⟩
  | .hbm, ⟨3, _⟩ => ⟨S32768x2048, .f32⟩
  | .hbm, ⟨4, _⟩ => ⟨S4x1024x2048, .bf16⟩
  | .hbm, ⟨5, _⟩ => ⟨S4x1024x2048, .bf16⟩
  | .hbm, ⟨6, _⟩ => ⟨S4x2048x2048, .bf16⟩
  | .hbm, ⟨7, _⟩ => ⟨S32768x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x2048, .f32⟩
  | .local _ .vmem, ⟨13, _⟩ => ⟨S512x2048, .f32⟩
  | .local _ .vmem, ⟨14, _⟩ => ⟨S1x1024x2048, .bf16⟩
  | .local _ .vmem, ⟨15, _⟩ => ⟨S1x1024x2048, .bf16⟩
  | .local _ .vmem, ⟨16, _⟩ => ⟨S1x2048x2048, .bf16⟩
  | .local _ .vmem, ⟨17, _⟩ => ⟨S512x2048, .f32⟩
  | .local _ .vmem, ⟨18, _⟩ => ⟨S512x2048, .f32⟩
  | .local _ .vmem, ⟨19, _⟩ => ⟨S512x2048, .bf16⟩
  | _, _ => ⟨S32768x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeReferenceIdeal.lean ====
abbrev S32768x9216 : Shape := ⟨2, ![32768, 9216]⟩
abbrev S32768x1024 : Shape := ⟨2, ![32768, 1024]⟩
abbrev S32768x2048 : Shape := ⟨2, ![32768, 2048]⟩
abbrev S4x1024x2048 : Shape := ⟨3, ![4, 1024, 2048]⟩
abbrev S4x2048x2048 : Shape := ⟨3, ![4, 2048, 2048]⟩
abbrev S_ : Shape := ⟨0, ![]⟩
abbrev S1x1024x2048 : Shape := ⟨3, ![1, 1024, 2048]⟩
abbrev S1024x2048 : Shape := ⟨2, ![1024, 2048]⟩
abbrev S1x2048x2048 : Shape := ⟨3, ![1, 2048, 2048]⟩
abbrev S2048x2048 : Shape := ⟨2, ![2048, 2048]⟩

abbrev nBuf : Space → Nat
  | .hbm => 45
  | .vmem => 0
  | .smem => 0
  | _ => 0

abbrev bufTy : (tb : Table) → Fin (tcTables nBuf tb) → BufTy
  | .hbm, ⟨0, _⟩ => ⟨S32768x9216, .bf16⟩
  | .hbm, ⟨1, _⟩ => ⟨S32768x1024, .bf16⟩
  | .hbm, ⟨2, _⟩ => ⟨S32768x1024, .bf16⟩
  | .hbm, ⟨3, _⟩ => ⟨S32768x2048, .f32⟩
  | .hbm, ⟨4, _⟩ => ⟨S4x1024x2048, .bf16⟩
  | .hbm, ⟨5, _⟩ => ⟨S4x1024x2048, .bf16⟩
  | .hbm, ⟨6, _⟩ => ⟨S4x2048x2048, .bf16⟩
  | .hbm, ⟨7, _⟩ => ⟨S32768x2048, .bf16⟩
  | .hbm, ⟨8, _⟩ => ⟨S32768x2048, .f32⟩
  | .hbm, ⟨9, _⟩ => ⟨S32768x2048, .f32⟩
  | .hbm, ⟨10, _⟩ => ⟨S32768x2048, .f32⟩
  | .hbm, ⟨11, _⟩ => ⟨S_, .f32⟩
  | .hbm, ⟨12, _⟩ => ⟨S32768x2048, .f32⟩
  | .hbm, ⟨13, _⟩ => ⟨S32768x2048, .f32⟩
  | .hbm, ⟨14, _⟩ => ⟨S_, .f32⟩
  | .hbm, ⟨15, _⟩ => ⟨S32768x2048, .f32⟩
  | .hbm, ⟨16, _⟩ => ⟨S32768x2048, .f32⟩
  | .hbm, ⟨17, _⟩ => ⟨S32768x2048, .bf16⟩
  | .hbm, ⟨18, _⟩ => ⟨S32768x2048, .f32⟩
  | .hbm, ⟨19, _⟩ => ⟨S32768x2048, .f32⟩
  | .hbm, ⟨20, _⟩ => ⟨S32768x2048, .f32⟩
  | .hbm, ⟨21, _⟩ => ⟨S_, .f32⟩
  | .hbm, ⟨22, _⟩ => ⟨S32768x2048, .f32⟩
  | .hbm, ⟨23, _⟩ => ⟨S32768x2048, .f32⟩
  | .hbm, ⟨24, _⟩ => ⟨S_, .f32⟩
  | .hbm, ⟨25, _⟩ => ⟨S32768x2048, .f32⟩
  | .hbm, ⟨26, _⟩ => ⟨S32768x2048, .f32⟩
  | .hbm, ⟨27, _⟩ => ⟨S32768x1024, .f32⟩
  | .hbm, ⟨28, _⟩ => ⟨S1x1024x2048, .bf16⟩
  | .hbm, ⟨29, _⟩ => ⟨S1024x2048, .bf16⟩
  | .hbm, ⟨30, _⟩ => ⟨S1024x2048, .f32⟩
  | .hbm, ⟨31, _⟩ => ⟨S32768x2048, .f32⟩
  | .hbm, ⟨32, _⟩ => ⟨S32768x1024, .f32⟩
  | .hbm, ⟨33, _⟩ => ⟨S1x1024x2048, .bf16⟩
  | .hbm, ⟨34, _⟩ => ⟨S1024x2048, .bf16⟩
  | .hbm, ⟨35, _⟩ => ⟨S1024x2048, .f32⟩
  | .hbm, ⟨36, _⟩ => ⟨S32768x2048, .f32⟩
  | .hbm, ⟨37, _⟩ => ⟨S32768x2048, .f32⟩
  | .hbm, ⟨38, _⟩ => ⟨S32768x2048, .f32⟩
  | .hbm, ⟨39, _⟩ => ⟨S32768x2048, .f32⟩
  | .hbm, ⟨40, _⟩ => ⟨S1x2048x2048, .bf16⟩
  | .hbm, ⟨41, _⟩ => ⟨S2048x2048, .bf16⟩
  | .hbm, ⟨42, _⟩ => ⟨S2048x2048, .f32⟩
  | .hbm, ⟨43, _⟩ => ⟨S32768x2048, .f32⟩
  | .hbm, ⟨44, _⟩ => ⟨S32768x2048, .f32⟩
  | _, _ => ⟨S32768x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Dense.lean ====
abbrev S32768x2048 : Shape := ⟨2, ![32768, 2048]⟩
abbrev S1x2048 : Shape := ⟨2, ![1, 2048]⟩
abbrev S2x2048x7168 : Shape := ⟨3, ![2, 2048, 7168]⟩
abbrev S2x7168x2048 : Shape := ⟨3, ![2, 7168, 2048]⟩
abbrev S_ : Shape := ⟨0, ![]⟩
abbrev S32 : Shape := ⟨1, ![32]⟩
abbrev S2x1x2048x7168 : Shape := ⟨4, ![2, 1, 2048, 7168]⟩
abbrev S2x1x7168x2048 : Shape := ⟨4, ![2, 1, 7168, 2048]⟩
abbrev S1024x2048 : Shape := ⟨2, ![1024, 2048]⟩
abbrev S1x1x2048x512 : Shape := ⟨4, ![1, 1, 2048, 512]⟩
abbrev S1 : Shape := ⟨1, ![1]⟩
abbrev S1x1x512x2048 : Shape := ⟨4, ![1, 1, 512, 2048]⟩
abbrev S64x2048 : Shape := ⟨2, ![64, 2048]⟩
abbrev S64 : Shape := ⟨1, ![64]⟩
abbrev S64x1 : Shape := ⟨2, ![64, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 12
  | .vmem => 12
  | .smem => 2
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2x2048x7168, .bf16⟩
  | .hbm, ⟨3, _⟩ => ⟨S2x2048x7168, .bf16⟩
  | .hbm, ⟨4, _⟩ => ⟨S2x7168x2048, .bf16⟩
  | .hbm, ⟨5, _⟩ => ⟨S_, .i32⟩
  | .hbm, ⟨6, _⟩ => ⟨S2x1x2048x7168, .bf16⟩
  | .hbm, ⟨7, _⟩ => ⟨S2x1x2048x7168, .bf16⟩
  | .hbm, ⟨8, _⟩ => ⟨S2x1x7168x2048, .bf16⟩
  | .hbm, ⟨9, _⟩ => ⟨S_, .i32⟩
  | .hbm, ⟨10, _⟩ => ⟨S32, .i32⟩
  | .hbm, ⟨11, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048x512, .bf16⟩
  | .local _ .vmem, ⟨4, _⟩ => ⟨S1x1x2048x512, .bf16⟩
  | .local _ .vmem, ⟨5, _⟩ => ⟨S1x1x2048x512, .bf16⟩
  | .local _ .vmem, ⟨6, _⟩ => ⟨S1x1x2048x512, .bf16⟩
  | .local _ .vmem, ⟨7, _⟩ => ⟨S1x1x512x2048, .bf16⟩
  | .local _ .vmem, ⟨8, _⟩ => ⟨S1x1x512x2048, .bf16⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | .local _ .smem, ⟨0, _⟩ => ⟨S32, .i32⟩
  | .local _ .smem, ⟨1, _⟩ => ⟨S32, .i32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v6 : Ref sig .tc := ⟨.hbm, 11, rfl⟩
abbrev main_v0 : Ref sig .tc := ⟨.smem, 0, rfl⟩
abbrev main_v5 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 14], ![false, false]⟩

abbrev pre0 : Pipeline.Prefetch sig := ⟨2, ![main_v0.idx, main_v5.idx], fun | 0 => main_v0.names | 1 => main_v5.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_2 : BitVec 32 := 0#32
  let c16_i32 : BitVec 32 := 16#32
  let v8 : BitVec 32 := Scalar.addi c0_i32_2 c16_i32
  let c1_i32_3 : BitVec 32 := 1#32
  ⟨c0_i32_2, v8, c1_i32_3⟩
def k0_mult1 (k0_t1 : Fin k0_t1_loop.trips) : BitVec 32 :=
  let c0_i32_2 : BitVec 32 := 0#32
  let c1_i32_3 : BitVec 32 := 1#32
  let arg11 : BitVec 32 := Scf.iv c0_i32_2 c1_i32_3 k0_t1
  let c64_i32 : BitVec 32 := 64#32
  let v11 : BitVec 32 := Scalar.muli arg11 c64_i32
  v11
def k0_off2 (k0_t1 : Fin k0_t1_loop.trips) : Fin 2 → Nat :=
  let c0_i32_2 : BitVec 32 := 0#32
  let c1_i32_3 : BitVec 32 := 1#32
  let arg11 : BitVec 32 := Scf.iv c0_i32_2 c1_i32_3 k0_t1
  let c64_i32 : BitVec 32 := 64#32
  let v11 : BitVec 32 := Scalar.muli arg11 c64_i32
  let v12 : BitVec 32 := v11
  let v13 : Index := Scalar.indexCast v12
  let c0_8 : Index := 0#32
  ![v13.toNat, 0]
def k0_cond2 (v4 : BitVec 32) : BitVec 1 :=
  let c1_i32 : BitVec 32 := 1#32
  let v5 : BitVec 1 := Scalar.cmpi .eq v4 c1_i32
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S32.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let v2 : Index := Scalar.indexCast arg0
  let v3 : BitVec 32 := pf.at 1 (Rect.unit (s := S32) ![v2.toNat] S1.size (k0_off1_inb i)) numel1_S1
  let c1_i32 : BitVec 32 := 1#32
  let v4 : BitVec 1 := Scalar.cmpi .eq v3 c1_i32
  let c13_i32 : BitVec 32 := 13#32
  let v5 : BitVec 32 := Scalar.select v4 arg1 c13_i32
  let c0_i32 : BitVec 32 := 0#32
  let c0_i32_0 : BitVec 32 := 0#32
  let c0_i32_1 : BitVec 32 := 0#32
  ![c0_i32.toNat, v1.toNat, c0_i32_0.toNat, v5.toNat]

def cc0_transform_3 (k0_off1_inb : ∀ i : grid0.Coords, ∀ a, (k0_off1 i) a + S1.size a ≤ S32.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let v2 : Index := Scalar.indexCast arg0
  let v3 : BitVec 32 := pf.at 1 (Rect.unit (s := S32) ![v2.toNat] S1.size (k0_off1_inb i)) numel1_S1
  let c1_i32 : BitVec 32 := 1#32
  let v4 : BitVec 1 := Scalar.cmpi .eq v3 c1_i32
  let c13_i32 : BitVec 32 := 13#32
  let v5 : BitVec 32 := Scalar.select v4 arg1 c13_i32
  let c0_i32 : BitVec 32 := 0#32
  let c0_i32_0 : BitVec 32 := 0#32
  let c0_i32_1 : BitVec 32 := 0#32
  ![c0_i32.toNat, v1.toNat, c0_i32_0.toNat, v5.toNat]

def cc0_transform_4 (k0_off1_inb : ∀ i : grid0.Coords, ∀ a, (k0_off1 i) a + S1.size a ≤ S32.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let v2 : Index := Scalar.indexCast arg0
  let v3 : BitVec 32 := pf.at 1 (Rect.unit (s := S32) ![v2.toNat] S1.size (k0_off1_inb i)) numel1_S1
  let c1_i32 : BitVec 32 := 1#32
  let v4 : BitVec 1 := Scalar.cmpi .eq v3 c1_i32
  let c13_i32 : BitVec 32 := 13#32
  let v5 : BitVec 32 := Scalar.select v4 arg1 c13_i32
  let c0_i32 : BitVec 32 := 0#32
  let c0_i32_0 : BitVec 32 := 0#32
  let c0_i32_1 : BitVec 32 := 0#32
  ![c0_i32.toNat, v1.toNat, v5.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== DenseReferenceIdeal.lean ====
abbrev S32768x2048 : Shape := ⟨2, ![32768, 2048]⟩
abbrev S1x2048 : Shape := ⟨2, ![1, 2048]⟩
abbrev S2x2048x7168 : Shape := ⟨3, ![2, 2048, 7168]⟩
abbrev S2x7168x2048 : Shape := ⟨3, ![2, 7168, 2048]⟩
abbrev S_ : Shape := ⟨0, ![]⟩
abbrev S32768 : Shape := ⟨1, ![32768]⟩
abbrev S32768x1 : Shape := ⟨2, ![32768, 1]⟩
abbrev S1x2048x7168 : Shape := ⟨3, ![1, 2048, 7168]⟩
abbrev S2048x7168 : Shape := ⟨2, ![2048, 7168]⟩
abbrev S32768x7168 : Shape := ⟨2, ![32768, 7168]⟩
abbrev S1x7168x2048 : Shape := ⟨3, ![1, 7168, 2048]⟩
abbrev S7168x2048 : Shape := ⟨2, ![7168, 2048]⟩

abbrev nBuf : Space → Nat
  | .hbm => 43
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2x2048x7168, .bf16⟩
  | .hbm, ⟨3, _⟩ => ⟨S2x2048x7168, .bf16⟩
  | .hbm, ⟨4, _⟩ => ⟨S2x7168x2048, .bf16⟩
  | .hbm, ⟨5, _⟩ => ⟨S32768x2048, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x2048, .f32⟩
  | .hbm, ⟨17, _⟩ => ⟨S32768x2048, .f32⟩
  | .hbm, ⟨18, _⟩ => ⟨S32768x2048, .f32⟩
  | .hbm, ⟨19, _⟩ => ⟨S32768x2048, .f32⟩
  | .hbm, ⟨20, _⟩ => ⟨S1x2048x7168, .bf16⟩
  | .hbm, ⟨21, _⟩ => ⟨S2048x7168, .bf16⟩
  | .hbm, ⟨22, _⟩ => ⟨S2048x7168, .f32⟩
  | .hbm, ⟨23, _⟩ => ⟨S32768x7168, .f32⟩
  | .hbm, ⟨24, _⟩ => ⟨S1x2048x7168, .bf16⟩
  | .hbm, ⟨25, _⟩ => ⟨S2048x7168, .bf16⟩
  | .hbm, ⟨26, _⟩ => ⟨S2048x7168, .f32⟩
  | .hbm, ⟨27, _⟩ => ⟨S32768x7168, .f32⟩
  | .hbm, ⟨28, _⟩ => ⟨S32768x7168, .f32⟩
  | .hbm, ⟨29, _⟩ => ⟨S32768x7168, .f32⟩
  | .hbm, ⟨30, _⟩ => ⟨S_, .f32⟩
  | .hbm, ⟨31, _⟩ => ⟨S32768x7168, .f32⟩
  | .hbm, ⟨32, _⟩ => ⟨S32768x7168, .f32⟩
  | .hbm, ⟨33, _⟩ => ⟨S_, .f32⟩
  | .hbm, ⟨34, _⟩ => ⟨S32768x7168, .f32⟩
  | .hbm, ⟨35, _⟩ => ⟨S32768x7168, .f32⟩
  | .hbm, ⟨36, _⟩ => ⟨S32768x7168, .f32⟩
  | .hbm, ⟨37, _⟩ => ⟨S32768x7168, .f32⟩
  | .hbm, ⟨38, _⟩ => ⟨S1x7168x2048, .bf16⟩
  | .hbm, ⟨39, _⟩ => ⟨S7168x2048, .bf16⟩
  | .hbm, ⟨40, _⟩ => ⟨S7168x2048, .f32⟩
  | .hbm, ⟨41, _⟩ => ⟨S32768x2048, .f32⟩
  | .hbm, ⟨42, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩

abbrev nD : Nat := 1
abbrev τ : Topo := Topo.v7x

variable {F : FTy → Type} [FloatOps F]
-- ==== Proof.Attn.Blocks.lean ====
/-
  What the attention body computes, as functions of the blocks it loads: the normalised keys of a batch and the
  output rows of one query block.
-/
module

public import proofs.«01_k».proof.Proof.Gen.KernelIdeal.Skeleton
public import Idealize.ShloMosaic.Lib.WholeRead
public import Idealize.ShloMosaic.Lib.Pointwise
public import Idealize.ShloMosaic.Lib.WordCmp

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

variable {F : FTy → Type} [FloatOps F]

/-- The tile of 128 rows and 128 lanes of the keys at tile row `r` and head pair `p`. -/
def keyTile (x : Vec F S2048x1024 .bf16) (r : Fin 16) (p : Fin 8) : Vec F S128x128 .bf16 := fun z =>
  x (ix2 ⟨128 * r.val + (z 0).val, by have := r.isLt; have : (z 0).val < 128 := (z 0).isLt; omega⟩
    ⟨128 * p.val + (z 1).val, by have := p.isLt; have : (z 1).val < 128 := (z 1).isLt; omega⟩)

/-- The normalised keys of a batch: each tile by the body's own normalisation. -/
def keyNorm (x1 : Vec F S2048x1024 .bf16) (x5 : Vec F S1x128 .f32) (x6 : Vec F S128x128 .bf16) :
    Vec F S2048x1024 .bf16 := fun y =>
  k0_pay2 (keyTile x1 ⟨(y 0).val / 128, by have : (y 0).val < 2048 := (y 0).isLt; omega⟩
      ⟨(y 1).val / 128, by have : (y 1).val < 1024 := (y 1).isLt; omega⟩) x6 x5
    (ix2 ⟨(y 0).val % 128, Nat.mod_lt _ (by decide)⟩ ⟨(y 1).val % 128, Nat.mod_lt _ (by decide)⟩)

/-- The query block's lanes of head pair `p`. -/
def qTile (x0 : Vec F S256x1024 .bf16) (p : Fin 8) : Vec F S256x128 .bf16 := fun z =>
  x0 (ix2 ⟨(z 0).val, (z 0).isLt⟩
    ⟨128 * p.val + (z 1).val, by have := p.isLt; have : (z 1).val < 128 := (z 1).isLt; omega⟩)

/-- The stacked normalised queries of every head pair: rows below 256 keep the first head's lanes, the others the
    second head's. -/
def qStack (x0 : Vec F S256x1024 .bf16) (x4 : Vec F S1x128 .f32) (x6 : Vec F S128x128 .bf16) :
    Vec F S8x512x128 .bf16 := fun y =>
  if h : (y 1).val < 256 then
    k0_pay21 (qTile x0 ⟨(y 0).val, (y 0).isLt⟩) x6 x4
      (ix3 (0 : Fin 1) ⟨(y 1).val, h⟩ ⟨(y 2).val, (y 2).isLt⟩)
  else
    k0_pay22 (qTile x0 ⟨(y 0).val, (y 0).isLt⟩) x6 x4
      (ix3 (0 : Fin 1) ⟨(y 1).val - 256, by have : (y 1).val < 512 := (y 1).isLt; omega⟩ ⟨(y 2).val, (y 2).isLt⟩)

/-- The first of the key rows a query block sees. -/
def bandRow (i : grid0.Coords) : ℕ := 256 * (i 1).val - 512

theorem bandRow_le (i : grid0.Coords) : bandRow i + 768 ≤ 2048 := by
  have : (i 1).val < 8 := (i 1).isLt
  unfold bandRow; omega

/-- The 768 rows from `bandRow i` of keys or values, at the lanes of head pair `p`. -/
def band (x : Vec F S2048x1024 .bf16) (i : grid0.Coords) (p : Fin 8) : Vec F S768x128 .bf16 := fun z =>
  x (ix2 ⟨bandRow i + (z 0).val, by have := bandRow_le i; have : (z 0).val < 768 := (z 0).isLt; omega⟩
    ⟨128 * p.val + (z 1).val, by have := p.isLt; have : (z 1).val < 128 := (z 1).isLt; omega⟩)

/-- Head pair `p`'s two bias tiles. -/
def biasPair (x3 : Vec F S1x16x256x768 .f32) (p : Fin 8) : Vec F S1x2x256x768 .f32 := fun z =>
  x3 (ix4 (0 : Fin 1) ⟨2 * p.val + (z 1).val, by have := p.isLt; have : (z 1).val < 2 := (z 1).isLt; omega⟩
    ⟨(z 2).val, (z 2).isLt⟩ ⟨(z 3).val, (z 3).isLt⟩)

/-- Head pair `p`'s stacked queries. -/
def qPair (x0 : Vec F S256x1024 .bf16) (x4 : Vec F S1x128 .f32) (x6 : Vec F S128x128 .bf16) (p : Fin 8) :
    Vec F S1x512x128 .bf16 := fun z =>
  qStack x0 x4 x6 (ix3 p ⟨(z 1).val, (z 1).isLt⟩ ⟨(z 2).val, (z 2).isLt⟩)

/-- The output lanes of head pair `p`. -/
def pairOut (i : grid0.Coords) (x0 : Vec F S256x1024 .bf16) (kn x2 : Vec F S2048x1024 .bf16)
    (x3 : Vec F S1x16x256x768 .f32) (x4 : Vec F S1x128 .f32) (x6 : Vec F S128x128 .bf16) (p : Fin 8) :
    Vec F S256x128 .bf16 :=
  k0_pay1 k0_pay19 (band kn i p) (band x2 i p) (qPair x0 x4 x6 p) (biasPair x3 p)

/-- The output rows of a query block. -/
def blockOut (i : grid0.Coords) (x0 : Vec F S256x1024 .bf16) (kn x2 : Vec F S2048x1024 .bf16)
    (x3 : Vec F S1x16x256x768 .f32) (x4 : Vec F S1x128 .f32) (x6 : Vec F S128x128 .bf16) :
    Vec F S256x1024 .bf16 := fun y =>
  pairOut i x0 kn x2 x3 x4 x6 ⟨(y 1).val / 128, by have : (y 1).val < 1024 := (y 1).isLt; omega⟩
    (ix2 ⟨(y 0).val, (y 0).isLt⟩ ⟨(y 1).val % 128, Nat.mod_lt _ (by decide)⟩)

/-! ## Each function at a stored rectangle, and each load as one of these blocks -/

theorem keyNorm_emb (x1 : Vec F S2048x1024 .bf16) (x5 : Vec F S1x128 .f32) (x6 : Vec F S128x128 .bf16)
    (r : Fin 16) (p : Fin 8) (off : Fin 2 → ℕ) (hoff : off = ![128 * r.val, 128 * p.val])
    (inb : ∀ a, off a + ![128, 128] a ≤ S2048x1024.size a) (z : S128x128.Idx) :
    keyNorm x1 x5 x6 ((Rect.unit (s := S2048x1024) off ![128, 128] inb).emb z)
      = k0_pay2 (keyTile x1 r p) x6 x5 z := by
  subst hoff
  have h0 : (z 0).val < 128 := (z 0).isLt
  have h1 : (z 1).val < 128 := (z 1).isLt
  have e0 : (((Rect.unit (s := S2048x1024) ![128 * r.val, 128 * p.val] ![128, 128] inb).emb z) 0).val = 128 * r.val + (z 0).val := by
    show 128 * r.val + 1 * (z 0).val = _; omega
  have e1 : (((Rect.unit (s := S2048x1024) ![128 * r.val, 128 * p.val] ![128, 128] inb).emb z) 1).val = 128 * p.val + (z 1).val := by
    show 128 * p.val + 1 * (z 1).val = _; omega
  unfold keyNorm
  have a0 : (128 * r.val + (z 0).val) / 128 = r.val := by omega
  have a1 : (128 * p.val + (z 1).val) / 128 = p.val := by omega
  have b0 : (128 * r.val + (z 0).val) % 128 = (z 0).val := by omega
  have b1 : (128 * p.val + (z 1).val) % 128 = (z 1).val := by omega
  simp only [e0, e1, a0, a1, b0, b1]
  congr 1
  exact (eq_ix2 z).symm

theorem keyTile_read {arg : Memref sig .tc .vmem S2048x1024 .bf16} (harg : arg.IsWhole) (x : Vec F S2048x1024 .bf16)
    (r : Fin 16) (p : Fin 8) (off : Fin 2 → ℕ) (hoff : off = ![128 * r.val, 128 * p.val])
    (inb : ∀ a, off a + ![128, 128] a ≤ S2048x1024.size a) :
    View.readAt (Elt F) arg.view (Rect.unit (s := S2048x1024) off ![128, 128] inb).toLoadRect (harg.unread x)
      = keyTile x r p := by
  subst hoff
  funext z
  rw [harg.readAt_unread]
  unfold keyTile
  congr 1
  funext a
  refine Fin.ext ?_
  fin_cases a
  · show 128 * r.val + 1 * (z 0).val = 128 * r.val + (z 0).val; omega
  · show 128 * p.val + 1 * (z 1).val = 128 * p.val + (z 1).val; omega

theorem qTile_read {arg : Memref sig .tc .vmem S256x1024 .bf16} (harg : arg.IsWhole) (x : Vec F S256x1024 .bf16)
    (p : Fin 8) (off : Fin 2 → ℕ) (hoff : off = ![0, 128 * p.val])
    (inb : ∀ a, off a + ![256, 128] a ≤ S256x1024.size a) :
    View.readAt (Elt F) arg.view (Rect.unit (s := S256x1024) off ![256, 128] inb).toLoadRect (harg.unread x)
      = qTile x p := by
  subst hoff
  funext z
  rw [harg.readAt_unread]
  unfold qTile
  congr 1
  funext a
  refine Fin.ext ?_
  fin_cases a
  · show 0 + 1 * (z 0).val = (z 0).val; omega
  · show 128 * p.val + 1 * (z 1).val = 128 * p.val + (z 1).val; omega

theorem band_read {arg : Memref sig .tc .vmem S2048x1024 .bf16} (harg : arg.IsWhole) (x : Vec F S2048x1024 .bf16)
    (i : grid0.Coords) (p : Fin 8) (off : Fin 2 → ℕ) (hoff : off = ![bandRow i, 128 * p.val])
    (inb : ∀ a, off a + ![768, 128] a ≤ S2048x1024.size a) :
    View.readAt (Elt F) arg.view (Rect.unit (s := S2048x1024) off ![768, 128] inb).toLoadRect (harg.unread x)
      = band x i p := by
  subst hoff
  funext z
  rw [harg.readAt_unread]
  unfold band
  congr 1
  funext a
  refine Fin.ext ?_
  fin_cases a
  · show bandRow i + 1 * (z 0).val = bandRow i + (z 0).val; omega
  · show 128 * p.val + 1 * (z 1).val = 128 * p.val + (z 1).val; omega

theorem biasPair_read {arg : Memref sig .tc .vmem S1x16x256x768 .f32} (harg : arg.IsWhole)
    (x : Vec F S1x16x256x768 .f32) (p : Fin 8) (off : Fin 4 → ℕ) (hoff : off = ![0, 2 * p.val, 0, 0])
    (inb : ∀ a, off a + ![1, 2, 256, 768] a ≤ S1x16x256x768.size a) :
    View.readAt (Elt F) arg.view (Rect.unit (s := S1x16x256x768) off ![1, 2, 256, 768] inb).toLoadRect (harg.unread x)
      = biasPair x p := by
  subst hoff
  funext z
  rw [harg.readAt_unread]
  unfold biasPair
  congr 1
  funext a
  refine Fin.ext ?_
  have hz : (z 0).val = 0 := by have : (z 0).val < 1 := (z 0).isLt; omega
  fin_cases a
  · show 0 + 1 * (z 0).val = 0; omega
  · show 2 * p.val + 1 * (z 1).val = 2 * p.val + (z 1).val; omega
  · show 0 + 1 * (z 2).val = (z 2).val; omega
  · show 0 + 1 * (z 3).val = (z 3).val; omega

theorem row_read {arg : Memref sig .tc .vmem S1x128 .f32} (harg : arg.IsWhole) (x : Vec F S1x128 .f32)
    (inb : ∀ a, ![0, 0] a + ![1, 128] a ≤ S1x128.size a) :
    View.readAt (Elt F) arg.view (Rect.unit (s := S1x128) ![0, 0] ![1, 128] inb).toLoadRect (harg.unread x) = x := by
  funext z
  rw [harg.readAt_unread]
  congr 1
  funext a
  refine Fin.ext ?_
  fin_cases a
  · show 0 + 1 * (z 0).val = (z 0).val; omega
  · show 0 + 1 * (z 1).val = (z 1).val; omega

theorem ones_read {arg : Memref sig .tc .vmem S128x128 .bf16} (harg : arg.IsWhole) (x : Vec F S128x128 .bf16)
    (inb : ∀ a, ![0, 0] a + ![128, 128] a ≤ S128x128.size a) :
    View.readAt (Elt F) arg.view (Rect.unit (s := S128x128) ![0, 0] ![128, 128] inb).toLoadRect (harg.unread x) = x := by
  funext z
  rw [harg.readAt_unread]
  congr 1
  funext a
  refine Fin.ext ?_
  fin_cases a
  · show 0 + 1 * (z 0).val = (z 0).val; omega
  · show 0 + 1 * (z 1).val = (z 1).val; omega

theorem blockOut_emb (i : grid0.Coords) (x0 : Vec F S256x1024 .bf16) (kn x2 : Vec F S2048x1024 .bf16)
    (x3 : Vec F S1x16x256x768 .f32) (x4 : Vec F S1x128 .f32) (x6 : Vec F S128x128 .bf16) (p : Fin 8)
    (off : Fin 2 → ℕ) (hoff : off = ![0, 128 * p.val])
    (inb : ∀ a, off a + ![256, 128] a ≤ S256x1024.size a) (z : S256x128.Idx) :
    blockOut i x0 kn x2 x3 x4 x6 ((Rect.unit (s := S256x1024) off ![256, 128] inb).emb z)
      = pairOut i x0 kn x2 x3 x4 x6 p z := by
  subst hoff
  have h1 : (z 1).val < 128 := (z 1).isLt
  have e0 : (((Rect.unit (s := S256x1024) ![0, 128 * p.val] ![256, 128] inb).emb z) 0).val = (z 0).val := by
    show 0 + 1 * (z 0).val = _; omega
  have e1 : (((Rect.unit (s := S256x1024) ![0, 128 * p.val] ![256, 128] inb).emb z) 1).val = 128 * p.val + (z 1).val := by
    show 128 * p.val + 1 * (z 1).val = _; omega
  unfold blockOut
  have a1 : (128 * p.val + (z 1).val) / 128 = p.val := by omega
  have b1 : (128 * p.val + (z 1).val) % 128 = (z 1).val := by omega
  simp only [e0, e1, a1, b1]
  congr 1
  exact (eq_ix2 z).symm

theorem qStack_emb_low (x0 : Vec F S256x1024 .bf16) (x4 : Vec F S1x128 .f32) (x6 : Vec F S128x128 .bf16) (p : Fin 8)
    (off : Fin 3 → ℕ) (hoff : off = ![p.val, 0, 0])
    (inb : ∀ a, off a + ![1, 256, 128] a ≤ S8x512x128.size a) (z : S1x256x128.Idx) :
    qStack x0 x4 x6 ((Rect.unit (s := S8x512x128) off ![1, 256, 128] inb).emb z)
      = k0_pay21 (qTile x0 p) x6 x4 z := by
  subst hoff
  have h0 : (z 0).val < 1 := (z 0).isLt
  have h1 : (z 1).val < 256 := (z 1).isLt
  have e0 : (((Rect.unit (s := S8x512x128) ![p.val, 0, 0] ![1, 256, 128] inb).emb z) 0).val = p.val := by
    show p.val + 1 * (z 0).val = _; omega
  have e1 : (((Rect.unit (s := S8x512x128) ![p.val, 0, 0] ![1, 256, 128] inb).emb z) 1).val = (z 1).val := by
    show 0 + 1 * (z 1).val = _; omega
  have e2 : (((Rect.unit (s := S8x512x128) ![p.val, 0, 0] ![1, 256, 128] inb).emb z) 2).val = (z 2).val := by
    show 0 + 1 * (z 2).val = _; omega
  unfold qStack
  simp only [e0, e1, e2, h1, dif_pos]
  congr 1
  funext a
  refine Fin.ext ?_
  fin_cases a
  · show 0 = (z 0).val; omega
  · rfl
  · rfl

theorem qStack_emb_high (x0 : Vec F S256x1024 .bf16) (x4 : Vec F S1x128 .f32) (x6 : Vec F S128x128 .bf16) (p : Fin 8)
    (off : Fin 3 → ℕ) (hoff : off = ![p.val, 256, 0])
    (inb : ∀ a, off a + ![1, 256, 128] a ≤ S8x512x128.size a) (z : S1x256x128.Idx) :
    qStack x0 x4 x6 ((Rect.unit (s := S8x512x128) off ![1, 256, 128] inb).emb z)
      = k0_pay22 (qTile x0 p) x6 x4 z := by
  subst hoff
  have h0 : (z 0).val < 1 := (z 0).isLt
  have h1 : (z 1).val < 256 := (z 1).isLt
  have e0 : (((Rect.unit (s := S8x512x128) ![p.val, 256, 0] ![1, 256, 128] inb).emb z) 0).val = p.val := by
    show p.val + 1 * (z 0).val = _; omega
  have e1 : (((Rect.unit (s := S8x512x128) ![p.val, 256, 0] ![1, 256, 128] inb).emb z) 1).val = 256 + (z 1).val := by
    show 256 + 1 * (z 1).val = _; omega
  have e2 : (((Rect.unit (s := S8x512x128) ![p.val, 256, 0] ![1, 256, 128] inb).emb z) 2).val = (z 2).val := by
    show 0 + 1 * (z 2).val = _; omega
  have hn : ¬ 256 + (z 1).val < 256 := by omega
  have hs : 256 + (z 1).val - 256 = (z 1).val := by omega
  unfold qStack
  simp only [e0, e1, e2, hn, hs, dif_neg, not_false_eq_true]
  congr 1
  funext a
  refine Fin.ext ?_
  fin_cases a
  · show 0 = (z 0).val; omega
  · rfl
  · rfl

/-! ## The load and store offsets -/

/-- The first row of the band, as the body computes it. -/
theorem bandRow_word (i : grid0.Coords) :
    (Scalar.indexCast (Scalar.maxsi (Scalar.subi (Scalar.muli (BitVec.ofNat 32 (i 1).val) 256#32) 512#32) 0#32)).toNat
      = bandRow i := by
  have h : (i 1).val < 8 := (i 1).isLt
  unfold bandRow
  generalize (i 1).val = n at h
  interval_cases n <;> rfl

theorem off9_eq (i : grid0.Coords) : k0_off9 i = ![bandRow i, 128 * (0 : Fin 8).val] := by
  rw [← bandRow_word]; rfl
theorem off10_eq (i : grid0.Coords) : k0_off10 i = ![bandRow i, 128 * (1 : Fin 8).val] := by
  rw [← bandRow_word]; rfl
theorem off11_eq (i : grid0.Coords) : k0_off11 i = ![bandRow i, 128 * (2 : Fin 8).val] := by
  rw [← bandRow_word]; rfl
theorem off12_eq (i : grid0.Coords) : k0_off12 i = ![bandRow i, 128 * (3 : Fin 8).val] := by
  rw [← bandRow_word]; rfl
theorem off13_eq (i : grid0.Coords) : k0_off13 i = ![bandRow i, 128 * (4 : Fin 8).val] := by
  rw [← bandRow_word]; rfl
theorem off14_eq (i : grid0.Coords) : k0_off14 i = ![bandRow i, 128 * (5 : Fin 8).val] := by
  rw [← bandRow_word]; rfl
theorem off15_eq (i : grid0.Coords) : k0_off15 i = ![bandRow i, 128 * (6 : Fin 8).val] := by
  rw [← bandRow_word]; rfl
theorem off16_eq (i : grid0.Coords) : k0_off16 i = ![bandRow i, 128 * (7 : Fin 8).val] := by
  rw [← bandRow_word]; rfl

end Cert.KernelIdeal.Attn

end
-- ==== Proof.Attn.Input.lean ====
/-
  The blocks the attention body loads at a grid point, as entries of the arrays they come from.
-/
module

public import proofs.«01_k».proof.Proof.Attn.Blocks
public import proofs.«01_k».proof.Proof.Gen.KernelIdeal.Frame
public import Idealize.ShloMosaic.Lib.Pipeline.ValueKit

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

variable {F : FTy → Type} [FloatOps F]
variable (m : (ℓ : Loc nD τ sig) → Buf (Elt F) ℓ)

/-! ## The blocks' indices in their arrays -/

theorem idx0 : ∀ t : Fin cfg0.N, win0_0.index t = ![t.val, 0] :=
  (by decide +kernel : ∀ t : Fin grid0.N, win0_0.index t = ![t.val, 0])
theorem idx1 : ∀ t : Fin cfg0.N, win0_1.index t = ![t.val / 8, 1] :=
  (by decide +kernel : ∀ t : Fin grid0.N, win0_1.index t = ![t.val / 8, 1])
theorem idx2 : ∀ t : Fin cfg0.N, win0_2.index t = ![t.val / 8, 2] :=
  (by decide +kernel : ∀ t : Fin grid0.N, win0_2.index t = ![t.val / 8, 2])
theorem idx3 : ∀ t : Fin cfg0.N, win0_3.index t = ![min (t.val % 8) 2, 0, 0, 0] :=
  (by decide +kernel : ∀ t : Fin grid0.N, win0_3.index t = ![min (t.val % 8) 2, 0, 0, 0])
theorem idx4 : ∀ t : Fin cfg0.N, win0_4.index t = ![0, 0] :=
  (by decide +kernel : ∀ t : Fin grid0.N, win0_4.index t = ![0, 0])
theorem idx5 : ∀ t : Fin cfg0.N, win0_5.index t = ![0, 0] :=
  (by decide +kernel : ∀ t : Fin grid0.N, win0_5.index t = ![0, 0])
theorem idx6 : ∀ t : Fin cfg0.N, win0_6.index t = ![0, 0] :=
  (by decide +kernel : ∀ t : Fin grid0.N, win0_6.index t = ![0, 0])
theorem idx7 : ∀ t : Fin cfg0.N, win0_7.index t = ![t.val, 0] :=
  (by decide +kernel : ∀ t : Fin grid0.N, win0_7.index t = ![t.val, 0])

theorem point_lt (t : Fin cfg0.N) : t.val < 128 := lt_of_lt_of_eq t.isLt N_0

/-! ## The blocks, named at their shapes -/

/-- The query rows of point `t`, -/
abbrev qBlk (c : Dev nD) (t : Fin cfg0.N) : Vec F S256x1024 .bf16 := iblk m c 0 t
/-- its batch's keys -/
abbrev kBlk (c : Dev nD) (t : Fin cfg0.N) : Vec F S2048x1024 .bf16 := iblk m c 1 t
/-- and values, -/
abbrev vBlk (c : Dev nD) (t : Fin cfg0.N) : Vec F S2048x1024 .bf16 := iblk m c 2 t
/-- the bias tiles of its place in the batch, -/
abbrev bBlk (c : Dev nD) (t : Fin cfg0.N) : Vec F S1x16x256x768 .f32 := iblk m c 3 t
/-- the query scale, -/
abbrev gqBlk (c : Dev nD) (t : Fin cfg0.N) : Vec F S1x128 .f32 := iblk m c 4 t
/-- the key scale -/
abbrev gkBlk (c : Dev nD) (t : Fin cfg0.N) : Vec F S1x128 .f32 := iblk m c 5 t
/-- and the matrix that sums a head's lanes. -/
abbrev onesBlk (c : Dev nD) (t : Fin cfg0.N) : Vec F S128x128 .bf16 := iblk m c 6 t

theorem qBlk_apply (c : Dev nD) (t : Fin cfg0.N) (y : S256x1024.Idx) :
    qBlk m c t y = V m c main_arg0 (ix2 ⟨256 * t.val + (y 0).val, by
      have := point_lt t; have : (y 0).val < 256 := (y 0).isLt; omega⟩ ⟨(y 1).val, by
      have : (y 1).val < 1024 := (y 1).isLt; omega⟩) := by
  unfold qBlk
  blk_ext [iblk, idx0]

theorem kBlk_apply (c : Dev nD) (t : Fin cfg0.N) (y : S2048x1024.Idx) :
    kBlk m c t y = V m c main_arg0 (ix2 ⟨2048 * (t.val / 8) + (y 0).val, by
      have := point_lt t; have : (y 0).val < 2048 := (y 0).isLt; omega⟩ ⟨1024 + (y 1).val, by
      have : (y 1).val < 1024 := (y 1).isLt; omega⟩) := by
  unfold kBlk
  blk_ext [iblk, idx1]

theorem vBlk_apply (c : Dev nD) (t : Fin cfg0.N) (y : S2048x1024.Idx) :
    vBlk m c t y = V m c main_arg0 (ix2 ⟨2048 * (t.val / 8) + (y 0).val, by
      have := point_lt t; have : (y 0).val < 2048 := (y 0).isLt; omega⟩ ⟨2048 + (y 1).val, by
      have : (y 1).val < 1024 := (y 1).isLt; omega⟩) := by
  unfold vBlk
  blk_ext [iblk, idx2]

theorem bBlk_apply (c : Dev nD) (t : Fin cfg0.N) (y : S1x16x256x768.Idx) :
    bBlk m c t y = V m c main_v53 (ix4 ⟨min (t.val % 8) 2, by omega⟩ ⟨(y 1).val, (y 1).isLt⟩
      ⟨(y 2).val, (y 2).isLt⟩ ⟨(y 3).val, (y 3).isLt⟩) := by
  unfold bBlk
  blk_ext [iblk, idx3]

theorem gqBlk_eq (c : Dev nD) (t : Fin cfg0.N) : gqBlk m c t = V m c main_v62 := by
  funext y; unfold gqBlk
  blk_ext [iblk, idx4]

theorem gkBlk_eq (c : Dev nD) (t : Fin cfg0.N) : gkBlk m c t = V m c main_v66 := by
  funext y; unfold gkBlk
  blk_ext [iblk, idx5]

theorem onesBlk_eq (c : Dev nD) (t : Fin cfg0.N) : onesBlk m c t = V m c main_v74 := by
  funext y; unfold onesBlk
  blk_ext [iblk, idx6]

/-- Points of one batch load the same keys. -/
theorem kBlk_congr (c : Dev nD) (t t' : Fin cfg0.N) (h : t.val / 8 = t'.val / 8) : kBlk m c t = kBlk m c t' := by
  funext y
  rw [kBlk_apply, kBlk_apply]
  simp only [h]

/-- The normalised keys of point `t`'s batch. -/
def keysAt (c : Dev nD) (t : Fin cfg0.N) : Vec F S2048x1024 .bf16 :=
  keyNorm (kBlk m c t) (gkBlk m c t) (onesBlk m c t)

theorem keysAt_congr (c : Dev nD) (t t' : Fin cfg0.N) (h : t.val / 8 = t'.val / 8) : keysAt m c t = keysAt m c t' := by
  unfold keysAt
  rw [kBlk_congr m c t t' h, gkBlk_eq, gkBlk_eq, onesBlk_eq, onesBlk_eq]

/-- The output rows of point `t`. -/
def outAt (c : Dev nD) (t : Fin cfg0.N) : Vec F S256x1024 .bf16 :=
  blockOut (grid0.coords t) (qBlk m c t) (keysAt m c t) (vBlk m c t) (bBlk m c t) (gqBlk m c t) (onesBlk m c t)

end Cert.KernelIdeal.Attn

end
-- ==== Proof.Attn.Runs.lean ====
/-
  What the two runs of the attention body share: its branch condition in closed form (the keys of a batch are
  normalised at the batch's first query block only), the staging memrefs at a grid point and the two scratch buffers.
-/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 8) — by arithmetic of the point. -/
theorem hcond0_0 : ∀ t : Fin cfg0.N, cond0_0 (grid0.coords t) ↔ t.val % 8 = 0 :=
  (fun t => by
    have ht : t.val < 128 := Nat.lt_of_lt_of_eq t.isLt N_0
    have e0 : (grid0.coords t 0).val = t.val / 8 % 16 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val % 8 = 0)

/-! ## The kernel body on any staging memrefs: a subtype the run finds -/

/-- Each window's current staging memref at point `t`, spelled as the pipeline passes it (`bodyAt0`), and its wholeness. -/
abbrev ms0_0 (t : Fin cfg0.N) : Memref sig .tc .vmem S256x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x16x256x768 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x1024 .bf16 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S2048x1024 .bf16 := Memref.whole cc0_scratch0
abbrev scM0_1 : Memref sig .tc .vmem S8x512x128 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Attn

end
-- ==== Proof.Attn.RunA.lean ====
/-
  The attention body at a batch's first query block, run from its stored instructions.
-/
module

public import proofs.«01_k».proof.Proof.Attn.Runs
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option backward.proofsInPublic true in
set_option maxHeartbeats 1000000 in
/-- A batch's first query block: on whole staging memrefs, both scratch buffers at anything, the body runs and leaves the
    pieces found here in the output block and in the key scratch. -/
noncomputable def runA (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1x16x256x768 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .bf16) (harg8 : arg8.IsWhole) (arg9 : Memref sig .tc .vmem S256x1024 .bf16) (harg9 : arg9.IsWhole) (arg10 : Memref sig .tc .vmem S2048x1024 .bf16) (harg10 : arg10.IsWhole) (arg11 : Memref sig .tc .vmem S8x512x128 .bf16) (harg11 : arg11.IsWhole) (hc0 : cond0_0 i)
    (x0 : Vec F S256x1024 .bf16) (x1 : Vec F S2048x1024 .bf16) (x2 : Vec F S2048x1024 .bf16) (x3 : Vec F S1x16x256x768 .f32) (x4 : Vec F S1x128 .f32) (x5 : Vec F S1x128 .f32) (x6 : Vec F S128x128 .bf16) :
    Σ' (L7 : List (View.Piece (Elt F) S256x1024 .bf16)), { LS0 : List (View.Piece (Elt F) S2048x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ d, owns (c : Thread nD τ) arg11 fullShare d)) -∗ K ⟨⟩))
          ⊢ wp frame (wpE (defs₀ (F := F)) Variants.none c none) E (cc0_band_attention i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_band_attention_eq_skeleton]; unfold cc0_band_attention_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    have hrd0 : ∀ (𝒱 : Variants) (c : Dev nD) (bd : Option 𝒱.V) (i : grid0.Coords) (arg2 : Memref sig .tc .vmem S256x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1x16x256x768 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .bf16) (harg8 : arg8.IsWhole) (arg9 : Memref sig .tc .vmem S256x1024 .bf16) (harg9 : arg9.IsWhole) (arg10 : Memref sig .tc .vmem S2048x1024 .bf16) (harg10 : arg10.IsWhole) (arg11 : Memref sig .tc .vmem S8x512x128 .bf16) (harg11 : arg11.IsWhole) (k0_h1 : k0_cond1 i = 1#1) (X_arg3 : BufTy.Contents (Elt F) arg3.view.ty) (X_arg7 : BufTy.Contents (Elt F) arg7.view.ty) (X_arg8 : BufTy.Contents (Elt F) arg8.view.ty) (hrdF : BufTy.Contents (Elt F) arg10.view.ty) (hrdB : LoadRect S2048x1024), arg10.view.readAt (Elt F) hrdB (arg10.view.writes (Elt F) hrdF (pb_k0_t1 (F := F) 𝒱 c bd i arg2 harg2 arg3 harg3 arg4 harg4 arg5 harg5 arg6 harg6 arg7 harg7 arg8 harg8 arg9 harg9 arg10 harg10 arg11 harg11 k0_h1 X_arg3 X_arg7 X_arg8 (Scf.trips k0_t1_loop.lb k0_t1_loop.ub k0_t1_loop.st))) = arg10.view.readCov (pb_k0_t1 (F := F) 𝒱 c bd i arg2 harg2 arg3 harg3 arg4 harg4 arg5 harg5 arg6 harg6 arg7 harg7 arg8 harg8 arg9 harg9 arg10 harg10 arg11 harg11 k0_h1 X_arg3 X_arg7 X_arg8 (Scf.trips k0_t1_loop.lb k0_t1_loop.ub k0_t1_loop.st)) hrdB := fun 𝒱 c bd i arg2 harg2 arg3 harg3 arg4 harg4 arg5 harg5 arg6 harg6 arg7 harg7 arg8 harg8 arg9 harg9 arg10 harg10 arg11 harg11 k0_h1 X_arg3 X_arg7 X_arg8 hrdF hrdB => View.readAt_writes_of_cover _ hrdF _ hrdB (fun hrdJ => View.cover_of_tiledL (pb_k0_t1 (F := F) 𝒱 c bd i arg2 harg2 arg3 harg3 arg4 harg4 arg5 harg5 arg6 harg6 arg7 harg7 arg8 harg8 arg9 harg9 arg10 harg10 arg11 harg11 k0_h1 X_arg3 X_arg7 X_arg8 (Scf.trips k0_t1_loop.lb k0_t1_loop.ub k0_t1_loop.st)) S128x128.size (by sl_kernel_rfl) (hrdB.idx hrdJ))
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]; · iexists _; iexact HS0
    iexists _, _; isplitr; swap; · iexact HS1
    ipureintro; rfl

end Cert.KernelIdeal.Attn

end
-- ==== Proof.Attn.RunB.lean ====
/-
  The attention body at a query block that is not the first of its batch, run from its stored instructions.
-/
module

public import proofs.«01_k».proof.Proof.Attn.Runs
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- A query block that is not the first of its batch: on whole staging memrefs, the key scratch at contents `xs0`, the
    body runs and leaves the pieces found here in the output block, the key scratch as it was. -/
noncomputable def runB (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1x16x256x768 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .bf16) (harg8 : arg8.IsWhole) (arg9 : Memref sig .tc .vmem S256x1024 .bf16) (harg9 : arg9.IsWhole) (arg10 : Memref sig .tc .vmem S2048x1024 .bf16) (harg10 : arg10.IsWhole) (arg11 : Memref sig .tc .vmem S8x512x128 .bf16) (harg11 : arg11.IsWhole) (hc0 : ¬cond0_0 i)
    (x0 : Vec F S256x1024 .bf16) (x1 : Vec F S2048x1024 .bf16) (x2 : Vec F S2048x1024 .bf16) (x3 : Vec F S1x16x256x768 .f32) (x4 : Vec F S1x128 .f32) (x5 : Vec F S1x128 .f32) (x6 : Vec F S128x128 .bf16) (xs0 : Vec F S2048x1024 .bf16) :
    { L7 : List (View.Piece (Elt F) S256x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xs0 ∗ (∃ d, owns (c : Thread nD τ) arg11 fullShare d)) -∗ K ⟨⟩))
          ⊢ wp frame (wpE (defs₀ (F := F)) Variants.none c none) E (cc0_band_attention i arg2 harg2 arg3 harg3 arg4 harg4 arg5 harg5 arg6 harg6 arg7 harg7 arg8 harg8 arg9 harg9 arg10 harg10 arg11 harg11) K } := by
  refine ⟨?_, fun E K => ?run⟩
  case run =>
    simp only [cc0_band_attention_eq_skeleton]; unfold cc0_band_attention_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]
    · iexists _; isplitr; · ipureintro; exact harg10.read_unread _
      iexact HS0
    iexists _, _; isplitr; swap; · iexact HS1
    ipureintro; rfl

end Cert.KernelIdeal.Attn

end
-- ==== Proof.Attn.PiecesB.lean ====
/-
  The pieces a run of the attention body leaves, as the block functions: at a query block that is not the first of its
  batch.
-/
module

public import proofs.«01_k».proof.Proof.Attn.RunB
public import proofs.«01_k».proof.Proof.Attn.Blocks
public import Idealize.ShloMosaic.Lib.Pipeline.Value
public import Idealize.ShloMosaic.Lib.Pipeline.ReadBack

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

variable {F : FTy → Type} [FloatOps F]

/-- The low half of a pair's queries, from the blocks as loaded. -/
theorem qLow_read {arg2 : Memref sig .tc .vmem S256x1024 .bf16} (harg2 : arg2.IsWhole)
    {arg6 : Memref sig .tc .vmem S1x128 .f32} (harg6 : arg6.IsWhole)
    {arg8 : Memref sig .tc .vmem S128x128 .bf16} (harg8 : arg8.IsWhole)
    (x0 : Vec F S256x1024 .bf16) (x4 : Vec F S1x128 .f32) (x6 : Vec F S128x128 .bf16) (p : Fin 8)
    (off : Fin 2 → ℕ) (hoff : off = ![0, 128 * p.val]) (inb : ∀ a, off a + ![256, 128] a ≤ S256x1024.size a)
    (inb8 : ∀ a, ![0, 0] a + ![128, 128] a ≤ S128x128.size a) (inb6 : ∀ a, ![0, 0] a + ![1, 128] a ≤ S1x128.size a) :
    k0_pay21 (View.readAt (Elt F) arg2.view (Rect.unit (s := S256x1024) off ![256, 128] inb).toLoadRect (harg2.unread x0))
        (View.readAt (Elt F) arg8.view (Rect.unit (s := S128x128) ![0, 0] ![128, 128] inb8).toLoadRect (harg8.unread x6))
        (View.readAt (Elt F) arg6.view (Rect.unit (s := S1x128) ![0, 0] ![1, 128] inb6).toLoadRect (harg6.unread x4))
      = k0_pay21 (qTile x0 p) x6 x4 := by
  rw [qTile_read harg2 x0 p off hoff inb, ones_read harg8 x6 inb8, row_read harg6 x4 inb6]

/-- The high half of a pair's queries, from the blocks as loaded. -/
theorem qHigh_read {arg2 : Memref sig .tc .vmem S256x1024 .bf16} (harg2 : arg2.IsWhole)
    {arg6 : Memref sig .tc .vmem S1x128 .f32} (harg6 : arg6.IsWhole)
    {arg8 : Memref sig .tc .vmem S128x128 .bf16} (harg8 : arg8.IsWhole)
    (x0 : Vec F S256x1024 .bf16) (x4 : Vec F S1x128 .f32) (x6 : Vec F S128x128 .bf16) (p : Fin 8)
    (off : Fin 2 → ℕ) (hoff : off = ![0, 128 * p.val]) (inb : ∀ a, off a + ![256, 128] a ≤ S256x1024.size a)
    (inb8 : ∀ a, ![0, 0] a + ![128, 128] a ≤ S128x128.size a) (inb6 : ∀ a, ![0, 0] a + ![1, 128] a ≤ S1x128.size a) :
    k0_pay22 (View.readAt (Elt F) arg2.view (Rect.unit (s := S256x1024) off ![256, 128] inb).toLoadRect (harg2.unread x0))
        (View.readAt (Elt F) arg8.view (Rect.unit (s := S128x128) ![0, 0] ![128, 128] inb8).toLoadRect (harg8.unread x6))
        (View.readAt (Elt F) arg6.view (Rect.unit (s := S1x128) ![0, 0] ![1, 128] inb6).toLoadRect (harg6.unread x4))
      = k0_pay22 (qTile x0 p) x6 x4 := by
  rw [qTile_read harg2 x0 p off hoff inb, ones_read harg8 x6 inb8, row_read harg6 x4 inb6]

/-- A load of one pair's rows from the stacked queries. -/
theorem qPair_read (x0 : Vec F S256x1024 .bf16) (x4 : Vec F S1x128 .f32) (x6 : Vec F S128x128 .bf16) (p : Fin 8)
    (v : View sig .tc .vmem S8x512x128 .bf16) (L : List (View.Piece (Elt F) S8x512x128 .bf16))
    (hL : View.canon L = qStack x0 x4 x6) (off : Fin 3 → ℕ) (hoff : off = ![p.val, 0, 0])
    (inb : ∀ a, off a + S1x512x128.size a ≤ S8x512x128.size a) :
    v.readCov L (Rect.unit (s := S8x512x128) off S1x512x128.size inb).toLoadRect = qPair x0 x4 x6 p := by
  subst hoff
  rw [View.readCov_eq_canon', hL]
  funext z
  unfold qPair
  congr 1
  funext a
  refine Fin.ext ?_
  have h0 : (z 0).val < 1 := (z 0).isLt
  fin_cases a
  · show p.val + 1 * (z 0).val = p.val; omega
  · show 0 + 1 * (z 1).val = (z 1).val; omega
  · show 0 + 1 * (z 2).val = (z 2).val; omega

/-- A pair's output lanes, from the blocks as loaded. -/
theorem pairOut_read (i : grid0.Coords) {arg4 : Memref sig .tc .vmem S2048x1024 .bf16} (harg4 : arg4.IsWhole)
    {arg5 : Memref sig .tc .vmem S1x16x256x768 .f32} (harg5 : arg5.IsWhole)
    (x0 : Vec F S256x1024 .bf16) (kn x2 : Vec F S2048x1024 .bf16)
    (x3 : Vec F S1x16x256x768 .f32) (x4 : Vec F S1x128 .f32) (x6 : Vec F S128x128 .bf16) (p : Fin 8)
    (off : Fin 2 → ℕ) (hoff : off = ![bandRow i, 128 * p.val])
    (inb : ∀ a, off a + ![768, 128] a ≤ S2048x1024.size a)
    (off5 : Fin 4 → ℕ) (hoff5 : off5 = ![0, 2 * p.val, 0, 0])
    (inb5 : ∀ a, off5 a + ![1, 2, 256, 768] a ≤ S1x16x256x768.size a)
    (kb : Vec F S768x128 .bf16) (hk : kb = band kn i p)
    (qb : Vec F S1x512x128 .bf16) (hq : qb = qPair x0 x4 x6 p) :
    k0_pay1 k0_pay19 kb
        (View.readAt (Elt F) arg4.view (Rect.unit (s := S2048x1024) off ![768, 128] inb).toLoadRect (harg4.unread x2))
        qb
        (View.readAt (Elt F) arg5.view (Rect.unit (s := S1x16x256x768) off5 ![1, 2, 256, 768] inb5).toLoadRect (harg5.unread x3))
      = pairOut i x0 kn x2 x3 x4 x6 p := by
  subst hk hq
  unfold pairOut
  rw [band_read harg4 x2 i p off hoff inb, biasPair_read harg5 x3 p off5 hoff5 inb5]

variable (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1x16x256x768 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .bf16) (harg8 : arg8.IsWhole) (arg9 : Memref sig .tc .vmem S256x1024 .bf16) (harg9 : arg9.IsWhole) (arg10 : Memref sig .tc .vmem S2048x1024 .bf16) (harg10 : arg10.IsWhole) (arg11 : Memref sig .tc .vmem S8x512x128 .bf16) (harg11 : arg11.IsWhole) (hc0 : ¬cond0_0 i)
    (x0 : Vec F S256x1024 .bf16) (x1 : Vec F S2048x1024 .bf16) (x2 : Vec F S2048x1024 .bf16) (x3 : Vec F S1x16x256x768 .f32) (x4 : Vec F S1x128 .f32) (x5 : Vec F S1x128 .f32) (x6 : Vec F S128x128 .bf16) (xs0 : Vec F S2048x1024 .bf16)

/-- The stored halves are the stacked queries. -/
theorem qStack_piecesB : View.PiecesOf (qStack x0 x4 x6) (runB.sl.HS1_16 c arg2 harg2 arg6 harg6 arg8 harg8 x0 x4 x6) := by
  refine ⟨?_,?_,?_,?_,?_,?_,?_,?_,?_,?_,?_,?_,?_,?_,?_,?_,trivial⟩
  · intro z
    exact (congrFun (qHigh_read harg2 harg6 harg8 x0 x4 x6 7 ![0, 896] rfl (by decide) (by decide) (by decide)) z).trans
      (qStack_emb_high x0 x4 x6 7 ![7, 256, 0] rfl (by decide) z).symm
  · intro z
    exact (congrFun (qLow_read harg2 harg6 harg8 x0 x4 x6 7 ![0, 896] rfl (by decide) (by decide) (by decide)) z).trans
      (qStack_emb_low x0 x4 x6 7 ![7, 0, 0] rfl (by decide) z).symm
  · intro z
    exact (congrFun (qHigh_read harg2 harg6 harg8 x0 x4 x6 6 ![0, 768] rfl (by decide) (by decide) (by decide)) z).trans
      (qStack_emb_high x0 x4 x6 6 ![6, 256, 0] rfl (by decide) z).symm
  · intro z
    exact (congrFun (qLow_read harg2 harg6 harg8 x0 x4 x6 6 ![0, 768] rfl (by decide) (by decide) (by decide)) z).trans
      (qStack_emb_low x0 x4 x6 6 ![6, 0, 0] rfl (by decide) z).symm
  · intro z
    exact (congrFun (qHigh_read harg2 harg6 harg8 x0 x4 x6 5 ![0, 640] rfl (by decide) (by decide) (by decide)) z).trans
      (qStack_emb_high x0 x4 x6 5 ![5, 256, 0] rfl (by decide) z).symm
  · intro z
    exact (congrFun (qLow_read harg2 harg6 harg8 x0 x4 x6 5 ![0, 640] rfl (by decide) (by decide) (by decide)) z).trans
      (qStack_emb_low x0 x4 x6 5 ![5, 0, 0] rfl (by decide) z).symm
  · intro z
    exact (congrFun (qHigh_read harg2 harg6 harg8 x0 x4 x6 4 ![0, 512] rfl (by decide) (by decide) (by decide)) z).trans
      (qStack_emb_high x0 x4 x6 4 ![4, 256, 0] rfl (by decide) z).symm
  · intro z
    exact (congrFun (qLow_read harg2 harg6 harg8 x0 x4 x6 4 ![0, 512] rfl (by decide) (by decide) (by decide)) z).trans
      (qStack_emb_low x0 x4 x6 4 ![4, 0, 0] rfl (by decide) z).symm
  · intro z
    exact (congrFun (qHigh_read harg2 harg6 harg8 x0 x4 x6 3 ![0, 384] rfl (by decide) (by decide) (by decide)) z).trans
      (qStack_emb_high x0 x4 x6 3 ![3, 256, 0] rfl (by decide) z).symm
  · intro z
    exact (congrFun (qLow_read harg2 harg6 harg8 x0 x4 x6 3 ![0, 384] rfl (by decide) (by decide) (by decide)) z).trans
      (qStack_emb_low x0 x4 x6 3 ![3, 0, 0] rfl (by decide) z).symm
  · intro z
    exact (congrFun (qHigh_read harg2 harg6 harg8 x0 x4 x6 2 ![0, 256] rfl (by decide) (by decide) (by decide)) z).trans
      (qStack_emb_high x0 x4 x6 2 ![2, 256, 0] rfl (by decide) z).symm
  · intro z
    exact (congrFun (qLow_read harg2 harg6 harg8 x0 x4 x6 2 ![0, 256] rfl (by decide) (by decide) (by decide)) z).trans
      (qStack_emb_low x0 x4 x6 2 ![2, 0, 0] rfl (by decide) z).symm
  · intro z
    exact (congrFun (qHigh_read harg2 harg6 harg8 x0 x4 x6 1 ![0, 128] rfl (by decide) (by decide) (by decide)) z).trans
      (qStack_emb_high x0 x4 x6 1 ![1, 256, 0] rfl (by decide) z).symm
  · intro z
    exact (congrFun (qLow_read harg2 harg6 harg8 x0 x4 x6 1 ![0, 128] rfl (by decide) (by decide) (by decide)) z).trans
      (qStack_emb_low x0 x4 x6 1 ![1, 0, 0] rfl (by decide) z).symm
  · intro z
    exact (congrFun (qHigh_read harg2 harg6 harg8 x0 x4 x6 0 ![0, 0] rfl (by decide) (by decide) (by decide)) z).trans
      (qStack_emb_high x0 x4 x6 0 ![0, 256, 0] rfl (by decide) z).symm
  · intro z
    exact (congrFun (qLow_read harg2 harg6 harg8 x0 x4 x6 0 ![0, 0] rfl (by decide) (by decide) (by decide)) z).trans
      (qStack_emb_low x0 x4 x6 0 ![0, 0, 0] rfl (by decide) z).symm

theorem qStack_canonB : View.canon (runB.sl.HS1_16 c arg2 harg2 arg6 harg6 arg8 harg8 x0 x4 x6) = qStack x0 x4 x6 := by
  funext y
  exact View.canon_apply_of_pieces _ _ (View.PiecesOf.mem (qStack_piecesB c arg2 harg2 arg6 harg6 arg8 harg8 x0 x4 x6)) y
    (View.cover_of_tiledL _ ![1, 256, 128] (by sl_kernel_rfl) y)

/-- The stored pairs are the block's output. -/
theorem out_piecesB : View.PiecesOf (blockOut i x0 xs0 x2 x3 x4 x6) (runB c i arg2 harg2 arg3 harg3 arg4 harg4 arg5 harg5 arg6 harg6 arg7 harg7 arg8 harg8 arg9 harg9 arg10 harg10 arg11 harg11 hc0 x0 x1 x2 x3 x4 x5 x6 xs0).1 := by
  refine ⟨?_,?_,?_,?_,?_,?_,?_,?_,trivial⟩
  · intro z
    exact (congrFun (pairOut_read i harg4 harg5 x0 xs0 x2 x3 x4 x6 7 _ (off16_eq i) (k0_off16_inb i) ![0, 14, 0, 0] rfl (by decide) _
        (band_read harg10 xs0 i 7 _ (off16_eq i) (k0_off16_inb i)) _
        (qPair_read x0 x4 x6 7 arg11.view _ (qStack_canonB c arg2 harg2 arg6 harg6 arg8 harg8 x0 x4 x6) ![7, 0, 0] rfl (by decide))) z).trans
      (blockOut_emb i x0 xs0 x2 x3 x4 x6 7 ![0, 896] rfl (by decide) z).symm
  · intro z
    exact (congrFun (pairOut_read i harg4 harg5 x0 xs0 x2 x3 x4 x6 6 _ (off15_eq i) (k0_off15_inb i) ![0, 12, 0, 0] rfl (by decide) _
        (band_read harg10 xs0 i 6 _ (off15_eq i) (k0_off15_inb i)) _
        (qPair_read x0 x4 x6 6 arg11.view _ (qStack_canonB c arg2 harg2 arg6 harg6 arg8 harg8 x0 x4 x6) ![6, 0, 0] rfl (by decide))) z).trans
      (blockOut_emb i x0 xs0 x2 x3 x4 x6 6 ![0, 768] rfl (by decide) z).symm
  · intro z
    exact (congrFun (pairOut_read i harg4 harg5 x0 xs0 x2 x3 x4 x6 5 _ (off14_eq i) (k0_off14_inb i) ![0, 10, 0, 0] rfl (by decide) _
        (band_read harg10 xs0 i 5 _ (off14_eq i) (k0_off14_inb i)) _
        (qPair_read x0 x4 x6 5 arg11.view _ (qStack_canonB c arg2 harg2 arg6 harg6 arg8 harg8 x0 x4 x6) ![5, 0, 0] rfl (by decide))) z).trans
      (blockOut_emb i x0 xs0 x2 x3 x4 x6 5 ![0, 640] rfl (by decide) z).symm
  · intro z
    exact (congrFun (pairOut_read i harg4 harg5 x0 xs0 x2 x3 x4 x6 4 _ (off13_eq i) (k0_off13_inb i) ![0, 8, 0, 0] rfl (by decide) _
        (band_read harg10 xs0 i 4 _ (off13_eq i) (k0_off13_inb i)) _
        (qPair_read x0 x4 x6 4 arg11.view _ (qStack_canonB c arg2 harg2 arg6 harg6 arg8 harg8 x0 x4 x6) ![4, 0, 0] rfl (by decide))) z).trans
      (blockOut_emb i x0 xs0 x2 x3 x4 x6 4 ![0, 512] rfl (by decide) z).symm
  · intro z
    exact (congrFun (pairOut_read i harg4 harg5 x0 xs0 x2 x3 x4 x6 3 _ (off12_eq i) (k0_off12_inb i) ![0, 6, 0, 0] rfl (by decide) _
        (band_read harg10 xs0 i 3 _ (off12_eq i) (k0_off12_inb i)) _
        (qPair_read x0 x4 x6 3 arg11.view _ (qStack_canonB c arg2 harg2 arg6 harg6 arg8 harg8 x0 x4 x6) ![3, 0, 0] rfl (by decide))) z).trans
      (blockOut_emb i x0 xs0 x2 x3 x4 x6 3 ![0, 384] rfl (by decide) z).symm
  · intro z
    exact (congrFun (pairOut_read i harg4 harg5 x0 xs0 x2 x3 x4 x6 2 _ (off11_eq i) (k0_off11_inb i) ![0, 4, 0, 0] rfl (by decide) _
        (band_read harg10 xs0 i 2 _ (off11_eq i) (k0_off11_inb i)) _
        (qPair_read x0 x4 x6 2 arg11.view _ (qStack_canonB c arg2 harg2 arg6 harg6 arg8 harg8 x0 x4 x6) ![2, 0, 0] rfl (by decide))) z).trans
      (blockOut_emb i x0 xs0 x2 x3 x4 x6 2 ![0, 256] rfl (by decide) z).symm
  · intro z
    exact (congrFun (pairOut_read i harg4 harg5 x0 xs0 x2 x3 x4 x6 1 _ (off10_eq i) (k0_off10_inb i) ![0, 2, 0, 0] rfl (by decide) _
        (band_read harg10 xs0 i 1 _ (off10_eq i) (k0_off10_inb i)) _
        (qPair_read x0 x4 x6 1 arg11.view _ (qStack_canonB c arg2 harg2 arg6 harg6 arg8 harg8 x0 x4 x6) ![1, 0, 0] rfl (by decide))) z).trans
      (blockOut_emb i x0 xs0 x2 x3 x4 x6 1 ![0, 128] rfl (by decide) z).symm
  · intro z
    exact (congrFun (pairOut_read i harg4 harg5 x0 xs0 x2 x3 x4 x6 0 _ (off9_eq i) (k0_off9_inb i) ![0, 0, 0, 0] rfl (by decide) _
        (band_read harg10 xs0 i 0 _ (off9_eq i) (k0_off9_inb i)) _
        (qPair_read x0 x4 x6 0 arg11.view _ (qStack_canonB c arg2 harg2 arg6 harg6 arg8 harg8 x0 x4 x6) ![0, 0, 0] rfl (by decide))) z).trans
      (blockOut_emb i x0 xs0 x2 x3 x4 x6 0 ![0, 0] rfl (by decide) z).symm

theorem out_coverB (y : S256x1024.Idx) : ∃ p ∈ (runB c i arg2 harg2 arg3 harg3 arg4 harg4 arg5 harg5 arg6 harg6 arg7 harg7 arg8 harg8 arg9 harg9 arg10 harg10 arg11 harg11 hc0 x0 x1 x2 x3 x4 x5 x6 xs0).1, y ∈ p.1.set :=
  View.cover_of_tiledL _ ![256, 128] (by sl_kernel_rfl) y

theorem out_canonB : View.canon (runB c i arg2 harg2 arg3 harg3 arg4 harg4 arg5 harg5 arg6 harg6 arg7 harg7 arg8 harg8 arg9 harg9 arg10 harg10 arg11 harg11 hc0 x0 x1 x2 x3 x4 x5 x6 xs0).1 = blockOut i x0 xs0 x2 x3 x4 x6 := by
  funext y
  exact View.canon_apply_of_pieces _ _ (View.PiecesOf.mem (out_piecesB c i arg2 harg2 arg3 harg3 arg4 harg4 arg5 harg5 arg6 harg6 arg7 harg7 arg8 harg8 arg9 harg9 arg10 harg10 arg11 harg11 hc0 x0 x1 x2 x3 x4 x5 x6 xs0)) y (out_coverB c i arg2 harg2 arg3 harg3 arg4 harg4 arg5 harg5 arg6 harg6 arg7 harg7 arg8 harg8 arg9 harg9 arg10 harg10 arg11 harg11 hc0 x0 x1 x2 x3 x4 x5 x6 xs0 y)

end Cert.KernelIdeal.Attn

end
-- ==== Proof.Attn.PiecesA.lean ====
/-
  The pieces a run of the attention body leaves, as the block functions: at the first query block of a batch, where the
  body also normalises the batch's keys.
-/
module

public import proofs.«01_k».proof.Proof.Attn.RunA
public import proofs.«01_k».proof.Proof.Attn.PiecesB

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

variable {F : FTy → Type} [FloatOps F]

/-- Some piece of the list covers the index. -/
def CoveredBy {s : Shape} {e : EltTy} (y : s.Idx) : List (View.Piece (Elt F) s e) → Prop
  | [] => False
  | p :: L => y ∈ p.1.set ∨ CoveredBy y L

theorem CoveredBy.exists {s : Shape} {e : EltTy} {y : s.Idx} :
    ∀ {L : List (View.Piece (Elt F) s e)}, CoveredBy y L → ∃ p ∈ L, y ∈ p.1.set
  | p :: L, .inl h => ⟨p, List.mem_cons_self, h⟩
  | p :: L, .inr h => by
    obtain ⟨q, hq, hy⟩ := CoveredBy.exists h
    exact ⟨q, List.mem_cons_of_mem _ hq, hy⟩

/-! ## The key loop's offsets -/

theorem trips_le (k : Fin k0_t1_loop.trips) : k.val < 16 := k.isLt

/-- The first row a key trip handles, as the body computes it. -/
theorem tripRow_word (k : Fin k0_t1_loop.trips) :
    (Scalar.indexCast (Scalar.muli (Scf.iv 0#32 1#32 k) 128#32)).toNat = 128 * k.val := by
  have h := trips_le k
  obtain ⟨n, hn⟩ := k
  simp only at h ⊢
  interval_cases n <;> rfl

theorem off1_eq (k : Fin k0_t1_loop.trips) : k0_off1 k = ![128 * (⟨k.val, trips_le k⟩ : Fin 16).val, 128 * (0 : Fin 8).val] := by
  show _ = ![128 * k.val, _]
  rw [← tripRow_word]; rfl
theorem off2_eq (k : Fin k0_t1_loop.trips) : k0_off2 k = ![128 * (⟨k.val, trips_le k⟩ : Fin 16).val, 128 * (1 : Fin 8).val] := by
  show _ = ![128 * k.val, _]
  rw [← tripRow_word]; rfl
theorem off3_eq (k : Fin k0_t1_loop.trips) : k0_off3 k = ![128 * (⟨k.val, trips_le k⟩ : Fin 16).val, 128 * (2 : Fin 8).val] := by
  show _ = ![128 * k.val, _]
  rw [← tripRow_word]; rfl
theorem off4_eq (k : Fin k0_t1_loop.trips) : k0_off4 k = ![128 * (⟨k.val, trips_le k⟩ : Fin 16).val, 128 * (3 : Fin 8).val] := by
  show _ = ![128 * k.val, _]
  rw [← tripRow_word]; rfl
theorem off5_eq (k : Fin k0_t1_loop.trips) : k0_off5 k = ![128 * (⟨k.val, trips_le k⟩ : Fin 16).val, 128 * (4 : Fin 8).val] := by
  show _ = ![128 * k.val, _]
  rw [← tripRow_word]; rfl
theorem off6_eq (k : Fin k0_t1_loop.trips) : k0_off6 k = ![128 * (⟨k.val, trips_le k⟩ : Fin 16).val, 128 * (5 : Fin 8).val] := by
  show _ = ![128 * k.val, _]
  rw [← tripRow_word]; rfl
theorem off7_eq (k : Fin k0_t1_loop.trips) : k0_off7 k = ![128 * (⟨k.val, trips_le k⟩ : Fin 16).val, 128 * (6 : Fin 8).val] := by
  show _ = ![128 * k.val, _]
  rw [← tripRow_word]; rfl
theorem off8_eq (k : Fin k0_t1_loop.trips) : k0_off8 k = ![128 * (⟨k.val, trips_le k⟩ : Fin 16).val, 128 * (7 : Fin 8).val] := by
  show _ = ![128 * k.val, _]
  rw [← tripRow_word]; rfl

/-- A key tile normalised, from the blocks as loaded. -/
theorem key_read {arg3 : Memref sig .tc .vmem S2048x1024 .bf16} (harg3 : arg3.IsWhole)
    {arg7 : Memref sig .tc .vmem S1x128 .f32} (harg7 : arg7.IsWhole)
    {arg8 : Memref sig .tc .vmem S128x128 .bf16} (harg8 : arg8.IsWhole)
    (x1 : Vec F S2048x1024 .bf16) (x5 : Vec F S1x128 .f32) (x6 : Vec F S128x128 .bf16) (r : Fin 16) (p : Fin 8)
    (off : Fin 2 → ℕ) (hoff : off = ![128 * r.val, 128 * p.val]) (inb : ∀ a, off a + ![128, 128] a ≤ S2048x1024.size a)
    (inb8 : ∀ a, ![0, 0] a + ![128, 128] a ≤ S128x128.size a) (inb7 : ∀ a, ![0, 0] a + ![1, 128] a ≤ S1x128.size a) :
    k0_pay2 (View.readAt (Elt F) arg3.view (Rect.unit (s := S2048x1024) off ![128, 128] inb).toLoadRect (harg3.unread x1))
        (View.readAt (Elt F) arg8.view (Rect.unit (s := S128x128) ![0, 0] ![128, 128] inb8).toLoadRect (harg8.unread x6))
        (View.readAt (Elt F) arg7.view (Rect.unit (s := S1x128) ![0, 0] ![1, 128] inb7).toLoadRect (harg7.unread x5))
      = k0_pay2 (keyTile x1 r p) x6 x5 := by
  rw [keyTile_read harg3 x1 r p off hoff inb, ones_read harg8 x6 inb8, row_read harg7 x5 inb7]

/-- A load of the band from stored keys. -/
theorem band_readCov (kn : Vec F S2048x1024 .bf16) (i : grid0.Coords) (p : Fin 8)
    (v : View sig .tc .vmem S2048x1024 .bf16) (L : List (View.Piece (Elt F) S2048x1024 .bf16))
    (hL : View.canon L = kn) (off : Fin 2 → ℕ) (hoff : off = ![bandRow i, 128 * p.val])
    (inb : ∀ a, off a + ![768, 128] a ≤ S2048x1024.size a) :
    v.readCov L (Rect.unit (s := S2048x1024) off ![768, 128] inb).toLoadRect = band kn i p := by
  subst hoff
  rw [View.readCov_eq_canon', hL]
  funext z
  unfold band
  congr 1
  funext a
  refine Fin.ext ?_
  fin_cases a
  · show bandRow i + 1 * (z 0).val = bandRow i + (z 0).val; omega
  · show 128 * p.val + 1 * (z 1).val = 128 * p.val + (z 1).val; omega

theorem mem_tile (off : Fin 2 → ℕ) (r : Fin 16) (p : Fin 8) (hoff : off = ![128 * r.val, 128 * p.val])
    (inb : ∀ a, off a + ![128, 128] a ≤ S2048x1024.size a) (y : S2048x1024.Idx)
    (h0 : (y 0).val / 128 = r.val) (h1 : (y 1).val / 128 = p.val) :
    y ∈ (Rect.unit (s := S2048x1024) off ![128, 128] inb).set := by
  subst hoff
  rw [Rect.mem_set_unit]
  intro a
  fin_cases a
  · show 128 * r.val ≤ (y 0).val ∧ (y 0).val < 128 * r.val + 128; omega
  · show 128 * p.val ≤ (y 1).val ∧ (y 1).val < 128 * p.val + 128; omega

variable (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1x16x256x768 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .bf16) (harg8 : arg8.IsWhole) (arg9 : Memref sig .tc .vmem S256x1024 .bf16) (harg9 : arg9.IsWhole) (arg10 : Memref sig .tc .vmem S2048x1024 .bf16) (harg10 : arg10.IsWhole) (arg11 : Memref sig .tc .vmem S8x512x128 .bf16) (harg11 : arg11.IsWhole) (hc0 : cond0_0 i)
    (x0 : Vec F S256x1024 .bf16) (x1 : Vec F S2048x1024 .bf16) (x2 : Vec F S2048x1024 .bf16) (x3 : Vec F S1x16x256x768 .f32) (x4 : Vec F S1x128 .f32) (x5 : Vec F S1x128 .f32) (x6 : Vec F S128x128 .bf16)

/-- The tiles one key trip stores are the normalised keys. -/
theorem key_piecesA (k : Fin k0_t1_loop.trips) :
    View.PiecesOf (keyNorm x1 x5 x6) (tripL_k0_t1 (F := F) Variants.none c none i arg2 harg2 arg3 harg3 arg4 harg4 arg5 harg5 arg6 harg6 arg7 harg7 arg8 harg8 arg9 harg9 arg10 harg10 arg11 harg11 hc0 (harg3.unread x1) (harg7.unread x5) (harg8.unread x6) k) := by
  unfold tripL_k0_t1 trip_k0_t1; dsimp only
  refine ⟨?_,?_,?_,?_,?_,?_,?_,?_,trivial⟩
  · intro z
    exact (congrFun (key_read harg3 harg7 harg8 x1 x5 x6 ⟨k.val, trips_le k⟩ 7 _ (off8_eq k) (k0_off8_inb i k hc0) (by decide) (by decide)) z).trans
      (keyNorm_emb x1 x5 x6 ⟨k.val, trips_le k⟩ 7 _ (off8_eq k) (k0_off8_inb i k hc0) z).symm
  · intro z
    exact (congrFun (key_read harg3 harg7 harg8 x1 x5 x6 ⟨k.val, trips_le k⟩ 6 _ (off7_eq k) (k0_off7_inb i k hc0) (by decide) (by decide)) z).trans
      (keyNorm_emb x1 x5 x6 ⟨k.val, trips_le k⟩ 6 _ (off7_eq k) (k0_off7_inb i k hc0) z).symm
  · intro z
    exact (congrFun (key_read harg3 harg7 harg8 x1 x5 x6 ⟨k.val, trips_le k⟩ 5 _ (off6_eq k) (k0_off6_inb i k hc0) (by decide) (by decide)) z).trans
      (keyNorm_emb x1 x5 x6 ⟨k.val, trips_le k⟩ 5 _ (off6_eq k) (k0_off6_inb i k hc0) z).symm
  · intro z
    exact (congrFun (key_read harg3 harg7 harg8 x1 x5 x6 ⟨k.val, trips_le k⟩ 4 _ (off5_eq k) (k0_off5_inb i k hc0) (by decide) (by decide)) z).trans
      (keyNorm_emb x1 x5 x6 ⟨k.val, trips_le k⟩ 4 _ (off5_eq k) (k0_off5_inb i k hc0) z).symm
  · intro z
    exact (congrFun (key_read harg3 harg7 harg8 x1 x5 x6 ⟨k.val, trips_le k⟩ 3 _ (off4_eq k) (k0_off4_inb i k hc0) (by decide) (by decide)) z).trans
      (keyNorm_emb x1 x5 x6 ⟨k.val, trips_le k⟩ 3 _ (off4_eq k) (k0_off4_inb i k hc0) z).symm
  · intro z
    exact (congrFun (key_read harg3 harg7 harg8 x1 x5 x6 ⟨k.val, trips_le k⟩ 2 _ (off3_eq k) (k0_off3_inb i k hc0) (by decide) (by decide)) z).trans
      (keyNorm_emb x1 x5 x6 ⟨k.val, trips_le k⟩ 2 _ (off3_eq k) (k0_off3_inb i k hc0) z).symm
  · intro z
    exact (congrFun (key_read harg3 harg7 harg8 x1 x5 x6 ⟨k.val, trips_le k⟩ 1 _ (off2_eq k) (k0_off2_inb i k hc0) (by decide) (by decide)) z).trans
      (keyNorm_emb x1 x5 x6 ⟨k.val, trips_le k⟩ 1 _ (off2_eq k) (k0_off2_inb i k hc0) z).symm
  · intro z
    exact (congrFun (key_read harg3 harg7 harg8 x1 x5 x6 ⟨k.val, trips_le k⟩ 0 _ (off1_eq k) (k0_off1_inb i k hc0) (by decide) (by decide)) z).trans
      (keyNorm_emb x1 x5 x6 ⟨k.val, trips_le k⟩ 0 _ (off1_eq k) (k0_off1_inb i k hc0) z).symm

/-- The tiles one key trip stores cover its rows. -/
theorem key_coverA (k : Fin k0_t1_loop.trips) (y : S2048x1024.Idx) (hy : (y 0).val / 128 = k.val) :
    ∃ p ∈ tripL_k0_t1 (F := F) Variants.none c none i arg2 harg2 arg3 harg3 arg4 harg4 arg5 harg5 arg6 harg6 arg7 harg7 arg8 harg8 arg9 harg9 arg10 harg10 arg11 harg11 hc0 (harg3.unread x1) (harg7.unread x5) (harg8.unread x6) k, y ∈ p.1.set := by
  have h1 : (y 1).val < 1024 := (y 1).isLt
  have hp : (y 1).val / 128 < 8 := by omega
  unfold tripL_k0_t1 trip_k0_t1; dsimp only
  refine CoveredBy.exists ?_
  rcases (by omega : (y 1).val / 128 = 7 ∨ (y 1).val / 128 = 6 ∨ (y 1).val / 128 = 5 ∨ (y 1).val / 128 = 4 ∨
      (y 1).val / 128 = 3 ∨ (y 1).val / 128 = 2 ∨ (y 1).val / 128 = 1 ∨ (y 1).val / 128 = 0) with
    h | h | h | h | h | h | h | h
  · exact Or.inl (mem_tile _ ⟨k.val, trips_le k⟩ 7 (off8_eq k) (k0_off8_inb i k hc0) y hy h)
  · exact Or.inr (Or.inl (mem_tile _ ⟨k.val, trips_le k⟩ 6 (off7_eq k) (k0_off7_inb i k hc0) y hy h))
  · exact Or.inr (Or.inr (Or.inl (mem_tile _ ⟨k.val, trips_le k⟩ 5 (off6_eq k) (k0_off6_inb i k hc0) y hy h)))
  · exact Or.inr (Or.inr (Or.inr (Or.inl (mem_tile _ ⟨k.val, trips_le k⟩ 4 (off5_eq k) (k0_off5_inb i k hc0) y hy h))))
  · exact Or.inr (Or.inr (Or.inr (Or.inr (Or.inl (mem_tile _ ⟨k.val, trips_le k⟩ 3 (off4_eq k) (k0_off4_inb i k hc0) y hy h)))))
  · exact Or.inr (Or.inr (Or.inr (Or.inr (Or.inr (Or.inl (mem_tile _ ⟨k.val, trips_le k⟩ 2 (off3_eq k) (k0_off3_inb i k hc0) y hy h))))))
  · exact Or.inr (Or.inr (Or.inr (Or.inr (Or.inr (Or.inr (Or.inl (mem_tile _ ⟨k.val, trips_le k⟩ 1 (off2_eq k) (k0_off2_inb i k hc0) y hy h)))))))
  · exact Or.inr (Or.inr (Or.inr (Or.inr (Or.inr (Or.inr (Or.inr (Or.inl (mem_tile _ ⟨k.val, trips_le k⟩ 0 (off1_eq k) (k0_off1_inb i k hc0) y hy h))))))))

theorem key_pbA : ∀ n : ℕ, n ≤ 16 →
    (∀ p ∈ pb_k0_t1 (F := F) Variants.none c none i arg2 harg2 arg3 harg3 arg4 harg4 arg5 harg5 arg6 harg6 arg7 harg7 arg8 harg8 arg9 harg9 arg10 harg10 arg11 harg11 hc0 (harg3.unread x1) (harg7.unread x5) (harg8.unread x6) n, ∀ x : p.1.shape.Idx, p.2 x = keyNorm x1 x5 x6 (p.1.emb x))
      ∧ ∀ y : S2048x1024.Idx, (y 0).val < 128 * n → ∃ p ∈ pb_k0_t1 (F := F) Variants.none c none i arg2 harg2 arg3 harg3 arg4 harg4 arg5 harg5 arg6 harg6 arg7 harg7 arg8 harg8 arg9 harg9 arg10 harg10 arg11 harg11 hc0 (harg3.unread x1) (harg7.unread x5) (harg8.unread x6) n, y ∈ p.1.set
  | 0, _ => ⟨fun p hp => absurd hp (by rw [pb_k0_t1.eq_1]; exact List.not_mem_nil), fun y hy => absurd hy (by omega)⟩
  | n + 1, hn => by
    obtain ⟨ih, ihc⟩ := key_pbA n (by omega)
    have e := pb_k0_t1_succ (F := F) Variants.none c none i arg2 harg2 arg3 harg3 arg4 harg4 arg5 harg5 arg6 harg6 arg7 harg7 arg8 harg8 arg9 harg9 arg10 harg10 arg11 harg11 hc0 (harg3.unread x1) (harg7.unread x5) (harg8.unread x6) ⟨n, hn⟩
    rw [show n + 1 = (⟨n, hn⟩ : Fin k0_t1_loop.trips).val + 1 from rfl, e]
    refine ⟨fun p hp x => ?_, fun y hy => ?_⟩
    · rcases List.mem_append.mp hp with hp | hp
      · exact View.PiecesOf.mem (key_piecesA c i arg2 harg2 arg3 harg3 arg4 harg4 arg5 harg5 arg6 harg6 arg7 harg7 arg8 harg8 arg9 harg9 arg10 harg10 arg11 harg11 hc0 x1 x5 x6 ⟨n, hn⟩) p hp x
      · exact ih p hp x
    · by_cases h : (y 0).val < 128 * n
      · obtain ⟨p, hp, hm⟩ := ihc y h
        exact ⟨p, List.mem_append_right _ hp, hm⟩
      · obtain ⟨p, hp, hm⟩ := key_coverA c i arg2 harg2 arg3 harg3 arg4 harg4 arg5 harg5 arg6 harg6 arg7 harg7 arg8 harg8 arg9 harg9 arg10 harg10 arg11 harg11 hc0 x1 x5 x6 ⟨n, hn⟩ y (by
          have hy' : (y 0).val < 128 * (n + 1) := hy
          show (y 0).val / 128 = n; omega)
        exact ⟨p, List.mem_append_left _ hp, hm⟩

theorem key_canonA : View.canon (pb_k0_t1 (F := F) Variants.none c none i arg2 harg2 arg3 harg3 arg4 harg4 arg5 harg5 arg6 harg6 arg7 harg7 arg8 harg8 arg9 harg9 arg10 harg10 arg11 harg11 hc0 (harg3.unread x1) (harg7.unread x5) (harg8.unread x6) 16) = keyNorm x1 x5 x6 := by
  funext y
  obtain ⟨h, hc⟩ := key_pbA c i arg2 harg2 arg3 harg3 arg4 harg4 arg5 harg5 arg6 harg6 arg7 harg7 arg8 harg8 arg9 harg9 arg10 harg10 arg11 harg11 hc0 x1 x5 x6 16 le_rfl
  exact View.canon_apply_of_pieces _ _ h y (hc y (by have : (y 0).val < 2048 := (y 0).isLt; omega))

theorem scratch_coverA (y : S2048x1024.Idx) : ∃ p ∈ (runA c i arg2 harg2 arg3 harg3 arg4 harg4 arg5 harg5 arg6 harg6 arg7 harg7 arg8 harg8 arg9 harg9 arg10 harg10 arg11 harg11 hc0 x0 x1 x2 x3 x4 x5 x6).2.1, y ∈ p.1.set :=
  (key_pbA c i arg2 harg2 arg3 harg3 arg4 harg4 arg5 harg5 arg6 harg6 arg7 harg7 arg8 harg8 arg9 harg9 arg10 harg10 arg11 harg11 hc0 x1 x5 x6 16 le_rfl).2 y (by have : (y 0).val < 2048 := (y 0).isLt; omega)

theorem scratch_canonA : View.canon (runA c i arg2 harg2 arg3 harg3 arg4 harg4 arg5 harg5 arg6 harg6 arg7 harg7 arg8 harg8 arg9 harg9 arg10 harg10 arg11 harg11 hc0 x0 x1 x2 x3 x4 x5 x6).2.1 = keyNorm x1 x5 x6 := key_canonA c i arg2 harg2 arg3 harg3 arg4 harg4 arg5 harg5 arg6 harg6 arg7 harg7 arg8 harg8 arg9 harg9 arg10 harg10 arg11 harg11 hc0 x1 x5 x6

/-- The stored halves are the stacked queries. -/
theorem qStack_piecesA : View.PiecesOf (qStack x0 x4 x6) (runA.sl.HS1_16 c arg2 harg2 arg6 harg6 arg8 harg8 x0 x4 x6) := by
  refine ⟨?_,?_,?_,?_,?_,?_,?_,?_,?_,?_,?_,?_,?_,?_,?_,?_,trivial⟩
  · intro z
    exact (congrFun (qHigh_read harg2 harg6 harg8 x0 x4 x6 7 ![0, 896] rfl (by decide) (by decide) (by decide)) z).trans
      (qStack_emb_high x0 x4 x6 7 ![7, 256, 0] rfl (by decide) z).symm
  · intro z
    exact (congrFun (qLow_read harg2 harg6 harg8 x0 x4 x6 7 ![0, 896] rfl (by decide) (by decide) (by decide)) z).trans
      (qStack_emb_low x0 x4 x6 7 ![7, 0, 0] rfl (by decide) z).symm
  · intro z
    exact (congrFun (qHigh_read harg2 harg6 harg8 x0 x4 x6 6 ![0, 768] rfl (by decide) (by decide) (by decide)) z).trans
      (qStack_emb_high x0 x4 x6 6 ![6, 256, 0] rfl (by decide) z).symm
  · intro z
    exact (congrFun (qLow_read harg2 harg6 harg8 x0 x4 x6 6 ![0, 768] rfl (by decide) (by decide) (by decide)) z).trans
      (qStack_emb_low x0 x4 x6 6 ![6, 0, 0] rfl (by decide) z).symm
  · intro z
    exact (congrFun (qHigh_read harg2 harg6 harg8 x0 x4 x6 5 ![0, 640] rfl (by decide) (by decide) (by decide)) z).trans
      (qStack_emb_high x0 x4 x6 5 ![5, 256, 0] rfl (by decide) z).symm
  · intro z
    exact (congrFun (qLow_read harg2 harg6 harg8 x0 x4 x6 5 ![0, 640] rfl (by decide) (by decide) (by decide)) z).trans
      (qStack_emb_low x0 x4 x6 5 ![5, 0, 0] rfl (by decide) z).symm
  · intro z
    exact (congrFun (qHigh_read harg2 harg6 harg8 x0 x4 x6 4 ![0, 512] rfl (by decide) (by decide) (by decide)) z).trans
      (qStack_emb_high x0 x4 x6 4 ![4, 256, 0] rfl (by decide) z).symm
  · intro z
    exact (congrFun (qLow_read harg2 harg6 harg8 x0 x4 x6 4 ![0, 512] rfl (by decide) (by decide) (by decide)) z).trans
      (qStack_emb_low x0 x4 x6 4 ![4, 0, 0] rfl (by decide) z).symm
  · intro z
    exact (congrFun (qHigh_read harg2 harg6 harg8 x0 x4 x6 3 ![0, 384] rfl (by decide) (by decide) (by decide)) z).trans
      (qStack_emb_high x0 x4 x6 3 ![3, 256, 0] rfl (by decide) z).symm
  · intro z
    exact (congrFun (qLow_read harg2 harg6 harg8 x0 x4 x6 3 ![0, 384] rfl (by decide) (by decide) (by decide)) z).trans
      (qStack_emb_low x0 x4 x6 3 ![3, 0, 0] rfl (by decide) z).symm
  · intro z
    exact (congrFun (qHigh_read harg2 harg6 harg8 x0 x4 x6 2 ![0, 256] rfl (by decide) (by decide) (by decide)) z).trans
      (qStack_emb_high x0 x4 x6 2 ![2, 256, 0] rfl (by decide) z).symm
  · intro z
    exact (congrFun (qLow_read harg2 harg6 harg8 x0 x4 x6 2 ![0, 256] rfl (by decide) (by decide) (by decide)) z).trans
      (qStack_emb_low x0 x4 x6 2 ![2, 0, 0] rfl (by decide) z).symm
  · intro z
    exact (congrFun (qHigh_read harg2 harg6 harg8 x0 x4 x6 1 ![0, 128] rfl (by decide) (by decide) (by decide)) z).trans
      (qStack_emb_high x0 x4 x6 1 ![1, 256, 0] rfl (by decide) z).symm
  · intro z
    exact (congrFun (qLow_read harg2 harg6 harg8 x0 x4 x6 1 ![0, 128] rfl (by decide) (by decide) (by decide)) z).trans
      (qStack_emb_low x0 x4 x6 1 ![1, 0, 0] rfl (by decide) z).symm
  · intro z
    exact (congrFun (qHigh_read harg2 harg6 harg8 x0 x4 x6 0 ![0, 0] rfl (by decide) (by decide) (by decide)) z).trans
      (qStack_emb_high x0 x4 x6 0 ![0, 256, 0] rfl (by decide) z).symm
  · intro z
    exact (congrFun (qLow_read harg2 harg6 harg8 x0 x4 x6 0 ![0, 0] rfl (by decide) (by decide) (by decide)) z).trans
      (qStack_emb_low x0 x4 x6 0 ![0, 0, 0] rfl (by decide) z).symm

theorem qStack_canonA : View.canon (runA.sl.HS1_16 c arg2 harg2 arg6 harg6 arg8 harg8 x0 x4 x6) = qStack x0 x4 x6 := by
  funext y
  exact View.canon_apply_of_pieces _ _ (View.PiecesOf.mem (qStack_piecesA c arg2 harg2 arg6 harg6 arg8 harg8 x0 x4 x6)) y
    (View.cover_of_tiledL _ ![1, 256, 128] (by sl_kernel_rfl) y)

/-- The stored pairs are the block's output. -/
theorem out_piecesA : View.PiecesOf (blockOut i x0 (keyNorm x1 x5 x6) x2 x3 x4 x6) (runA c i arg2 harg2 arg3 harg3 arg4 harg4 arg5 harg5 arg6 harg6 arg7 harg7 arg8 harg8 arg9 harg9 arg10 harg10 arg11 harg11 hc0 x0 x1 x2 x3 x4 x5 x6).1 := by
  refine ⟨?_,?_,?_,?_,?_,?_,?_,?_,trivial⟩
  · intro z
    exact (congrFun (pairOut_read i harg4 harg5 x0 (keyNorm x1 x5 x6) x2 x3 x4 x6 7 _ (off16_eq i) (k0_off16_inb i) ![0, 14, 0, 0] rfl (by decide) _
        (band_readCov (keyNorm x1 x5 x6) i 7 arg10.view _ (key_canonA c i arg2 harg2 arg3 harg3 arg4 harg4 arg5 harg5 arg6 harg6 arg7 harg7 arg8 harg8 arg9 harg9 arg10 harg10 arg11 harg11 hc0 x1 x5 x6) _ (off16_eq i) (k0_off16_inb i)) _
        (qPair_read x0 x4 x6 7 arg11.view _ (qStack_canonA c arg2 harg2 arg6 harg6 arg8 harg8 x0 x4 x6) ![7, 0, 0] rfl (by decide))) z).trans
      (blockOut_emb i x0 (keyNorm x1 x5 x6) x2 x3 x4 x6 7 ![0, 896] rfl (by decide) z).symm
  · intro z
    exact (congrFun (pairOut_read i harg4 harg5 x0 (keyNorm x1 x5 x6) x2 x3 x4 x6 6 _ (off15_eq i) (k0_off15_inb i) ![0, 12, 0, 0] rfl (by decide) _
        (band_readCov (keyNorm x1 x5 x6) i 6 arg10.view _ (key_canonA c i arg2 harg2 arg3 harg3 arg4 harg4 arg5 harg5 arg6 harg6 arg7 harg7 arg8 harg8 arg9 harg9 arg10 harg10 arg11 harg11 hc0 x1 x5 x6) _ (off15_eq i) (k0_off15_inb i)) _
        (qPair_read x0 x4 x6 6 arg11.view _ (qStack_canonA c arg2 harg2 arg6 harg6 arg8 harg8 x0 x4 x6) ![6, 0, 0] rfl (by decide))) z).trans
      (blockOut_emb i x0 (keyNorm x1 x5 x6) x2 x3 x4 x6 6 ![0, 768] rfl (by decide) z).symm
  · intro z
    exact (congrFun (pairOut_read i harg4 harg5 x0 (keyNorm x1 x5 x6) x2 x3 x4 x6 5 _ (off14_eq i) (k0_off14_inb i) ![0, 10, 0, 0] rfl (by decide) _
        (band_readCov (keyNorm x1 x5 x6) i 5 arg10.view _ (key_canonA c i arg2 harg2 arg3 harg3 arg4 harg4 arg5 harg5 arg6 harg6 arg7 harg7 arg8 harg8 arg9 harg9 arg10 harg10 arg11 harg11 hc0 x1 x5 x6) _ (off14_eq i) (k0_off14_inb i)) _
        (qPair_read x0 x4 x6 5 arg11.view _ (qStack_canonA c arg2 harg2 arg6 harg6 arg8 harg8 x0 x4 x6) ![5, 0, 0] rfl (by decide))) z).trans
      (blockOut_emb i x0 (keyNorm x1 x5 x6) x2 x3 x4 x6 5 ![0, 640] rfl (by decide) z).symm
  · intro z
    exact (congrFun (pairOut_read i harg4 harg5 x0 (keyNorm x1 x5 x6) x2 x3 x4 x6 4 _ (off13_eq i) (k0_off13_inb i) ![0, 8, 0, 0] rfl (by decide) _
        (band_readCov (keyNorm x1 x5 x6) i 4 arg10.view _ (key_canonA c i arg2 harg2 arg3 harg3 arg4 harg4 arg5 harg5 arg6 harg6 arg7 harg7 arg8 harg8 arg9 harg9 arg10 harg10 arg11 harg11 hc0 x1 x5 x6) _ (off13_eq i) (k0_off13_inb i)) _
        (qPair_read x0 x4 x6 4 arg11.view _ (qStack_canonA c arg2 harg2 arg6 harg6 arg8 harg8 x0 x4 x6) ![4, 0, 0] rfl (by decide))) z).trans
      (blockOut_emb i x0 (keyNorm x1 x5 x6) x2 x3 x4 x6 4 ![0, 512] rfl (by decide) z).symm
  · intro z
    exact (congrFun (pairOut_read i harg4 harg5 x0 (keyNorm x1 x5 x6) x2 x3 x4 x6 3 _ (off12_eq i) (k0_off12_inb i) ![0, 6, 0, 0] rfl (by decide) _
        (band_readCov (keyNorm x1 x5 x6) i 3 arg10.view _ (key_canonA c i arg2 harg2 arg3 harg3 arg4 harg4 arg5 harg5 arg6 harg6 arg7 harg7 arg8 harg8 arg9 harg9 arg10 harg10 arg11 harg11 hc0 x1 x5 x6) _ (off12_eq i) (k0_off12_inb i)) _
        (qPair_read x0 x4 x6 3 arg11.view _ (qStack_canonA c arg2 harg2 arg6 harg6 arg8 harg8 x0 x4 x6) ![3, 0, 0] rfl (by decide))) z).trans
      (blockOut_emb i x0 (keyNorm x1 x5 x6) x2 x3 x4 x6 3 ![0, 384] rfl (by decide) z).symm
  · intro z
    exact (congrFun (pairOut_read i harg4 harg5 x0 (keyNorm x1 x5 x6) x2 x3 x4 x6 2 _ (off11_eq i) (k0_off11_inb i) ![0, 4, 0, 0] rfl (by decide) _
        (band_readCov (keyNorm x1 x5 x6) i 2 arg10.view _ (key_canonA c i arg2 harg2 arg3 harg3 arg4 harg4 arg5 harg5 arg6 harg6 arg7 harg7 arg8 harg8 arg9 harg9 arg10 harg10 arg11 harg11 hc0 x1 x5 x6) _ (off11_eq i) (k0_off11_inb i)) _
        (qPair_read x0 x4 x6 2 arg11.view _ (qStack_canonA c arg2 harg2 arg6 harg6 arg8 harg8 x0 x4 x6) ![2, 0, 0] rfl (by decide))) z).trans
      (blockOut_emb i x0 (keyNorm x1 x5 x6) x2 x3 x4 x6 2 ![0, 256] rfl (by decide) z).symm
  · intro z
    exact (congrFun (pairOut_read i harg4 harg5 x0 (keyNorm x1 x5 x6) x2 x3 x4 x6 1 _ (off10_eq i) (k0_off10_inb i) ![0, 2, 0, 0] rfl (by decide) _
        (band_readCov (keyNorm x1 x5 x6) i 1 arg10.view _ (key_canonA c i arg2 harg2 arg3 harg3 arg4 harg4 arg5 harg5 arg6 harg6 arg7 harg7 arg8 harg8 arg9 harg9 arg10 harg10 arg11 harg11 hc0 x1 x5 x6) _ (off10_eq i) (k0_off10_inb i)) _
        (qPair_read x0 x4 x6 1 arg11.view _ (qStack_canonA c arg2 harg2 arg6 harg6 arg8 harg8 x0 x4 x6) ![1, 0, 0] rfl (by decide))) z).trans
      (blockOut_emb i x0 (keyNorm x1 x5 x6) x2 x3 x4 x6 1 ![0, 128] rfl (by decide) z).symm
  · intro z
    exact (congrFun (pairOut_read i harg4 harg5 x0 (keyNorm x1 x5 x6) x2 x3 x4 x6 0 _ (off9_eq i) (k0_off9_inb i) ![0, 0, 0, 0] rfl (by decide) _
        (band_readCov (keyNorm x1 x5 x6) i 0 arg10.view _ (key_canonA c i arg2 harg2 arg3 harg3 arg4 harg4 arg5 harg5 arg6 harg6 arg7 harg7 arg8 harg8 arg9 harg9 arg10 harg10 arg11 harg11 hc0 x1 x5 x6) _ (off9_eq i) (k0_off9_inb i)) _
        (qPair_read x0 x4 x6 0 arg11.view _ (qStack_canonA c arg2 harg2 arg6 harg6 arg8 harg8 x0 x4 x6) ![0, 0, 0] rfl (by decide))) z).trans
      (blockOut_emb i x0 (keyNorm x1 x5 x6) x2 x3 x4 x6 0 ![0, 0] rfl (by decide) z).symm

theorem out_coverA (y : S256x1024.Idx) : ∃ p ∈ (runA c i arg2 harg2 arg3 harg3 arg4 harg4 arg5 harg5 arg6 harg6 arg7 harg7 arg8 harg8 arg9 harg9 arg10 harg10 arg11 harg11 hc0 x0 x1 x2 x3 x4 x5 x6).1, y ∈ p.1.set :=
  View.cover_of_tiledL _ ![256, 128] (by sl_kernel_rfl) y

theorem out_canonA : View.canon (runA c i arg2 harg2 arg3 harg3 arg4 harg4 arg5 harg5 arg6 harg6 arg7 harg7 arg8 harg8 arg9 harg9 arg10 harg10 arg11 harg11 hc0 x0 x1 x2 x3 x4 x5 x6).1 = blockOut i x0 (keyNorm x1 x5 x6) x2 x3 x4 x6 := by
  funext y
  exact View.canon_apply_of_pieces _ _ (View.PiecesOf.mem (out_piecesA c i arg2 harg2 arg3 harg3 arg4 harg4 arg5 harg5 arg6 harg6 arg7 harg7 arg8 harg8 arg9 harg9 arg10 harg10 arg11 harg11 hc0 x0 x1 x2 x3 x4 x5 x6)) y (out_coverA c i arg2 harg2 arg3 harg3 arg4 harg4 arg5 harg5 arg6 harg6 arg7 harg7 arg8 harg8 arg9 harg9 arg10 harg10 arg11 harg11 hc0 x0 x1 x2 x3 x4 x5 x6 y)

end Cert.KernelIdeal.Attn

end
-- ==== Proof.Attn.Frame.lean ====
/-
  The launch of the attention: the region's proof data, the body's obligation at every grid point, and the run.
-/
module

public import proofs.«01_k».proof.Proof.Attn.Input
public import proofs.«01_k».proof.Proof.Attn.PiecesA
public import proofs.«01_k».proof.Proof.Gen.KernelIdeal.Launch

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant between points -/

/-- What holds before position `n`: before the first point the scratch buffers are at anything; afterwards the key
    scratch holds the normalised keys of the batch of the point before. -/
def PhiS (c : Dev nD) : (n : ℕ) → n ≤ cfg0.N → sProp 𝕄
  | 0, _ => Pipeline.ΦA spec0 c
  | n + 1, hn => iprop(iprop(owns (c : Thread nD τ) scM0_0 fullShare (keysAt m c ⟨n, hn⟩)
      ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (keysAt m c ⟨n, hn⟩)
      ∗ (∃ d, owns (c : Thread nD τ) scM0_1 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare (keysAt m c ⟨n - 1, by omega⟩)
      ∗ (∃ d, owns (c : Thread nD τ) scM0_1 fullShare d)) ∗ (∃ r, prngReg c r)) := by
  cases n with
  | zero => exact absurd rfl hz
  | succ n => rfl

/-! ## The region's proof data -/

/-- The arrays as the region finds them; each input's buffer at its block after the body, the output's at the point's
    rows; the invariant `PhiS`; nothing owed; the three windows over the projected columns share their array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body's obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

/-- The pieces of a first block's run, read back: the point's rows, -/
theorem read_outA (c : Dev nD) (t : Fin cfg0.N) (hc : cond0_0 (grid0.coords t)) (f) :
    (ms0_7 t).view.read (Elt F) ((ms0_7 t).view.writes (Elt F) f (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc (qBlk m c t) (kBlk m c t) (vBlk m c t) (bBlk m c t) (gqBlk m c t) (gkBlk m c t) (onesBlk m c t)).1) = outAt m c t := by
  rw [View.read_writes_eq_canon _ _ _ (out_coverA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc (qBlk m c t) (kBlk m c t) (vBlk m c t) (bBlk m c t) (gqBlk m c t) (gkBlk m c t) (onesBlk m c t)), out_canonA]
  rfl

/-- and the batch's normalised keys. -/
theorem read_keysA (c : Dev nD) (t : Fin cfg0.N) (hc : cond0_0 (grid0.coords t)) (f) :
    scM0_0.view.read (Elt F) (scM0_0.view.writes (Elt F) f (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc (qBlk m c t) (kBlk m c t) (vBlk m c t) (bBlk m c t) (gqBlk m c t) (gkBlk m c t) (onesBlk m c t)).2.1) = keysAt m c t := by
  rw [View.read_writes_eq_canon _ _ _ (scratch_coverA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc (qBlk m c t) (kBlk m c t) (vBlk m c t) (bBlk m c t) (gqBlk m c t) (gkBlk m c t) (onesBlk m c t)), scratch_canonA]
  rfl

/-- The pieces of a later block's run, read back: the point's rows. -/
theorem read_outB (c : Dev nD) (t : Fin cfg0.N) (hc : ¬cond0_0 (grid0.coords t)) (f) :
    (ms0_7 t).view.read (Elt F) ((ms0_7 t).view.writes (Elt F) f (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc (qBlk m c t) (kBlk m c t) (vBlk m c t) (bBlk m c t) (gqBlk m c t) (gkBlk m c t) (onesBlk m c t) (keysAt m c t)).1) = outAt m c t := by
  rw [View.read_writes_eq_canon _ _ _ (out_coverB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc (qBlk m c t) (kBlk m c t) (vBlk m c t) (bBlk m c t) (gqBlk m c t) (gkBlk m c t) (onesBlk m c t) (keysAt m c t)), out_canonB]
  rfl

set_option maxHeartbeats 3200000 in
/-- The body at any point, by its case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7]
  rw [show (dats m 0 c).Φ t.succ = PhiS m c (t.val + 1) t.isLt from rfl, PhiS_succ]
  have hN : t.val < 128 := point_lt t
  by_cases h0 : t.val % 8 = 0
  · have hc := (hcond0_0 t).mpr h0
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc (qBlk m c t) (kBlk m c t) (vBlk m c t) (bBlk m c t) (gqBlk m c t) (gkBlk m c t) (onesBlk m c t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, ⟨%e7, H7⟩, ⟨%es0, HS0⟩, HS1⟩
      isplitl [HS0 HS1 Hg]
      · isplitl [HS0 HS1]
        · isplitl [HS0]
          · unfold owns; iexists _; isplitr
            swap; · iexact HS0
            ipureintro; exact read_keysA m c t hc es0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact read_outA m c t hc e7
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc (qBlk m c t) (kBlk m c t) (vBlk m c t) (bBlk m c t) (gqBlk m c t) (gkBlk m c t) (onesBlk m c t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexists _; iexact HS0
      isplitl [HS1]; · iexact HS1
      iintro ⟨H0, H1, H2, H3, H4, H5, H6, ⟨%e7, H7⟩, ⟨%es0, HS0⟩, HS1⟩
      isplitl [HS0 HS1 Hg]
      · isplitl [HS0 HS1]
        · isplitl [HS0]
          · unfold owns; iexists _; isplitr
            swap; · iexact HS0
            ipureintro; exact read_keysA m c t hc es0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact read_outA m c t hc e7
  · have hc : ¬cond0_0 (grid0.coords t) := fun h => h0 ((hcond0_0 t).mp h)
    have hz : t.val ≠ 0 := fun h => h0 (by rw [h])
    rw [PhiS_castSucc m c t, PhiS_pos m c _ _ hz,
      keysAt_congr m c ⟨t.val - 1, by omega⟩ t (by show (t.val - 1) / 8 = t.val / 8; omega)]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc (qBlk m c t) (kBlk m c t) (vBlk m c t) (bBlk m c t) (gqBlk m c t) (gkBlk m c t) (onesBlk m c t) (keysAt m c t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, ⟨%e7, H7⟩, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact read_outB m c t hc e7

/-- The body table's row at point `t`'s slots is the body at that point. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the named contents are forgotten. -/
theorem hout (c : Dev nD) : (dats m 0 c).Φ (Fin.last cfg0.N) ⊢ Pipeline.ΦA spec0 c := by
  have hne : (Fin.last cfg0.N).val ≠ 0 := by rw [Fin.val_last]; have : cfg0.N = 128 := N_0; omega
  rw [show (dats m 0 c).Φ (Fin.last cfg0.N) = PhiS m c (Fin.last cfg0.N).val (Nat.le_of_lt_succ (Fin.last cfg0.N).isLt) from rfl,
    PhiS_pos m c _ _ hne, PhiA0_eq]
  iintro ⟨⟨HS0, HS1⟩, Hg⟩
  isplitl [HS0 HS1]
  · isplitl [HS0]
    · iexists _; iexact HS0
    iexact HS1
  iexact Hg

/-! ## The run and the frame -/

set_option backward.isDefEq.respectTransparency.types false in
/-- The launch: every execution ends with the arrays at what the proof data gives, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Attn

end
-- ==== Proof.Attn.Words.lean ====
/-
The float literals of the two programs as reals, and the integer words that they compare and divide.
-/
module

public import Idealize.ShloMosaic.PureOps
public import Idealize.ShloMosaic.Lib.Pointwise

@[expose] public section

set_option maxRecDepth 16384

noncomputable section

namespace Cert.Attn

open Idealize.ShloMosaic Idealize.ShloMosaic.TcCoe

/-! ## Float literals -/

theorem bits_two : Ideal.ofBits .f32 1073741824#32 = ((2 : ℝ) : EReal) := by
  simp [Ideal.ofBits, Ideal.ieee, -EReal.coe_mul]; norm_num
theorem bits_64 : Ideal.ofBits .f32 1115684864#32 = ((64 : ℝ) : EReal) := by
  simp [Ideal.ofBits, Ideal.ieee, -EReal.coe_mul]; norm_num
theorem bits_64th : Ideal.ofBits .f32 1015021568#32 = ((1 / 64 : ℝ) : EReal) := by
  simp [Ideal.ofBits, Ideal.ieee, -EReal.coe_mul]; norm_num
theorem bits_8th : Ideal.ofBits .f32 1040187392#32 = ((1 / 8 : ℝ) : EReal) := by
  simp [Ideal.ofBits, Ideal.ieee, -EReal.coe_mul]; norm_num
/-- The guard of the root mean square, the float nearest to one millionth. -/
def eps : ℝ := 8796093 / 2 ^ 43
theorem eps_pos : 0 < eps := by unfold eps; positivity
theorem bits_eps : Ideal.ofBits .f32 897988541#32 = ((eps : ℝ) : EReal) := by
  simp [Ideal.ofBits, Ideal.ieee, eps, -EReal.coe_mul]; norm_num
theorem bits_bot : Ideal.ofBits .f32 4286578688#32 = (⊥ : EReal) := by
  simp [Ideal.ofBits, Ideal.ieee, -EReal.coe_mul]

/-! ## Words -/

/-- The quotient by 64 rounded down, as the host spells it. -/
def floorDiv (w : BitVec 32) : BitVec 32 :=
  Scalar.select
    (IntOp.andi
      (IntOp.cmpi .ne (if w = 0 then 0 else if w.msb = true then -1 else 1) (if 64#32 = 0 then 0 else if (64#32).msb = true then (-1 : BitVec 32) else 1))
      (IntOp.cmpi .ne (IntOp.remsi ArithUnit.host w 64#32) 0#32))
    (IntOp.subi (IntOp.divsi ArithUnit.host w 64#32) 1#32)
    (IntOp.divsi ArithUnit.host w 64#32)

theorem floorDiv_ofNat (n : Fin 768) : floorDiv (BitVec.ofNat 32 n.val) = BitVec.ofNat 32 (n.val / 64) := by
  revert n; decide +kernel

theorem floorDiv_lt (n : ℕ) (h : n < 768) : floorDiv (BitVec.ofNat 32 n) = BitVec.ofNat 32 (n / 64) := floorDiv_ofNat ⟨n, h⟩

/-- Chunk `x` sees chunk `y` when `y` is `x` itself or one of the eight before it. -/
theorem mask_word (x y : Fin 12) : IntOp.andi (IntOp.cmpi .sge (IntOp.subi (BitVec.ofNat 32 x.val) (BitVec.ofNat 32 y.val)) 0#32)
    (IntOp.cmpi .sle (IntOp.subi (BitVec.ofNat 32 x.val) (BitVec.ofNat 32 y.val)) 8#32) = if y.val ≤ x.val ∧ x.val ≤ y.val + 8 then 1#1 else 0#1 := by
  revert x y; decide +kernel

theorem addmul_word (a : Fin 3) (q : Fin 256) : IntOp.addi (IntOp.muli (BitVec.ofNat 32 a.val) 256#32) (BitVec.ofNat 32 q.val) = BitVec.ofNat 32 (256 * a.val + q.val) := by
  revert a q; decide +kernel

theorem eq_word (x y : Fin 2) : FloatOps.uitofp (F := Ideal) .bf16 (IntOp.cmpi .eq (BitVec.ofNat 32 x.val) (BitVec.ofNat 32 y.val)) = if x = y then (1 : EReal) else 0 := by
  fin_cases x <;> fin_cases y <;> simp [FloatOps.uitofp, IntOp.cmpi]

/-- A small word read signed is the natural it holds. -/
theorem toInt_small (n : ℕ) (h : n < 4096) : (BitVec.ofNat 32 n).toInt.toNat = n := by
  rw [BitVec.toInt_eq_toNat_of_lt (by rw [BitVec.toNat_ofNat]; omega), BitVec.toNat_ofNat]
  simp only [Int.toNat_natCast]
  omega

theorem lane_word (l : Fin 128) : IntOp.cmpi .slt (BitVec.ofNat 32 l.val) 64#32 = if l.val < 64 then 1#1 else 0#1 := by
  revert l; decide +kernel

theorem select_ite {α : Type} (p : Prop) [Decidable p] (x y : α) : Scalar.select (if p then 1#1 else 0#1) x y = if p then x else y := by
  by_cases h : p <;> simp [h, Scalar.select]

end Cert.Attn

end
-- ==== Proof.Attn.Softmax.lean ====
/-
The softmax average over a finite set of keys, written in extended reals: the weights are positive reals, so the
average is the same whether each weight is divided by the sum of the exponentials before the products with the values
(as the reference does) or the sum of the products is divided by it at the end (as the kernel does), and the values
may be infinite.
-/
module

public import Idealize.ShloMosaic.PureOps
public import Idealize.ShloMosaic.PureOps.Ideal.Laws

@[expose] public section

set_option maxRecDepth 16384

noncomputable section

namespace Cert.Attn

open Idealize.ShloMosaic

variable {κ ι : Type} [DecidableEq κ] [DecidableEq ι] [Fintype ι]

/-- The softmax weight of key `k` among the keys of `A`. -/
def weight (A : Finset κ) (σ : κ → ℝ) (k : κ) : ℝ := Real.exp (σ k) / ∑ j ∈ A, Real.exp (σ j)

/-- The values of the keys of `A`, averaged by the softmax of their scores. -/
def attend (A : Finset κ) (σ : κ → ℝ) (v : κ → EReal) : EReal := ∑ k ∈ A, ((weight A σ k : ℝ) : EReal) * v k

/-- A finite sum times a nonnegative real is the sum of the products, whatever the terms are. -/
theorem sum_mul_coe (A : Finset κ) (f : κ → EReal) (r : ℝ) (hr : 0 ≤ r) :
    (∑ k ∈ A, f k) * (r : EReal) = ∑ k ∈ A, f k * (r : EReal) := by
  induction A using Finset.induction_on with
  | empty => simp
  | insert a s ha ih =>
    rw [Finset.sum_insert ha, Finset.sum_insert ha,
      EReal.right_distrib_of_nonneg_of_ne_top (by exact_mod_cast hr) (EReal.coe_ne_top r), ih]

/-- A finite sum of reals, as an extended real. -/
theorem coe_sum (A : Finset κ) (f : κ → ℝ) : ((∑ k ∈ A, f k : ℝ) : EReal) = ∑ k ∈ A, ((f k : ℝ) : EReal) := by
  induction A using Finset.induction_on with
  | empty => simp
  | insert a s ha ih => rw [Finset.sum_insert ha, Finset.sum_insert ha, EReal.coe_add, ih]

/-- The greatest of the scores, when those of the image of `A` are `c` times the reals `σ` and the others are `⊥`. -/
theorem fold_max (A : Finset κ) (hA : A.Nonempty) (σ : κ → ℝ) (e : κ → ι) (c : ℝ) (hc : 0 < c) (S : ι → EReal)
    (hS : ∀ k ∈ A, S (e k) = ((c * σ k : ℝ) : EReal)) (hB : ∀ x, (∀ k ∈ A, e k ≠ x) → S x = ⊥) :
    ∃ M : ℝ, Finset.fold max (⊥ : EReal) S Finset.univ = ((c * M : ℝ) : EReal) := by
  obtain ⟨k0, hk0, hmax⟩ := Finset.exists_max_image A σ hA
  refine ⟨σ k0, le_antisymm ?_ ?_⟩
  · rw [Finset.fold_max_le]
    refine ⟨bot_le, fun x _ => ?_⟩
    by_cases hx : ∃ k ∈ A, e k = x
    · obtain ⟨k, hk, rfl⟩ := hx
      rw [hS k hk]
      exact_mod_cast mul_le_mul_of_nonneg_left (hmax k hk) hc.le
    · rw [hB x (fun k hk h => hx ⟨k, hk, h⟩)]
      exact bot_le
  · rw [Finset.le_fold_max]
    exact Or.inr ⟨e k0, Finset.mem_univ _, (hS k0 hk0).ge⟩

/-- The exponential of the difference of two scaled scores. -/
theorem shifted (E : EReal → EReal) (c : ℝ) (hE : ∀ a : ℝ, E ((c * a : ℝ) : EReal) = ((Real.exp a : ℝ) : EReal)) (a M : ℝ) :
    E (((c * a : ℝ) : EReal) - ((c * M : ℝ) : EReal)) = ((Real.exp (a - M) : ℝ) : EReal) := by
  rw [← EReal.coe_sub, ← mul_sub]
  exact hE _

section Sums
variable (A : Finset κ) (σ : κ → ℝ) (e : κ → ι) (he : Set.InjOn e A) (c M : ℝ) (S : ι → EReal)
  (hS : ∀ k ∈ A, S (e k) = ((c * σ k : ℝ) : EReal)) (hB : ∀ x, (∀ k ∈ A, e k ≠ x) → S x = ⊥)
  (E : EReal → EReal) (hE : ∀ a : ℝ, E ((c * a : ℝ) : EReal) = ((Real.exp a : ℝ) : EReal)) (hE0 : E ⊥ = 0)
include he hS hB hE hE0

/-- The exponentials off the image are zero. -/
theorem exp_off (x : ι) (hx : ∀ k ∈ A, e k ≠ x) : E (S x - ((c * M : ℝ) : EReal)) = 0 := by
  rw [hB x hx]
  have h : (⊥ : EReal) - ((c * M : ℝ) : EReal) = ⊥ := EReal.bot_sub _
  rw [h, hE0]

/-- The sum of the exponentials is the real sum over the keys. -/
theorem sum_exp : ∑ x, E (S x - ((c * M : ℝ) : EReal)) = ((∑ k ∈ A, Real.exp (σ k - M) : ℝ) : EReal) := by
  rw [coe_sum]
  refine (Finset.sum_of_injOn e he (fun _ _ => Finset.mem_coe.2 (Finset.mem_univ _)) (fun x _ hx => ?_) (fun k hk => ?_)).symm
  · exact exp_off A σ e he c M S hS hB E hE hE0 x (fun k hk h => hx ⟨k, hk, h⟩)
  · rw [hS k hk, shifted E c hE]

omit he hS hB hE hE0 in
/-- The sum of the exponentials is positive. -/
theorem sum_pos (hA : A.Nonempty) : 0 < ∑ k ∈ A, Real.exp (σ k - M) := Finset.sum_pos (fun _ _ => Real.exp_pos _) hA

omit he hS hB hE hE0 in
/-- Shifting the scores does not change a weight. -/
theorem weight_shift (k : κ) : Real.exp (σ k - M) / (∑ j ∈ A, Real.exp (σ j - M)) = weight A σ k := by
  unfold weight
  simp only [Real.exp_sub]
  rw [← Finset.sum_div, div_div_div_cancel_right₀ (Real.exp_pos M).ne']

/-- The kernel's form: the sum of the products divided by the sum of the exponentials. -/
theorem attend_of_quotient (hA : A.Nonempty) (v : κ → EReal) (V : ι → EReal) (hV : ∀ k ∈ A, V (e k) = v k) :
    Ideal.div (∑ x, E (S x - ((c * M : ℝ) : EReal)) * V x) (∑ x, E (S x - ((c * M : ℝ) : EReal))) = attend A σ v := by
  have hL := sum_pos A σ M hA
  rw [sum_exp A σ e he c M S hS hB E hE hE0, Ideal.div_coe hL.ne']
  have h1 : ∑ x, E (S x - ((c * M : ℝ) : EReal)) * V x = ∑ k ∈ A, ((Real.exp (σ k - M) : ℝ) : EReal) * v k := by
    refine (Finset.sum_of_injOn e he (fun _ _ => Finset.mem_coe.2 (Finset.mem_univ _)) (fun x _ hx => ?_) (fun k hk => ?_)).symm
    · rw [exp_off A σ e he c M S hS hB E hE hE0 x (fun k hk h => hx ⟨k, hk, h⟩), zero_mul]
    · rw [hS k hk, shifted E c hE, hV k hk]
  rw [h1, sum_mul_coe A _ _ (by positivity)]
  unfold attend
  refine Finset.sum_congr rfl fun k _ => ?_
  rw [mul_right_comm, ← EReal.coe_mul, mul_one_div, weight_shift A σ M]

/-- The reference's form: each exponential divided by their sum before the product with the value. -/
theorem attend_of_weights (hA : A.Nonempty) (v : κ → EReal) (V : ι → EReal) (hV : ∀ k ∈ A, V (e k) = v k) :
    ∑ x, V x * Ideal.div (E (S x - ((c * M : ℝ) : EReal))) (∑ x, E (S x - ((c * M : ℝ) : EReal))) = attend A σ v := by
  have hL := sum_pos A σ M hA
  rw [sum_exp A σ e he c M S hS hB E hE hE0]
  unfold attend
  refine (Finset.sum_of_injOn e he (fun _ _ => Finset.mem_coe.2 (Finset.mem_univ _)) (fun x _ hx => ?_) (fun k hk => ?_)).symm
  · rw [exp_off A σ e he c M S hS hB E hE hE0 x (fun k hk h => hx ⟨k, hk, h⟩), Ideal.div_coe hL.ne', zero_mul, mul_zero]
  · rw [hS k hk, shifted E c hE, hV k hk, Ideal.div_coe hL.ne', ← EReal.coe_mul, mul_one_div, weight_shift A σ M, mul_comm]
end Sums

end Cert.Attn

end
-- ==== Proof.Attn.UnitRow.lean ====
/-
A row divided by its root mean square, in extended reals: its entries are always real, even where the row has infinite
entries.
-/
module

public import proofs.«01_k».proof.Proof.Attn.Softmax
public import Idealize.ShloMosaic.PureOps.Ideal.Laws

@[expose] public section

set_option maxRecDepth 16384

noncomputable section

namespace Cert.Attn

open Idealize.ShloMosaic

/-- The product of an extended real with itself is not negative. -/
theorem self_nonneg (x : EReal) : 0 ≤ x * x := by
  induction x with
  | bot => simp
  | top => simp
  | coe r => exact_mod_cast mul_self_nonneg r

/-- The reciprocal norm of a row: of the mean square plus the guard `ε`. -/
def invNorm (ε : EReal) (x : Fin 64 → EReal) : EReal := Ideal.rsqrt (Ideal.div (∑ k, x k * x k) ((64 : ℝ) : EReal) + ε)

/-- The reciprocal square root of a positive real is a real. -/
theorem rsqrt_pos (r : ℝ) (h : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.2 h.le), if_neg h.ne']

/-- The entries of a row divided by its norm are real, whatever the row is: a row with an infinite entry has an infinite
    mean square, the reciprocal norm is 0, and every product with 0 is 0. -/
theorem unit_row (ε : ℝ) (hε : 0 < ε) (x : Fin 64 → EReal) : ∃ u : Fin 64 → ℝ, ∀ d, x d * invNorm (ε : EReal) x = ((u d : ℝ) : EReal) := by
  by_cases hx : ∀ k, ∃ r : ℝ, x k = (r : EReal)
  · choose r hr using hx
    have hs : ∑ k, x k * x k = ((∑ k, r k * r k : ℝ) : EReal) := by
      rw [coe_sum]
      exact Finset.sum_congr rfl fun k _ => by rw [hr k]; exact (EReal.coe_mul _ _).symm
    have hp : 0 < (∑ k, r k * r k) * (1 / 64) + ε := by
      have : 0 ≤ ∑ k, r k * r k := Finset.sum_nonneg fun k _ => mul_self_nonneg _
      positivity
    refine ⟨fun d => r d * (Real.sqrt ((∑ k, r k * r k) * (1 / 64) + ε))⁻¹, fun d => ?_⟩
    unfold invNorm
    rw [hs, Ideal.div_coe (by norm_num), ← EReal.coe_mul, ← EReal.coe_add, rsqrt_pos _ hp, hr d, ← EReal.coe_mul]
  · have hs : ∑ k, x k * x k = ⊤ := by
      push Not at hx
      obtain ⟨k, hk⟩ := hx
      have h1 : x k * x k = ⊤ := by
        generalize x k = y at hk
        induction y with
        | bot => rfl
        | top => rfl
        | coe r => exact absurd rfl (hk r)
      have h2 : x k * x k ≤ ∑ k, x k * x k := Finset.single_le_sum (fun i _ => self_nonneg (x i)) (Finset.mem_univ k)
      rw [h1] at h2
      exact top_le_iff.1 h2
    refine ⟨fun _ => 0, fun d => ?_⟩
    unfold invNorm
    rw [hs, Ideal.div_coe (by norm_num), EReal.top_mul_coe_of_pos (by norm_num), EReal.top_add_coe]
    show x d * 0 = _
    rw [mul_zero]
    rfl

end Cert.Attn

end
-- ==== Proof.Attn.Spec.lean ====
/-
The attention in the mathematics' own terms: rows, heads and lanes of the projected columns, the scores, and the keys
that a query sees.
-/
module

public import proofs.«01_k».proof.Proof.Attn.Words
public import proofs.«01_k».proof.Proof.Attn.UnitRow

@[expose] public section

set_option maxRecDepth 16384

noncomputable section

namespace Cert.Attn

open Idealize.ShloMosaic Idealize.ShloMosaic.TcCoe

/-- The projected columns, one row per token: queries, keys and values first, 1024 columns each. -/
abbrev Cols := (⟨2, ![32768, 9216]⟩ : Shape).Idx → EReal
/-- The table of relative position biases, per head. -/
abbrev BiasTable := (⟨2, ![16, 513]⟩ : Shape).Idx → EReal
/-- A scale per lane. -/
abbrev Scale := (⟨1, ![64]⟩ : Shape).Idx → EReal

/-- The row of token `s` of batch `b`. -/
def tok (b : Fin 16) (s : Fin 2048) : Fin 32768 := ⟨b.val * 2048 + s.val, by omega⟩

/-- Head `h`'s 64 lanes of row `R`: of the queries at `o = 0`, of the keys at `o = 1`, of the values at `o = 2`. -/
def headRow (x : Cols) (o : Fin 3) (R : Fin 32768) (h : Fin 16) (d : Fin 64) : EReal :=
  x (ix2 R ⟨1024 * o.val + (h.val * 64 + d.val), by omega⟩)

/-- Those lanes divided by their root mean square. -/
def unitRow (x : Cols) (o : Fin 3) (R : Fin 32768) (h : Fin 16) (d : Fin 64) : EReal :=
  headRow x o R h d * invNorm (eps : EReal) (headRow x o R h)

/-- The bias entry of a query position and a key position: their distance, clipped. -/
def biasAt (s k : ℕ) : Fin 513 := ⟨min (s + 256 - k) 512, by omega⟩

/-- The score of key `k` for query `s`. -/
def score (x : Cols) (rb : BiasTable) (gq gk : Scale) (b h : Fin 16) (s k : Fin 2048) : EReal :=
  (∑ d : Fin 64, unitRow x 0 (tok b s) h d * gq (ix1 d) * (unitRow x 1 (tok b k) h d * gk (ix1 d))) * ((1 / 8 : ℝ) : EReal)
    + rb (ix2 h (biasAt s.val k.val))

/-- The reciprocal of the natural logarithm of two. -/
def invLog : ℝ := 1 / Real.log 2

theorem invLog_pos : 0 < invLog := by unfold invLog; have := Real.log_pos (by norm_num : (1 : ℝ) < 2); positivity

/-- The score in units of the natural logarithm of two, with the scale taken into the query. -/
def score2 (x : Cols) (rb : BiasTable) (gq gk : Scale) (b h : Fin 16) (s k : Fin 2048) : EReal :=
  (∑ d : Fin 64, unitRow x 0 (tok b s) h d * (gq (ix1 d) * ((1 / 8 * invLog : ℝ) : EReal)) * (unitRow x 1 (tok b k) h d * gk (ix1 d)))
    + rb (ix2 h (biasAt s.val k.val)) * ((invLog : ℝ) : EReal)

/-- The keys that query `s` sees: those of its own chunk of 64 and of the eight before it. -/
def keys (s : Fin 2048) : Finset (Fin 2048) :=
  Finset.univ.filter fun k => k.val / 64 ≤ s.val / 64 ∧ s.val / 64 ≤ k.val / 64 + 8

theorem mem_keys (s k : Fin 2048) : k ∈ keys s ↔ k.val / 64 ≤ s.val / 64 ∧ s.val / 64 ≤ k.val / 64 + 8 := by
  unfold keys
  rw [Finset.mem_filter]
  exact ⟨fun h => h.2, fun h => ⟨Finset.mem_univ _, h⟩⟩

theorem keys_nonempty (s : Fin 2048) : (keys s).Nonempty := ⟨s, (mem_keys s s).2 ⟨le_rfl, by omega⟩⟩

/-- With finite parameters every score is a real, and the kernel's is the reference's over the logarithm of two. -/
theorem scores_real (x : Cols) (rb : BiasTable) (gq gk : Scale) (hrb : ∀ i, ∃ r : ℝ, rb i = (r : EReal))
    (hgq : ∀ i, ∃ r : ℝ, gq i = (r : EReal)) (hgk : ∀ i, ∃ r : ℝ, gk i = (r : EReal)) (b h : Fin 16) (s : Fin 2048) :
    ∃ σ : Fin 2048 → ℝ, ∀ k, score x rb gq gk b h s k = ((σ k : ℝ) : EReal) ∧ score2 x rb gq gk b h s k = ((invLog * σ k : ℝ) : EReal) := by
  choose β hβ using hrb
  choose q hq using hgq
  choose g hg using hgk
  obtain ⟨u, hu⟩ := unit_row eps eps_pos (headRow x 0 (tok b s) h)
  have hw := fun k => unit_row eps eps_pos (headRow x 1 (tok b k) h)
  choose w hw using hw
  refine ⟨fun k => (∑ d, u d * q (ix1 d) * (w k d * g (ix1 d))) * (1 / 8) + β (ix2 h (biasAt s.val k.val)), fun k => ⟨?_, ?_⟩⟩
  · have e : ∀ d : Fin 64, unitRow x 0 (tok b s) h d * gq (ix1 d) * (unitRow x 1 (tok b k) h d * gk (ix1 d)) = ((u d * q (ix1 d) * (w k d * g (ix1 d)) : ℝ) : EReal) := fun d => by
      unfold unitRow
      rw [hu d, hw k d, hq, hg]
      simp only [← EReal.coe_mul]
    unfold score
    rw [Finset.sum_congr rfl fun d _ => e d, ← coe_sum, hβ, ← EReal.coe_mul, ← EReal.coe_add]
  · have e : ∀ d : Fin 64, unitRow x 0 (tok b s) h d * (gq (ix1 d) * ((1 / 8 * invLog : ℝ) : EReal)) * (unitRow x 1 (tok b k) h d * gk (ix1 d)) = ((u d * (q (ix1 d) * (1 / 8 * invLog)) * (w k d * g (ix1 d)) : ℝ) : EReal) := fun d => by
      unfold unitRow
      rw [hu d, hw k d, hq, hg]
      simp only [← EReal.coe_mul]
    unfold score2
    rw [Finset.sum_congr rfl fun d _ => e d, ← coe_sum, hβ, ← EReal.coe_mul, ← EReal.coe_add]
    refine congrArg _ ?_
    rw [mul_add, Finset.sum_mul, Finset.mul_sum, mul_comm invLog (β _)]
    congr 1
    exact Finset.sum_congr rfl fun d _ => by ring

end Cert.Attn

end
-- ==== Proof.Attn.PayNorm.lean ====
/-
The kernel's normalisations of keys and of queries, read at an index.
-/
module

public import proofs.«01_k».proof.Proof.Attn.Blocks
public import proofs.«01_k».proof.Proof.Attn.Spec
public import Idealize.ShloMosaic.Lib.Pointwise

@[expose] public section

set_option maxRecDepth 16384

noncomputable section

namespace Cert.KernelIdeal.Attn

open Cert.KernelIdeal Cert.KernelIdeal.Gen Cert.Attn
open Idealize.ShloMosaic Idealize.ShloMosaic.TcCoe Idealize.ShloMosaic.Tactic

/-- Lane `d` of head half `e` among the 128 lanes of a pair. -/
def lane (e : Fin 2) (d : Fin 64) : Fin 128 := ⟨64 * e.val + d.val, by omega⟩

theorem lane_inj (e : Fin 2) : Function.Injective (lane e) := fun d d' h => Fin.ext (by
  have := congrArg Fin.val h
  simp only [lane] at this
  omega)

/-- A sum over the lanes of a pair of which only one half is nonzero. -/
theorem half_sum (e : Fin 2) (f : Fin 128 → EReal) (h : ∀ l : Fin 128, l.val / 64 ≠ e.val → f l = 0) : ∑ l, f l = ∑ d, f (lane e d) := by
  refine (Finset.sum_of_injOn (lane e) (fun _ _ _ _ h => lane_inj e h) (fun _ _ => Finset.mem_coe.2 (Finset.mem_univ _)) (fun l _ hl => h l fun he => hl ?_) (fun _ _ => rfl)).symm
  exact ⟨⟨l.val % 64, Nat.mod_lt _ (by decide)⟩, Finset.mem_coe.2 (Finset.mem_univ _), Fin.ext (by simp only [lane]; omega)⟩

theorem lane_div (e : Fin 2) (d : Fin 64) : (lane e d).val / 64 = e.val := by simp only [lane]; omega
theorem lane_mod (e : Fin 2) (d : Fin 64) : (lane e d).val % 64 = d.val := by simp only [lane]; omega

/-- The sum of squares by the lane-summing matrix is the sum over the lanes of the same head. -/
theorem square_sum (f : Fin 128 → EReal) (o : Vec Ideal S128x128 .bf16) (ho : ∀ r l, o (ix2 r l) = if r.val / 64 = l.val / 64 then (1 : EReal) else 0)
    (e : Fin 2) (d : Fin 64) : ∑ x, f x * f x * o (ix2 x (lane e d)) = ∑ k, f (lane e k) * f (lane e k) := by
  rw [half_sum e]
  · refine Finset.sum_congr rfl fun k _ => ?_
    rw [ho, lane_div, lane_div, if_pos rfl]
    exact mul_one _
  · intro l hl
    rw [ho, lane_div, if_neg hl]
    exact mul_zero _

theorem mean_eq (a : EReal) : a * ((1 / 64 : ℝ) : EReal) = Ideal.div a ((64 : ℝ) : EReal) := (Ideal.div_coe (by norm_num) a).symm

/-- A tile of keys normalised: each row's head lanes divided by their root mean square, and scaled. -/
theorem pay2_apply (x : Vec Ideal S128x128 .bf16) (o : Vec Ideal S128x128 .bf16) (g : Vec Ideal S1x128 .f32)
    (ho : ∀ r l, o (ix2 r l) = if r.val / 64 = l.val / 64 then (1 : EReal) else 0) (r : Fin 128) (e : Fin 2) (d : Fin 64) (u : Fin 64 → EReal)
    (hu : ∀ d, x (ix2 r (lane e d)) = u d) :
    k0_pay2 (F := Ideal) x o g (ix2 r (lane e d)) = u d * invNorm (eps : EReal) u * g (ix2 (0 : Fin 1) (lane e d)) := by
  pointwise [k0_pay2]
  rw [square_sum (fun l => x (ix2 r l)) o ho e d, bits_64th, bits_eps, mean_eq]
  simp only [hu]
  rfl

/-- The first head's half of the queries, the other half zero. -/
theorem pay21_apply (x : Vec Ideal S256x128 .bf16) (o : Vec Ideal S128x128 .bf16) (g : Vec Ideal S1x128 .f32)
    (ho : ∀ r l, o (ix2 r l) = if r.val / 64 = l.val / 64 then (1 : EReal) else 0) (r : Fin 256) (d : Fin 64) (u : Fin 64 → EReal)
    (hu : ∀ d, x (ix2 r (lane 0 d)) = u d) :
    k0_pay21 (F := Ideal) x o g (ix3 (0 : Fin 1) r (lane 0 d)) = u d * invNorm (eps : EReal) u * g (ix2 (0 : Fin 1) (lane 0 d)) := by
  pointwise [k0_pay21, k0_pay19, k0_pay20]
  rw [lane_word, select_ite, if_pos (by simp only [lane]; omega), square_sum (fun l => x (ix2 r l)) o ho 0 d, bits_64th, bits_eps, mean_eq]
  simp only [hu]
  rfl

theorem pay21_off (x : Vec Ideal S256x128 .bf16) (o : Vec Ideal S128x128 .bf16) (g : Vec Ideal S1x128 .f32) (r : Fin 256) (l : Fin 128) (hl : l.val / 64 ≠ 0) :
    k0_pay21 (F := Ideal) x o g (ix3 (0 : Fin 1) r l) = 0 := by
  pointwise [k0_pay21, k0_pay19, k0_pay20]
  rw [lane_word, select_ite, if_neg (by omega)]

/-- The second head's half of the queries, the other half zero. -/
theorem pay22_apply (x : Vec Ideal S256x128 .bf16) (o : Vec Ideal S128x128 .bf16) (g : Vec Ideal S1x128 .f32)
    (ho : ∀ r l, o (ix2 r l) = if r.val / 64 = l.val / 64 then (1 : EReal) else 0) (r : Fin 256) (d : Fin 64) (u : Fin 64 → EReal)
    (hu : ∀ d, x (ix2 r (lane 1 d)) = u d) :
    k0_pay22 (F := Ideal) x o g (ix3 (0 : Fin 1) r (lane 1 d)) = u d * invNorm (eps : EReal) u * g (ix2 (0 : Fin 1) (lane 1 d)) := by
  pointwise [k0_pay22, k0_pay19, k0_pay20]
  rw [lane_word, select_ite, if_neg (by simp only [lane]; omega), square_sum (fun l => x (ix2 r l)) o ho 1 d, bits_64th, bits_eps, mean_eq]
  simp only [hu]
  rfl

theorem pay22_off (x : Vec Ideal S256x128 .bf16) (o : Vec Ideal S128x128 .bf16) (g : Vec Ideal S1x128 .f32) (r : Fin 256) (l : Fin 128) (hl : l.val / 64 ≠ 1) :
    k0_pay22 (F := Ideal) x o g (ix3 (0 : Fin 1) r l) = 0 := by
  pointwise [k0_pay22, k0_pay19, k0_pay20]
  rw [lane_word, select_ite, if_pos (by omega)]

end Cert.KernelIdeal.Attn

end
-- ==== Proof.Attn.HostRows.lean ====
/-
The scales and the lane-summing matrix that the host prepares for the kernel.
-/
module

public import proofs.«01_k».proof.Proof.Attn.Input
public import proofs.«01_k».proof.Proof.Attn.Spec
public import Idealize.ShloMosaic.Lib.Claim
public import Idealize.ShloMosaic.Lib.Pointwise

@[expose] public section

set_option maxRecDepth 16384

noncomputable section

namespace Cert.KernelIdeal.Attn

open Cert.KernelIdeal Cert.KernelIdeal.Gen Cert.Attn
open Idealize.ShloMosaic Idealize.ShloMosaic.TcCoe Idealize.ShloMosaic.Tactic

theorem inv_log : Ideal.div 1 (Ideal.log (Ideal.ofBits .f32 1073741824#32)) = ((invLog : ℝ) : EReal) := by
  rw [bits_two, Ideal.log_coe, if_neg (by norm_num), Ideal.div_coe (Real.log_pos (by norm_num : (1 : ℝ) < 2)).ne', one_mul]
  rfl

variable (m : (ℓ : Loc nD τ sig) → Buf (Elt Ideal) ℓ) (c : Dev nD)

/-- The bias table, -/
abbrev rbOf : BiasTable := m (c, Proc.tc.devRef main_arg1)
/-- the query scale -/
abbrev gqOf : Scale := m (c, Proc.tc.devRef main_arg2)
/-- and the key scale. -/
abbrev gkOf : Scale := m (c, Proc.tc.devRef main_arg3)

/-- The query scale of the two heads of a pair, with the scores' own scale. -/
theorem query_scale (l : Fin 128) : V m c main_v62 (ix2 (0 : Fin 1) l) = gqOf m c (ix1 ⟨l.val % 64, Nat.mod_lt _ (by decide)⟩) * ((1 / 8 * invLog : ℝ) : EReal) := by
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  pointwise
  rw [inv_log, bits_8th, ← EReal.coe_mul]

/-- The key scale of the two heads of a pair. -/
theorem key_scale (l : Fin 128) : V m c main_v66 (ix2 (0 : Fin 1) l) = gkOf m c (ix1 ⟨l.val % 64, Nat.mod_lt _ (by decide)⟩) := by
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  pointwise

/-- The matrix that sums a head's lanes: one where two lanes are of one head. -/
theorem ones_apply (r l : Fin 128) : V m c main_v74 (ix2 r l) = if r.val / 64 = l.val / 64 then (1 : EReal) else 0 := by
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  simp only [StableHlo.TRef.ofBuf, StableHlo.TRef.toBuf, cast_eq]
  pointwise
  change FloatOps.uitofp (F := Ideal) .bf16 (IntOp.cmpi .eq (floorDiv (BitVec.ofNat 32 r.val)) (floorDiv (BitVec.ofNat 32 l.val))) = _
  rw [floorDiv_lt _ (by omega), floorDiv_lt _ (by omega)]
  refine (eq_word ⟨r.val / 64, by omega⟩ ⟨l.val / 64, by omega⟩).trans ?_
  simp only [Fin.mk.injEq]

end Cert.KernelIdeal.Attn

end
-- ==== Proof.Attn.RowRead.lean ====
/-
The rows that the kernel's grid points work on, in terms of the arguments.
-/
module

public import proofs.«01_k».proof.Proof.Attn.Input
public import proofs.«01_k».proof.Proof.Attn.PayNorm
public import proofs.«01_k».proof.Proof.Attn.HostRows

@[expose] public section

set_option maxRecDepth 16384

noncomputable section

namespace Cert.KernelIdeal.Attn

open Cert.KernelIdeal Cert.KernelIdeal.Gen Cert.Attn
open Idealize.ShloMosaic Idealize.ShloMosaic.TcCoe Idealize.ShloMosaic.Tactic

variable (m : (ℓ : Loc nD τ sig) → Buf (Elt Ideal) ℓ) (c : Dev nD)

/-- The projected columns. -/
abbrev colsOf : Cols := m ((c : Thread nD τ).loc main_arg0)

theorem cols_entry (R : Fin 32768) (C : Fin 9216) : V m c main_arg0 (ix2 R C) = colsOf m c (ix2 R C) := by rw [V_main_arg0]

/-- Head `e` of pair `p`. -/
def hd (p : Fin 8) (e : Fin 2) : Fin 16 := ⟨2 * p.val + e.val, by omega⟩

/-- The column of lane `d` of that head. -/
def col (p : Fin 8) (e : Fin 2) (d : Fin 64) : Fin 1024 := ⟨128 * p.val + (64 * e.val + d.val), by omega⟩

theorem col_div (p : Fin 8) (e : Fin 2) (d : Fin 64) (h) : (⟨(col p e d).val / 128, h⟩ : Fin 8) = p :=
  Fin.ext (by show (128 * p.val + (64 * e.val + d.val)) / 128 = p.val; omega)

theorem col_mod (p : Fin 8) (e : Fin 2) (d : Fin 64) (h) : (⟨(col p e d).val % 128, h⟩ : Fin 128) = lane e d :=
  Fin.ext (by show (128 * p.val + (64 * e.val + d.val)) % 128 = 64 * e.val + d.val; omega)

theorem ones_eq (t : Fin cfg0.N) (r l : Fin 128) : onesBlk m c t (ix2 r l) = if r.val / 64 = l.val / 64 then (1 : EReal) else 0 := by
  rw [onesBlk_eq]; exact ones_apply m c r l

theorem query_scale_eq (t : Fin cfg0.N) (e : Fin 2) (d : Fin 64) : gqBlk m c t (ix2 (0 : Fin 1) (lane e d)) = gqOf m c (ix1 d) * ((1 / 8 * invLog : ℝ) : EReal) := by
  rw [gqBlk_eq]
  refine (query_scale m c (lane e d)).trans ?_
  exact congrArg (fun z => gqOf m c (ix1 z) * ((1 / 8 * invLog : ℝ) : EReal)) (Fin.ext (lane_mod e d))

theorem key_scale_eq (t : Fin cfg0.N) (e : Fin 2) (d : Fin 64) : gkBlk m c t (ix2 (0 : Fin 1) (lane e d)) = gkOf m c (ix1 d) := by
  rw [gkBlk_eq]
  refine (key_scale m c (lane e d)).trans ?_
  exact congrArg (fun z => gkOf m c (ix1 z)) (Fin.ext (lane_mod e d))

/-- A row of the key block, -/
theorem key_row (t : Fin cfg0.N) (b : Fin 16) (hb : t.val / 8 = b.val) (r : Fin 2048) (p : Fin 8) (e : Fin 2) (d : Fin 64) :
    kBlk m c t (ix2 r (col p e d)) = headRow (colsOf m c) 1 (tok b r) (hd p e) d := by
  rw [kBlk_apply]
  refine (cols_entry m c _ _).trans ?_
  exact congrArg₂ (fun u v => colsOf m c (ix2 u v))
    (Fin.ext (by show 2048 * (t.val / 8) + r.val = b.val * 2048 + r.val; omega))
    (Fin.ext (by show 1024 + (128 * p.val + (64 * e.val + d.val)) = 1024 * 1 + ((2 * p.val + e.val) * 64 + d.val); omega))

/-- of the value block -/
theorem value_row (t : Fin cfg0.N) (b : Fin 16) (hb : t.val / 8 = b.val) (r : Fin 2048) (p : Fin 8) (e : Fin 2) (d : Fin 64) :
    vBlk m c t (ix2 r (col p e d)) = headRow (colsOf m c) 2 (tok b r) (hd p e) d := by
  rw [vBlk_apply]
  refine (cols_entry m c _ _).trans ?_
  exact congrArg₂ (fun u v => colsOf m c (ix2 u v))
    (Fin.ext (by show 2048 * (t.val / 8) + r.val = b.val * 2048 + r.val; omega))
    (Fin.ext (by show 2048 + (128 * p.val + (64 * e.val + d.val)) = 1024 * 2 + ((2 * p.val + e.val) * 64 + d.val); omega))

/-- and of the query block. -/
theorem query_block_row (t : Fin cfg0.N) (b : Fin 16) (s : Fin 2048) (r : Fin 256) (hs : 256 * t.val + r.val = b.val * 2048 + s.val) (p : Fin 8) (e : Fin 2) (d : Fin 64) :
    qBlk m c t (ix2 r (col p e d)) = headRow (colsOf m c) 0 (tok b s) (hd p e) d := by
  rw [qBlk_apply]
  refine (cols_entry m c _ _).trans ?_
  exact congrArg₂ (fun u v => colsOf m c (ix2 u v))
    (Fin.ext (by show 256 * t.val + r.val = b.val * 2048 + s.val; omega))
    (Fin.ext (by show 128 * p.val + (64 * e.val + d.val) = 1024 * 0 + ((2 * p.val + e.val) * 64 + d.val); omega))

theorem keyNorm_apply (x1 : Vec Ideal S2048x1024 .bf16) (x5 : Vec Ideal S1x128 .f32) (x6 : Vec Ideal S128x128 .bf16) (r : Fin 2048) (p : Fin 8) (e : Fin 2) (d : Fin 64) :
    keyNorm x1 x5 x6 (ix2 r (col p e d)) = k0_pay2 (keyTile x1 ⟨r.val / 128, by omega⟩ p) x6 x5 (ix2 (⟨r.val % 128, by omega⟩ : Fin 128) (lane e d)) := by
  unfold keyNorm
  exact congrArg₂ (fun u v => k0_pay2 (keyTile x1 ⟨r.val / 128, by omega⟩ u) x6 x5 (ix2 (⟨r.val % 128, by omega⟩ : Fin 128) v))
    (col_div p e d (by show (128 * p.val + (64 * e.val + d.val)) / 128 < 8; omega)) (col_mod p e d (Nat.mod_lt _ (by decide)))

/-- The normalised keys are the reference's. -/
theorem keys_apply (t : Fin cfg0.N) (b : Fin 16) (hb : t.val / 8 = b.val) (r : Fin 2048) (p : Fin 8) (e : Fin 2) (d : Fin 64) :
    keysAt m c t (ix2 r (col p e d)) = unitRow (colsOf m c) 1 (tok b r) (hd p e) d * gkOf m c (ix1 d) := by
  unfold keysAt
  rw [keyNorm_apply, pay2_apply _ _ _ (ones_eq m c t) _ e d (headRow (colsOf m c) 1 (tok b r) (hd p e)) (fun d' => ?_), key_scale_eq]
  · rfl
  · unfold keyTile
    rw [← key_row m c t b hb r p e d']
    exact congrArg₂ (fun u v => kBlk m c t (ix2 u v)) (Fin.ext (by show 128 * (r.val / 128) + r.val % 128 = r.val; omega)) rfl

theorem qTile_row (t : Fin cfg0.N) (b : Fin 16) (s : Fin 2048) (r : Fin 256) (hs : 256 * t.val + r.val = b.val * 2048 + s.val) (p : Fin 8) (e : Fin 2) (d : Fin 64) :
    qTile (qBlk m c t) p (ix2 r (lane e d)) = headRow (colsOf m c) 0 (tok b s) (hd p e) d := by
  rw [← query_block_row m c t b s r hs p e d]
  rfl

/-- The row of the stacked queries of head `e`. -/
def stackRow (e : Fin 2) (r : Fin 256) : Fin 512 := ⟨256 * e.val + r.val, by omega⟩

theorem qPair_first (x0 : Vec Ideal S256x1024 .bf16) (x4 : Vec Ideal S1x128 .f32) (x6 : Vec Ideal S128x128 .bf16) (p : Fin 8) (r : Fin 256) (l : Fin 128) :
    qPair x0 x4 x6 p (ix3 (0 : Fin 1) (stackRow 0 r) l) = k0_pay21 (qTile x0 p) x6 x4 (ix3 (0 : Fin 1) r l) := by
  unfold qPair qStack
  have h : (stackRow 0 r).val < 256 := by show 256 * 0 + r.val < 256; omega
  refine (dif_pos h).trans ?_
  exact congrArg (fun z => k0_pay21 (qTile x0 p) x6 x4 (ix3 (0 : Fin 1) z l)) (Fin.ext (by show 256 * 0 + r.val = r.val; omega))

theorem qPair_second (x0 : Vec Ideal S256x1024 .bf16) (x4 : Vec Ideal S1x128 .f32) (x6 : Vec Ideal S128x128 .bf16) (p : Fin 8) (r : Fin 256) (l : Fin 128) :
    qPair x0 x4 x6 p (ix3 (0 : Fin 1) (stackRow 1 r) l) = k0_pay22 (qTile x0 p) x6 x4 (ix3 (0 : Fin 1) r l) := by
  unfold qPair qStack
  have h : ¬(stackRow 1 r).val < 256 := by show ¬(256 * 1 + r.val < 256); omega
  refine (dif_neg h).trans ?_
  exact congrArg (fun z => k0_pay22 (qTile x0 p) x6 x4 (ix3 (0 : Fin 1) z l)) (Fin.ext (by show 256 * 1 + r.val - 256 = r.val; omega))

theorem two_cases : ∀ y : Fin 2, y = 0 ∨ y = 1 := by decide

/-- The stacked queries: head `e`'s row holds its own normalised lanes, -/
theorem query_row (t : Fin cfg0.N) (b : Fin 16) (s : Fin 2048) (r : Fin 256) (hs : 256 * t.val + r.val = b.val * 2048 + s.val) (p : Fin 8) (e : Fin 2) (d : Fin 64) :
    qPair (qBlk m c t) (gqBlk m c t) (onesBlk m c t) p (ix3 (0 : Fin 1) (stackRow e r) (lane e d))
      = unitRow (colsOf m c) 0 (tok b s) (hd p e) d * (gqOf m c (ix1 d) * ((1 / 8 * invLog : ℝ) : EReal)) := by
  rcases two_cases e with rfl | rfl
  · rw [qPair_first, pay21_apply _ _ _ (ones_eq m c t) r d _ (qTile_row m c t b s r hs p 0), query_scale_eq]
    rfl
  · rw [qPair_second, pay22_apply _ _ _ (ones_eq m c t) r d _ (qTile_row m c t b s r hs p 1), query_scale_eq]
    rfl

/-- and zero on the lanes of the other head. -/
theorem query_off (t : Fin cfg0.N) (r : Fin 256) (p : Fin 8) (e : Fin 2) (l : Fin 128) (hl : l.val / 64 ≠ e.val) :
    qPair (qBlk m c t) (gqBlk m c t) (onesBlk m c t) p (ix3 (0 : Fin 1) (stackRow e r) l) = 0 := by
  rcases two_cases e with rfl | rfl
  · rw [qPair_first, pay21_off _ _ _ r l hl]
  · rw [qPair_second, pay22_off _ _ _ r l hl]

end Cert.KernelIdeal.Attn

end
-- ==== Proof.Attn.HostBias.lean ====
/-
The tiles of relative biases that the host prepares for the kernel.
-/
module

public import proofs.«01_k».proof.Proof.Attn.HostRows

@[expose] public section

set_option maxRecDepth 16384

noncomputable section

namespace Cert.KernelIdeal.Attn

open Cert.KernelIdeal Cert.KernelIdeal.Gen Cert.Attn
open Idealize.ShloMosaic Idealize.ShloMosaic.TcCoe Idealize.ShloMosaic.Tactic

/-- A gather of whole columns of the bias table. -/
theorem gather_cols (x : S16x513.Idx → EReal) (idx : IVec S3x1024x1 32) (h : Fin 16) (i : Fin 3) (j : Fin 1024) :
    Host.gather gather_S16x513_S3x1024x1_S16x3x1024_0_1_n_n_1_2_161 x idx (ix3 h i j)
      = x (ix2 h ⟨min (idx (ix3 i j (0 : Fin 1))).toInt.toNat 512, by omega⟩) := by
  unfold Host.gather
  refine congrArg x ?_
  funext a
  refine Fin.ext ?_
  match a with
  | ⟨0, _⟩ =>
    show GatherDims.start _ _ idx 0 + GatherDims.batchCoord _ _ 0 + GatherDims.offCoord _ _ 0 = h.val
    rw [GatherDims.batchCoord_eq_zero _ _ _ List.not_mem_nil]
    unfold GatherDims.start
    rw [dif_neg (by decide)]
    unfold GatherDims.offCoord
    rw [dif_pos (by decide)]
    simp only [Nat.zero_add, Nat.add_zero]
    rfl
  | ⟨1, _⟩ =>
    show GatherDims.start _ _ idx 1 + GatherDims.batchCoord _ _ 1 + GatherDims.offCoord _ _ 1 = _
    rw [GatherDims.batchCoord_eq_zero _ _ _ List.not_mem_nil,
      GatherDims.offCoord_eq_zero _ _ _ (by decide)]
    simp only [Nat.add_zero]
    unfold GatherDims.start
    rw [dif_pos (by decide)]
    have hs : GatherDims.siIdx gather_S16x513_S3x1024x1_S16x3x1024_0_1_n_n_1_2_161 (ix3 h i j) ⟨0, by decide⟩ = ix3 i j (0 : Fin 1) := by
      funext b; refine Fin.ext ?_
      match b with
      | ⟨0, _⟩ => rfl
      | ⟨1, _⟩ => rfl
      | ⟨2, _⟩ => rfl
    exact congrArg (fun z => min (idx z).toInt.toNat 512) hs

/-- The host's index into the bias table, for query block kind `a` and diagonal `j`. -/
def startIdx : IVec S3x1024x1 32 :=
  (broadcastInDim S3x1024x1 ![0, 1] bcast_S3x1024_S3x1024x1_0_1
            (select
              (cmpi CmpIPredicate.slt
                (addi
                  (minsi (broadcastInDim S3x1024 ![] bcast_S_S3x1024 (constantI S_ 32 256#32))
                    (maxsi (broadcastInDim S3x1024 ![] bcast_S_S3x1024 (constantI S_ 32 4294967040#32))
                      (subi
                        (broadcastInDim S3x1024 ![0, 1] bcast_S3x1_S3x1024_0_1
                          (broadcastInDim S3x1 ![0] bcast_S3_S3x1_0
                            (muli (iotaInDim S3 32 0) (broadcastInDim S3 ![] bcast_S_S3 (constantI S_ 32 256#32)))))
                        (broadcastInDim S3x1024 ![0, 1] bcast_S1x1024_S3x1024_0_1
                          (broadcastInDim S1x1024 ![1] bcast_S1024_S1x1024_1
                            (concatenate S1024 0
                              [⟨S768, iotaInDim S768 32 0⟩,
                                ⟨S256,
                                  addi (broadcastInDim S256 ![] bcast_S_S256 (constantI S_ 32 4294967040#32))
                                    (iotaInDim S256 32 0)⟩]
                              concatenates_S768_S256_S1024_d0))))))
                  (broadcastInDim S3x1024 ![] bcast_S_S3x1024 (constantI S_ 32 256#32)))
                (broadcastInDim S3x1024 ![] bcast_S_S3x1024 (constantI S_ 32 0#32)))
              (addi
                (addi
                  (minsi (broadcastInDim S3x1024 ![] bcast_S_S3x1024 (constantI S_ 32 256#32))
                    (maxsi (broadcastInDim S3x1024 ![] bcast_S_S3x1024 (constantI S_ 32 4294967040#32))
                      (subi
                        (broadcastInDim S3x1024 ![0, 1] bcast_S3x1_S3x1024_0_1
                          (broadcastInDim S3x1 ![0] bcast_S3_S3x1_0
                            (muli (iotaInDim S3 32 0) (broadcastInDim S3 ![] bcast_S_S3 (constantI S_ 32 256#32)))))
                        (broadcastInDim S3x1024 ![0, 1] bcast_S1x1024_S3x1024_0_1
                          (broadcastInDim S1x1024 ![1] bcast_S1024_S1x1024_1
                            (concatenate S1024 0
                              [⟨S768, iotaInDim S768 32 0⟩,
                                ⟨S256,
                                  addi (broadcastInDim S256 ![] bcast_S_S256 (constantI S_ 32 4294967040#32))
                                    (iotaInDim S256 32 0)⟩]
                              concatenates_S768_S256_S1024_d0))))))
                  (broadcastInDim S3x1024 ![] bcast_S_S3x1024 (constantI S_ 32 256#32)))
                (broadcastInDim S3x1024 ![] bcast_S_S3x1024 (constantI S_ 32 513#32)))
              (addi
                (minsi (broadcastInDim S3x1024 ![] bcast_S_S3x1024 (constantI S_ 32 256#32))
                  (maxsi (broadcastInDim S3x1024 ![] bcast_S_S3x1024 (constantI S_ 32 4294967040#32))
                    (subi
                      (broadcastInDim S3x1024 ![0, 1] bcast_S3x1_S3x1024_0_1
                        (broadcastInDim S3x1 ![0] bcast_S3_S3x1_0
                          (muli (iotaInDim S3 32 0) (broadcastInDim S3 ![] bcast_S_S3 (constantI S_ 32 256#32)))))
                      (broadcastInDim S3x1024 ![0, 1] bcast_S1x1024_S3x1024_0_1
                        (broadcastInDim S1x1024 ![1] bcast_S1024_S1x1024_1
                          (concatenate S1024 0
                            [⟨S768, iotaInDim S768 32 0⟩,
                              ⟨S256,
                                addi (broadcastInDim S256 ![] bcast_S_S256 (constantI S_ 32 4294967040#32))
                                  (iotaInDim S256 32 0)⟩]
                            concatenates_S768_S256_S1024_d0))))))
                (broadcastInDim S3x1024 ![] bcast_S_S3x1024 (constantI S_ 32 256#32)))))

theorem start_word (a : Fin 3) (j : Fin 1024) : startIdx (ix3 a j (0 : Fin 1)) =
    BitVec.ofNat 32 (if j.val < 768 then min (256 * a.val + 256 - j.val) 512 else min (256 * a.val + 1280 - j.val) 512) := by
  unfold startIdx
  pointwise
  revert a j
  decide +kernel

/-- The bias entry that a tile's row and column read. -/
theorem start_col (a : Fin 3) (q : Fin 256) (k : Fin 768) (w : BitVec 32)
    (hw : w = BitVec.ofNat 32 (if (q.val * 1023 + k.val) % 1024 < 768 then min (256 * a.val + 256 - (q.val * 1023 + k.val) % 1024) 512 else min (256 * a.val + 1280 - (q.val * 1023 + k.val) % 1024) 512)) :
    min w.toInt.toNat 512 = (biasAt (256 * a.val + q.val) k.val).val := by
  rw [hw, toInt_small _ (by split <;> omega)]
  show _ = min (256 * a.val + q.val + 256 - k.val) 512
  by_cases h : q.val ≤ k.val
  · rw [show q.val * 1023 + k.val = (k.val - q.val) + 1024 * q.val by omega, Nat.add_mul_mod_self_left, Nat.mod_eq_of_lt (by omega), if_pos (by omega)]
    omega
  · rw [show q.val * 1023 + k.val = (1024 + k.val - q.val) + 1024 * (q.val - 1) by omega, Nat.add_mul_mod_self_left, Nat.mod_eq_of_lt (by omega), if_neg (by omega)]
    omega

variable (m : (ℓ : Loc nD τ sig) → Buf (Elt Ideal) ℓ) (c : Dev nD)

/-- The bias tiles: where the row's query sees the column's key, its bias in units of the logarithm of two, elsewhere `⊥`. -/
theorem bias_tile (a : Fin 3) (h : Fin 16) (q : Fin 256) (k : Fin 768) : V m c main_v53 (ix4 a h q k) =
    if k.val / 64 ≤ (256 * a.val + q.val) / 64 ∧ (256 * a.val + q.val) / 64 ≤ k.val / 64 + 8
    then rbOf m c (ix2 h (biasAt (256 * a.val + q.val) k.val)) * ((invLog : ℝ) : EReal) else ⊥ := by
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  simp only [StableHlo.TRef.ofBuf, StableHlo.TRef.toBuf, cast_eq]
  pointwise
  change Scalar.select
    (IntOp.andi
      (IntOp.cmpi .sge (IntOp.subi (floorDiv (IntOp.addi (IntOp.muli (BitVec.ofNat 32 a.val) 256#32) (BitVec.ofNat 32 q.val))) (floorDiv (BitVec.ofNat 32 k.val))) 0#32)
      (IntOp.cmpi .sle (IntOp.subi (floorDiv (IntOp.addi (IntOp.muli (BitVec.ofNat 32 a.val) 256#32) (BitVec.ofNat 32 q.val))) (floorDiv (BitVec.ofNat 32 k.val))) 8#32))
    (@HMul.hMul EReal EReal EReal instHMul (Host.gather gather_S16x513_S3x1024x1_S16x3x1024_0_1_n_n_1_2_161 (rbOf m c) startIdx (ix3 h a ⟨(q.val * 1023 + k.val) % 1024, Nat.mod_lt _ (by decide)⟩))
      (Ideal.div 1 (Ideal.log (Ideal.ofBits .f32 1073741824#32)))) (Ideal.ofBits .f32 4286578688#32) = _
  rw [gather_cols, inv_log, bits_bot, addmul_word, floorDiv_lt _ (by omega), floorDiv_lt _ (by omega)]
  have hmask := mask_word ⟨(256 * a.val + q.val) / 64, by omega⟩ ⟨k.val / 64, by omega⟩
  rw [show IntOp.andi (IntOp.cmpi .sge (IntOp.subi (BitVec.ofNat 32 ((256 * a.val + q.val) / 64)) (BitVec.ofNat 32 (k.val / 64))) 0#32)
    (IntOp.cmpi .sle (IntOp.subi (BitVec.ofNat 32 ((256 * a.val + q.val) / 64)) (BitVec.ofNat 32 (k.val / 64))) 8#32) = _ from hmask, select_ite]
  refine if_congr Iff.rfl (congrArg (· * ((invLog : ℝ) : EReal)) ?_) rfl
  exact congrArg (fun z => rbOf m c (ix2 h z))
    (Fin.ext (start_col a q k _ (start_word a ⟨(q.val * 1023 + k.val) % 1024, Nat.mod_lt _ (by decide)⟩)))

end Cert.KernelIdeal.Attn

end
-- ==== Proof.Attn.PayAttn.lean ====
/-
The kernel's attention over a band, read at an index.
-/
module

public import proofs.«01_k».proof.Proof.Attn.PayNorm

@[expose] public section

set_option maxRecDepth 16384

noncomputable section

namespace Cert.KernelIdeal.Attn

open Cert.KernelIdeal Cert.KernelIdeal.Gen Cert.Attn
open Idealize.ShloMosaic Idealize.ShloMosaic.TcCoe Idealize.ShloMosaic.Tactic

/-- The scores that a row of stacked queries gets against the 768 rows of a band. -/
def bandScore (k : Vec Ideal S768x128 .bf16) (q : Vec Ideal S1x512x128 .bf16) (b : Vec Ideal S1x2x256x768 .f32) (e : Fin 2) (r : Fin 256) (x : Fin 768) : EReal :=
  (∑ l, q (ix3 (0 : Fin 1) ⟨256 * e.val + r.val, by omega⟩ l) * k (ix2 x l)) + b (ix4 (0 : Fin 1) e r x)

/-- The quotient of the weighted sum of the values by the sum of the weights. -/
def bandQuot (k v : Vec Ideal S768x128 .bf16) (q : Vec Ideal S1x512x128 .bf16) (b : Vec Ideal S1x2x256x768 .f32) (e : Fin 2) (r : Fin 256) (l : Fin 128) : EReal :=
  Ideal.div
    (∑ x, Ideal.exp2 (bandScore k q b e r x - Finset.fold max (⊥ : EReal) (bandScore k q b e r) Finset.univ) * v (ix2 x l))
    (∑ x, Ideal.exp2 (bandScore k q b e r x - Finset.fold max (⊥ : EReal) (bandScore k q b e r) Finset.univ))

/-- Each lane takes the first or the second head's quotient, as the lane's own word selects. -/
theorem pay1_select (s : IVec S256x128 1) (k v : Vec Ideal S768x128 .bf16) (q : Vec Ideal S1x512x128 .bf16) (b : Vec Ideal S1x2x256x768 .f32) (r : Fin 256) (l : Fin 128) :
    k0_pay1 (F := Ideal) s k v q b (ix2 r l) = Scalar.select (s (ix2 r l)) (bandQuot k v q b 0 r l) (bandQuot k v q b 1 r l) := by
  have h0 : (⟨r.val / 256, by omega⟩ : Fin 2) = 0 := Fin.ext (by show r.val / 256 = 0; omega)
  have h0' : (⟨r.val % 256, by omega⟩ : Fin 256) = r := Fin.ext (by show r.val % 256 = r.val; omega)
  have h1 : (⟨(256 + r.val) / 256, by omega⟩ : Fin 2) = 1 := Fin.ext (by show (256 + r.val) / 256 = 1; omega)
  have h1' : (⟨(256 + r.val) % 256, by omega⟩ : Fin 256) = r := Fin.ext (by show (256 + r.val) % 256 = r.val; omega)
  have z0 : (⟨256 * (0 : Fin 2).val + r.val, by omega⟩ : Fin 512) = ⟨r.val, by omega⟩ := Fin.ext (by show 256 * 0 + r.val = r.val; omega)
  have z1 : (⟨256 * (1 : Fin 2).val + r.val, by omega⟩ : Fin 512) = ⟨256 + r.val, by omega⟩ := Fin.ext (by show 256 * 1 + r.val = 256 + r.val; omega)
  pointwise [k0_pay1]
  simp only [bits_bot]
  simp only [h0, h0', h1, h1']
  unfold bandQuot bandScore
  simp only [z0, z1]
  rfl

theorem side_word (r : Fin 256) (l : Fin 128) : k0_pay19 (ix2 r l) = if l.val < 64 then 1#1 else 0#1 := by
  pointwise [k0_pay19]
  exact lane_word l

/-- Each lane takes its own head's quotient. -/
theorem pay1_apply (k v : Vec Ideal S768x128 .bf16) (q : Vec Ideal S1x512x128 .bf16) (b : Vec Ideal S1x2x256x768 .f32) (e : Fin 2) (r : Fin 256) (d : Fin 64) :
    k0_pay1 (F := Ideal) k0_pay19 k v q b (ix2 r (lane e d)) = bandQuot k v q b e r (lane e d) := by
  have e2 : ∀ y : Fin 2, y = 0 ∨ y = 1 := by decide
  rw [pay1_select, side_word, select_ite]
  rcases e2 e with rfl | rfl
  · rw [if_pos (by simp only [lane]; omega)]
  · rw [if_neg (by simp only [lane]; omega)]

end Cert.KernelIdeal.Attn

end
-- ==== Proof.Attn.BandRead.lean ====
/-
The bands of keys and values of a grid point, and the scores of its rows.
-/
module

public import proofs.«01_k».proof.Proof.Attn.RowRead
public import proofs.«01_k».proof.Proof.Attn.HostBias
public import proofs.«01_k».proof.Proof.Attn.PayAttn

@[expose] public section

set_option maxRecDepth 16384

noncomputable section

namespace Cert.KernelIdeal.Attn

open Cert.KernelIdeal Cert.KernelIdeal.Gen Cert.Attn
open Idealize.ShloMosaic Idealize.ShloMosaic.TcCoe Idealize.ShloMosaic.Tactic

variable (m : (ℓ : Loc nD τ sig) → Buf (Elt Ideal) ℓ) (c : Dev nD)

theorem coord_one : ∀ t : Fin cfg0.N, (grid0.coords t 1).val = t.val % 8 :=
  (by decide +kernel : ∀ t : Fin grid0.N, (grid0.coords t 1).val = t.val % 8)

theorem bandRow_eq (t : Fin cfg0.N) : bandRow (grid0.coords t) = 256 * (t.val % 8) - 512 := by unfold bandRow; rw [coord_one]

/-- The key of column `x` of point `t`'s band. -/
def keyOf (t : Fin cfg0.N) (x : Fin 768) : Fin 2048 := ⟨256 * (t.val % 8) - 512 + x.val, by omega⟩

/-- A band's entry is the array's at the key's row. -/
theorem band_apply (X : Vec Ideal S2048x1024 .bf16) (t : Fin cfg0.N) (p : Fin 8) (x : Fin 768) (e : Fin 2) (d : Fin 64) :
    band X (grid0.coords t) p (ix2 x (lane e d)) = X (ix2 (keyOf t x) (col p e d)) := by
  unfold band
  exact congrArg₂ (fun u v => X (ix2 u v)) (Fin.ext (by show bandRow (grid0.coords t) + x.val = 256 * (t.val % 8) - 512 + x.val; rw [bandRow_eq])) rfl

/-- The bias tile's entry, by query and key. -/
theorem bias_entry (t : Fin cfg0.N) (s : Fin 2048) (r : Fin 256) (hs : s.val = 256 * (t.val % 8) + r.val) (p : Fin 8) (e : Fin 2) (x : Fin 768) :
    biasPair (bBlk m c t) p (ix4 (0 : Fin 1) e r x)
      = if keyOf t x ∈ keys s then rbOf m c (ix2 (hd p e) (biasAt s.val (keyOf t x).val)) * ((invLog : ℝ) : EReal) else ⊥ := by
  have hm : min (t.val % 8) 2 < 3 := by omega
  have h1 : biasPair (bBlk m c t) p (ix4 (0 : Fin 1) e r x) = V m c main_v53 (ix4 (⟨min (t.val % 8) 2, hm⟩ : Fin 3) (hd p e) r x) := by
    unfold biasPair
    rw [bBlk_apply]
    rfl
  rw [h1]
  refine (bias_tile m c ⟨min (t.val % 8) 2, hm⟩ (hd p e) r x).trans ?_
  have hk : (keyOf t x).val = 256 * (t.val % 8) - 512 + x.val := rfl
  refine if_congr ?_ ?_ rfl
  · rw [mem_keys, hk]
    show x.val / 64 ≤ (256 * min (t.val % 8) 2 + r.val) / 64 ∧ (256 * min (t.val % 8) 2 + r.val) / 64 ≤ x.val / 64 + 8 ↔ _
    omega
  · refine congrArg (fun z => rbOf m c (ix2 (hd p e) z) * ((invLog : ℝ) : EReal)) (Fin.ext ?_)
    show min (256 * min (t.val % 8) 2 + r.val + 256 - x.val) 512 = min (s.val + 256 - (keyOf t x).val) 512
    omega

/-- The scores of a row: of the keys that its query sees, and `⊥` for the others. -/
theorem bandScore_apply (t : Fin cfg0.N) (b : Fin 16) (s : Fin 2048) (r : Fin 256) (hb : t.val / 8 = b.val) (hs : s.val = 256 * (t.val % 8) + r.val)
    (p : Fin 8) (e : Fin 2) (x : Fin 768) :
    bandScore (band (keysAt m c t) (grid0.coords t) p) (qPair (qBlk m c t) (gqBlk m c t) (onesBlk m c t) p) (biasPair (bBlk m c t) p) e r x
      = if keyOf t x ∈ keys s then score2 (colsOf m c) (rbOf m c) (gqOf m c) (gkOf m c) b (hd p e) s (keyOf t x) else ⊥ := by
  have ht := point_lt t
  have hs' : 256 * t.val + r.val = b.val * 2048 + s.val := by omega
  unfold bandScore
  rw [bias_entry m c t s r hs p e x]
  by_cases hk : keyOf t x ∈ keys s
  · rw [if_pos hk, if_pos hk]
    unfold score2
    refine congrArg (· + rbOf m c (ix2 (hd p e) (biasAt s.val (keyOf t x).val)) * ((invLog : ℝ) : EReal)) ?_
    refine (half_sum e _ fun l hl => ?_).trans (Finset.sum_congr rfl fun d _ => ?_)
    · rw [show (⟨256 * e.val + r.val, _⟩ : Fin 512) = stackRow e r from rfl, query_off m c t r p e l hl, zero_mul]
    · rw [band_apply, keys_apply m c t b hb, show (⟨256 * e.val + r.val, _⟩ : Fin 512) = stackRow e r from rfl, query_row m c t b s r hs' p e d]
  · rw [if_neg hk, if_neg hk, EReal.add_bot]

end Cert.KernelIdeal.Attn

end
-- ==== Proof.Attn.OutRead.lean ====
/-
The output rows of a grid point.
-/
module

public import proofs.«01_k».proof.Proof.Attn.BandRead

@[expose] public section

set_option maxRecDepth 16384

noncomputable section

namespace Cert.KernelIdeal.Attn

open Cert.KernelIdeal Cert.KernelIdeal.Gen Cert.Attn
open Idealize.ShloMosaic Idealize.ShloMosaic.TcCoe Idealize.ShloMosaic.Tactic

variable (m : (ℓ : Loc nD τ sig) → Buf (Elt Ideal) ℓ) (c : Dev nD)

/-- The column of a key in point `t`'s band. -/
def winPos (t : Fin cfg0.N) (k : Fin 2048) : Fin 768 := ⟨(k.val - (256 * (t.val % 8) - 512)) % 768, Nat.mod_lt _ (by decide)⟩

theorem keyOf_winPos (t : Fin cfg0.N) (s k : Fin 2048) (r : Fin 256) (hs : s.val = 256 * (t.val % 8) + r.val) (hk : k ∈ keys s) : keyOf t (winPos t k) = k := by
  rw [mem_keys] at hk
  refine Fin.ext ?_
  show 256 * (t.val % 8) - 512 + (k.val - (256 * (t.val % 8) - 512)) % 768 = k.val
  omega

theorem winPos_keyOf (t : Fin cfg0.N) (x : Fin 768) : winPos t (keyOf t x) = x := by
  refine Fin.ext ?_
  show (256 * (t.val % 8) - 512 + x.val - (256 * (t.val % 8) - 512)) % 768 = x.val
  omega

theorem exp2_scaled (a : ℝ) : Ideal.exp2 ((invLog * a : ℝ) : EReal) = ((Real.exp a : ℝ) : EReal) := by
  rw [Ideal.exp2_coe]
  refine congrArg _ ?_
  show (2 : ℝ) ^ (invLog * a) = Real.exp a
  rw [Real.rpow_def_of_pos (by norm_num), invLog]
  have := (Real.log_pos (by norm_num : (1 : ℝ) < 2)).ne'
  congr 1
  field_simp

theorem blockOut_apply (i : grid0.Coords) (x0 : Vec Ideal S256x1024 .bf16) (kn x2 : Vec Ideal S2048x1024 .bf16) (x3 : Vec Ideal S1x16x256x768 .f32)
    (x4 : Vec Ideal S1x128 .f32) (x6 : Vec Ideal S128x128 .bf16) (r : Fin 256) (p : Fin 8) (e : Fin 2) (d : Fin 64) :
    blockOut i x0 kn x2 x3 x4 x6 (ix2 r (col p e d)) = pairOut i x0 kn x2 x3 x4 x6 p (ix2 r (lane e d)) := by
  unfold blockOut
  exact congrArg₂ (fun u v => pairOut i x0 kn x2 x3 x4 x6 u (ix2 r v))
    (col_div p e d (by show (128 * p.val + (64 * e.val + d.val)) / 128 < 8; omega)) (col_mod p e d (Nat.mod_lt _ (by decide)))

/-- Each output lane of a grid point is the average of the values by the softmax of the scores. -/
theorem out_apply (t : Fin cfg0.N) (b : Fin 16) (s : Fin 2048) (r : Fin 256) (hb : t.val / 8 = b.val) (hs : s.val = 256 * (t.val % 8) + r.val)
    (p : Fin 8) (e : Fin 2) (d : Fin 64) (σ : Fin 2048 → ℝ)
    (hσ : ∀ k, score2 (colsOf m c) (rbOf m c) (gqOf m c) (gkOf m c) b (hd p e) s k = ((invLog * σ k : ℝ) : EReal)) :
    outAt m c t (ix2 r (col p e d)) = attend (keys s) σ (fun k => headRow (colsOf m c) 2 (tok b k) (hd p e) d) := by
  unfold outAt
  rw [blockOut_apply]
  unfold pairOut
  rw [pay1_apply]
  unfold bandQuot
  have hsc := bandScore_apply m c t b s r hb hs p e
  generalize bandScore (band (keysAt m c t) (grid0.coords t) p) (qPair (qBlk m c t) (gqBlk m c t) (onesBlk m c t) p) (biasPair (bBlk m c t) p) e r = S at hsc
  have hS : ∀ k ∈ keys s, S (winPos t k) = ((invLog * σ k : ℝ) : EReal) := fun k hk => by
    rw [hsc, keyOf_winPos t s k r hs hk, if_pos hk, hσ]
  have hB : ∀ x, (∀ k ∈ keys s, winPos t k ≠ x) → S x = ⊥ := fun x hx => by
    rw [hsc, if_neg fun hk => hx _ hk (winPos_keyOf t x)]
  obtain ⟨M, hM⟩ := fold_max (keys s) (keys_nonempty s) σ (winPos t) invLog invLog_pos S hS hB
  rw [hM]
  refine attend_of_quotient (keys s) σ (winPos t) (fun k hk k' hk' h => ?_) invLog M S hS hB Ideal.exp2 exp2_scaled rfl (keys_nonempty s) _ _ (fun k hk => ?_)
  · rw [← keyOf_winPos t s k r hs hk, h, keyOf_winPos t s k' r hs hk']
  · rw [band_apply, keyOf_winPos t s k r hs hk, value_row m c t b hb]

end Cert.KernelIdeal.Attn

end
-- ==== Proof.Attn.Result.lean ====
/-
The kernel's result, lane by lane.
-/
module

public import proofs.«01_k».proof.Proof.Attn.Frame
public import proofs.«01_k».proof.Proof.Attn.OutRead
public import Idealize.ShloMosaic.Lib.Pipeline.ValueKit

@[expose] public section

set_option maxRecDepth 16384

noncomputable section

namespace Cert.KernelIdeal.Attn

open Cert.KernelIdeal Cert.KernelIdeal.Gen Cert.Attn
open Idealize.ShloMosaic Idealize.ShloMosaic.TcCoe Idealize.ShloMosaic.Tactic

variable (m : (ℓ : Loc nD τ sig) → Buf (Elt Ideal) ℓ) (c : Dev nD) (ρ : Dev nD → PrngReg)

theorem row_point (n : ℕ) (h : n < 32768) : n / 256 < cfg0.N := by
  have : cfg0.N = 128 := N_0
  omega

/-- The array of output rows. -/
def rows : (⟨S32768x1024, .bf16⟩ : BufTy).Contents (Elt Ideal) := fun y =>
  outAt m c ⟨(y 0).val / 256, row_point _ (y 0).isLt⟩
    (ix2 ⟨(y 0).val % 256, Nat.mod_lt _ (by decide)⟩ ⟨(y 1).val, (y 1).isLt⟩)

theorem rows_emb (t : Fin cfg0.N) (y : S256x1024.Idx) (z : S32768x1024.Idx) (h0 : (z 0).val = t.val * 256 + (y 0).val) (h1 : (z 1).val = (y 1).val) :
    rows m c z = outAt m c t y := by
  have hy : (y 0).val < 256 := (y 0).isLt
  unfold rows
  refine congrArg₂ (fun u v => outAt m c u v) (Fin.ext ?_) (funext fun a => Fin.ext ?_)
  · show (z 0).val / 256 = t.val; omega
  · match a with
    | ⟨0, _⟩ => show (z 0).val % 256 = (y 0).val; omega
    | ⟨1, _⟩ => exact h1

/-- After the run the output array holds each grid point's rows. -/
theorem final_rows : (dats m 0 c).arrAt 7 cfg0.N = rows m c := by
  refine (dats m 0 c).arrAt_eq_of_covers 7 _ (by decide +kernel) fun t hf y => ?_
  blk_simp
  rw [after0_7]
  have ht := point_lt t
  have h0 : (y 0).val < 256 := (y 0).isLt
  have h1 : (y 1).val < 1024 := (y 1).isLt
  have e0 : ((win0_7.blk t).view.emb y 0).val = t.val * 256 + (y 0).val := by blk_simp [idx7]
  have e1 : ((win0_7.blk t).view.emb y 1).val = (y 1).val := by blk_simp [idx7]
  exact (rows_emb m c t (fun a => y a) ((win0_7.blk t).view.emb y) e0 e1).symm

/-- The run: the output array at those rows, the arguments unchanged. -/
theorem run : θ_run defs (onTc (τ := τ) (main (F := Ideal))) ⟨m, fun _ => 0, ρ⟩ fun r => ∀ c : Dev nD,
      r.2.mem ((c.tc : Thread nD τ).loc main_v75) = rows m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h.2 c).trans (final_rows m c), h.1 c⟩)
    (θ_run_and (unchanged m ρ) ((θ_run defs _ _).mono (fun _ h c => (h c).1 7) (run_main m ρ)))

/-- Each entry of the output rows is the average of the values by the softmax of the scores. -/
theorem rows_apply (R : Fin 32768) (y : Fin 1024) (b h : Fin 16) (s : Fin 2048) (d : Fin 64) (hR : R.val = b.val * 2048 + s.val)
    (hy : y.val = h.val * 64 + d.val) (σ : Fin 2048 → ℝ)
    (hσ : ∀ k, score2 (colsOf m c) (rbOf m c) (gqOf m c) (gkOf m c) b h s k = ((invLog * σ k : ℝ) : EReal)) :
    rows m c (ix2 R y) = attend (keys s) σ (fun k => headRow (colsOf m c) 2 (tok b k) h d) := by
  have hN := row_point R.val R.isLt
  have hp : h.val / 2 < 8 := by omega
  have he : h.val % 2 < 2 := by omega
  have hh : h = hd ⟨h.val / 2, hp⟩ ⟨h.val % 2, he⟩ := Fin.ext (by show h.val = 2 * (h.val / 2) + h.val % 2; omega)
  have hc : y = col ⟨h.val / 2, hp⟩ ⟨h.val % 2, he⟩ d := Fin.ext (by show y.val = 128 * (h.val / 2) + (64 * (h.val % 2) + d.val); omega)
  show outAt m c ⟨R.val / 256, _⟩ (ix2 ⟨R.val % 256, _⟩ y) = _
  rw [hh] at hσ
  conv_rhs => rw [hh]
  rw [hc]
  exact out_apply m c ⟨R.val / 256, hN⟩ b s ⟨R.val % 256, by omega⟩ (by show R.val / 256 / 8 = b.val; omega)
    (by show s.val = 256 * (R.val / 256 % 8) + R.val % 256; omega) _ _ d σ hσ

end Cert.KernelIdeal.Attn

end
-- ==== Proof.Attn.RefGather.lean ====
/-
The reference's two kinds of gather, read at an index.
-/
module

public import proofs.«01_k».proof.Proof.Gen.ReferenceIdeal.Read
public import Idealize.ShloMosaic.Lib.Pointwise

@[expose] public section

set_option maxRecDepth 16384

noncomputable section

namespace Cert.ReferenceIdeal.Attn

open Cert.ReferenceIdeal Cert.ReferenceIdeal.Gen Cert.ReferenceIdeal.Read
open Idealize.ShloMosaic Idealize.ShloMosaic.TcCoe

/-- A gather of whole columns of the bias table. -/
theorem gather_cols (x : S16x513.Idx → EReal) (idx : IVec S64x576x1 32) (h : Fin 16) (i : Fin 64) (j : Fin 576) :
    Host.gather gather_S16x513_S64x576x1_S16x64x576_0_1_n_n_1_2_161 x idx (ix3 h i j)
      = x (ix2 h ⟨min (idx (ix3 i j (0 : Fin 1))).toInt.toNat 512, by omega⟩) := by
  unfold Host.gather
  refine congrArg x ?_
  funext a
  refine Fin.ext ?_
  match a with
  | ⟨0, _⟩ =>
    show GatherDims.start _ _ idx 0 + GatherDims.batchCoord _ _ 0 + GatherDims.offCoord _ _ 0 = h.val
    rw [GatherDims.batchCoord_eq_zero _ _ _ List.not_mem_nil]
    unfold GatherDims.start
    rw [dif_neg (by decide)]
    unfold GatherDims.offCoord
    rw [dif_pos (by decide)]
    simp only [Nat.zero_add, Nat.add_zero]
    rfl
  | ⟨1, _⟩ =>
    show GatherDims.start _ _ idx 1 + GatherDims.batchCoord _ _ 1 + GatherDims.offCoord _ _ 1 = _
    rw [GatherDims.batchCoord_eq_zero _ _ _ List.not_mem_nil,
      GatherDims.offCoord_eq_zero _ _ _ (by decide)]
    simp only [Nat.add_zero]
    unfold GatherDims.start
    rw [dif_pos (by decide)]
    have hs : GatherDims.siIdx gather_S16x513_S64x576x1_S16x64x576_0_1_n_n_1_2_161 (ix3 h i j) ⟨0, by decide⟩ = ix3 i j (0 : Fin 1) := by
      funext b; refine Fin.ext ?_
      match b with
      | ⟨0, _⟩ => rfl
      | ⟨1, _⟩ => rfl
      | ⟨2, _⟩ => rfl
    exact congrArg (fun z => min (idx z).toInt.toNat 512) hs

/-- A gather of whole rows of the padded keys or values. -/
theorem gather_rows (x : S16x2560x16x64.Idx → EReal) (idx : IVec S32x576x1 32) (b : Fin 16) (c : Fin 32) (j : Fin 576) (h : Fin 16) (d : Fin 64) :
    Host.gather gather_S16x2560x16x64_S32x576x1_S16x32x576x16x64_034_1_n_n_1_2_1611664 x idx (ix5 b c j h d)
      = x (ix4 b ⟨min (idx (ix3 c j (0 : Fin 1))).toInt.toNat 2559, by omega⟩ h d) := by
  unfold Host.gather
  refine congrArg x ?_
  funext a
  refine Fin.ext ?_
  match a with
  | ⟨0, _⟩ =>
    show GatherDims.start _ _ idx 0 + GatherDims.batchCoord _ _ 0 + GatherDims.offCoord _ _ 0 = _
    rw [GatherDims.batchCoord_eq_zero _ _ _ List.not_mem_nil]
    unfold GatherDims.start
    rw [dif_neg (by decide)]
    unfold GatherDims.offCoord
    rw [dif_pos (by decide)]
    simp only [Nat.zero_add, Nat.add_zero]
    rfl
  | ⟨1, _⟩ =>
    show GatherDims.start _ _ idx 1 + GatherDims.batchCoord _ _ 1 + GatherDims.offCoord _ _ 1 = _
    rw [GatherDims.batchCoord_eq_zero _ _ _ List.not_mem_nil,
      GatherDims.offCoord_eq_zero _ _ _ (by decide)]
    simp only [Nat.add_zero]
    unfold GatherDims.start
    rw [dif_pos (by decide)]
    have hs : GatherDims.siIdx gather_S16x2560x16x64_S32x576x1_S16x32x576x16x64_034_1_n_n_1_2_1611664 (ix5 b c j h d) ⟨0, by decide⟩ = ix3 c j (0 : Fin 1) := by
      funext b; refine Fin.ext ?_
      match b with
      | ⟨0, _⟩ => rfl
      | ⟨1, _⟩ => rfl
      | ⟨2, _⟩ => rfl
    exact congrArg (fun z => min (idx z).toInt.toNat 2559) hs
  | ⟨2, _⟩ =>
    show GatherDims.start _ _ idx 2 + GatherDims.batchCoord _ _ 2 + GatherDims.offCoord _ _ 2 = _
    rw [GatherDims.batchCoord_eq_zero _ _ _ List.not_mem_nil]
    unfold GatherDims.start
    rw [dif_neg (by decide)]
    unfold GatherDims.offCoord
    rw [dif_pos (by decide)]
    simp only [Nat.zero_add, Nat.add_zero]
    rfl
  | ⟨3, _⟩ =>
    show GatherDims.start _ _ idx 3 + GatherDims.batchCoord _ _ 3 + GatherDims.offCoord _ _ 3 = _
    rw [GatherDims.batchCoord_eq_zero _ _ _ List.not_mem_nil]
    unfold GatherDims.start
    rw [dif_neg (by decide)]
    unfold GatherDims.offCoord
    rw [dif_pos (by decide)]
    simp only [Nat.zero_add, Nat.add_zero]
    rfl

end Cert.ReferenceIdeal.Attn

end
-- ==== Proof.Attn.RefKeyWord.lean ====
/-
The reference's index into the padded keys and values.
-/
module

public import proofs.«01_k».proof.Proof.Gen.ReferenceIdeal.Read
public import Idealize.ShloMosaic.Lib.Pointwise

@[expose] public section

set_option maxRecDepth 16384

noncomputable section

namespace Cert.ReferenceIdeal.Attn

open Cert.ReferenceIdeal Cert.ReferenceIdeal.Gen Cert.ReferenceIdeal.Read
open Idealize.ShloMosaic Idealize.ShloMosaic.TcCoe

/-- The padded key position that band position `j` of chunk `c` reads, -/
theorem key_word (c : Fin 32) (j : Fin 576) : val_main_v70 (F := Ideal) (ix3 c j (0 : Fin 1)) = BitVec.ofNat 32 (64 * c.val + j.val) := by
  pointwise [val_main_v56, val_main_v57, val_main_v58, val_main_v59, val_main_v60, val_main_v61, val_main_v62, val_main_v63, val_main_v64, val_main_v65, val_main_v66, val_main_v67, val_main_v68, val_main_v69, val_main_v70, val_main_c_11, val_main_c_12, val_main_c_13, val_main_c_14]
  revert c j
  decide +kernel

/-- the same for the values, -/
theorem value_word (c : Fin 32) (j : Fin 576) : val_main_v77 (F := Ideal) (ix3 c j (0 : Fin 1)) = BitVec.ofNat 32 (64 * c.val + j.val) := by
  pointwise [val_main_v56, val_main_v57, val_main_v58, val_main_v59, val_main_v60, val_main_v61, val_main_v62, val_main_v63, val_main_v64, val_main_v72, val_main_v73, val_main_v74, val_main_v75, val_main_v76, val_main_v77, val_main_c_11, val_main_c_12, val_main_c_15, val_main_c_16]
  revert c j
  decide +kernel

/-- and whether it is a key at all, past the padding. -/
theorem in_range (c : Fin 32) (j : Fin 576) : IntOp.cmpi .sge (val_main_v64 (F := Ideal) (ix2 c j)) 512#32 = if 512 ≤ 64 * c.val + j.val then 1#1 else 0#1 := by
  pointwise [val_main_v56, val_main_v57, val_main_v58, val_main_v59, val_main_v60, val_main_v61, val_main_v62, val_main_v63, val_main_v64, val_main_c_11, val_main_c_12]
  revert c j
  decide +kernel

end Cert.ReferenceIdeal.Attn

end
-- ==== Proof.Attn.RefRows.lean ====
/-
The reference's queries, and the bands of keys and values that each chunk of 64 queries meets.
-/
module

public import proofs.«01_k».proof.Proof.Attn.RefGather
public import proofs.«01_k».proof.Proof.Attn.RefKeyWord
public import proofs.«01_k».proof.Proof.Attn.Spec

@[expose] public section

set_option maxRecDepth 16384

noncomputable section

namespace Cert.ReferenceIdeal.Attn

open Cert.ReferenceIdeal Cert.ReferenceIdeal.Gen Cert.ReferenceIdeal.Read Cert.Attn
open Idealize.ShloMosaic Idealize.ShloMosaic.TcCoe

variable (x0 : (⟨S32768x9216, .bf16⟩ : BufTy).Contents (Elt Ideal)) (x1 : (⟨S16x513, .f32⟩ : BufTy).Contents (Elt Ideal))
  (x2 x3 : (⟨S64, .f32⟩ : BufTy).Contents (Elt Ideal))

/-- The queries: the normalised rows, scaled. -/
theorem query_apply (b : Fin 16) (s : Fin 2048) (h : Fin 16) (d : Fin 64) :
    val_main_v16 (F := Ideal) x0 x2 (ix4 b s h d) = unitRow x0 0 (tok b s) h d * x2 (ix1 d) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_cst, val_main_cst_0, val_main_cst_1]
  rw [bits_64, bits_eps]
  unfold unitRow invNorm headRow tok
  simp only [Fin.isValue, Fin.val_zero, mul_zero, zero_add]

/-- The keys, likewise. -/
theorem key_apply (b : Fin 16) (s : Fin 2048) (h : Fin 16) (d : Fin 64) :
    val_main_v31 (F := Ideal) x0 x3 (ix4 b s h d) = unitRow x0 1 (tok b s) h d * x3 (ix1 d) := by
  pointwise [val_main_v0, val_main_v1, val_main_v17, val_main_v18, val_main_v19, val_main_v20, val_main_v21, val_main_v22, val_main_v23, val_main_v24, val_main_v25, val_main_v26, val_main_v27, val_main_v28, val_main_v29, val_main_v30, val_main_v31, val_main_cst_2, val_main_cst_3, val_main_cst_4]
  rw [bits_64, bits_eps]
  unfold unitRow invNorm headRow tok
  simp only [Fin.isValue, Fin.val_one, mul_one]

/-- The values: the plain rows. -/
theorem value_apply (b : Fin 16) (s : Fin 2048) (h : Fin 16) (d : Fin 64) :
    val_main_v33 (F := Ideal) x0 (ix4 b s h d) = headRow x0 2 (tok b s) h d := by
  pointwise [val_main_v0, val_main_v1, val_main_v32, val_main_v33]
  rfl

/-- The keys with 512 rows of zeros before them: past the zeros they are the keys. -/
theorem padded_key (b : Fin 16) (p : Fin 2560) (h : Fin 16) (d : Fin 64) (k : Fin 2048) (hk : p.val = k.val + 512) :
    val_main_v34 (F := Ideal) x0 x3 (ix4 b p h d) = unitRow x0 1 (tok b k) h d * x3 (ix1 d) := by
  pointwise [val_main_v34, val_main_call0_v0]
  have hp : 512 ≤ p.val ∧ p.val - 512 < 2048 := by omega
  rw [dif_pos hp, ← key_apply]
  exact congrArg (fun z => val_main_v31 (F := Ideal) x0 x3 (ix4 b z h d)) (Fin.ext (by show p.val - 512 = k.val; omega))

/-- The values with the same zeros. -/
theorem padded_value (b : Fin 16) (p : Fin 2560) (h : Fin 16) (d : Fin 64) (k : Fin 2048) (hk : p.val = k.val + 512) :
    val_main_v35 (F := Ideal) x0 (ix4 b p h d) = headRow x0 2 (tok b k) h d := by
  pointwise [val_main_v35, val_main_call1_v0]
  have hp : 512 ≤ p.val ∧ p.val - 512 < 2048 := by omega
  rw [dif_pos hp, ← value_apply]
  exact congrArg (fun z => val_main_v33 (F := Ideal) x0 (ix4 b z h d)) (Fin.ext (by show p.val - 512 = k.val; omega))

/-- The padded row that a chunk's band position names. -/
theorem band_row (c : Fin 32) (j : Fin 576) (k : Fin 2048) (hk : 64 * c.val + j.val = k.val + 512) (w : BitVec 32)
    (hw : w = BitVec.ofNat 32 (64 * c.val + j.val)) : min w.toInt.toNat 2559 = k.val + 512 := by
  rw [hw, toInt_small _ (by omega)]
  omega

/-- A chunk's band of keys. -/
theorem band_key (b : Fin 16) (c : Fin 32) (j : Fin 576) (h : Fin 16) (d : Fin 64) (k : Fin 2048) (hk : 64 * c.val + j.val = k.val + 512) :
    val_main_v71 (F := Ideal) x0 x3 (ix5 b c j h d) = unitRow x0 1 (tok b k) h d * x3 (ix1 d) := by
  unfold val_main_v71
  rw [gather_rows]
  exact padded_key x0 x3 b _ h d k (band_row c j k hk _ (key_word c j))

/-- A chunk's band of values. -/
theorem band_value (b : Fin 16) (c : Fin 32) (j : Fin 576) (h : Fin 16) (d : Fin 64) (k : Fin 2048) (hk : 64 * c.val + j.val = k.val + 512) :
    val_main_v78 (F := Ideal) x0 (ix5 b c j h d) = headRow x0 2 (tok b k) h d := by
  unfold val_main_v78
  rw [gather_rows]
  exact padded_value x0 b _ h d k (band_row c j k hk _ (value_word c j))

end Cert.ReferenceIdeal.Attn

end
-- ==== Proof.Attn.RefBiasWord.lean ====
/-
The reference's index into the table of relative biases.
-/
module

public import proofs.«01_k».proof.Proof.Gen.ReferenceIdeal.Read
public import Idealize.ShloMosaic.Lib.Pointwise

@[expose] public section

set_option maxRecDepth 16384

noncomputable section

namespace Cert.ReferenceIdeal.Attn

open Cert.ReferenceIdeal Cert.ReferenceIdeal.Gen Cert.ReferenceIdeal.Read
open Idealize.ShloMosaic Idealize.ShloMosaic.TcCoe

/-- The bias entry that chunk position `i` and band position `j` read. -/
theorem bias_word (i : Fin 64) (j : Fin 576) : val_main_v54 (F := Ideal) (ix3 i j (0 : Fin 1)) = BitVec.ofNat 32 (min (i.val + 768 - j.val) 512) := by
  pointwise [val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_c_5, val_main_c_6, val_main_c_7, val_main_c_8, val_main_c_9, val_main_c_10, val_main_c_11, val_main_call2_v0, val_main_call2_v1, val_main_call2_v2, val_main_call2_v3, val_main_call2_v4]
  revert i j
  decide +kernel

end Cert.ReferenceIdeal.Attn

end
-- ==== Proof.Attn.RefScore.lean ====
/-
The reference's masked scores.
-/
module

public import proofs.«01_k».proof.Proof.Attn.RefRows
public import proofs.«01_k».proof.Proof.Attn.RefBiasWord

@[expose] public section

set_option maxRecDepth 16384

noncomputable section

namespace Cert.ReferenceIdeal.Attn

open Cert.ReferenceIdeal Cert.ReferenceIdeal.Gen Cert.ReferenceIdeal.Read Cert.Attn
open Idealize.ShloMosaic Idealize.ShloMosaic.TcCoe

variable (x0 : (⟨S32768x9216, .bf16⟩ : BufTy).Contents (Elt Ideal)) (x1 : (⟨S16x513, .f32⟩ : BufTy).Contents (Elt Ideal))
  (x2 x3 : (⟨S64, .f32⟩ : BufTy).Contents (Elt Ideal))

/-- The bias entry that a chunk position and a band position name. -/
theorem bias_col (c : Fin 32) (i : Fin 64) (j : Fin 576) (s k : Fin 2048) (hs : s.val = 64 * c.val + i.val)
    (hk : 64 * c.val + j.val = k.val + 512) (w : BitVec 32) (hw : w = BitVec.ofNat 32 (min (i.val + 768 - j.val) 512)) :
    min w.toInt.toNat 512 = (biasAt s.val k.val).val := by
  rw [hw, toInt_small _ (by omega)]
  show min (min (i.val + 768 - j.val) 512) 512 = min (s.val + 256 - k.val) 512
  omega

/-- The bias of a chunk position and a band position. -/
theorem bias_apply (c : Fin 32) (i : Fin 64) (j : Fin 576) (h : Fin 16) (s k : Fin 2048) (hs : s.val = 64 * c.val + i.val)
    (hk : 64 * c.val + j.val = k.val + 512) : val_main_v55 (F := Ideal) x1 (ix3 h i j) = x1 (ix2 h (biasAt s.val k.val)) := by
  unfold val_main_v55
  rw [gather_cols]
  exact congrArg (fun z => x1 (ix2 h z)) (Fin.ext (bias_col c i j s k hs hk _ (bias_word i j)))

/-- The score before the mask. -/
theorem score_apply (b : Fin 16) (c : Fin 32) (h : Fin 16) (i : Fin 64) (j : Fin 576) (s k : Fin 2048) (hs : s.val = 64 * c.val + i.val)
    (hk : 64 * c.val + j.val = k.val + 512) :
    (∑ d : Fin 64, val_main_v16 (F := Ideal) x0 x2 (ix4 b s h d) * val_main_v71 (F := Ideal) x0 x3 (ix5 b c j h d)) * Ideal.ofBits .f32 1040187392#32
      + val_main_v55 (F := Ideal) x1 (ix3 h i j) = score x0 x1 x2 x3 b h s k := by
  unfold score
  rw [bias_apply x1 c i j h s k hs hk, bits_8th]
  refine congrArg (fun z => z * ((1 / 8 : ℝ) : EReal) + x1 (ix2 h (biasAt s.val k.val))) (Finset.sum_congr rfl fun d _ => ?_)
  rw [query_apply, band_key x0 x3 b c j h d k hk]

/-- The masked score of a key is its score. -/
theorem masked_key (b : Fin 16) (c : Fin 32) (h : Fin 16) (i : Fin 64) (j : Fin 576) (s k : Fin 2048) (hs : s.val = 64 * c.val + i.val)
    (hk : 64 * c.val + j.val = k.val + 512) : val_main_v88 (F := Ideal) x0 x1 x2 x3 (ix5 b c h i j) = score x0 x1 x2 x3 b h s k := by
  rw [← score_apply x0 x1 x2 x3 b c h i j s k hs hk]
  have hb : c.val * 64 + i.val < 2048 := by omega
  obtain rfl : s = ⟨c.val * 64 + i.val, hb⟩ := Fin.ext (by show s.val = c.val * 64 + i.val; omega)
  pointwise [val_main_v88, val_main_call3_v1, val_main_call3_v2, val_main_call3_v0, val_main_v79, val_main_v80, val_main_v81, val_main_v82, val_main_v83, val_main_v84, val_main_v85, val_main_v86, val_main_v87, val_main_cst_17, val_main_cst_19, val_main_c_18, val_main_v36]
  rw [in_range, select_ite, if_pos (by omega)]

/-- The masked score of the padding is `⊥`. -/
theorem masked_pad (b : Fin 16) (c : Fin 32) (h : Fin 16) (i : Fin 64) (j : Fin 576) (hj : 64 * c.val + j.val < 512) :
    val_main_v88 (F := Ideal) x0 x1 x2 x3 (ix5 b c h i j) = ⊥ := by
  pointwise [val_main_v88, val_main_call3_v1, val_main_call3_v2, val_main_call3_v0, val_main_v79, val_main_v80, val_main_v81, val_main_v82, val_main_v83, val_main_v84, val_main_v85, val_main_v86, val_main_v87, val_main_cst_17, val_main_cst_19, val_main_c_18, val_main_v36]
  rw [in_range, select_ite, if_neg (by omega)]
  exact bits_bot

end Cert.ReferenceIdeal.Attn

end
-- ==== Proof.Attn.RefExp.lean ====
/-
The reference's exponentials, read at an index.
-/
module

public import proofs.«01_k».proof.Proof.Gen.ReferenceIdeal.Read
public import Idealize.ShloMosaic.Lib.Pointwise

@[expose] public section

set_option maxRecDepth 16384

noncomputable section

namespace Cert.ReferenceIdeal.Attn

open Cert.ReferenceIdeal Cert.ReferenceIdeal.Gen Cert.ReferenceIdeal.Read
open Idealize.ShloMosaic Idealize.ShloMosaic.TcCoe

variable (x0 : (⟨S32768x9216, .bf16⟩ : BufTy).Contents (Elt Ideal)) (x1 : (⟨S16x513, .f32⟩ : BufTy).Contents (Elt Ideal))
  (x2 x3 : (⟨S64, .f32⟩ : BufTy).Contents (Elt Ideal))

/-- The maximum over the last axis. -/
theorem reduce_max (X : S16x32x16x64x576.Idx → EReal) (z : S_.Idx → EReal) (b : Fin 16) (c : Fin 32) (h : Fin 16) (i : Fin 64) :
    Host.reduce (FloatOps.maximumf (F := Ideal) (φ := .f32)) X z reducesTo_S16x32x16x64x576_S16x32x16x64_d4 h_S_ (ix4 b c h i)
      = Finset.fold max (z (Shape.Idx.first h_S_)) (fun x => X (ix5 b c h i x)) Finset.univ := by
  pointwise

/-- The exponential of a difference with a maximum. -/
theorem shifted_exp (X : S16x32x16x64x576.Idx → EReal) (Y Z : S16x32x16x64.Idx → EReal) (b : Fin 16) (c : Fin 32) (h : Fin 16) (i : Fin 64) (j : Fin 576) :
    Host.exp (F := Ideal) (φ := .f32) (subf (F := Ideal) (φ := .f32) X (broadcastInDim S16x32x16x64x576 ![0, 1, 2, 3, 4] bcast_S16x32x16x64x1_S16x32x16x64x576_0_1_2_3_4
      (broadcastInDim S16x32x16x64x1 ![0, 1, 2, 3] bcast_S16x32x16x64_S16x32x16x64x1_0_1_2_3 (maximumf (F := Ideal) (φ := .f32) Y Z)))) (ix5 b c h i j)
      = Ideal.exp (X (ix5 b c h i j) - max (Y (ix4 b c h i)) (Z (ix4 b c h i))) := by
  pointwise

/-- The exponentials of the scores, shifted by their maximum. -/
theorem exp_apply (b : Fin 16) (c : Fin 32) (h : Fin 16) (i : Fin 64) (j : Fin 576) :
    val_main_v95 (F := Ideal) x0 x1 x2 x3 (ix5 b c h i j) = Ideal.exp (val_main_v88 (F := Ideal) x0 x1 x2 x3 (ix5 b c h i j) - max (Ideal.ofBits .f32 4286578688#32) (Finset.fold max (Ideal.ofBits .f32 4286578688#32) (fun x => val_main_v88 (F := Ideal) x0 x1 x2 x3 (ix5 b c h i x)) Finset.univ)) := by
  unfold val_main_v95 val_main_v94 val_main_v93 val_main_v92 val_main_v91 val_main_v89
  generalize val_main_v88 (F := Ideal) x0 x1 x2 x3 = X
  refine (shifted_exp X _ _ b c h i j).trans ?_
  refine congrArg (fun z => Ideal.exp (X (ix5 b c h i j) - max (Ideal.ofBits .f32 4286578688#32) z)) ?_
  exact reduce_max X _ b c h i

end Cert.ReferenceIdeal.Attn

end
-- ==== Proof.Attn.RefValue.lean ====
/-
The reference's result, lane by lane.
-/
module

public import proofs.«01_k».proof.Proof.Attn.RefScore
public import proofs.«01_k».proof.Proof.Attn.RefExp

@[expose] public section

set_option maxRecDepth 16384

noncomputable section

namespace Cert.ReferenceIdeal.Attn

open Cert.ReferenceIdeal Cert.ReferenceIdeal.Gen Cert.ReferenceIdeal.Read Cert.Attn
open Idealize.ShloMosaic Idealize.ShloMosaic.TcCoe

variable (x0 : (⟨S32768x9216, .bf16⟩ : BufTy).Contents (Elt Ideal)) (x1 : (⟨S16x513, .f32⟩ : BufTy).Contents (Elt Ideal))
  (x2 x3 : (⟨S64, .f32⟩ : BufTy).Contents (Elt Ideal))

/-- The band position of a key in chunk `c`. -/
def bandPos (c : Fin 32) (k : Fin 2048) : Fin 576 := ⟨(k.val + 512 - 64 * c.val) % 576, by omega⟩

theorem bandPos_eq (c : Fin 32) (s k : Fin 2048) (hs : s.val / 64 = c.val) (hk : k ∈ keys s) : 64 * c.val + (bandPos c k).val = k.val + 512 := by
  rw [mem_keys] at hk
  show 64 * c.val + (k.val + 512 - 64 * c.val) % 576 = k.val + 512
  omega

theorem bandPos_inj (c : Fin 32) (s : Fin 2048) (hs : s.val / 64 = c.val) : Set.InjOn (bandPos c) (keys s) := fun k hk k' hk' e => by
  have h1 := bandPos_eq c s k hs hk
  have h2 := bandPos_eq c s k' hs hk'
  rw [e] at h1
  exact Fin.ext (by omega)

/-- A chunk's weighted sum of values is the average by the softmax of the scores. -/
theorem chunk_apply (b h : Fin 16) (c : Fin 32) (i : Fin 64) (s : Fin 2048) (d : Fin 64) (hs : s.val = 64 * c.val + i.val)
    (σ : Fin 2048 → ℝ) (hσ : ∀ k, score x0 x1 x2 x3 b h s k = ((σ k : ℝ) : EReal)) (S V W : Fin 576 → EReal)
    (hS : ∀ j, S j = val_main_v88 (F := Ideal) x0 x1 x2 x3 (ix5 b c h i j)) (hV : ∀ j, V j = val_main_v78 (F := Ideal) x0 (ix5 b c j h d))
    (hW : ∀ j, W j = Ideal.exp (S j - max (⊥ : EReal) (Finset.fold max (⊥ : EReal) S Finset.univ))) :
    ∑ j, V j * Ideal.div (W j) (∑ j', W j') = attend (keys s) σ (fun k => headRow x0 2 (tok b k) h d) := by
  have hsc : s.val / 64 = c.val := by omega
  have hS1 : ∀ k ∈ keys s, S (bandPos c k) = ((1 * σ k : ℝ) : EReal) := fun k hk => by
    rw [hS, masked_key x0 x1 x2 x3 b c h i _ s k hs (bandPos_eq c s k hsc hk), hσ k, one_mul]
  have hB : ∀ j, (∀ k ∈ keys s, bandPos c k ≠ j) → S j = ⊥ := fun j hj => by
    rw [hS]
    refine masked_pad x0 x1 x2 x3 b c h i j (Nat.lt_of_not_le fun hle => ?_)
    have hk : 64 * c.val + j.val - 512 < 2048 := by omega
    have hm : (⟨64 * c.val + j.val - 512, hk⟩ : Fin 2048) ∈ keys s := by
      rw [mem_keys]
      show (64 * c.val + j.val - 512) / 64 ≤ s.val / 64 ∧ s.val / 64 ≤ (64 * c.val + j.val - 512) / 64 + 8
      omega
    refine hj _ hm (Fin.ext ?_)
    have := bandPos_eq c s _ hsc hm
    have e : (⟨64 * c.val + j.val - 512, hk⟩ : Fin 2048).val = 64 * c.val + j.val - 512 := rfl
    omega
  obtain ⟨M, hM⟩ := fold_max (keys s) (keys_nonempty s) σ (bandPos c) 1 one_pos S hS1 hB
  have hE : ∀ j, W j = Ideal.exp (S j - ((1 * M : ℝ) : EReal)) := fun j => by rw [hW, hM, max_eq_right bot_le]
  simp only [hE]
  exact attend_of_weights (keys s) σ (bandPos c) (bandPos_inj c s hsc) 1 M S hS1 hB
    Ideal.exp (fun a => by rw [one_mul]; rfl) rfl (keys_nonempty s) (fun k => headRow x0 2 (tok b k) h d) V
    (fun k hk => by rw [hV]; exact band_value x0 b c _ h d k (bandPos_eq c s k hsc hk))

/-- Each output lane of the reference, from its chunk's bands. -/
theorem lane_apply (R : Fin 32768) (y : Fin 1024) (b h : Fin 16) (c : Fin 32) (i d : Fin 64) (eb : (⟨R.val / 2048, by omega⟩ : Fin 16) = b)
    (ec : (⟨R.val / 64 % 32, by omega⟩ : Fin 32) = c) (ei : (⟨R.val % 64, by omega⟩ : Fin 64) = i)
    (eh : (⟨y.val / 64, by omega⟩ : Fin 16) = h) (ed : (⟨y.val % 64, by omega⟩ : Fin 64) = d) :
    val_main_v103 (F := Ideal) x0 x1 x2 x3 (ix2 R y) = ∑ j, val_main_v78 (F := Ideal) x0 (ix5 b c j h d) *
      Ideal.div (val_main_v95 (F := Ideal) x0 x1 x2 x3 (ix5 b c h i j)) (∑ j', val_main_v95 (F := Ideal) x0 x1 x2 x3 (ix5 b c h i j')) := by
  subst eb ec ei eh ed
  pointwise [val_main_v96, val_main_v97, val_main_v98, val_main_v99, val_main_v100, val_main_v101, val_main_v102, val_main_v103, val_main_cst_22]

/-- Each output lane of the reference is the average of the values by the softmax of the scores. -/
theorem reference_apply (R : Fin 32768) (y : Fin 1024) (b h : Fin 16) (s : Fin 2048) (d : Fin 64) (hR : R.val = b.val * 2048 + s.val)
    (hy : y.val = h.val * 64 + d.val) (σ : Fin 2048 → ℝ) (hσ : ∀ k, score x0 x1 x2 x3 b h s k = ((σ k : ℝ) : EReal)) :
    val_main_v103 (F := Ideal) x0 x1 x2 x3 (ix2 R y) = attend (keys s) σ (fun k => headRow x0 2 (tok b k) h d) := by
  have hc : s.val / 64 < 32 := by omega
  have hi : s.val % 64 < 64 := by omega
  rw [lane_apply x0 x1 x2 x3 R y b h ⟨s.val / 64, hc⟩ ⟨s.val % 64, hi⟩ d (Fin.ext (by show R.val / 2048 = b.val; omega))
    (Fin.ext (by show R.val / 64 % 32 = s.val / 64; omega)) (Fin.ext (by show R.val % 64 = s.val % 64; omega))
    (Fin.ext (by show y.val / 64 = h.val; omega)) (Fin.ext (by show y.val % 64 = d.val; omega))]
  refine chunk_apply x0 x1 x2 x3 b h ⟨s.val / 64, hc⟩ ⟨s.val % 64, hi⟩ s d (by show s.val = 64 * (s.val / 64) + s.val % 64; omega) σ hσ
    (fun j => val_main_v88 (F := Ideal) x0 x1 x2 x3 (ix5 b ⟨s.val / 64, hc⟩ h ⟨s.val % 64, hi⟩ j)) _ _ (fun _ => rfl) (fun _ => rfl) (fun j => ?_)
  rw [exp_apply, bits_bot]

end Cert.ReferenceIdeal.Attn

end
-- ==== Proof.Attn.Pre.lean ====
/-
The precondition, read: the parameters are finite.
-/
module

public import proofs.«01_k».proof.Pre_finite_parameters
public import Idealize.ShloMosaic.Lib.ReduceAll
public import Idealize.ShloMosaic.Lib.Pointwise
public import Idealize.ShloMosaic.Lib.Claim

@[expose] public section

set_option maxRecDepth 16384

noncomputable section

namespace Cert.Pre_finite_parameters

open Idealize.ShloMosaic Idealize.ShloMosaic.TcCoe

theorem facts : Facts where
  bcast_S_S16x513 := by decide
  reducesTo_S16x513_S_d0_1 := by decide
  h_S_ := by decide
  bcast_S_S64 := by decide
  reducesTo_S64_S_d0 := by decide

theorem bits_top : Ideal.ofBits .f32 2139095040#32 = (⊤ : EReal) := by
  simp [Ideal.ofBits, Ideal.ieee, -EReal.coe_mul]

/-- An extended real whose absolute value is less than the greatest is a real. -/
theorem real_of_abs_lt (x : EReal) (h : max x (-x) < ⊤) : ∃ r : ℝ, x = (r : EReal) := by
  induction x with
  | bot => exact absurd h (by simp)
  | top => exact absurd h (by simp)
  | coe r => exact ⟨r, rfl⟩

theorem real_of_bit (x : EReal) (h : FloatOps.cmpf (F := Ideal) (φ := .f32) .olt (max x (-x)) (Ideal.ofBits .f32 2139095040#32) = 1#1) :
    ∃ r : ℝ, x = (r : EReal) := by
  refine real_of_abs_lt x ?_
  rw [bits_top] at h
  by_contra hn
  have : FloatOps.cmpf (F := Ideal) (φ := .f32) .olt (max x (-x)) ⊤ = 0#1 := by
    simp [FloatOps.cmpf, Ideal.cmp, hn]
  rw [this] at h
  exact absurd h (by decide)

/-- The precondition says that every entry of the three parameters is a real. -/
theorem parameters_real [Facts] (x0 : FVec Ideal S32768x9216 .bf16) (x1 : FVec Ideal S16x513 .f32) (x2 x3 : FVec Ideal S64 .f32)
    (h : fn (F := Ideal) x0 x1 x2 x3 = fun _ => 1#1) :
    (∀ i, ∃ r : ℝ, x1 i = (r : EReal)) ∧ (∀ i, ∃ r : ℝ, x2 i = (r : EReal)) ∧ (∀ i, ∃ r : ℝ, x3 i = (r : EReal)) := by
  have e := congrFun h ix0
  unfold fn at e
  simp only at e
  have e1 := IntOp.andi_eq_one.1 e
  have e2 := IntOp.andi_eq_one.1 e1.1
  refine ⟨fun i => real_of_bit _ ?_, fun i => real_of_bit _ ?_, fun i => real_of_bit _ ?_⟩
  · exact Host.reduce_andi_all _ _ _ _ ix0 e2.1 i
  · exact Host.reduce_andi_all _ _ _ _ ix0 e2.2 i
  · exact Host.reduce_andi_all _ _ _ _ ix0 e1.2 i

end Cert.Pre_finite_parameters

end
-- ==== Proof.Attn.Equal.lean ====
/-
The kernel and the reference compute the same array, and the value claim.
-/
module

public import proofs.«01_k».proof.Proof.Attn.Result
public import proofs.«01_k».proof.Proof.Attn.RefValue
public import proofs.«01_k».proof.Proof.Attn.Pre
public import proofs.«01_k».proof.Proof.Gen.ReferenceIdeal.Run
public import proofs.«01_k».proof.Defs

@[expose] public section

set_option maxRecDepth 16384

noncomputable section

namespace Cert.Attn

open Idealize.ShloMosaic Idealize.ShloMosaic.TcCoe Idealize.SL.Sem

/-- With finite parameters the kernel's output rows are the reference's result. -/
theorem rows_eq (m : (ℓ : Loc Cert.KernelIdeal.nD Cert.KernelIdeal.τ Cert.KernelIdeal.sig) → Buf (Elt Ideal) ℓ) (c : Dev Cert.KernelIdeal.nD)
    (hrb : ∀ i, ∃ r : ℝ, Cert.KernelIdeal.Attn.rbOf m c i = (r : EReal)) (hgq : ∀ i, ∃ r : ℝ, Cert.KernelIdeal.Attn.gqOf m c i = (r : EReal))
    (hgk : ∀ i, ∃ r : ℝ, Cert.KernelIdeal.Attn.gkOf m c i = (r : EReal)) :
    Cert.ReferenceIdeal.Read.val_main_v103 (F := Ideal) (Cert.KernelIdeal.Attn.colsOf m c) (Cert.KernelIdeal.Attn.rbOf m c)
      (Cert.KernelIdeal.Attn.gqOf m c) (Cert.KernelIdeal.Attn.gkOf m c) = Cert.KernelIdeal.Attn.rows m c := by
  refine funext fun z => ?_
  obtain ⟨R, y, rfl⟩ : ∃ (R : Fin 32768) (y : Fin 1024), z = ix2 R y := ⟨z 0, z 1, eq_ix2 z⟩
  have hb : R.val / 2048 < 16 := by omega
  have hh : y.val / 64 < 16 := by omega
  obtain ⟨σ, hσ⟩ := scores_real (Cert.KernelIdeal.Attn.colsOf m c) (Cert.KernelIdeal.Attn.rbOf m c) (Cert.KernelIdeal.Attn.gqOf m c) (Cert.KernelIdeal.Attn.gkOf m c)
    hrb hgq hgk ⟨R.val / 2048, hb⟩ ⟨y.val / 64, hh⟩ ⟨R.val % 2048, Nat.mod_lt _ (by decide)⟩
  have hR : R.val = R.val / 2048 * 2048 + R.val % 2048 := by omega
  have hy : y.val = y.val / 64 * 64 + y.val % 64 := by omega
  rw [Cert.ReferenceIdeal.Attn.reference_apply _ _ _ _ R y ⟨R.val / 2048, hb⟩ ⟨y.val / 64, hh⟩ ⟨R.val % 2048, Nat.mod_lt _ (by decide)⟩
      ⟨y.val % 64, Nat.mod_lt _ (by decide)⟩ hR hy σ (fun k => (hσ k).1),
    Cert.KernelIdeal.Attn.rows_apply m c R y ⟨R.val / 2048, hb⟩ ⟨y.val / 64, hh⟩ ⟨R.val % 2048, Nat.mod_lt _ (by decide)⟩
      ⟨y.val % 64, Nat.mod_lt _ (by decide)⟩ hR hy σ (fun k => (hσ k).2)]

/-- The value claim. -/
theorem algebraic : Cert.algebraic_KernelIdeal_ReferenceIdeal_pre_finite_parameters (hKernelIdeal := Cert.KernelIdeal.Gen.facts)
    (hReferenceIdeal := Cert.ReferenceIdeal.Gen.facts) (hPre_finite_parameters := Cert.Pre_finite_parameters.facts) := by
  intro m g m' g' hpre hagree
  have := Cert.Pre_finite_parameters.facts
  refine ⟨fun c => Cert.KernelIdeal.Attn.rows m c, Cert.KernelIdeal.Attn.run m g, (θ_run _ _ _).mono (fun r h c => ?_) (Cert.ReferenceIdeal.Value.run m' g')⟩
  obtain ⟨hv, h0, h1, h2, h3⟩ := h c
  obtain ⟨a0, a1, a2, a3⟩ := hagree c
  obtain ⟨p1, p2, p3⟩ := Cert.Pre_finite_parameters.parameters_real _ _ _ _ (hpre c)
  refine ⟨?_, h0, h1, h2, h3⟩
  rw [hv, Cert.ReferenceIdeal.Read.val_main_v103_eq, a0, a1, a2, a3]
  exact rows_eq m c p1 p2 p3

end Cert.Attn

end
-- ==== Proof.Attn.RefFrame.lean ====
/-
  The frame of the reference: it runs to completion, its arguments end unchanged, and, declaring no semaphore, it
  ends with every counter at zero.
-/
module

public import proofs.«01_k».proof.Proof.Gen.ReferenceIdeal.Run
public import Idealize.ShloMosaic.Lib.Quiescent

@[expose] public section

noncomputable section

namespace Cert.ReferenceIdeal.Attn

open Cert.ReferenceIdeal
open Idealize.ShloMosaic Idealize.ShloMosaic.TcCoe Idealize.SL.Sem

variable {F : FTy → Type} [FloatOps F]

/-- The reference's arguments end unchanged and every counter at zero. -/
theorem frame [Facts] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2, sem_eq_zero_of_no_sems (by decide) r.2⟩) (Value.run m ρ)

end Cert.ReferenceIdeal.Attn

end
-- ==== Proof.Experts.Runs.lean ====
/-
  What the runs of the expert body share: its branch conditions in closed form, the two tables, and the scratch buffer.
-/
module

public import proofs.«01_k».proof.Proof.Gen.ExpertsIdeal.Skeleton
public import proofs.«01_k».proof.Proof.Gen.ExpertsIdeal.Loops
public import proofs.«01_k».proof.Proof.Gen.ExpertsIdeal.Launch
public import Idealize.ShloMosaic.Lib.Pipeline.FrameBody
public import Idealize.ShloMosaic.Lib.Pipeline.TableIdle
public import Idealize.ShloMosaic.Lib.Ring
public import Idealize.ShloMosaic.Lib.WholeRead
public import Idealize.ShloMosaic.Lib.Pointwise
public import Idealize.ShloMosaic.Lib.Tactic
public import Idealize.ShloMosaic.Lib.WordCmp

@[expose] public section

set_option maxRecDepth 16384

noncomputable section

namespace Cert.ExpertsIdeal.Ffn

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The body starts a row tile (its first block of hidden columns). -/
abbrev condS (i : grid0.Coords) : Prop := k0_cond1 i = 1#1

theorem hcondS : ∀ t : Fin grid0.N, condS (grid0.coords t) ↔ t.val % 7 = 0 :=
  (fun t => by
    have ht : t.val < 952 := Nat.lt_of_lt_of_eq t.isLt N_0
    have e0 : (grid0.coords t 0).val = t.val / 7 % 136 := Pipeline.Grid.coords_val t 0 (by decide) rfl
    have e1 : (grid0.coords t 1).val = t.val / 1 % 7 := Pipeline.Grid.coords_val t 1 (by decide) rfl
    simp only [condS, k0_cond1, e0, e1]
    word_cmp
   : ∀ t : Fin grid0.N, condS (grid0.coords t) ↔ t.val % 7 = 0)

/-- The activity word of the row tile a grid point belongs to. -/
def actWord (x : Vec F S136 .i32) (i : grid0.Coords) : BitVec 32 :=
  x (fun a => ⟨k0_off1 i a, by have := k0_off1_inb i a; have h1 : S1.size a = 1 := by fin_cases a; rfl
                               omega⟩)

/-- The row tile is an active one. -/
abbrev condA (x : Vec F S136 .i32) (i : grid0.Coords) : Prop := k0_cond2 (actWord (F := F) x i) = 1#1

/-- The word the body loads is the tile's activity word. -/
theorem load_act {arg3 : Memref sig .tc .smem S136 .i32} (harg3 : arg3.IsWhole) (x : Vec F S136 .i32) (i : grid0.Coords)
    (inb : ∀ a, (k0_off1 i) a + S1.size a ≤ S136.size a) (z) :
    View.readAt (Elt F) arg3.view (Rect.unit (s := S136) (k0_off1 i) S1.size inb).toLoadRect (harg3.unread x) z
      = actWord (F := F) x i := by
  rw [harg3.readAt_unread]
  unfold actWord
  congr 1
  funext a
  refine Fin.ext ?_
  fin_cases a
  have : (z 0).val < 1 := (z 0).isLt
  show k0_off1 i 0 + 1 * (z 0).val = k0_off1 i 0
  omega

/-- The scratch buffer of normalised rows. -/
abbrev scM : Memref sig .tc .vmem S512x2048 .bf16 := Memref.whole cc0_scratch0

theorem PhiA_eq (c : Dev nD) :
    (Pipeline.ΦA spec0 c : sProp 𝕄)
      = iprop((∃ d, owns (c : Thread nD τ) scM fullShare d) ∗ (∃ r, prngReg c r)) := by
  unfold Pipeline.ΦA; rw [scopedRest0_eq]; simp only [scM, owns_whole]; try rfl

end Cert.ExpertsIdeal.Ffn

end
-- ==== Proof.Experts.RunStartActive.lean ====
/-
  The expert body at the first block of hidden columns of an active row tile, run from its stored instructions.
-/
module

public import proofs.«01_k».proof.Proof.Experts.Runs

@[expose] public section

set_option maxRecDepth 16384

noncomputable section

namespace Cert.ExpertsIdeal.Ffn

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option backward.proofsInPublic true in
set_option maxHeartbeats 1000000 in
/-- The body at the first block of hidden columns of an active row tile: on whole staging memrefs it runs and leaves the pieces found here. -/
noncomputable def runStartActive (c : Dev nD) (i : grid0.Coords) (arg2 : Memref sig .tc .smem S136 .i32) (harg2 : arg2.IsWhole) (arg3 : Memref sig .tc .smem S136 .i32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x1x2048x1024 .bf16) (harg6 : arg6.IsWhole) (arg7 : Memref sig .tc .vmem S1x1x2048x1024 .bf16) (harg7 : arg7.IsWhole) (arg8 : Memref sig .tc .vmem S1x1x1024x2048 .bf16) (harg8 : arg8.IsWhole) (arg9 : Memref sig .tc .vmem S512x2048 .f32) (harg9 : arg9.IsWhole) (arg10 : Memref sig .tc .vmem S512x2048 .bf16) (harg10 : arg10.IsWhole)
    (xa : Vec F S136 .i32) (x0 : Vec F S512x2048 .f32) (x1 : Vec F S1x2048 .f32) (x2 : Vec F S1x1x2048x1024 .bf16) (x3 : Vec F S1x1x2048x1024 .bf16) (x4 : Vec F S1x1x1024x2048 .bf16) (hs : condS i) (ha : condA (F := F) xa i) :
    Σ' (L9 : List (View.Piece (Elt F) S512x2048 .f32)), { LS : List (View.Piece (Elt F) S512x2048 .bf16) //
      ∀ (E : Set ℕ) (K : PUnit → sProp 𝕄),
        iprop(owns (c : Thread nD τ) arg3 fullShare.right xa ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ (∃ d, owns (c : Thread nD τ) arg10 fullShare d)
            ∗ (iprop(owns (c : Thread nD τ) arg3 fullShare.right xa ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f LS)) -∗ K PUnit.unit))
          ⊢ wp frame (wpE (defs₀ (F := F)) Variants.none c none) E (cc0_swiglu_grouped i arg2 harg2 arg3 harg3 arg4 harg4 arg5 harg5 arg6 harg6 arg7 harg7 arg8 harg8 arg9 harg9 arg10 harg10) K } := by
  refine ⟨?_, ?_, fun E K => ?run⟩
  case run =>
    simp only [cc0_swiglu_grouped_eq_skeleton]; unfold cc0_swiglu_grouped_skel
    unfold owns
    iintro ⟨⟨%fa, %hfa, HA⟩, ⟨%f0, %hf0, H0⟩, ⟨%f1, %hf1, H1⟩, ⟨%f2, %hf2, H2⟩, ⟨%f3, %hf3, H3⟩, ⟨%f4, %hf4, H4⟩, ⟨%d9, %f9, -, H9⟩, ⟨%ds, %fs, -, HS⟩, Hk⟩
    obtain rfl := harg3.eq_unread hfa; obtain rfl := harg4.eq_unread hf0; obtain rfl := harg5.eq_unread hf1; obtain rfl := harg6.eq_unread hf2; obtain rfl := harg7.eq_unread hf3; obtain rfl := harg8.eq_unread hf4
    have hrd0 : ∀ (𝒱 : Variants) (c : Dev nD) (bd : Option 𝒱.V) (i : grid0.Coords) (arg2 : Memref sig .tc .smem S136 .i32) (harg2 : arg2.IsWhole) (arg3 : Memref sig .tc .smem S136 .i32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x1x2048x1024 .bf16) (harg6 : arg6.IsWhole) (arg7 : Memref sig .tc .vmem S1x1x2048x1024 .bf16) (harg7 : arg7.IsWhole) (arg8 : Memref sig .tc .vmem S1x1x1024x2048 .bf16) (harg8 : arg8.IsWhole) (arg9 : Memref sig .tc .vmem S512x2048 .f32) (harg9 : arg9.IsWhole) (arg10 : Memref sig .tc .vmem S512x2048 .bf16) (harg10 : arg10.IsWhole) (k0_h1 : k0_cond1 i = 1#1) (X_arg4 : BufTy.Contents (Elt F) arg4.view.ty) (X_arg5 : BufTy.Contents (Elt F) arg5.view.ty) (hrdF : BufTy.Contents (Elt F) arg10.view.ty) (hrdB : LoadRect S512x2048), arg10.view.readAt (Elt F) hrdB (arg10.view.writes (Elt F) hrdF (pb_k0_t1 (F := F) 𝒱 c bd i arg2 harg2 arg3 harg3 arg4 harg4 arg5 harg5 arg6 harg6 arg7 harg7 arg8 harg8 arg9 harg9 arg10 harg10 k0_h1 X_arg4 X_arg5 (Scf.trips k0_t1_loop.lb k0_t1_loop.ub k0_t1_loop.st))) = arg10.view.readCov (pb_k0_t1 (F := F) 𝒱 c bd i arg2 harg2 arg3 harg3 arg4 harg4 arg5 harg5 arg6 harg6 arg7 harg7 arg8 harg8 arg9 harg9 arg10 harg10 k0_h1 X_arg4 X_arg5 (Scf.trips k0_t1_loop.lb k0_t1_loop.ub k0_t1_loop.st)) hrdB := fun 𝒱 c bd i arg2 harg2 arg3 harg3 arg4 harg4 arg5 harg5 arg6 harg6 arg7 harg7 arg8 harg8 arg9 harg9 arg10 harg10 k0_h1 X_arg4 X_arg5 hrdF hrdB => View.readAt_writes_of_cover _ hrdF _ hrdB (fun hrdJ => View.cover_of_tiledL (pb_k0_t1 (F := F) 𝒱 c bd i arg2 harg2 arg3 harg3 arg4 harg4 arg5 harg5 arg6 harg6 arg7 harg7 arg8 harg8 arg9 harg9 arg10 harg10 k0_h1 X_arg4 X_arg5 (Scf.trips k0_t1_loop.lb k0_t1_loop.ub k0_t1_loop.st)) S64x2048.size (by sl_kernel_rfl) (hrdB.idx hrdJ))
    have hA : ∀ inb z, k0_cond2 (View.readAt (Elt F) arg3.view (Rect.unit (s := S136) (k0_off1 i) S1.size inb).toLoadRect (harg3.unread xa) z) = 1#1 := fun inb z => (congrArg k0_cond2 (load_act (F := F) harg3 xa i inb z)).trans ha
    sl_exec (disch := first | sl_exact hs | exact hA _ _)
    sl_step
    iapply Hk
    isplitl [HA]
    · iexists _; isplitr; · ipureintro; exact harg3.read_unread _
      iexact HA
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H9]; · iexists _; iexact H9
    iexists _; iexact HS

end Cert.ExpertsIdeal.Ffn

end
-- ==== Proof.Experts.RunStartIdle.lean ====
/-
  The expert body at the first block of hidden columns of an inactive row tile, run from its stored instructions.
-/
module

public import proofs.«01_k».proof.Proof.Experts.Runs

@[expose] public section

set_option maxRecDepth 16384

noncomputable section

namespace Cert.ExpertsIdeal.Ffn

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option backward.proofsInPublic true in
set_option maxHeartbeats 1000000 in
/-- The body at the first block of hidden columns of an inactive row tile: on whole staging memrefs it runs and leaves the pieces found here. -/
noncomputable def runStartIdle (c : Dev nD) (i : grid0.Coords) (arg2 : Memref sig .tc .smem S136 .i32) (harg2 : arg2.IsWhole) (arg3 : Memref sig .tc .smem S136 .i32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x1x2048x1024 .bf16) (harg6 : arg6.IsWhole) (arg7 : Memref sig .tc .vmem S1x1x2048x1024 .bf16) (harg7 : arg7.IsWhole) (arg8 : Memref sig .tc .vmem S1x1x1024x2048 .bf16) (harg8 : arg8.IsWhole) (arg9 : Memref sig .tc .vmem S512x2048 .f32) (harg9 : arg9.IsWhole) (arg10 : Memref sig .tc .vmem S512x2048 .bf16) (harg10 : arg10.IsWhole)
    (xa : Vec F S136 .i32) (x0 : Vec F S512x2048 .f32) (x1 : Vec F S1x2048 .f32) (x2 : Vec F S1x1x2048x1024 .bf16) (x3 : Vec F S1x1x2048x1024 .bf16) (x4 : Vec F S1x1x1024x2048 .bf16) (hs : condS i) (ha : ¬condA (F := F) xa i) :
    Σ' (L9 : List (View.Piece (Elt F) S512x2048 .f32)), { LS : List (View.Piece (Elt F) S512x2048 .bf16) //
      ∀ (E : Set ℕ) (K : PUnit → sProp 𝕄),
        iprop(owns (c : Thread nD τ) arg3 fullShare.right xa ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ (∃ d, owns (c : Thread nD τ) arg10 fullShare d)
            ∗ (iprop(owns (c : Thread nD τ) arg3 fullShare.right xa ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f LS)) -∗ K PUnit.unit))
          ⊢ wp frame (wpE (defs₀ (F := F)) Variants.none c none) E (cc0_swiglu_grouped i arg2 harg2 arg3 harg3 arg4 harg4 arg5 harg5 arg6 harg6 arg7 harg7 arg8 harg8 arg9 harg9 arg10 harg10) K } := by
  refine ⟨?_, ?_, fun E K => ?run⟩
  case run =>
    simp only [cc0_swiglu_grouped_eq_skeleton]; unfold cc0_swiglu_grouped_skel
    unfold owns
    iintro ⟨⟨%fa, %hfa, HA⟩, ⟨%f0, %hf0, H0⟩, ⟨%f1, %hf1, H1⟩, ⟨%f2, %hf2, H2⟩, ⟨%f3, %hf3, H3⟩, ⟨%f4, %hf4, H4⟩, ⟨%d9, %f9, -, H9⟩, ⟨%ds, %fs, -, HS⟩, Hk⟩
    obtain rfl := harg3.eq_unread hfa; obtain rfl := harg4.eq_unread hf0; obtain rfl := harg5.eq_unread hf1; obtain rfl := harg6.eq_unread hf2; obtain rfl := harg7.eq_unread hf3; obtain rfl := harg8.eq_unread hf4
    have hrd0 : ∀ (𝒱 : Variants) (c : Dev nD) (bd : Option 𝒱.V) (i : grid0.Coords) (arg2 : Memref sig .tc .smem S136 .i32) (harg2 : arg2.IsWhole) (arg3 : Memref sig .tc .smem S136 .i32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x1x2048x1024 .bf16) (harg6 : arg6.IsWhole) (arg7 : Memref sig .tc .vmem S1x1x2048x1024 .bf16) (harg7 : arg7.IsWhole) (arg8 : Memref sig .tc .vmem S1x1x1024x2048 .bf16) (harg8 : arg8.IsWhole) (arg9 : Memref sig .tc .vmem S512x2048 .f32) (harg9 : arg9.IsWhole) (arg10 : Memref sig .tc .vmem S512x2048 .bf16) (harg10 : arg10.IsWhole) (k0_h1 : k0_cond1 i = 1#1) (X_arg4 : BufTy.Contents (Elt F) arg4.view.ty) (X_arg5 : BufTy.Contents (Elt F) arg5.view.ty) (hrdF : BufTy.Contents (Elt F) arg10.view.ty) (hrdB : LoadRect S512x2048), arg10.view.readAt (Elt F) hrdB (arg10.view.writes (Elt F) hrdF (pb_k0_t1 (F := F) 𝒱 c bd i arg2 harg2 arg3 harg3 arg4 harg4 arg5 harg5 arg6 harg6 arg7 harg7 arg8 harg8 arg9 harg9 arg10 harg10 k0_h1 X_arg4 X_arg5 (Scf.trips k0_t1_loop.lb k0_t1_loop.ub k0_t1_loop.st))) = arg10.view.readCov (pb_k0_t1 (F := F) 𝒱 c bd i arg2 harg2 arg3 harg3 arg4 harg4 arg5 harg5 arg6 harg6 arg7 harg7 arg8 harg8 arg9 harg9 arg10 harg10 k0_h1 X_arg4 X_arg5 (Scf.trips k0_t1_loop.lb k0_t1_loop.ub k0_t1_loop.st)) hrdB := fun 𝒱 c bd i arg2 harg2 arg3 harg3 arg4 harg4 arg5 harg5 arg6 harg6 arg7 harg7 arg8 harg8 arg9 harg9 arg10 harg10 k0_h1 X_arg4 X_arg5 hrdF hrdB => View.readAt_writes_of_cover _ hrdF _ hrdB (fun hrdJ => View.cover_of_tiledL (pb_k0_t1 (F := F) 𝒱 c bd i arg2 harg2 arg3 harg3 arg4 harg4 arg5 harg5 arg6 harg6 arg7 harg7 arg8 harg8 arg9 harg9 arg10 harg10 k0_h1 X_arg4 X_arg5 (Scf.trips k0_t1_loop.lb k0_t1_loop.ub k0_t1_loop.st)) S64x2048.size (by sl_kernel_rfl) (hrdB.idx hrdJ))
    have hA : ∀ inb z, ¬k0_cond2 (View.readAt (Elt F) arg3.view (Rect.unit (s := S136) (k0_off1 i) S1.size inb).toLoadRect (harg3.unread xa) z) = 1#1 := fun inb z hx => ha ((congrArg k0_cond2 (load_act (F := F) harg3 xa i inb z)).symm.trans hx)
    sl_exec (disch := first | sl_exact hs | exact hA _ _)
    sl_step
    iapply Hk
    isplitl [HA]
    · iexists _; isplitr; · ipureintro; exact harg3.read_unread _
      iexact HA
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H9]; · iexists _; iexact H9
    iexists _; iexact HS

end Cert.ExpertsIdeal.Ffn

end
-- ==== Proof.Experts.RunNextActive.lean ====
/-
  The expert body at a later block of hidden columns of an active row tile, run from its stored instructions.
-/
module

public import proofs.«01_k».proof.Proof.Experts.Runs

@[expose] public section

set_option maxRecDepth 16384

noncomputable section

namespace Cert.ExpertsIdeal.Ffn

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option backward.proofsInPublic true in
set_option maxHeartbeats 1000000 in
/-- The body at a later block of hidden columns of an active row tile: on whole staging memrefs it runs and leaves the pieces found here. -/
noncomputable def runNextActive (c : Dev nD) (i : grid0.Coords) (arg2 : Memref sig .tc .smem S136 .i32) (harg2 : arg2.IsWhole) (arg3 : Memref sig .tc .smem S136 .i32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x1x2048x1024 .bf16) (harg6 : arg6.IsWhole) (arg7 : Memref sig .tc .vmem S1x1x2048x1024 .bf16) (harg7 : arg7.IsWhole) (arg8 : Memref sig .tc .vmem S1x1x1024x2048 .bf16) (harg8 : arg8.IsWhole) (arg9 : Memref sig .tc .vmem S512x2048 .f32) (harg9 : arg9.IsWhole) (arg10 : Memref sig .tc .vmem S512x2048 .bf16) (harg10 : arg10.IsWhole)
    (xa : Vec F S136 .i32) (x0 : Vec F S512x2048 .f32) (x1 : Vec F S1x2048 .f32) (x2 : Vec F S1x1x2048x1024 .bf16) (x3 : Vec F S1x1x2048x1024 .bf16) (x4 : Vec F S1x1x1024x2048 .bf16) (y : Vec F S512x2048 .f32) (h : Vec F S512x2048 .bf16) (hs : ¬condS i) (ha : condA (F := F) xa i) :
    { L9 : List (View.Piece (Elt F) S512x2048 .f32) //
      ∀ (E : Set ℕ) (K : PUnit → sProp 𝕄),
        iprop(owns (c : Thread nD τ) arg3 fullShare.right xa ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare y ∗ owns (c : Thread nD τ) arg10 fullShare h
            ∗ (iprop(owns (c : Thread nD τ) arg3 fullShare.right xa ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ f, arg9.view.loc (c : Thread nD τ) ↦[arg9.view.set]{fullShare} arg9.view.writes (Elt F) f L9) ∗ owns (c : Thread nD τ) arg10 fullShare h) -∗ K PUnit.unit))
          ⊢ wp frame (wpE (defs₀ (F := F)) Variants.none c none) E (cc0_swiglu_grouped i arg2 harg2 arg3 harg3 arg4 harg4 arg5 harg5 arg6 harg6 arg7 harg7 arg8 harg8 arg9 harg9 arg10 harg10) K } := by
  refine ⟨?_, fun E K => ?run⟩
  case run =>
    simp only [cc0_swiglu_grouped_eq_skeleton]; unfold cc0_swiglu_grouped_skel
    unfold owns
    iintro ⟨⟨%fa, %hfa, HA⟩, ⟨%f0, %hf0, H0⟩, ⟨%f1, %hf1, H1⟩, ⟨%f2, %hf2, H2⟩, ⟨%f3, %hf3, H3⟩, ⟨%f4, %hf4, H4⟩, ⟨%f9, %hf9, H9⟩, ⟨%fs, %hfs, HS⟩, Hk⟩
    obtain rfl := harg3.eq_unread hfa; obtain rfl := harg4.eq_unread hf0; obtain rfl := harg5.eq_unread hf1; obtain rfl := harg6.eq_unread hf2; obtain rfl := harg7.eq_unread hf3; obtain rfl := harg8.eq_unread hf4; obtain rfl := harg9.eq_unread hf9; obtain rfl := harg10.eq_unread hfs
    have hA : ∀ inb z, k0_cond2 (View.readAt (Elt F) arg3.view (Rect.unit (s := S136) (k0_off1 i) S1.size inb).toLoadRect (harg3.unread xa) z) = 1#1 := fun inb z => (congrArg k0_cond2 (load_act (F := F) harg3 xa i inb z)).trans ha
    sl_exec (disch := first | sl_exact hs | exact hA _ _)
    sl_step
    iapply Hk
    isplitl [HA]
    · iexists _; isplitr; · ipureintro; exact harg3.read_unread _
      iexact HA
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H9]; · iexists _; iexact H9
    iexists _; isplitr; · ipureintro; exact harg10.read_unread _
    iexact HS

end Cert.ExpertsIdeal.Ffn

end
-- ==== Proof.Experts.RunNextIdle.lean ====
/-
  The expert body at a later block of hidden columns of an inactive row tile, run from its stored instructions.
-/
module

public import proofs.«01_k».proof.Proof.Experts.Runs

@[expose] public section

set_option maxRecDepth 16384

noncomputable section

namespace Cert.ExpertsIdeal.Ffn

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option backward.proofsInPublic true in
set_option maxHeartbeats 1000000 in
/-- The body at a later block of hidden columns of an inactive row tile: on whole staging memrefs it runs and leaves the pieces found here. -/
theorem runNextIdle (c : Dev nD) (i : grid0.Coords) (arg2 : Memref sig .tc .smem S136 .i32) (harg2 : arg2.IsWhole) (arg3 : Memref sig .tc .smem S136 .i32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x1x2048x1024 .bf16) (harg6 : arg6.IsWhole) (arg7 : Memref sig .tc .vmem S1x1x2048x1024 .bf16) (harg7 : arg7.IsWhole) (arg8 : Memref sig .tc .vmem S1x1x1024x2048 .bf16) (harg8 : arg8.IsWhole) (arg9 : Memref sig .tc .vmem S512x2048 .f32) (harg9 : arg9.IsWhole) (arg10 : Memref sig .tc .vmem S512x2048 .bf16) (harg10 : arg10.IsWhole)
    (xa : Vec F S136 .i32) (x0 : Vec F S512x2048 .f32) (x1 : Vec F S1x2048 .f32) (x2 : Vec F S1x1x2048x1024 .bf16) (x3 : Vec F S1x1x2048x1024 .bf16) (x4 : Vec F S1x1x1024x2048 .bf16) (y : Vec F S512x2048 .f32) (h : Vec F S512x2048 .bf16) (hs : ¬condS i) (ha : ¬condA (F := F) xa i) :
    ∀ (E : Set ℕ) (K : PUnit → sProp 𝕄),
        iprop(owns (c : Thread nD τ) arg3 fullShare.right xa ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare y ∗ owns (c : Thread nD τ) arg10 fullShare h
            ∗ (iprop(owns (c : Thread nD τ) arg3 fullShare.right xa ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare y ∗ owns (c : Thread nD τ) arg10 fullShare h) -∗ K PUnit.unit))
          ⊢ wp frame (wpE (defs₀ (F := F)) Variants.none c none) E (cc0_swiglu_grouped i arg2 harg2 arg3 harg3 arg4 harg4 arg5 harg5 arg6 harg6 arg7 harg7 arg8 harg8 arg9 harg9 arg10 harg10) K := by
  intro E K; skip
  · skip
    simp only [cc0_swiglu_grouped_eq_skeleton]; unfold cc0_swiglu_grouped_skel
    unfold owns
    iintro ⟨⟨%fa, %hfa, HA⟩, ⟨%f0, %hf0, H0⟩, ⟨%f1, %hf1, H1⟩, ⟨%f2, %hf2, H2⟩, ⟨%f3, %hf3, H3⟩, ⟨%f4, %hf4, H4⟩, ⟨%f9, %hf9, H9⟩, ⟨%fs, %hfs, HS⟩, Hk⟩
    obtain rfl := harg3.eq_unread hfa; obtain rfl := harg4.eq_unread hf0; obtain rfl := harg5.eq_unread hf1; obtain rfl := harg6.eq_unread hf2; obtain rfl := harg7.eq_unread hf3; obtain rfl := harg8.eq_unread hf4; obtain rfl := harg9.eq_unread hf9; obtain rfl := harg10.eq_unread hfs
    have hA : ∀ inb z, ¬k0_cond2 (View.readAt (Elt F) arg3.view (Rect.unit (s := S136) (k0_off1 i) S1.size inb).toLoadRect (harg3.unread xa) z) = 1#1 := fun inb z hx => ha ((congrArg k0_cond2 (load_act (F := F) harg3 xa i inb z)).symm.trans hx)
    sl_exec (disch := first | sl_exact hs | exact hA _ _)
    sl_step
    iapply Hk
    isplitl [HA]
    · iexists _; isplitr; · ipureintro; exact harg3.read_unread _
      iexact HA
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H9]
    · iexists _; isplitr; · ipureintro; exact harg9.read_unread _
      iexact H9
    iexists _; isplitr; · ipureintro; exact harg10.read_unread _
    iexact HS

end Cert.ExpertsIdeal.Ffn

end
-- ==== Proof.Experts.Pieces.lean ====
/-
  The blocks the expert body stores, as functions of the blocks it loads, and the pieces of its runs read back as them.
-/
module

public import proofs.«01_k».proof.Proof.Experts.RunStartActive
public import proofs.«01_k».proof.Proof.Experts.RunStartIdle
public import proofs.«01_k».proof.Proof.Experts.RunNextActive
public import proofs.«01_k».proof.Proof.Experts.RunNextIdle
public import Idealize.ShloMosaic.Lib.VecWindow
public import Idealize.ShloMosaic.Lib.Pipeline.ReadBack
public import Idealize.ShloMosaic.Lib.Pipeline.ValueKit

@[expose] public section

set_option maxRecDepth 16384

noncomputable section

namespace Cert.ExpertsIdeal.Ffn

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Rows `64 r` to `64 r + 63` of a row tile. -/
def rowTile (x : Vec F S512x2048 .f32) (r : Fin 8) : Vec F S64x2048 .f32 := fun z =>
  x (ix2 ⟨64 * r.val + (z 0).val, by have := r.isLt; have : (z 0).val < 64 := (z 0).isLt; omega⟩ ⟨(z 1).val, (z 1).isLt⟩)

/-- The row tile normalised. -/
def hBlk (x0 : Vec F S512x2048 .f32) (x1 : Vec F S1x2048 .f32) : Vec F S512x2048 .bf16 := fun y =>
  k0_pay1 (rowTile x0 ⟨(y 0).val / 64, by have : (y 0).val < 512 := (y 0).isLt; omega⟩) x1
    (ix2 ⟨(y 0).val % 64, Nat.mod_lt _ (by decide)⟩ ⟨(y 1).val, (y 1).isLt⟩)

theorem trips_le (k : Fin k0_t1_loop.trips) : k.val < 8 := k.isLt

theorem hBlk_emb (x0 : Vec F S512x2048 .f32) (x1 : Vec F S1x2048 .f32) (r : Fin 8) (off : Fin 2 → ℕ)
    (hoff : off = ![64 * r.val, 0]) (inb : ∀ a, off a + S64x2048.size a ≤ S512x2048.size a) (z : S64x2048.Idx) :
    hBlk x0 x1 ((Rect.unit (s := S512x2048) off S64x2048.size inb).emb z) = k0_pay1 (rowTile x0 r) x1 z := by
  subst hoff
  have h0 : (z 0).val < 64 := (z 0).isLt
  have e0 : (((Rect.unit (s := S512x2048) ![64 * r.val, 0] S64x2048.size inb).emb z) 0).val = 64 * r.val + (z 0).val := by
    show 64 * r.val + 1 * (z 0).val = _; omega
  have e1 : (((Rect.unit (s := S512x2048) ![64 * r.val, 0] S64x2048.size inb).emb z) 1).val = (z 1).val := by
    show 0 + 1 * (z 1).val = _; omega
  have a0 : (64 * r.val + (z 0).val) / 64 = r.val := by omega
  have b0 : (64 * r.val + (z 0).val) % 64 = (z 0).val := by omega
  unfold hBlk
  have hr : (⟨(((Rect.unit (s := S512x2048) ![64 * r.val, 0] S64x2048.size inb).emb z) 0).val / 64, by rw [e0, a0]; exact r.isLt⟩ : Fin 8) = r :=
    Fin.ext (by show (((Rect.unit (s := S512x2048) ![64 * r.val, 0] S64x2048.size inb).emb z) 0).val / 64 = r.val; rw [e0, a0])
  rw [hr]
  congr 1
  funext a
  refine Fin.ext ?_
  fin_cases a
  · show (((Rect.unit (s := S512x2048) ![64 * r.val, 0] S64x2048.size inb).emb z) 0).val % 64 = (z 0).val; rw [e0, b0]
  · exact e1

theorem rowTile_read {arg : Memref sig .tc .vmem S512x2048 .f32} (harg : arg.IsWhole) (x : Vec F S512x2048 .f32)
    (r : Fin 8) (off : Fin 2 → ℕ) (hoff : off = ![64 * r.val, 0]) (inb : ∀ a, off a + S64x2048.size a ≤ S512x2048.size a) :
    View.readAt (Elt F) arg.view (Rect.unit (s := S512x2048) off S64x2048.size inb).toLoadRect (harg.unread x) = rowTile x r := by
  subst hoff
  funext z
  rw [harg.readAt_unread]
  unfold rowTile
  congr 1
  funext a
  refine Fin.ext ?_
  fin_cases a
  · show 64 * r.val + 1 * (z 0).val = 64 * r.val + (z 0).val; omega
  · show 0 + 1 * (z 1).val = (z 1).val; omega

/-- A load of a whole block is the block. -/
theorem full_read {sp : Space} {s : Shape} {e : EltTy} {arg : Memref sig .tc sp s e} (harg : arg.IsWhole) (x : Vec F s e)
    (off : Fin s.rank → ℕ) (inb : ∀ a, off a + s.size a ≤ s.size a) :
    View.readAt (Elt F) arg.view (Rect.unit (s := s) off s.size inb).toLoadRect (harg.unread x) = x := by
  rw [View.readAt_full, harg.read_unread]

theorem mem_rows (off : Fin 2 → ℕ) (r : Fin 8) (hoff : off = ![64 * r.val, 0])
    (inb : ∀ a, off a + S64x2048.size a ≤ S512x2048.size a) (y : S512x2048.Idx) (h0 : (y 0).val / 64 = r.val) :
    y ∈ (Rect.unit (s := S512x2048) off S64x2048.size inb).set := by
  subst hoff
  rw [Rect.mem_set_unit]
  intro a
  fin_cases a
  · show 64 * r.val ≤ (y 0).val ∧ (y 0).val < 64 * r.val + 64; omega
  · have : (y 1).val < 2048 := (y 1).isLt
    show 0 ≤ (y 1).val ∧ (y 1).val < 0 + 2048; omega

theorem pay3_congr {a a' : Vec F S512x2048 .bf16} {b b' d d' : Vec F S1x1x2048x1024 .bf16} {e e' : Vec F S512x2048 .f32}
    {g g' : Vec F S1x1x1024x2048 .bf16} (h1 : a = a') (h2 : b = b') (h3 : d = d') (h4 : e = e') (h5 : g = g') :
    k0_pay3 a b d e g = k0_pay3 a' b' d' e' g' := by
  subst h1 h2 h3 h4 h5; rfl

theorem pay1_congr {a a' : Vec F S64x2048 .f32} {b b' : Vec F S1x2048 .f32} (h1 : a = a') (h2 : b = b') :
    k0_pay1 a b = k0_pay1 a' b' := by
  subst h1 h2; rfl

variable (c : Dev nD) (i : grid0.Coords) (arg2 : Memref sig .tc .smem S136 .i32) (harg2 : arg2.IsWhole) (arg3 : Memref sig .tc .smem S136 .i32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x1x2048x1024 .bf16) (harg6 : arg6.IsWhole) (arg7 : Memref sig .tc .vmem S1x1x2048x1024 .bf16) (harg7 : arg7.IsWhole) (arg8 : Memref sig .tc .vmem S1x1x1024x2048 .bf16) (harg8 : arg8.IsWhole) (arg9 : Memref sig .tc .vmem S512x2048 .f32) (harg9 : arg9.IsWhole) (arg10 : Memref sig .tc .vmem S512x2048 .bf16) (harg10 : arg10.IsWhole)
    (xa : Vec F S136 .i32) (x0 : Vec F S512x2048 .f32) (x1 : Vec F S1x2048 .f32) (x2 : Vec F S1x1x2048x1024 .bf16) (x3 : Vec F S1x1x2048x1024 .bf16) (x4 : Vec F S1x1x1024x2048 .bf16)

/-- The rows one trip stores are the normalised rows. -/
theorem row_pieces (hs : condS i) (k : Fin k0_t1_loop.trips) :
    View.PiecesOf (hBlk x0 x1) (tripL_k0_t1 (F := F) Variants.none c none i arg2 harg2 arg3 harg3 arg4 harg4 arg5 harg5 arg6 harg6 arg7 harg7 arg8 harg8 arg9 harg9 arg10 harg10 hs (harg4.unread x0) (harg5.unread x1) k) := by
  unfold tripL_k0_t1 trip_k0_t1; dsimp only
  refine ⟨?_, trivial⟩
  intro z
  refine Eq.trans ?_ (hBlk_emb x0 x1 ⟨k.val, trips_le k⟩ _ (k0_off2_eq k) (k0_off2_inb i k hs) z).symm
  refine congrFun (pay1_congr ?_ ?_) z
  · exact rowTile_read harg4 x0 ⟨k.val, trips_le k⟩ _ (k0_off2_eq k) (k0_off2_inb i k hs)
  · exact full_read harg5 x1 _ _

/-- The rows one trip stores are its own. -/
theorem row_cover (hs : condS i) (k : Fin k0_t1_loop.trips) (y : S512x2048.Idx) (hy : (y 0).val / 64 = k.val) :
    ∃ p ∈ tripL_k0_t1 (F := F) Variants.none c none i arg2 harg2 arg3 harg3 arg4 harg4 arg5 harg5 arg6 harg6 arg7 harg7 arg8 harg8 arg9 harg9 arg10 harg10 hs (harg4.unread x0) (harg5.unread x1) k, y ∈ p.1.set := by
  unfold tripL_k0_t1 trip_k0_t1; dsimp only
  exact ⟨_, List.mem_cons_self, mem_rows _ ⟨k.val, trips_le k⟩ (k0_off2_eq k) (k0_off2_inb i k hs) y hy⟩

theorem row_pb (hs : condS i) : ∀ n : ℕ, n ≤ 8 →
    (∀ p ∈ pb_k0_t1 (F := F) Variants.none c none i arg2 harg2 arg3 harg3 arg4 harg4 arg5 harg5 arg6 harg6 arg7 harg7 arg8 harg8 arg9 harg9 arg10 harg10 hs (harg4.unread x0) (harg5.unread x1) n, ∀ x : p.1.shape.Idx, p.2 x = hBlk x0 x1 (p.1.emb x))
      ∧ ∀ y : S512x2048.Idx, (y 0).val < 64 * n → ∃ p ∈ pb_k0_t1 (F := F) Variants.none c none i arg2 harg2 arg3 harg3 arg4 harg4 arg5 harg5 arg6 harg6 arg7 harg7 arg8 harg8 arg9 harg9 arg10 harg10 hs (harg4.unread x0) (harg5.unread x1) n, y ∈ p.1.set
  | 0, _ => ⟨fun p hp => absurd hp (by rw [pb_k0_t1.eq_1]; exact List.not_mem_nil), fun y hy => absurd hy (by omega)⟩
  | n + 1, hn => by
    obtain ⟨ih, ihc⟩ := row_pb hs n (by omega)
    have e := pb_k0_t1_succ (F := F) Variants.none c none i arg2 harg2 arg3 harg3 arg4 harg4 arg5 harg5 arg6 harg6 arg7 harg7 arg8 harg8 arg9 harg9 arg10 harg10 hs (harg4.unread x0) (harg5.unread x1) ⟨n, hn⟩
    rw [show n + 1 = (⟨n, hn⟩ : Fin k0_t1_loop.trips).val + 1 from rfl, e]
    refine ⟨fun p hp x => ?_, fun y hy => ?_⟩
    · rcases List.mem_append.mp hp with hp | hp
      · exact View.PiecesOf.mem (row_pieces c i arg2 harg2 arg3 harg3 arg4 harg4 arg5 harg5 arg6 harg6 arg7 harg7 arg8 harg8 arg9 harg9 arg10 harg10 x0 x1 hs ⟨n, hn⟩) p hp x
      · exact ih p hp x
    · by_cases h : (y 0).val < 64 * n
      · obtain ⟨p, hp, hm⟩ := ihc y h
        exact ⟨p, List.mem_append_right _ hp, hm⟩
      · obtain ⟨p, hp, hm⟩ := row_cover c i arg2 harg2 arg3 harg3 arg4 harg4 arg5 harg5 arg6 harg6 arg7 harg7 arg8 harg8 arg9 harg9 arg10 harg10 x0 x1 hs ⟨n, hn⟩ y (by
          have hy' : (y 0).val < 64 * (n + 1) := hy
          show (y 0).val / 64 = n; omega)
        exact ⟨p, List.mem_append_left _ hp, hm⟩

theorem row_all (hs : condS i) (y : S512x2048.Idx) :
    ∃ p ∈ pb_k0_t1 (F := F) Variants.none c none i arg2 harg2 arg3 harg3 arg4 harg4 arg5 harg5 arg6 harg6 arg7 harg7 arg8 harg8 arg9 harg9 arg10 harg10 hs (harg4.unread x0) (harg5.unread x1) (Scf.trips k0_t1_loop.lb k0_t1_loop.ub k0_t1_loop.st), y ∈ p.1.set :=
  (row_pb c i arg2 harg2 arg3 harg3 arg4 harg4 arg5 harg5 arg6 harg6 arg7 harg7 arg8 harg8 arg9 harg9 arg10 harg10 x0 x1 hs 8 le_rfl).2 y (by have : (y 0).val < 512 := (y 0).isLt; omega)

theorem row_canon (hs : condS i) : View.canon (pb_k0_t1 (F := F) Variants.none c none i arg2 harg2 arg3 harg3 arg4 harg4 arg5 harg5 arg6 harg6 arg7 harg7 arg8 harg8 arg9 harg9 arg10 harg10 hs (harg4.unread x0) (harg5.unread x1) (Scf.trips k0_t1_loop.lb k0_t1_loop.ub k0_t1_loop.st)) = hBlk x0 x1 := by
  funext y
  exact View.canon_apply_of_pieces _ _ (row_pb c i arg2 harg2 arg3 harg3 arg4 harg4 arg5 harg5 arg6 harg6 arg7 harg7 arg8 harg8 arg9 harg9 arg10 harg10 x0 x1 hs 8 le_rfl).1 y (row_all c i arg2 harg2 arg3 harg3 arg4 harg4 arg5 harg5 arg6 harg6 arg7 harg7 arg8 harg8 arg9 harg9 arg10 harg10 x0 x1 hs y)

/-- The scratch buffer after the loop, loaded whole: the normalised rows. -/
theorem row_readCov (hs : condS i) (inb : ∀ a, ![0, 0] a + S512x2048.size a ≤ S512x2048.size a) :
    arg10.view.readCov (pb_k0_t1 (F := F) Variants.none c none i arg2 harg2 arg3 harg3 arg4 harg4 arg5 harg5 arg6 harg6 arg7 harg7 arg8 harg8 arg9 harg9 arg10 harg10 hs (harg4.unread x0) (harg5.unread x1) (Scf.trips k0_t1_loop.lb k0_t1_loop.ub k0_t1_loop.st))
      (Rect.unit (s := S512x2048) ![0, 0] S512x2048.size inb).toLoadRect = hBlk x0 x1 := by
  rw [View.readCov_eq_canon', row_canon]
  funext z
  congr 1
  funext a
  refine Fin.ext ?_
  fin_cases a
  · show 0 + 1 * (z 0).val = (z 0).val; omega
  · show 0 + 1 * (z 1).val = (z 1).val; omega

/-! ## The four runs read back -/

theorem scratch_startActive (hs : condS i) (ha : condA (F := F) xa i) (f) :
    arg10.view.read (Elt F) (arg10.view.writes (Elt F) f (runStartActive c i arg2 harg2 arg3 harg3 arg4 harg4 arg5 harg5 arg6 harg6 arg7 harg7 arg8 harg8 arg9 harg9 arg10 harg10 xa x0 x1 x2 x3 x4 hs ha).2.1) = hBlk x0 x1 :=
  (View.read_writes_eq_canon _ _ _ (row_all c i arg2 harg2 arg3 harg3 arg4 harg4 arg5 harg5 arg6 harg6 arg7 harg7 arg8 harg8 arg9 harg9 arg10 harg10 x0 x1 hs)).trans (row_canon c i arg2 harg2 arg3 harg3 arg4 harg4 arg5 harg5 arg6 harg6 arg7 harg7 arg8 harg8 arg9 harg9 arg10 harg10 x0 x1 hs)

theorem scratch_startIdle (hs : condS i) (ha : ¬condA (F := F) xa i) (f) :
    arg10.view.read (Elt F) (arg10.view.writes (Elt F) f (runStartIdle c i arg2 harg2 arg3 harg3 arg4 harg4 arg5 harg5 arg6 harg6 arg7 harg7 arg8 harg8 arg9 harg9 arg10 harg10 xa x0 x1 x2 x3 x4 hs ha).2.1) = hBlk x0 x1 :=
  (View.read_writes_eq_canon _ _ _ (row_all c i arg2 harg2 arg3 harg3 arg4 harg4 arg5 harg5 arg6 harg6 arg7 harg7 arg8 harg8 arg9 harg9 arg10 harg10 x0 x1 hs)).trans (row_canon c i arg2 harg2 arg3 harg3 arg4 harg4 arg5 harg5 arg6 harg6 arg7 harg7 arg8 harg8 arg9 harg9 arg10 harg10 x0 x1 hs)

theorem out_startActive (hs : condS i) (ha : condA (F := F) xa i) (f) :
    arg9.view.read (Elt F) (arg9.view.writes (Elt F) f (runStartActive c i arg2 harg2 arg3 harg3 arg4 harg4 arg5 harg5 arg6 harg6 arg7 harg7 arg8 harg8 arg9 harg9 arg10 harg10 xa x0 x1 x2 x3 x4 hs ha).1)
      = k0_pay3 (hBlk x0 x1) x2 x3 k0_pay2 x4 := by
  refine (View.read_writes_full _ _ _ _ _).trans ?_
  exact pay3_congr (row_readCov c i arg2 harg2 arg3 harg3 arg4 harg4 arg5 harg5 arg6 harg6 arg7 harg7 arg8 harg8 arg9 harg9 arg10 harg10 x0 x1 hs _) (full_read harg6 x2 _ _) (full_read harg7 x3 _ _)
    (View.readCov_full _ _ _ _ _) (full_read harg8 x4 _ _)

theorem out_startIdle (hs : condS i) (ha : ¬condA (F := F) xa i) (f) :
    arg9.view.read (Elt F) (arg9.view.writes (Elt F) f (runStartIdle c i arg2 harg2 arg3 harg3 arg4 harg4 arg5 harg5 arg6 harg6 arg7 harg7 arg8 harg8 arg9 harg9 arg10 harg10 xa x0 x1 x2 x3 x4 hs ha).1) = k0_pay2 :=
  View.read_writes_full _ _ _ _ _

theorem out_nextActive (y : Vec F S512x2048 .f32) (h : Vec F S512x2048 .bf16) (hs : ¬condS i) (ha : condA (F := F) xa i) (f) :
    arg9.view.read (Elt F) (arg9.view.writes (Elt F) f (runNextActive c i arg2 harg2 arg3 harg3 arg4 harg4 arg5 harg5 arg6 harg6 arg7 harg7 arg8 harg8 arg9 harg9 arg10 harg10 xa x0 x1 x2 x3 x4 y h hs ha).1)
      = k0_pay3 h x2 x3 y x4 := by
  refine (View.read_writes_full _ _ _ _ _).trans ?_
  exact pay3_congr (full_read harg10 h _ _) (full_read harg6 x2 _ _) (full_read harg7 x3 _ _) (full_read harg9 y _ _)
    (full_read harg8 x4 _ _)

end Cert.ExpertsIdeal.Ffn

end
-- ==== Proof.Experts.Input.lean ====
/-
  The blocks the expert body loads at a grid point, as entries of the arrays they come from, and what the body leaves in
  the output block and the scratch buffer after each point.
-/
module

public import proofs.«01_k».proof.Proof.Experts.Pieces

@[expose] public section

set_option maxRecDepth 16384

noncomputable section

namespace Cert.ExpertsIdeal.Ffn

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (a : (pcfg0 (F := F)).Adm)

/-- An array as launched. -/
abbrev V (c : Dev nD) (b : Ref sig .tc) : Buf (Elt F) ((c : Thread nD τ).loc b) := m ((c : Thread nD τ).loc b)

/-- Window `w`'s block at point `t`, read off its array as launched. -/
def iblk (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V m c (Pipeline.arrRef spec0 w))

/-! ## The tables -/

/-- The expert table, -/
def tblE : Vec F S136 .i32 := a.1 0
/-- and the activity table. -/
def tblA : Vec F S136 .i32 := a.1 1

theorem point_lt (t : Fin (cfg0 a).N) : t.val < 952 := lt_of_lt_of_eq t.isLt N_0

theorem coord0 (t : Fin grid0.N) : (grid0.coords t 0).val = t.val / 7 := by
  have ht : t.val < 952 := Nat.lt_of_lt_of_eq t.isLt N_0
  have e0 : (grid0.coords t 0).val = t.val / 7 % 136 := Pipeline.Grid.coords_val t 0 (by decide) rfl
  omega

theorem coord1 (t : Fin grid0.N) : (grid0.coords t 1).val = t.val % 7 := by
  have e1 : (grid0.coords t 1).val = t.val / 1 % 7 := Pipeline.Grid.coords_val t 1 (by decide) rfl
  omega

/-- The activity word at a point depends on the row tile only. -/
theorem actWord_eq (x : Vec F S136 .i32) (i : grid0.Coords) : actWord (F := F) x i = x (ix1 (i 0)) := by
  unfold actWord
  congr 1
  funext k
  refine Fin.ext ?_
  fin_cases k
  show k0_off1 i 0 = (i 0).val
  rw [k0_off1_eq]; rfl

theorem condA_congr (x : Vec F S136 .i32) (t t' : Fin grid0.N) (h : t.val / 7 = t'.val / 7) :
    condA (F := F) x (grid0.coords t) ↔ condA (F := F) x (grid0.coords t') := by
  have : grid0.coords t 0 = grid0.coords t' 0 := Fin.ext (by rw [coord0, coord0, h])
  unfold condA
  rw [actWord_eq, actWord_eq, this]

/-! ## The blocks' indices in their arrays -/

theorem ofNat_toNat (n : ℕ) (h : n < 952) : (BitVec.ofNat 32 n).toNat = n := by
  rw [BitVec.toNat_ofNat]; omega

theorem idx0 (t : Fin (cfg0 a).N) : ((pcfg0 (F := F)).win a 0).index t = ![t.val / 7, 0] := by
  have ht := point_lt a t
  show ![(BitVec.ofNat 32 (grid0.coords t 0).val).toNat, (0#32).toNat] = _
  rw [coord0, ofNat_toNat _ (by omega)]; rfl
theorem idx1 (t : Fin (cfg0 a).N) : ((pcfg0 (F := F)).win a 1).index t = ![0, 0] := rfl
theorem idx5 (t : Fin (cfg0 a).N) : ((pcfg0 (F := F)).win a 5).index t = ![t.val / 7, 0] := by
  have ht := point_lt a t
  show ![(BitVec.ofNat 32 (grid0.coords t 0).val).toNat, (0#32).toNat] = _
  rw [coord0, ofNat_toNat _ (by omega)]; rfl

/-- The table word a transform loads at a row tile. -/
theorem at_word (x : Vec F S136 .i32) (i : grid0.Coords) (inb : ∀ k, k0_off1 i k + S1.size k ≤ S136.size k)
    (z : (Rect.unit (s := S136) (k0_off1 i) S1.size inb).shape.Idx) :
    x ((Rect.unit (s := S136) (k0_off1 i) S1.size inb).emb z) = x (ix1 (i 0)) := by
  congr 1
  funext k
  refine Fin.ext ?_
  fin_cases k
  have h1 : k0_off1 i 0 = (i 0).val := by rw [k0_off1_eq]; rfl
  have : (z 0).val < 1 := (z 0).isLt
  show k0_off1 i 0 + 1 * (z 0).val = (i 0).val
  omega

/-- The expert of a row tile, -/
def expertOf (x : Vec F S136 .i32) (i : grid0.Coords) : BitVec 32 := x (ix1 (i 0))
/-- and the block of hidden columns a point asks for. -/
def blockOf (x : Vec F S136 .i32) (i : grid0.Coords) : BitVec 32 :=
  Scalar.select (Scalar.cmpi .eq (x (ix1 (i 0))) 1#32) (BitVec.ofNat 32 (i 1).val) 6#32

theorem blockOf_lt (x : Vec F S136 .i32) (i : grid0.Coords) : (blockOf (F := F) x i).toNat < 7 := by
  have h : (i 1).val < 7 := (i 1).isLt
  unfold blockOf
  rcases BitVec.eq_zero_or_eq_one (Scalar.cmpi .eq (x (ix1 (i 0))) 1#32) with e | e
  · rw [e]; show (6#32).toNat < 7; decide
  · rw [e]; show (BitVec.ofNat 32 (i 1).val).toNat < 7
    rw [ofNat_toNat _ (by omega)]; exact h

theorem transform2 (pf : pre0.Contents (Elt F)) (i : grid0.Coords) : cc0_transform_2 k0_off1_inb numel1_S1 pf i
    = ![0, (expertOf (F := F) (pf 0) i).toNat, 0, (blockOf (F := F) (pf 1) i).toNat] := by
  have e := at_word (F := F) (pf 0) i (k0_off1_inb i) (Shape.Idx.first (numel1_S1.symm ▸ Nat.one_pos))
  have e' := at_word (F := F) (pf 1) i (k0_off1_inb i) (Shape.Idx.first (numel1_S1.symm ▸ Nat.one_pos))
  unfold expertOf blockOf
  rw [← e, ← e']; rfl
theorem transform3 (pf : pre0.Contents (Elt F)) (i : grid0.Coords) : cc0_transform_3 k0_off1_inb numel1_S1 pf i
    = ![0, (expertOf (F := F) (pf 0) i).toNat, 0, (blockOf (F := F) (pf 1) i).toNat] := transform2 pf i
theorem transform4 (pf : pre0.Contents (Elt F)) (i : grid0.Coords) : cc0_transform_4 k0_off1_inb numel1_S1 pf i
    = ![0, (expertOf (F := F) (pf 0) i).toNat, (blockOf (F := F) (pf 1) i).toNat, 0] := by
  have e := at_word (F := F) (pf 0) i (k0_off1_inb i) (Shape.Idx.first (numel1_S1.symm ▸ Nat.one_pos))
  have e' := at_word (F := F) (pf 1) i (k0_off1_inb i) (Shape.Idx.first (numel1_S1.symm ▸ Nat.one_pos))
  unfold expertOf blockOf
  rw [← e, ← e']; rfl

/-- The expert of a point's row tile, -/
abbrev eW (i : grid0.Coords) : BitVec 32 := expertOf (F := F) (tblE a) i
/-- and its block of hidden columns. -/
abbrev selW (i : grid0.Coords) : BitVec 32 := blockOf (F := F) (tblA a) i

theorem idx2 (t : Fin (cfg0 a).N) : ((pcfg0 (F := F)).win a 2).index t = ![0, (eW a (grid0.coords t)).toNat, 0, (selW a (grid0.coords t)).toNat] := transform2 a.1 _
theorem idx3 (t : Fin (cfg0 a).N) : ((pcfg0 (F := F)).win a 3).index t = ![0, (eW a (grid0.coords t)).toNat, 0, (selW a (grid0.coords t)).toNat] := transform3 a.1 _
theorem idx4 (t : Fin (cfg0 a).N) : ((pcfg0 (F := F)).win a 4).index t = ![0, (eW a (grid0.coords t)).toNat, (selW a (grid0.coords t)).toNat, 0] := transform4 a.1 _

/-! ## The blocks, named at their shapes -/

/-- The rows of point `t`'s row tile, -/
abbrev xBlk (c : Dev nD) (t : Fin (cfg0 a).N) : Vec F S512x2048 .f32 := iblk m a c 0 t
/-- the scale, -/
abbrev gBlk (c : Dev nD) (t : Fin (cfg0 a).N) : Vec F S1x2048 .f32 := iblk m a c 1 t
/-- the gate's block of hidden columns, -/
abbrev wgBlk (c : Dev nD) (t : Fin (cfg0 a).N) : Vec F S1x1x2048x1024 .bf16 := iblk m a c 2 t
/-- the other factor's, -/
abbrev wuBlk (c : Dev nD) (t : Fin (cfg0 a).N) : Vec F S1x1x2048x1024 .bf16 := iblk m a c 3 t
/-- and the rows of the second weight. -/
abbrev wdBlk (c : Dev nD) (t : Fin (cfg0 a).N) : Vec F S1x1x1024x2048 .bf16 := iblk m a c 4 t

theorem xBlk_apply (c : Dev nD) (t : Fin (cfg0 a).N) (y : S512x2048.Idx) :
    xBlk m a c t y = V m c main_arg0 (ix2 ⟨512 * (t.val / 7) + (y 0).val, by
      have := point_lt a t; have : (y 0).val < 512 := (y 0).isLt; omega⟩ ⟨(y 1).val, by
      have : (y 1).val < 2048 := (y 1).isLt; omega⟩) := by
  unfold xBlk
  blk_ext [iblk]
  · refine (congrArg (fun k : ℕ => k * 512 + (y 0).val) (congrFun (idx0 a t) _)).trans ?_
    show t.val / 7 * 512 + (y 0).val = _; omega
  · refine (congrArg (fun k : ℕ => k * 2048 + (y 1).val) (congrFun (idx0 a t) _)).trans ?_
    show 0 * 2048 + (y 1).val = _; omega

theorem gBlk_apply (c : Dev nD) (t : Fin (cfg0 a).N) (y : S1x2048.Idx) :
    gBlk m a c t y = V m c main_arg1 y := by
  unfold gBlk iblk
  refine congrArg (V m c main_arg1) ?_
  funext k
  refine Fin.ext ?_
  fin_cases k
  · show 0 * 1 + 1 * (y 0).val = (y 0).val; omega
  · show 0 * 2048 + 1 * (y 1).val = (y 1).val; omega

theorem gBlk_eq (c : Dev nD) (t : Fin (cfg0 a).N) : gBlk m a c t = V m c main_arg1 := funext (gBlk_apply m a c t)

theorem xBlk_congr (c : Dev nD) (t t' : Fin (cfg0 a).N) (h : t.val / 7 = t'.val / 7) : xBlk m a c t = xBlk m a c t' := by
  funext y
  rw [xBlk_apply, xBlk_apply]
  simp only [h]

/-! ## What the body leaves -/

/-- The normalised rows of point `t`'s row tile. -/
def hAt (c : Dev nD) (t : Fin (cfg0 a).N) : Vec F S512x2048 .bf16 := hBlk (xBlk m a c t) (gBlk m a c t)

theorem hAt_congr (c : Dev nD) (t t' : Fin (cfg0 a).N) (h : t.val / 7 = t'.val / 7) : hAt m a c t = hAt m a c t' := by
  unfold hAt
  rw [xBlk_congr m a c t t' h, gBlk_eq, gBlk_eq]

open Classical in
/-- One point's step from the sum so far: an active tile adds its block of hidden columns, an inactive one nothing. -/
def step (c : Dev nD) (t : Fin (cfg0 a).N) (y : Vec F S512x2048 .f32) : Vec F S512x2048 .f32 :=
  if condA (F := F) (tblA a) (grid0.coords t) then k0_pay3 (hAt m a c t) (wgBlk m a c t) (wuBlk m a c t) y (wdBlk m a c t) else y

theorem step_active (c : Dev nD) (t : Fin (cfg0 a).N) (y : Vec F S512x2048 .f32) (ha : condA (F := F) (tblA a) (grid0.coords t)) :
    step m a c t y = k0_pay3 (hAt m a c t) (wgBlk m a c t) (wuBlk m a c t) y (wdBlk m a c t) := by
  unfold step; exact if_pos ha

theorem step_idle (c : Dev nD) (t : Fin (cfg0 a).N) (y : Vec F S512x2048 .f32) (ha : ¬condA (F := F) (tblA a) (grid0.coords t)) :
    step m a c t y = y := by
  unfold step; exact if_neg ha

/-- The output block after point `n`. -/
def accN (c : Dev nD) : (n : ℕ) → n < (cfg0 a).N → Vec F S512x2048 .f32
  | 0, h => step m a c ⟨0, h⟩ k0_pay2
  | n + 1, h => step m a c ⟨n + 1, h⟩ (if (n + 1) % 7 = 0 then k0_pay2 else accN c n (Nat.lt_of_succ_lt h))

/-- The output block after point `t`. -/
def accAt (c : Dev nD) (t : Fin (cfg0 a).N) : Vec F S512x2048 .f32 := accN m a c t.val t.isLt

theorem accAt_start (c : Dev nD) (t : Fin (cfg0 a).N) (h : t.val % 7 = 0) : accAt m a c t = step m a c t k0_pay2 := by
  obtain ⟨n, hn⟩ := t
  cases n with
  | zero => unfold accAt; exact accN.eq_1 m a c hn
  | succ n =>
    unfold accAt
    refine (accN.eq_2 m a c n hn).trans ?_
    rw [if_pos h]

theorem accAt_next (c : Dev nD) (t : Fin (cfg0 a).N) (h : t.val % 7 ≠ 0) :
    accAt m a c t = step m a c t (accAt m a c ⟨t.val - 1, by omega⟩) := by
  obtain ⟨n, hn⟩ := t
  cases n with
  | zero => exact absurd rfl h
  | succ n =>
    unfold accAt
    refine (accN.eq_2 m a c n hn).trans ?_
    rw [if_neg h]; rfl

end Cert.ExpertsIdeal.Ffn

end
-- ==== Proof.Experts.Body.lean ====
/-
  The body's obligation at every grid point: the region's proof data, what each window's buffer holds before the body, and
  the body's four cases.
-/
module

public import proofs.«01_k».proof.Proof.Experts.Input
public import proofs.«01_k».proof.Proof.Gen.ExpertsIdeal.Launch
public import Idealize.ShloMosaic.Lib.Pipeline.TableIdle

@[expose] public section

set_option maxRecDepth 16384

noncomputable section

namespace Cert.ExpertsIdeal.Ffn

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (a : (pcfg0 (F := F)).Adm)

/-! ## The body's operands at a point -/

abbrev ms0_0 (t : Fin (cfg0 a).N) : Memref sig .tc .vmem S512x2048 .f32 := spec0_0.stage ((cfg0 a).slots t 0)
theorem hs0_0 (t : Fin (cfg0 a).N) : (ms0_0 a t).IsWhole := hstage0_0 (((cfg0 a).slots t 0).cast nbuf0_0)
abbrev ms0_1 (t : Fin (cfg0 a).N) : Memref sig .tc .vmem S1x2048 .f32 := spec0_1.stage ((cfg0 a).slots t 1)
theorem hs0_1 (t : Fin (cfg0 a).N) : (ms0_1 a t).IsWhole := hstage0_1 (((cfg0 a).slots t 1).cast nbuf0_1)
abbrev ms0_2 (t : Fin (cfg0 a).N) : Memref sig .tc .vmem S1x1x2048x1024 .bf16 := spec0_2.stage ((cfg0 a).slots t 2)
theorem hs0_2 (t : Fin (cfg0 a).N) : (ms0_2 a t).IsWhole := hstage0_2 (((cfg0 a).slots t 2).cast nbuf0_2)
abbrev ms0_3 (t : Fin (cfg0 a).N) : Memref sig .tc .vmem S1x1x2048x1024 .bf16 := spec0_3.stage ((cfg0 a).slots t 3)
theorem hs0_3 (t : Fin (cfg0 a).N) : (ms0_3 a t).IsWhole := hstage0_3 (((cfg0 a).slots t 3).cast nbuf0_3)
abbrev ms0_4 (t : Fin (cfg0 a).N) : Memref sig .tc .vmem S1x1x1024x2048 .bf16 := spec0_4.stage ((cfg0 a).slots t 4)
theorem hs0_4 (t : Fin (cfg0 a).N) : (ms0_4 a t).IsWhole := hstage0_4 (((cfg0 a).slots t 4).cast nbuf0_4)
abbrev ms0_5 (t : Fin (cfg0 a).N) : Memref sig .tc .vmem S512x2048 .f32 := spec0_5.stage ((cfg0 a).slots t 5)
theorem hs0_5 (t : Fin (cfg0 a).N) : (ms0_5 a t).IsWhole := hstage0_5 (((cfg0 a).slots t 5).cast nbuf0_5)
/-- The body at a point's operands. -/
abbrev bodyAt0 (t : Fin (cfg0 a).N) : Prog (TpuEff nD τ sig (Elt F) Λ₀ .tc) PUnit :=
  cc0_swiglu_grouped (grid0.coords t) (Memref.whole main_arg5) (Memref.isWhole_whole _) (Memref.whole main_arg6) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) scM (Memref.isWhole_whole _)

/-! ## The invariant between points -/

/-- The tables' halves, as memrefs. -/
def tabs (c : Dev nD) : sProp 𝕄 :=
  iprop(owns (c : Thread nD τ) (Memref.whole main_arg5) fullShare.right (tblE a) ∗ owns (c : Thread nD τ) (Memref.whole main_arg6) fullShare.right (tblA a))

theorem PhiT_eq (c : Dev nD) : (Pipeline.ΦT pre0 a.1 c : sProp 𝕄) = tabs a c := by
  unfold Pipeline.ΦT Pipeline.prefHeld tabs
  rw [show (Finset.univ : Finset (Fin 2)) = insert (0 : Fin 2) {(1 : Fin 2)} from by decide,
    bigSep_insert (by decide), bigSep_singleton]
  simp only [owns_whole]; rfl

/-- What holds before position `n`: before the first point the scratch buffer is at anything; afterwards it holds the
    normalised rows of the row tile of the point before. The tables' halves are held throughout. -/
def PhiS (c : Dev nD) : (n : ℕ) → n ≤ (cfg0 a).N → sProp 𝕄
  | 0, _ => iprop(Pipeline.ΦA spec0 c ∗ tabs a c)
  | n + 1, hn => iprop((owns (c : Thread nD τ) scM fullShare (hAt m a c ⟨n, hn⟩) ∗ (∃ r, prngReg c r)) ∗ tabs a c)

theorem PhiS_succ (c : Dev nD) (n : ℕ) (hn : n < (cfg0 a).N) : PhiS m a c (n + 1) hn
    = iprop((owns (c : Thread nD τ) scM fullShare (hAt m a c ⟨n, hn⟩) ∗ (∃ r, prngReg c r)) ∗ tabs a c) := rfl

theorem PhiS_pos (c : Dev nD) (n : ℕ) (h : n ≤ (cfg0 a).N) (hz : n ≠ 0) : PhiS m a c n h
    = iprop((owns (c : Thread nD τ) scM fullShare (hAt m a c ⟨n - 1, by omega⟩) ∗ (∃ r, prngReg c r)) ∗ tabs a c) := by
  cases n with
  | zero => exact absurd rfl hz
  | succ n => rfl

/-- At any position the scratch buffer is at something. -/
theorem PhiS_any (c : Dev nD) (n : ℕ) (h : n ≤ (cfg0 a).N) :
    PhiS m a c n h ⊢ iprop(((∃ d, owns (c : Thread nD τ) scM fullShare d) ∗ (∃ r, prngReg c r)) ∗ tabs a c) := by
  cases n with
  | zero =>
    show iprop(Pipeline.ΦA spec0 c ∗ tabs a c) ⊢ _
    rw [PhiA_eq]
  | succ n =>
    rw [PhiS_succ]
    iintro ⟨⟨H, Hg⟩, Ht⟩
    isplitr [Ht]
    · isplitl [H]
      · iexists _; iexact H
      iexact Hg
    iexact Ht

/-! ## The region's proof data -/

/-- The arrays as the region finds them; each input's buffer at its block after the body, the output's at the sum so far;
    the invariant `PhiS`; nothing owed. -/
def dat (c : Dev nD) : Dat τ (Elt F) Unit ℕ (UR sig nD τ) ℕ (cfg0 a) c where
  A w := V m c (Pipeline.arrRef spec0 w)
  after w t := match w with
    | ⟨0, _⟩ => iblk m a c 0 t
    | ⟨1, _⟩ => iblk m a c 1 t
    | ⟨2, _⟩ => iblk m a c 2 t
    | ⟨3, _⟩ => iblk m a c 3 t
    | ⟨4, _⟩ => iblk m a c 4 t
    | ⟨5, _⟩ => accAt m a c t
  Φ t := PhiS m a c t.val (Nat.le_of_lt_succ t.isLt)
  q _ := fullShare
  owed _ := 0

theorem A_eq (c : Dev nD) (w : Fin (cfg0 a).W) : (dat m a c).A w = V m c (Pipeline.arrRef spec0 w) := by
  dsimp only [dat]

theorem Phi_castSucc (c : Dev nD) (t : Fin (cfg0 a).N) :
    (dat m a c).Φ t.castSucc = PhiS m a c t.val (Nat.le_of_lt t.isLt) := by
  dsimp only [dat]; exact Pipeline.Dat.Φ_castSucc (PhiS m a c) t

theorem after0_0 (c : Dev nD) (t : Fin (cfg0 a).N) : (dat m a c).after 0 t = iblk m a c 0 t := by dsimp only [dat]; rfl
theorem after0_1 (c : Dev nD) (t : Fin (cfg0 a).N) : (dat m a c).after 1 t = iblk m a c 1 t := by dsimp only [dat]; rfl
theorem after0_2 (c : Dev nD) (t : Fin (cfg0 a).N) : (dat m a c).after 2 t = iblk m a c 2 t := by dsimp only [dat]; rfl
theorem after0_3 (c : Dev nD) (t : Fin (cfg0 a).N) : (dat m a c).after 3 t = iblk m a c 3 t := by dsimp only [dat]; rfl
theorem after0_4 (c : Dev nD) (t : Fin (cfg0 a).N) : (dat m a c).after 4 t = iblk m a c 4 t := by dsimp only [dat]; rfl
theorem after0_5 (c : Dev nD) (t : Fin (cfg0 a).N) : (dat m a c).after 5 t = accAt m a c t := by dsimp only [dat]; rfl

theorem before0_0 (c : Dev nD) (t : Fin (cfg0 a).N) (d) : (dat m a c).before 0 t d = iblk m a c 0 t :=
  ((dat m a c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfg0 a).N) (d) : (dat m a c).before 1 t d = iblk m a c 1 t :=
  ((dat m a c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (cfg0 a).N) (d) : (dat m a c).before 2 t d = iblk m a c 2 t :=
  ((dat m a c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin (cfg0 a).N) (d) : (dat m a c).before 3 t d = iblk m a c 3 t :=
  ((dat m a c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin (cfg0 a).N) (d) : (dat m a c).before 4 t d = iblk m a c 4 t :=
  ((dat m a c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

/-! ## The output's buffer before the body -/

/-- The body stores nothing exactly past the first block of an inactive row tile. -/
theorem idle5 (t : Fin (cfg0 a).N) : (cfg0 a).idle 5 (grid0.coords t) = true
    ↔ ¬condS (grid0.coords t) ∧ ¬condA (F := F) (tblA a) (grid0.coords t) := by
  have e : (a.1).atD 1 (k0_off1 (grid0.coords t)) = actWord (F := F) (tblA a) (grid0.coords t) := by
    unfold Pipeline.Prefetch.Contents.atD
    exact dif_pos (fun x => by
      have := k0_off1_inb (grid0.coords t) x
      have h1 : S1.size x = 1 := by fin_cases x; rfl
      show k0_off1 (grid0.coords t) x + 1 ≤ S136.size x
      omega)
  show (!(k0_cond1 (grid0.coords t) == 1#1) && !(k0_cond2 ((a.1).atD 1 (k0_off1 (grid0.coords t))) == 1#1)) = true ↔ _
  rw [e]
  simp only [Bool.and_eq_true, Bool.not_eq_true', beq_eq_false_iff_ne, ne_eq, condS, condA]

/-- The output's block is written back at a row tile's last block of hidden columns. -/
theorem flush5 (t : Fin (cfg0 a).N) : ((cfg0 a).win 5).flush t = true ↔ t.val % 7 = 6 :=
  Pipeline.Window.flush_reads ((cfg0 a).win 5) rfl 0 (show 1 < grid0.bound 0 by decide) (show grid0.fixedAfter reads0_5 0 = true by decide) (Pipeline.Window.sep_of_coord cc0_transform_5 0 0 (fun _ => rfl) (by decide)) (P := 7) (m := 6) (show grid0.stride 0 = 7 by decide) rfl t

theorem fresh5 (n : ℕ) (h : n ≤ (cfg0 a).N) : (cfg0 a).fresh 5 n = decide (n % 7 = 0) := by
  refine Pipeline.Cfg.fresh_tab (cfg0 a) 5 (fun n => decide (n % 7 = 0)) (by decide) (fun t => ?_) n h
  have hs := hcondS t
  have hi := idle5 a t
  have hf := flush5 a t
  by_cases h6 : t.val % 7 = 6
  · rw [hf.mpr h6]
    simp only [Bool.true_or, decide_eq_true_eq]; omega
  · have hf' : ((cfg0 a).win 5).flush t = false := by rw [← Bool.not_eq_true]; exact fun h => h6 (hf.mp h)
    rw [hf', Bool.false_or]
    have h1 : decide ((t.val + 1) % 7 = 0) = false := by simp only [decide_eq_false_iff_not]; omega
    rw [h1]
    by_cases h0 : t.val % 7 = 0
    · have hi' : (cfg0 a).idle 5 (grid0.coords t) = false := by
        rw [← Bool.not_eq_true]; exact fun h => (hi.mp h).1 (hs.mpr h0)
      exact (congrArg (· && decide (t.val % 7 = 0)) hi').symm
    · rw [show decide (t.val % 7 = 0) = false from by simp only [decide_eq_false_iff_not]; exact h0, Bool.and_false]

theorem carry5 (c : Dev nD) (t : Fin (cfg0 a).N) (h0 : t.val % 7 ≠ 0) (ha : ¬condA (F := F) (tblA a) (grid0.coords t)) :
    accAt m a c t = accAt m a c ⟨t.val - 1, by omega⟩ := by
  rw [accAt_next m a c t h0, step_idle m a c t _ ha]

/-- Past a row tile's first block, the output's buffer holds the sum so far. -/
theorem before0_5 (c : Dev nD) (t : Fin (cfg0 a).N) (h0 : t.val % 7 ≠ 0) (d) :
    (dat m a c).before 5 t d = accAt m a c ⟨t.val - 1, by omega⟩ := by
  refine ((dat m a c).before_out_traj 5 rfl (fun _ _ => rfl) (fun t _ hi hf => ?_) t.val t rfl d).trans ?_
  · rw [after0_5, after0_5]
    have hn := (idle5 a t).mp hi
    exact carry5 m a c t (fun h => hn.1 ((hcondS t).mpr h)) hn.2
  · rw [fresh5 a t.val (Nat.le_of_lt t.isLt), after0_5]
    exact if_neg (by simp only [decide_eq_true_eq]; exact h0)

/-! ## The body's obligation -/

/-- What the body is called with at point `t`, -/
def bodyPre (c : Dev nD) (t : Fin (cfg0 a).N) : sProp 𝕄 :=
  iprop((dat m a c).Φ t.castSucc ∗ (dat m a c).owesAt () t.castSucc
    ∗ (∃ d, owns (c : Thread nD τ) (ms0_0 a t) fullShare ((dat m a c).before 0 t d))
    ∗ (∃ d, owns (c : Thread nD τ) (ms0_1 a t) fullShare ((dat m a c).before 1 t d))
    ∗ (∃ d, owns (c : Thread nD τ) (ms0_2 a t) fullShare ((dat m a c).before 2 t d))
    ∗ (∃ d, owns (c : Thread nD τ) (ms0_3 a t) fullShare ((dat m a c).before 3 t d))
    ∗ (∃ d, owns (c : Thread nD τ) (ms0_4 a t) fullShare ((dat m a c).before 4 t d))
    ∗ (∃ d, owns (c : Thread nD τ) (ms0_5 a t) fullShare ((dat m a c).before 5 t d)))

/-- and what it returns. -/
def bodyPost (c : Dev nD) (t : Fin (cfg0 a).N) : sProp 𝕄 :=
  iprop((dat m a c).Φ t.succ ∗ (dat m a c).owesAt () t.succ
    ∗ owns (c : Thread nD τ) (ms0_0 a t) fullShare ((dat m a c).after 0 t)
    ∗ owns (c : Thread nD τ) (ms0_1 a t) fullShare ((dat m a c).after 1 t)
    ∗ owns (c : Thread nD τ) (ms0_2 a t) fullShare ((dat m a c).after 2 t)
    ∗ owns (c : Thread nD τ) (ms0_3 a t) fullShare ((dat m a c).after 3 t)
    ∗ owns (c : Thread nD τ) (ms0_4 a t) fullShare ((dat m a c).after 4 t)
    ∗ owns (c : Thread nD τ) (ms0_5 a t) fullShare ((dat m a c).after 5 t))

set_option maxHeartbeats 3200000 in
/-- The body at any point, by its case. -/
theorem sound_body (c : Dev nD) (t : Fin (cfg0 a).N) :
    bodyPre m a c t ⊢ wp frame (wpE (defs₀ (F := F)) Variants.none c none) Set.univ (bodyAt0 a t) (fun _ => bodyPost m a c t) := by
  unfold bodyPre bodyPost bodyAt0
  simp only [before0_0, before0_1, before0_2, before0_3, before0_4]
  rw [show (dat m a c).owesAt () t.succ = (dat m a c).owesAt () t.castSucc from rfl,
    after0_0, after0_1, after0_2, after0_3, after0_4, after0_5]
  rw [show (dat m a c).Φ t.succ = PhiS m a c (t.val + 1) t.isLt from rfl, PhiS_succ, Phi_castSucc m a c t]
  by_cases h0 : t.val % 7 = 0
  · have hs := (hcondS t).mpr h0
    refine (sep_mono (PhiS_any m a c _ _) .rfl).trans ?_
    unfold tabs
    by_cases ha : condA (F := F) (tblA a) (grid0.coords t)
    · iintro ⟨⟨⟨HS, Hg⟩, HE, HA⟩, Ho, ⟨%d0, H0⟩, ⟨%d1, H1⟩, ⟨%d2, H2⟩, ⟨%d3, H3⟩, ⟨%d4, H4⟩, ⟨%d5, H5⟩⟩
      iapply ((runStartActive c (grid0.coords t) (Memref.whole main_arg5) (Memref.isWhole_whole _) (Memref.whole main_arg6) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) scM (Memref.isWhole_whole _) (tblA a) (xBlk m a c t) (gBlk m a c t) (wgBlk m a c t) (wuBlk m a c t) (wdBlk m a c t) hs ha).2.2 Set.univ _)
      isplitl [HA]; · iexact HA
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨HA, H0, H1, H2, H3, H4, ⟨%e5, H5⟩, ⟨%es, HS⟩⟩
      isplitl [HS Hg HE HA]
      · isplitl [HS Hg]
        · isplitl [HS]
          · unfold owns; iexists _; isplitr
            swap; · iexact HS
            ipureintro; exact scratch_startActive _ _ _ _ _ _ _ _ _ _ _ _ _ _ _ _ _ _ _ _ _ _ _ _ _ _ hs ha es
          iexact Hg
        isplitl [HE]; · iexact HE
        iexact HA
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; rw [accAt_start m a c t h0, step_active m a c t _ ha]; exact out_startActive _ _ _ _ _ _ _ _ _ _ _ _ _ _ _ _ _ _ _ _ _ _ _ _ _ _ hs ha e5
    · iintro ⟨⟨⟨HS, Hg⟩, HE, HA⟩, Ho, ⟨%d0, H0⟩, ⟨%d1, H1⟩, ⟨%d2, H2⟩, ⟨%d3, H3⟩, ⟨%d4, H4⟩, ⟨%d5, H5⟩⟩
      iapply ((runStartIdle c (grid0.coords t) (Memref.whole main_arg5) (Memref.isWhole_whole _) (Memref.whole main_arg6) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) scM (Memref.isWhole_whole _) (tblA a) (xBlk m a c t) (gBlk m a c t) (wgBlk m a c t) (wuBlk m a c t) (wdBlk m a c t) hs ha).2.2 Set.univ _)
      isplitl [HA]; · iexact HA
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨HA, H0, H1, H2, H3, H4, ⟨%e5, H5⟩, ⟨%es, HS⟩⟩
      isplitl [HS Hg HE HA]
      · isplitl [HS Hg]
        · isplitl [HS]
          · unfold owns; iexists _; isplitr
            swap; · iexact HS
            ipureintro; exact scratch_startIdle _ _ _ _ _ _ _ _ _ _ _ _ _ _ _ _ _ _ _ _ _ _ _ _ _ _ hs ha es
          iexact Hg
        isplitl [HE]; · iexact HE
        iexact HA
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; rw [accAt_start m a c t h0, step_idle m a c t _ ha]; exact out_startIdle _ _ _ _ _ _ _ _ _ _ _ _ _ _ _ _ _ _ _ _ _ _ _ _ _ _ hs ha e5
  · have hs : ¬condS (grid0.coords t) := fun h => h0 ((hcondS t).mp h)
    have hz : t.val ≠ 0 := fun h => h0 (by rw [h])
    simp only [before0_5 m a c t h0]
    rw [PhiS_pos m a c _ _ hz, hAt_congr m a c ⟨t.val - 1, by omega⟩ t (by show (t.val - 1) / 7 = t.val / 7; omega)]
    unfold tabs
    by_cases ha : condA (F := F) (tblA a) (grid0.coords t)
    · iintro ⟨⟨⟨HS, Hg⟩, HE, HA⟩, Ho, ⟨%d0, H0⟩, ⟨%d1, H1⟩, ⟨%d2, H2⟩, ⟨%d3, H3⟩, ⟨%d4, H4⟩, ⟨%d5, H5⟩⟩
      iapply ((runNextActive c (grid0.coords t) (Memref.whole main_arg5) (Memref.isWhole_whole _) (Memref.whole main_arg6) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) scM (Memref.isWhole_whole _) (tblA a) (xBlk m a c t) (gBlk m a c t) (wgBlk m a c t) (wuBlk m a c t) (wdBlk m a c t) (accAt m a c ⟨t.val - 1, by omega⟩) (hAt m a c t) hs ha).2 Set.univ _)
      isplitl [HA]; · iexact HA
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨HA, H0, H1, H2, H3, H4, ⟨%e5, H5⟩, HS⟩
      isplitl [HS Hg HE HA]
      · isplitl [HS Hg]
        · isplitl [HS]
          · iexact HS
          iexact Hg
        isplitl [HE]; · iexact HE
        iexact HA
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; rw [accAt_next m a c t h0, step_active m a c t _ ha]; exact out_nextActive _ _ _ _ _ _ _ _ _ _ _ _ _ _ _ _ _ _ _ _ _ _ _ _ _ _ _ _ hs ha e5
    · iintro ⟨⟨⟨HS, Hg⟩, HE, HA⟩, Ho, ⟨%d0, H0⟩, ⟨%d1, H1⟩, ⟨%d2, H2⟩, ⟨%d3, H3⟩, ⟨%d4, H4⟩, ⟨%d5, H5⟩⟩
      iapply ((runNextIdle c (grid0.coords t) (Memref.whole main_arg5) (Memref.isWhole_whole _) (Memref.whole main_arg6) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) scM (Memref.isWhole_whole _) (tblA a) (xBlk m a c t) (gBlk m a c t) (wgBlk m a c t) (wuBlk m a c t) (wdBlk m a c t) (accAt m a c ⟨t.val - 1, by omega⟩) (hAt m a c t) hs ha) Set.univ _)
      isplitl [HA]; · iexact HA
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨HA, H0, H1, H2, H3, H4, H5, HS⟩
      isplitl [HS Hg HE HA]
      · isplitl [HS Hg]
        · isplitl [HS]
          · iexact HS
          iexact Hg
        isplitl [HE]; · iexact HE
        iexact HA
      isplitl [Ho]; · iexact Ho
      isplitl [H0]; · iexact H0
      isplitl [H1]; · iexact H1
      isplitl [H2]; · iexact H2
      isplitl [H3]; · iexact H3
      isplitl [H4]; · iexact H4
      rw [carry5 m a c t h0 ha]; iexact H5

/-- What the body leaves in the output's buffer is what the pipeline asks of it, at an idle point too. -/
theorem leaves5 (c : Dev nD) (t : Fin (cfg0 a).N) :
    owns (c : Thread nD τ) (ms0_5 a t) fullShare ((dat m a c).after 5 t) ⊢ (dat m a c).leavesExact 5 t := by
  by_cases hi : (cfg0 a).idle 5 (grid0.coords t) = true
  · by_cases hf : ((cfg0 a).win 5).flush t = true
    · unfold Dat.leavesExact
      rw [show (cfg0 a).idle 5 ((cfg0 a).grid.coords t) = true from hi, hf]
      exact .rfl
    · have hn := (idle5 a t).mp hi
      have h0 : t.val % 7 ≠ 0 := fun h => hn.1 ((hcondS t).mpr h)
      rw [(dat m a c).leavesExact_idle 5 t hi (by rw [← Bool.not_eq_true]; exact hf)]
      iintro H
      iexists ((dat m a c).after 5 t)
      rw [before0_5 m a c t h0, after0_5, carry5 m a c t h0 hn.2]
      iexact H
  · unfold Dat.leavesExact
    rw [show (cfg0 a).idle 5 ((cfg0 a).grid.coords t) = false from by rw [← Bool.not_eq_true]; exact hi]
    exact .rfl

/-- The body table's row at point `t`'s slots is the body at that point. -/
theorem defs₀_row (t : Fin (cfg0 a).N) :
    defs₀ (F := F) .tc (cfg0 a).body ((cfg0 a).bodyArgs t ((cfg0 a).slots t)) = bodyAt0 a t := by
  unfold defs₀; rw [Defs.onTc_tc]

theorem body_obligation (c : Dev nD) : BodyObligation (dat (F := F) m a c) (defs₀ (F := F)) Variants.none () Set.univ := fun t => by
  rw [bigSep_W0, bigSep_W0, defs₀_row]
  refine triple_restated (sound_body m a c t) rfl .rfl fun _ => ?_
  exact sep_mono .rfl (sep_mono .rfl (sep_mono .rfl (sep_mono .rfl (sep_mono .rfl (sep_mono .rfl (sep_mono .rfl (leaves5 m a c t)))))))

end Cert.ExpertsIdeal.Ffn

end
-- ==== Proof.Experts.Frame.lean ====
/-
  The launch of the experts' layer: the tables it is launched with, the run, and the argument arrays unchanged.
-/
module

public import proofs.«01_k».proof.Proof.Experts.Body
public import Idealize.ShloMosaic.Lib.Pipeline.Frame

@[expose] public section

set_option maxRecDepth 16384

noncomputable section

namespace Cert.ExpertsIdeal.Ffn

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tables as launched -/

/-- The one device. -/
abbrev dev0 : Dev nD := (0 : Fin 1)

/-- The tables' contents at the launch. -/
def tbl : pre0.Contents (Elt F) := fun k => V m dev0 (pre0.ref k)

/-- Every tile's expert is one of the eight. -/
def InRange : Prop := ∀ i : S136.Idx, ((tbl m 0 : Vec F S136 .i32) i : BitVec 32).toNat < 8

theorem ok_tbl (h : InRange m) : ok0 (tbl m) := by
  have he : ∀ i, (expertOf (F := F) (tbl m 0) i).toNat < 8 := fun i => h _
  have hb : ∀ i, (blockOf (F := F) (tbl m 1) i).toNat < 7 := fun i => blockOf_lt _ i
  refine ⟨fun i => ⟨fun k => ?_, .inr (Affine.block_words_dvd (of_decide_eq_true rfl) (by decide))⟩,
    fun i => ⟨fun k => ?_, .inr (Affine.block_words_dvd (of_decide_eq_true rfl) (by decide))⟩,
    fun i => ⟨fun k => ?_, .inr (Affine.block_words_dvd (of_decide_eq_true rfl) (by decide))⟩⟩
  · rw [transform2]
    have := he i; have := hb i
    fin_cases k
    · show (0 + 1) * 1 ≤ 2; omega
    · show ((expertOf (F := F) (tbl m 0) i).toNat + 1) * 1 ≤ 8; omega
    · show (0 + 1) * 2048 ≤ 2048; omega
    · show ((blockOf (F := F) (tbl m 1) i).toNat + 1) * 1024 ≤ 7168; omega
  · rw [transform3]
    have := he i; have := hb i
    fin_cases k
    · show (0 + 1) * 1 ≤ 2; omega
    · show ((expertOf (F := F) (tbl m 0) i).toNat + 1) * 1 ≤ 8; omega
    · show (0 + 1) * 2048 ≤ 2048; omega
    · show ((blockOf (F := F) (tbl m 1) i).toNat + 1) * 1024 ≤ 7168; omega
  · rw [transform4]
    have := he i; have := hb i
    fin_cases k
    · show (0 + 1) * 1 ≤ 2; omega
    · show ((expertOf (F := F) (tbl m 0) i).toNat + 1) * 1 ≤ 8; omega
    · show ((blockOf (F := F) (tbl m 1) i).toNat + 1) * 1024 ≤ 7168; omega
    · show (0 + 1) * 2048 ≤ 2048; omega

/-- The tables the pipeline runs at. -/
def adm (h : InRange m) : (pcfg0 (F := F)).Adm := ⟨tbl m, ok_tbl m h⟩

theorem dev_eq (c : Dev nD) : c = dev0 := Subsingleton.elim _ _

theorem hpf (h : InRange m) (c : Dev nD) (k : Fin pre0.K) : V m c (pre0.ref k) = (adm m h).1 k := by
  rw [dev_eq c]; rfl

/-! ## The run -/

/-- What the launch hands the region is the invariant before the first point. -/
theorem hin (h : InRange m) (c : Dev nD) :
    iprop(Pipeline.ΦA spec0 c ∗ Pipeline.ΦT pre0 (adm m h).1 c) ⊢ (dat m (adm m h) c).Φ 0 := by
  rw [PhiT_eq, show (dat m (adm m h) c).Φ 0 = iprop(Pipeline.ΦA spec0 c ∗ tabs (adm m h) c) from rfl]

/-- After the last point the named contents are forgotten. -/
theorem hout (h : InRange m) (c : Dev nD) : (dat m (adm m h) c).Φ (Fin.last (cfg0 (adm m h)).N) ⊢ Pipeline.ΦA spec0 c := by
  rw [show (dat m (adm m h) c).Φ (Fin.last (cfg0 (adm m h)).N) = PhiS m (adm m h) c (Fin.last (cfg0 (adm m h)).N).val (Nat.le_of_lt_succ (Fin.last (cfg0 (adm m h)).N).isLt) from rfl]
  refine (PhiS_any m (adm m h) c _ _).trans ?_
  rw [PhiA_eq]
  iintro ⟨H, -⟩
  iexact H

set_option backward.isDefEq.respectTransparency.types false in
/-- The launch: every execution ends with the arrays at what the proof data gives, and every counter at zero. -/
theorem run_main_quiescent (h : InRange m) : θ_run defs (onTc (τ := τ) (main (F := F))) (s₀ m ρ)
    (fun r => (Pipeline.FramePost (Pipeline.pin (pcfgs (F := F)) (fun _ => adm m h)) (fun _ c => dat m (adm m h) c) 0 (V m)) r ∧ r.2.sem = fun _ => 0) :=
  Pipeline.θ_run_frameP_track (Q' := _) pcfgs (fun _ => adm m h) (fun _ c => dat m (adm m h) c) (0 : Fin 1) launch0 defs₀ Variants.none m ρ main
    (hbody := fun c => (body_obligation m (adm m h) c).loose) (hshare := fun c w => by unfold Dat.share; dsimp only [dat]; split <;> rfl)
    (howed := fun _ _ => rfl) (V := V m) (hmain := Pipeline.hmainP_region pcfgs 0 defs₀ Variants.none m main (fun c => main_chain c))
    (hA := A_eq m (adm m h)) (hpf := hpf m h) (hin := hin m h) (hout := hout m h)

theorem run_main (h : InRange m) : θ_run defs (onTc (τ := τ) (main (F := F))) (s₀ m ρ)
    (Pipeline.FramePost (Pipeline.pin (pcfgs (F := F)) (fun _ => adm m h)) (fun _ c => dat m (adm m h) c) 0 (V m)) :=
  (θ_run defs _ _).mono (fun _ h => h.1) (run_main_quiescent m ρ h)

/-- The argument arrays end unchanged. -/
theorem unchanged_of (h : InRange m) (r : PUnit × MemSt nD τ sig (Elt F))
    (hr : Pipeline.FramePost (Pipeline.pin (pcfgs (F := F)) (fun _ => adm m h)) (fun _ c => dat m (adm m h) c) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((hr c).1 0).trans (((dat m (adm m h) c).arrAt_in 0 rfl _).trans (A_eq m (adm m h) c 0)),
    ((hr c).1 1).trans (((dat m (adm m h) c).arrAt_in 1 rfl _).trans (A_eq m (adm m h) c 1)),
    ((hr c).1 2).trans (((dat m (adm m h) c).arrAt_in 2 rfl _).trans (A_eq m (adm m h) c 2)),
    ((hr c).1 3).trans (((dat m (adm m h) c).arrAt_in 3 rfl _).trans (A_eq m (adm m h) c 3)),
    ((hr c).1 4).trans (((dat m (adm m h) c).arrAt_in 4 rfl _).trans (A_eq m (adm m h) c 4)),
    (hr c).2 main_arg5 (Pipeline.mem_restRefs_of main_arg5 (by decide) (show ∀ w : Fin 6, (spec0 w).arr.view.ref ≠ main_arg5 by decide)),
    (hr c).2 main_arg6 (Pipeline.mem_restRefs_of main_arg6 (by decide) (show ∀ w : Fin 6, (spec0 w).arr.view.ref ≠ main_arg6 by decide))⟩

/-- The frame: the argument arrays unchanged and every counter at zero. -/
theorem frame (h : InRange m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r hr => ⟨unchanged_of m h r hr.1, hr.2⟩) (run_main_quiescent m ρ h)

end Cert.ExpertsIdeal.Ffn

end
-- ==== Proof.Experts.Spec.lean ====
/-
One expert's layer on one row, as plain sums: the row normalised and scaled, the gated product of two weights' columns,
and the sum against the third weight's rows; and the sum over all hidden columns split in seven blocks.
-/
module

public import Idealize.ShloMosaic.Lib.Pointwise

@[expose] public section

noncomputable section

namespace Cert.ExpertLayer

open Idealize.ShloMosaic

/-- A row divided by its root mean square, and scaled. -/
def normRow (x g : Fin 2048 → EReal) (k : Fin 2048) : EReal :=
  x k * Ideal.rsqrt (Ideal.div (∑ j, x j * x j) (Ideal.ofBits .f32 0x45000000#32) + Ideal.ofBits .f32 0x358637BD#32) * g k

/-- One hidden column: the gate through its sigmoid, times the other factor. -/
def gated (h wg wu : Fin 2048 → EReal) : EReal :=
  (∑ j, h j * wg j) * Ideal.logistic (∑ j, h j * wg j) * ∑ j, h j * wu j

/-- The sum over all hidden columns against one column of the second weight. -/
def expertRow (h : Fin 2048 → EReal) (wg wu : Fin 2048 → Fin 7168 → EReal) (wd : Fin 7168 → EReal) : EReal :=
  ∑ f, gated h (fun j => wg j f) (fun j => wu j f) * wd f

/-- Hidden column `l` of block `q`. -/
def hidden (q : ℕ) (l : Fin 1024) : Fin 7168 := ⟨(1024 * q + l.val) % 7168, Nat.mod_lt _ (by decide)⟩

/-- A sum over the hidden columns, block by block. -/
theorem sum_blocks (f : Fin 7168 → EReal) : ∑ q ∈ Finset.range 7, ∑ l : Fin 1024, f (hidden q l) = ∑ x, f x := by
  rw [Finset.sum_range, ← Fintype.sum_prod_type' (f := fun (q : Fin 7) (l : Fin 1024) => f (hidden q.val l))]
  refine Fintype.sum_equiv (finProdFinEquiv (m := 7) (n := 1024)) _ (fun x : Fin 7168 => f x) fun p => congrArg f (Fin.ext ?_)
  obtain ⟨q, l⟩ := p
  show (1024 * q.val + l.val) % 7168 = l.val + 1024 * q.val
  omega

end Cert.ExpertLayer

end
-- ==== Proof.Experts.Pay.lean ====
/-
The experts' arithmetic and the blocks they load, read at an index.
-/
module

public import proofs.«01_k».proof.Proof.Experts.Input
public import proofs.«01_k».proof.Proof.Experts.Spec
public import Idealize.ShloMosaic.Lib.Pointwise

@[expose] public section

set_option maxRecDepth 16384

noncomputable section

namespace Cert.ExpertsIdeal.Ffn

open Cert.ExpertsIdeal Cert.ExpertsIdeal.Gen Cert.ExpertLayer
open Idealize.ShloMosaic Idealize.ShloMosaic.TcCoe Idealize.ShloMosaic.Tactic

/-- A row of a row tile, normalised. -/
theorem pay1_apply (x : Vec Ideal S64x2048 .f32) (g : Vec Ideal S1x2048 .f32) (r : Fin 64) (k : Fin 2048) :
    k0_pay1 (F := Ideal) x g (ix2 r k) = normRow (fun j => x (ix2 r j)) (fun j => g (ix2 0 j)) k := by
  pointwise [k0_pay1]
  rfl

/-- The zero block. -/
theorem pay2_apply (y : S512x2048.Idx) : k0_pay2 (F := Ideal) y = 0 := by
  obtain ⟨r, k, rfl⟩ : ∃ (r : Fin 512) (k : Fin 2048), y = ix2 r k := ⟨y 0, y 1, eq_ix2 y⟩
  pointwise [k0_pay2]

/-- A block of hidden columns added to the sum so far. -/
theorem pay3_apply (h : Vec Ideal S512x2048 .bf16) (wg wu : Vec Ideal S1x1x2048x1024 .bf16) (y : Vec Ideal S512x2048 .f32)
    (wd : Vec Ideal S1x1x1024x2048 .bf16) (r : Fin 512) (k : Fin 2048) :
    k0_pay3 (F := Ideal) h wg wu y wd (ix2 r k)
      = y (ix2 r k) + ∑ l : Fin 1024, gated (fun j => h (ix2 r j)) (fun j => wg (ix4 0 0 j l)) (fun j => wu (ix4 0 0 j l)) * wd (ix4 0 0 l k) := by
  pointwise [k0_pay3]
  rfl

variable (m : (ℓ : Loc nD τ sig) → Buf (Elt Ideal) ℓ) (a : (pcfg0 (F := Ideal)).Adm) (c : Dev nD)

/-- The rows, -/
def xOf (R : Fin 69632) (j : Fin 2048) : EReal := V m c main_arg0 (ix2 R j)
/-- the scale, -/
def gOf (j : Fin 2048) : EReal := V m c main_arg1 (ix2 0 j)
/-- an expert's gate weight, -/
def wgOf (e : Fin 8) (j : Fin 2048) (f : Fin 7168) : EReal := V m c main_arg2 (ix4 0 e j f)
/-- its other first weight, -/
def wuOf (e : Fin 8) (j : Fin 2048) (f : Fin 7168) : EReal := V m c main_arg3 (ix4 0 e j f)
/-- and its second weight, as launched. -/
def wdOf (e : Fin 8) (f : Fin 7168) (k : Fin 2048) : EReal := V m c main_arg4 (ix4 0 e f k)

/-- The normalised rows of a point's row tile. -/
theorem hAt_apply (t : Fin (cfg0 a).N) (r : Fin 512) (R : Fin 69632) (hR : R.val = 512 * (t.val / 7) + r.val) (k : Fin 2048) :
    hAt m a c t (ix2 r k) = normRow (xOf m c R) (gOf m c) k := by
  unfold hAt hBlk
  refine (pay1_apply _ _ _ _).trans ?_
  refine congrArg₂ (fun u v => normRow u v k) (funext fun j => ?_) (funext fun j => ?_)
  · refine (xBlk_apply m a c t _).trans ?_
    unfold xOf
    refine congrArg (V m c main_arg0) (congrArg₂ ix2 (Fin.ext ?_) (Fin.ext ?_))
    · show 512 * (t.val / 7) + (64 * (r.val / 64) + r.val % 64) = R.val; omega
    · rfl
  · exact gBlk_apply m a c t _

theorem wgBlk_apply (t : Fin (cfg0 a).N) (e : Fin 8) (he : (eW a (grid0.coords t)).toNat = e.val) (q : ℕ) (hq7 : q < 7)
    (hq : (selW a (grid0.coords t)).toNat = q) (j : Fin 2048) (l : Fin 1024) :
    wgBlk m a c t (ix4 0 0 j l) = wgOf m c e j (hidden q l) := by
  unfold wgBlk wgOf
  blk_ext [iblk]
  · refine (congrArg (fun k : ℕ => k + 0) (congrFun (idx2 a t) 0)).trans ?_
    rfl
  · refine (congrArg (fun k : ℕ => k + 0) (congrFun (idx2 a t) 1)).trans ?_
    show (eW a (grid0.coords t)).toNat + 0 = e.val; omega
  · refine (congrArg (fun k : ℕ => k * 2048 + j.val) (congrFun (idx2 a t) _)).trans ?_
    show 0 * 2048 + j.val = j.val; omega
  · refine (congrArg (fun k : ℕ => k * 1024 + l.val) (congrFun (idx2 a t) _)).trans ?_
    show (selW a (grid0.coords t)).toNat * 1024 + l.val = (1024 * q + l.val) % 7168; omega

theorem wuBlk_apply (t : Fin (cfg0 a).N) (e : Fin 8) (he : (eW a (grid0.coords t)).toNat = e.val) (q : ℕ) (hq7 : q < 7)
    (hq : (selW a (grid0.coords t)).toNat = q) (j : Fin 2048) (l : Fin 1024) :
    wuBlk m a c t (ix4 0 0 j l) = wuOf m c e j (hidden q l) := by
  unfold wuBlk wuOf
  blk_ext [iblk]
  · refine (congrArg (fun k : ℕ => k + 0) (congrFun (idx3 a t) 0)).trans ?_
    rfl
  · refine (congrArg (fun k : ℕ => k + 0) (congrFun (idx3 a t) 1)).trans ?_
    show (eW a (grid0.coords t)).toNat + 0 = e.val; omega
  · refine (congrArg (fun k : ℕ => k * 2048 + j.val) (congrFun (idx3 a t) _)).trans ?_
    show 0 * 2048 + j.val = j.val; omega
  · refine (congrArg (fun k : ℕ => k * 1024 + l.val) (congrFun (idx3 a t) _)).trans ?_
    show (selW a (grid0.coords t)).toNat * 1024 + l.val = (1024 * q + l.val) % 7168; omega

theorem wdBlk_apply (t : Fin (cfg0 a).N) (e : Fin 8) (he : (eW a (grid0.coords t)).toNat = e.val) (q : ℕ) (hq7 : q < 7)
    (hq : (selW a (grid0.coords t)).toNat = q) (l : Fin 1024) (k : Fin 2048) :
    wdBlk m a c t (ix4 0 0 l k) = wdOf m c e (hidden q l) k := by
  unfold wdBlk wdOf
  blk_ext [iblk]
  · refine (congrArg (fun k : ℕ => k + 0) (congrFun (idx4 a t) 0)).trans ?_
    rfl
  · refine (congrArg (fun k : ℕ => k + 0) (congrFun (idx4 a t) 1)).trans ?_
    show (eW a (grid0.coords t)).toNat + 0 = e.val; omega
  · refine (congrArg (fun k : ℕ => k * 1024 + l.val) (congrFun (idx4 a t) _)).trans ?_
    show (selW a (grid0.coords t)).toNat * 1024 + l.val = (1024 * q + l.val) % 7168; omega
  · refine (congrArg (fun i : ℕ => i * 2048 + k.val) (congrFun (idx4 a t) _)).trans ?_
    show 0 * 2048 + k.val = k.val; omega

end Cert.ExpertsIdeal.Ffn

end
-- ==== Proof.Experts.Sum.lean ====
/-
What the output block holds after a row tile's last point: the expert's layer on each row of an active tile, zero on an
inactive one.
-/
module

public import proofs.«01_k».proof.Proof.Experts.Pay

@[expose] public section

set_option maxRecDepth 16384

noncomputable section

namespace Cert.ExpertsIdeal.Ffn

open Cert.ExpertsIdeal Cert.ExpertsIdeal.Gen Cert.ExpertLayer
open Idealize.ShloMosaic Idealize.ShloMosaic.TcCoe Idealize.ShloMosaic.Tactic

variable (m : (ℓ : Loc nD τ sig) → Buf (Elt Ideal) ℓ) (a : (pcfg0 (F := Ideal)).Adm) (c : Dev nD)

theorem tile_point (i : Fin 136) (n : ℕ) (hn : n < 7) : 7 * i.val + n < (cfg0 a).N :=
  lt_of_lt_of_eq (show 7 * i.val + n < 952 by have := i.isLt; omega) N_0.symm

/-- Point `n` of row tile `i`. -/
def tp (i : Fin 136) (n : ℕ) (hn : n < 7) : Fin (cfg0 a).N := ⟨7 * i.val + n, tile_point a i n hn⟩

theorem tp_coord0 (i : Fin 136) (n : ℕ) (hn : n < 7) : grid0.coords (tp a i n hn) 0 = i :=
  Fin.ext ((coord0 _).trans (by show (7 * i.val + n) / 7 = i.val; omega))

theorem tp_coord1 (i : Fin 136) (n : ℕ) (hn : n < 7) : (grid0.coords (tp a i n hn) 1).val = n :=
  (coord1 _).trans (by show (7 * i.val + n) % 7 = n; omega)

theorem cond2_iff (w : BitVec 32) : k0_cond2 w = 1#1 ↔ w = 1#32 := by
  unfold k0_cond2
  dsimp only
  rcases BitVec.eq_zero_or_eq_one (Scalar.cmpi .eq w 1#32) with e | e
  · refine ⟨fun h => absurd h ?_, fun h => ?_⟩
    · rw [e]; decide
    · subst h; exact absurd e (by decide)
  · exact ⟨fun _ => IntOp.cmpi_eq.1 e, fun _ => by rw [e]; decide⟩

/-- A tile is active when its word is one. -/
theorem condA_iff (x : Vec Ideal S136 .i32) (i : grid0.Coords) : condA (F := Ideal) x i ↔ (x (ix1 (i 0)) : BitVec 32) = 1#32 := by
  unfold condA
  rw [actWord_eq]
  generalize x (ix1 (i 0)) = w
  exact cond2_iff w

/-- The part of the sum that block `q` of the hidden columns gives. -/
def part (e : Fin 8) (R : Fin 69632) (k : Fin 2048) (q : ℕ) : EReal :=
  ∑ l : Fin 1024, gated (normRow (xOf m c R) (gOf m c)) (fun j => wgOf m c e j (hidden q l)) (fun j => wuOf m c e j (hidden q l)) * wdOf m c e (hidden q l) k

/-- One active point adds its part. -/
theorem step_apply (i : Fin 136) (n : ℕ) (hn : n < 7) (e : Fin 8) (he : (tblE a (ix1 i) : BitVec 32).toNat = e.val) (ha : (tblA a (ix1 i) : BitVec 32) = 1#32)
    (y : Vec Ideal S512x2048 .f32) (r : Fin 512) (R : Fin 69632) (hR : R.val = 512 * i.val + r.val) (k : Fin 2048) :
    step m a c (tp a i n hn) y (ix2 r k) = y (ix2 r k) + part m c e R k n := by
  have hc0 := tp_coord0 a i n hn
  have hA : condA (F := Ideal) (tblA a) (grid0.coords (tp a i n hn)) := by rw [condA_iff, hc0]; exact ha
  have hE : (eW a (grid0.coords (tp a i n hn))).toNat = e.val := by
    unfold eW expertOf; rw [hc0]; exact he
  have hS : (selW a (grid0.coords (tp a i n hn))).toNat = n := by
    unfold selW blockOf
    rw [hc0, tp_coord1, ha]
    show (BitVec.ofNat 32 n).toNat = n
    exact ofNat_toNat n (by omega)
  have hd : (tp a i n hn).val / 7 = i.val := by show (7 * i.val + n) / 7 = i.val; omega
  rw [step_active m a c _ _ hA]
  refine (pay3_apply _ _ _ _ _ r k).trans (congrArg (fun u : EReal => y (ix2 r k) + u) (Finset.sum_congr rfl fun l _ => ?_))
  refine congrArg₂ (fun u v : EReal => u * v) ?_ (wdBlk_apply m a c _ e hE n hn hS l k)
  have h1 : (fun j => hAt m a c (tp a i n hn) (ix2 r j)) = normRow (xOf m c R) (gOf m c) := funext fun j => hAt_apply m a c _ r R (by rw [hd]; exact hR) j
  have h2 : (fun j => wgBlk m a c (tp a i n hn) (ix4 0 0 j l)) = fun j => wgOf m c e j (hidden n l) := funext fun j => wgBlk_apply m a c _ e hE n hn hS j l
  have h3 : (fun j => wuBlk m a c (tp a i n hn) (ix4 0 0 j l)) = fun j => wuOf m c e j (hidden n l) := funext fun j => wuBlk_apply m a c _ e hE n hn hS j l
  exact congr (congr (congrArg gated h1) h2) h3

/-- After point `n` of an active tile the block holds the first `n + 1` parts. -/
theorem acc_active (i : Fin 136) (e : Fin 8) (he : (tblE a (ix1 i) : BitVec 32).toNat = e.val) (ha : (tblA a (ix1 i) : BitVec 32) = 1#32)
    (r : Fin 512) (R : Fin 69632) (hR : R.val = 512 * i.val + r.val) (k : Fin 2048) :
    ∀ (n : ℕ) (hn : n < 7), accAt m a c (tp a i n hn) (ix2 r k) = ∑ q ∈ Finset.range (n + 1), part m c e R k q
  | 0, hn => by
    rw [accAt_start m a c _ (show (7 * i.val + 0) % 7 = 0 by omega)]
    refine (step_apply m a c i 0 hn e he ha _ r R hR k).trans ?_
    rw [pay2_apply, Finset.sum_range_one]
    exact zero_add _
  | n + 1, hn => by
    rw [accAt_next m a c _ (show (7 * i.val + (n + 1)) % 7 ≠ 0 by omega)]
    refine (step_apply m a c i (n + 1) hn e he ha _ r R hR k).trans ?_
    rw [Finset.sum_range_succ _ (n + 1)]
    exact congrArg (fun u : EReal => u + part m c e R k (n + 1)) (acc_active i e he ha r R hR k n (by omega))

/-- After any point of an inactive tile the block is zero. -/
theorem acc_idle (i : Fin 136) (ha : (tblA a (ix1 i) : BitVec 32) ≠ 1#32) (y : S512x2048.Idx) :
    ∀ (n : ℕ) (hn : n < 7), accAt m a c (tp a i n hn) y = (0 : EReal)
  | 0, hn => by
    have hA : ¬condA (F := Ideal) (tblA a) (grid0.coords (tp a i 0 hn)) := by rw [condA_iff, tp_coord0]; exact ha
    rw [accAt_start m a c _ (show (7 * i.val + 0) % 7 = 0 by omega), step_idle m a c _ _ hA]
    exact pay2_apply y
  | n + 1, hn => by
    have hA : ¬condA (F := Ideal) (tblA a) (grid0.coords (tp a i (n + 1) hn)) := by rw [condA_iff, tp_coord0]; exact ha
    rw [accAt_next m a c _ (show (7 * i.val + (n + 1)) % 7 ≠ 0 by omega), step_idle m a c _ _ hA]
    exact acc_idle i ha y n (by omega)

/-- An active tile's rows at its last point. -/
theorem last_active (i : Fin 136) (e : Fin 8) (he : (tblE a (ix1 i) : BitVec 32).toNat = e.val) (ha : (tblA a (ix1 i) : BitVec 32) = 1#32)
    (r : Fin 512) (R : Fin 69632) (hR : R.val = 512 * i.val + r.val) (k : Fin 2048) :
    accAt m a c (tp a i 6 (by decide)) (ix2 r k)
      = expertRow (normRow (xOf m c R) (gOf m c)) (wgOf m c e) (wuOf m c e) (fun f => wdOf m c e f k) :=
  (acc_active m a c i e he ha r R hR k 6 (by decide)).trans (sum_blocks fun f =>
    gated (normRow (xOf m c R) (gOf m c)) (fun j => wgOf m c e j f) (fun j => wuOf m c e j f) * wdOf m c e f k)

end Cert.ExpertsIdeal.Ffn

end
-- ==== Proof.Experts.Result.lean ====
/-
The experts' output array after the run.
-/
module

public import proofs.«01_k».proof.Proof.Experts.Frame
public import proofs.«01_k».proof.Proof.Experts.Sum
public import Idealize.ShloMosaic.Lib.Pipeline.ValueKit

@[expose] public section

set_option maxRecDepth 16384

noncomputable section

namespace Cert.ExpertsIdeal.Ffn

open Cert.ExpertsIdeal Cert.ExpertsIdeal.Gen Cert.ExpertLayer
open Idealize.ShloMosaic Idealize.ShloMosaic.TcCoe Idealize.ShloMosaic.Tactic

variable (m : (ℓ : Loc nD τ sig) → Buf (Elt Ideal) ℓ) (a : (pcfg0 (F := Ideal)).Adm) (c : Dev nD) (ρ : Dev nD → PrngReg)

/-- The array of output rows: each row tile's block after its last point. -/
def rows : (⟨S69632x2048, .f32⟩ : BufTy).Contents (Elt Ideal) := fun y =>
  accAt m a c (tp a ⟨(y 0).val / 512, by have : (y 0).val < 69632 := (y 0).isLt; omega⟩ 6 (by decide))
    (ix2 ⟨(y 0).val % 512, Nat.mod_lt _ (by decide)⟩ ⟨(y 1).val, (y 1).isLt⟩)

theorem rows_emb (t : Fin (cfg0 a).N) (h6 : t.val % 7 = 6) (y : S512x2048.Idx) (z : S69632x2048.Idx)
    (h0 : (z 0).val = t.val / 7 * 512 + (y 0).val) (h1 : (z 1).val = (y 1).val) : rows m a c z = accAt m a c t y := by
  have hy : (y 0).val < 512 := (y 0).isLt
  unfold rows
  refine congrArg₂ (fun u v => accAt m a c u v) (Fin.ext ?_) (funext fun b => Fin.ext ?_)
  · show 7 * ((z 0).val / 512) + 6 = t.val; omega
  · match b with
    | ⟨0, _⟩ => show (z 0).val % 512 = (y 0).val; omega
    | ⟨1, _⟩ => exact h1

/-- The flushed blocks cover the output array. -/
theorem covers5 : ((cfg0 a).win 5).Covers := by
  refine ⟨show ∀ k : Fin 2, 0 < S512x2048.size k by decide, fun β => ?_⟩
  have b0 : (β (0 : Fin 2)).val < 136 := lt_of_lt_of_eq (β (0 : Fin 2)).isLt (show (S69632x2048.size 0 + S512x2048.size 0 - 1) / S512x2048.size 0 = 136 by decide)
  have b1 : (β (1 : Fin 2)).val < 1 := lt_of_lt_of_eq (β (1 : Fin 2)).isLt (show (S69632x2048.size 1 + S512x2048.size 1 - 1) / S512x2048.size 1 = 1 by decide)
  refine ⟨tp a ⟨(β (0 : Fin 2)).val, b0⟩ 6 (by decide), (flush5 a _).2 (by show (7 * (β (0 : Fin 2)).val + 6) % 7 = 6; omega), fun k => ⟨?_, Or.inl ?_⟩⟩
  · refine (congrFun (idx5 a _) k).trans ?_
    match k with
    | ⟨0, _⟩ => show (7 * (β (0 : Fin 2)).val + 6) / 7 = (β (0 : Fin 2)).val; omega
    | ⟨1, _⟩ => show 0 = (β (1 : Fin 2)).val; omega
  · rfl

/-- After the run the output array holds each row tile's block. -/
theorem final_rows : (dat m a c).arrAt 5 (cfg0 a).N = rows m a c := by
  refine (dat m a c).arrAt_eq_of_covers 5 _ ?_ fun t hf y => ?_
  · exact covers5 a
  · have h6 := (flush5 a t).1 hf
    refine Eq.trans (b := accAt m a c t y) ?_ (rows_emb m a c t h6 y _ ?_ ?_).symm
    · refine (cast_eq _ _).trans ?_
      rw [after0_5]
    · refine Eq.trans ?_ (congrArg (fun k : ℕ => k * 512 + (y (0 : Fin 2)).val) (congrFun (idx5 a t) 0))
      show _ * 512 + 1 * (y (0 : Fin 2)).val = _ * 512 + (y (0 : Fin 2)).val
      rw [one_mul]; rfl
    · refine Eq.trans ?_ ((congrArg (fun k : ℕ => k * 2048 + (y (1 : Fin 2)).val) (congrFun (idx5 a t) 1)).trans (by show 0 * 2048 + (y (1 : Fin 2)).val = (y (1 : Fin 2)).val; omega))
      show _ * 2048 + 1 * (y (1 : Fin 2)).val = _ * 2048 + (y (1 : Fin 2)).val
      rw [one_mul]; rfl

/-- The run: the output array at those rows, the arguments unchanged. -/
theorem run (h : InRange m) : θ_run defs (onTc (τ := τ) (main (F := Ideal))) ⟨m, fun _ => 0, ρ⟩ fun r => ∀ c : Dev nD,
      r.2.mem ((c.tc : Thread nD τ).loc main_v0) = rows m (adm m h) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r hr c => ⟨((hr c).1 5).trans (final_rows m (adm m h) c), unchanged_of m h r hr c⟩) (run_main m ρ h)

end Cert.ExpertsIdeal.Ffn

end
-- ==== Proof.Experts.RefValue.lean ====
/-
The experts' reference, read at an index: each expert's layer on every row, the tile's own expert kept.
-/
module

public import proofs.«01_k».proof.Proof.Experts.Spec
public import proofs.«01_k».proof.Proof.Gen.ExpertsReferenceIdeal.Read
public import Idealize.ShloMosaic.Lib.IdealHost

@[expose] public section

set_option maxRecDepth 16384

noncomputable section

namespace Cert.ExpertsReferenceIdeal.Ffn

open Cert.ExpertsReferenceIdeal Cert.ExpertsReferenceIdeal.Gen Cert.ExpertsReferenceIdeal.Read Cert.ExpertLayer
open Idealize.ShloMosaic Idealize.ShloMosaic.TcCoe

variable (x0 : (⟨S69632x2048, .f32⟩ : BufTy).Contents (Elt Ideal)) (x1 : (⟨S1x2048, .f32⟩ : BufTy).Contents (Elt Ideal))
  (x2 x3 : (⟨S2x8x2048x7168, .bf16⟩ : BufTy).Contents (Elt Ideal)) (x4 : (⟨S2x8x7168x2048, .bf16⟩ : BufTy).Contents (Elt Ideal))
  (x5 x6 : (⟨S136, .i32⟩ : BufTy).Contents (Elt Ideal))

theorem zero_bits : (FloatOps.ofBits .f32 0x00000000#32 : Ideal .f32) = (0 : EReal) := Ideal.ofBits_zero _

/-- The normalised rows. -/
theorem norm_apply (R : Fin 69632) (k : Fin 2048) :
    val_main_v11 (F := Ideal) x0 x1 (ix2 R k) = normRow (fun j => x0 (ix2 R j)) (fun j => x1 (ix2 0 j)) k := by
  rw [val_main_v11_apply, val_main_v9_apply, val_main_v8_apply, val_main_v7_apply, val_main_v6_apply, val_main_v4_apply,
    val_main_v2_apply, val_main_v1_apply, val_main_v3_apply, val_main_v5_apply, val_main_v10_apply, val_main_cst_apply, zero_bits]
  unfold normRow
  have hs : ∑ j, val_main_v0 (F := Ideal) x0 (idx_main_v1 (idx_main_v2 (idx_main_v8 (ix2 R k))) j) = ∑ j : Fin 2048, (x0 (ix2 R j) * x0 (ix2 R j) : EReal) :=
    Finset.sum_congr rfl fun j _ => by
      have : idx_main_v1 (idx_main_v2 (idx_main_v8 (ix2 R k))) j = ix2 R j := funext fun b => Fin.ext (by match b with | ⟨0, _⟩ => rfl | ⟨1, _⟩ => rfl)
      rw [this]; rfl
  refine congrArg₂ (fun u v : EReal => u * v) (congrArg (fun u : EReal => x0 (ix2 R k) * Ideal.rsqrt (Ideal.div u (Ideal.ofBits .f32 0x45000000#32) + Ideal.ofBits .f32 0x358637BD#32)) ((zero_add _).trans hs)) ?_
  exact congrArg x1 (funext fun b => Fin.ext (by match b with | ⟨0, _⟩ => rfl | ⟨1, _⟩ => rfl))

theorem gate_weight (e : Fin 8) (j : Fin 2048) (f : Fin 7168) : val_main_v14 (F := Ideal) x2 (ix3 e j f) = x2 (ix4 0 e j f) := by
  rw [val_main_v14_apply, val_main_v13_apply, val_main_v12_apply]
  refine congrArg x2 (funext fun b => Fin.ext ?_)
  have := e.isLt; have := j.isLt; have := f.isLt
  match b with
  | ⟨0, _⟩ => rfl
  | ⟨1, _⟩ => show ((e.val * 2048 + j.val) * 7168 + f.val) / 14680064 % 8 = e.val; omega
  | ⟨2, _⟩ => show ((e.val * 2048 + j.val) * 7168 + f.val) / 7168 % 2048 = j.val; omega
  | ⟨3, _⟩ => show ((e.val * 2048 + j.val) * 7168 + f.val) % 7168 = f.val; omega

theorem up_weight (e : Fin 8) (j : Fin 2048) (f : Fin 7168) : val_main_v19 (F := Ideal) x3 (ix3 e j f) = x3 (ix4 0 e j f) := by
  rw [val_main_v19_apply, val_main_v18_apply, val_main_v17_apply]
  refine congrArg x3 (funext fun b => Fin.ext ?_)
  have := e.isLt; have := j.isLt; have := f.isLt
  match b with
  | ⟨0, _⟩ => rfl
  | ⟨1, _⟩ => show ((e.val * 2048 + j.val) * 7168 + f.val) / 14680064 % 8 = e.val; omega
  | ⟨2, _⟩ => show ((e.val * 2048 + j.val) * 7168 + f.val) / 7168 % 2048 = j.val; omega
  | ⟨3, _⟩ => show ((e.val * 2048 + j.val) * 7168 + f.val) % 7168 = f.val; omega

theorem down_weight (e : Fin 8) (f : Fin 7168) (k : Fin 2048) : val_main_v26 (F := Ideal) x4 (ix3 e f k) = x4 (ix4 0 e f k) := by
  rw [val_main_v26_apply, val_main_v25_apply, val_main_v24_apply]
  refine congrArg x4 (funext fun b => Fin.ext ?_)
  have := e.isLt; have := f.isLt; have := k.isLt
  match b with
  | ⟨0, _⟩ => rfl
  | ⟨1, _⟩ => show ((e.val * 7168 + f.val) * 2048 + k.val) / 14680064 % 8 = e.val; omega
  | ⟨2, _⟩ => show ((e.val * 7168 + f.val) * 2048 + k.val) / 2048 % 7168 = f.val; omega
  | ⟨3, _⟩ => show ((e.val * 7168 + f.val) * 2048 + k.val) % 2048 = k.val; omega

/-- The gate's product, -/
theorem gate_apply (e : Fin 8) (R : Fin 69632) (f : Fin 7168) : val_main_v16 (F := Ideal) x0 x1 x2 (ix3 e R f)
    = ∑ j, normRow (fun j => x0 (ix2 R j)) (fun j => x1 (ix2 0 j)) j * x2 (ix4 0 e j f) := by
  rw [val_main_v16_apply, val_main_v15_apply]
  refine Finset.sum_congr rfl fun j _ => (mul_comm _ _).trans ?_
  exact congrArg₂ (fun u v : EReal => u * v)
    ((congrArg (val_main_v11 (F := Ideal) x0 x1) (funext fun b => Fin.ext (by match b with | ⟨0, _⟩ => rfl | ⟨1, _⟩ => rfl))).trans (norm_apply x0 x1 R j))
    ((congrArg (val_main_v14 (F := Ideal) x2) (funext fun b => Fin.ext (by match b with | ⟨0, _⟩ => rfl | ⟨1, _⟩ => rfl | ⟨2, _⟩ => rfl))).trans (gate_weight x2 e j f))

/-- and the other factor's. -/
theorem up_apply (e : Fin 8) (R : Fin 69632) (f : Fin 7168) : val_main_v21 (F := Ideal) x0 x1 x3 (ix3 e R f)
    = ∑ j, normRow (fun j => x0 (ix2 R j)) (fun j => x1 (ix2 0 j)) j * x3 (ix4 0 e j f) := by
  rw [val_main_v21_apply, val_main_v20_apply]
  refine Finset.sum_congr rfl fun j _ => (mul_comm _ _).trans ?_
  exact congrArg₂ (fun u v : EReal => u * v)
    ((congrArg (val_main_v11 (F := Ideal) x0 x1) (funext fun b => Fin.ext (by match b with | ⟨0, _⟩ => rfl | ⟨1, _⟩ => rfl))).trans (norm_apply x0 x1 R j))
    ((congrArg (val_main_v19 (F := Ideal) x3) (funext fun b => Fin.ext (by match b with | ⟨0, _⟩ => rfl | ⟨1, _⟩ => rfl | ⟨2, _⟩ => rfl))).trans (up_weight x3 e j f))

theorem one_bits : (FloatOps.ofBits .f32 0x3F800000#32 : Ideal .f32) = (1 : EReal) := Ideal.ofBits_one_f32

/-- One hidden column. -/
theorem hidden_apply (e : Fin 8) (R : Fin 69632) (f : Fin 7168) : val_main_v23 (F := Ideal) x0 x1 x2 x3 (ix3 e R f)
    = gated (normRow (fun j => x0 (ix2 R j)) (fun j => x1 (ix2 0 j))) (fun j => x2 (ix4 0 e j f)) (fun j => x3 (ix4 0 e j f)) := by
  rw [val_main_v23_apply, val_main_v22_apply, val_main_call0_v5_apply, val_main_call0_v3_apply, val_main_call0_v1_apply,
    val_main_call0_v0_apply, val_main_call0_v2_apply, val_main_call0_v4_apply, val_main_call0_cst_apply, val_main_call0_cst_0_apply, gate_apply, up_apply, one_bits]
  rfl

/-- One expert's layer on one row. -/
theorem expert_apply (e : Fin 8) (R : Fin 69632) (k : Fin 2048) : val_main_v27 (F := Ideal) x0 x1 x2 x3 x4 (ix3 e R k)
    = expertRow (normRow (fun j => x0 (ix2 R j)) (fun j => x1 (ix2 0 j))) (fun j f => x2 (ix4 0 e j f)) (fun j f => x3 (ix4 0 e j f)) (fun f => x4 (ix4 0 e f k)) := by
  rw [val_main_v27_apply]
  unfold expertRow
  refine Finset.sum_congr rfl fun f _ => ?_
  exact congrArg₂ (fun u v : EReal => u * v)
    ((congrArg (val_main_v23 (F := Ideal) x0 x1 x2 x3) (funext fun b => Fin.ext (by match b with | ⟨0, _⟩ => rfl | ⟨1, _⟩ => rfl | ⟨2, _⟩ => rfl))).trans (hidden_apply x0 x1 x2 x3 e R f))
    ((congrArg (val_main_v26 (F := Ideal) x4) (funext fun b => Fin.ext (by match b with | ⟨0, _⟩ => rfl | ⟨1, _⟩ => rfl | ⟨2, _⟩ => rfl))).trans (down_weight x4 e f k))

/-- Whether a row's tile is active and its expert is `e`. -/
theorem mask_apply (e : Fin 8) (R : Fin 69632) (k : Fin 2048) (i : Fin 136) (hi : i.val = R.val / 512) :
    val_main_call1_v1 (F := Ideal) x5 x6 (ix3 e R k)
      = IntOp.andi (IntOp.cmpi .eq (x5 (ix1 i)) (BitVec.ofNat 32 e.val)) (IntOp.cmpi .eq (x6 (ix1 i)) 1#32) := by
  rw [val_main_call1_v1_apply, val_main_v41_apply, val_main_v40_apply, val_main_v39_apply, val_main_v38_apply, val_main_v33_apply,
    val_main_v31_apply, val_main_v28_apply, val_main_v32_apply, val_main_v30_apply, val_main_v29_apply, val_main_v37_apply, val_main_v36_apply,
    val_main_v35_apply, val_main_v34_apply, val_main_c_apply]
  have h5 : (idx_main_v28 (idx_main_v31 (idx_main_v39 (idx_main_v40 (idx_main_v41 (idx_main_call1_v1 (ix3 e R k))))))) = ix1 i := by
    funext b
    refine Fin.ext ?_
    have := e.isLt; have := R.isLt
    match b with
    | ⟨0, _⟩ => show ((e.val * 69632 + R.val) * 1 + 0) / 512 % 136 = i.val; omega
  have h6 : (idx_main_v36 (idx_main_v37 (idx_main_v39 (idx_main_v40 (idx_main_v41 (idx_main_call1_v1 (ix3 e R k))))))) = ix1 i := h5
  have h8 : (idx_main_v30 (idx_main_v32 (idx_main_v39 (idx_main_v40 (idx_main_v41 (idx_main_call1_v1 (ix3 e R k)))))) 0).val = e.val := by
    have := e.isLt; have := R.isLt
    show ((e.val * 69632 + R.val) * 1 + 0) / 69632 = e.val; omega
  rw [h5, h6]
  refine congrArg (fun n : ℕ => IntOp.andi (IntOp.cmpi .eq (x5 (ix1 i)) (BitVec.ofNat 32 n)) (IntOp.cmpi .eq (x6 (ix1 i)) 1#32)) h8

/-- The result of an active tile: its own expert's layer. -/
theorem active_apply (R : Fin 69632) (k : Fin 2048) (i : Fin 136) (hi : i.val = R.val / 512) (e : Fin 8) (he : (x5 (ix1 i) : BitVec 32).toNat = e.val)
    (ha : (x6 (ix1 i) : BitVec 32) = 1#32) : val_main_v43 (F := Ideal) x0 x1 x2 x3 x4 x5 x6 (ix2 R k)
    = expertRow (normRow (fun j => x0 (ix2 R j)) (fun j => x1 (ix2 0 j))) (fun j f => x2 (ix4 0 e j f)) (fun j f => x3 (ix4 0 e j f)) (fun f => x4 (ix4 0 e f k)) := by
  rw [val_main_v43_apply, val_main_cst_3_apply, zero_bits]
  refine (zero_add _).trans ?_
  have hx : ∀ b : Fin 8, idx_main_v43 (ix2 R k) b = ix3 b R k := fun b => funext fun d => Fin.ext (by match d with | ⟨0, _⟩ => rfl | ⟨1, _⟩ => rfl | ⟨2, _⟩ => rfl)
  refine (Finset.sum_eq_single e (fun b _ hb => ?_) (fun h => absurd (Finset.mem_univ _) h)).trans ?_
  · rw [hx, val_main_v42_apply, mask_apply x5 x6 b R k i hi, val_main_call1_v2_apply, val_main_call1_v0_apply, val_main_cst_2_apply, zero_bits]
    have hne : (x5 (ix1 i) : BitVec 32) ≠ BitVec.ofNat 32 b.val := fun h => hb (Fin.ext (by
      have := congrArg BitVec.toNat h
      rw [he, BitVec.toNat_ofNat] at this
      have := b.isLt; omega))
    have : IntOp.cmpi .eq (x5 (ix1 i)) (BitVec.ofNat 32 b.val) = 0#1 := by
      rcases BitVec.eq_zero_or_eq_one (IntOp.cmpi .eq (x5 (ix1 i)) (BitVec.ofNat 32 b.val)) with h | h
      · exact h
      · exact absurd (IntOp.cmpi_eq.1 h) hne
    rw [this]
    have h0 : ∀ z : BitVec 1, IntOp.andi 0#1 z = 0#1 := by decide
    rw [h0]; rfl
  · rw [hx, val_main_v42_apply, mask_apply x5 x6 e R k i hi]
    have h1 : IntOp.cmpi .eq (x5 (ix1 i)) (BitVec.ofNat 32 e.val) = 1#1 := IntOp.cmpi_eq.2 (BitVec.eq_of_toNat_eq (by
      rw [he, BitVec.toNat_ofNat]; have := e.isLt; omega))
    have h2 : IntOp.cmpi .eq (x6 (ix1 i)) 1#32 = 1#1 := IntOp.cmpi_eq.2 ha
    rw [h1, h2]
    exact expert_apply x0 x1 x2 x3 x4 e R k

/-- The result of an inactive tile: zero. -/
theorem idle_apply (R : Fin 69632) (k : Fin 2048) (i : Fin 136) (hi : i.val = R.val / 512) (ha : (x6 (ix1 i) : BitVec 32) ≠ 1#32) :
    val_main_v43 (F := Ideal) x0 x1 x2 x3 x4 x5 x6 (ix2 R k) = (0 : EReal) := by
  rw [val_main_v43_apply, val_main_cst_3_apply, zero_bits]
  refine (zero_add _).trans ?_
  have hx : ∀ b : Fin 8, idx_main_v43 (ix2 R k) b = ix3 b R k := fun b => funext fun d => Fin.ext (by match d with | ⟨0, _⟩ => rfl | ⟨1, _⟩ => rfl | ⟨2, _⟩ => rfl)
  refine Finset.sum_eq_zero fun b _ => ?_
  rw [hx, val_main_v42_apply, mask_apply x5 x6 b R k i hi, val_main_call1_v2_apply, val_main_call1_v0_apply, val_main_cst_2_apply, zero_bits]
  have : IntOp.cmpi .eq (x6 (ix1 i)) 1#32 = 0#1 := by
    rcases BitVec.eq_zero_or_eq_one (IntOp.cmpi .eq (x6 (ix1 i)) 1#32) with h | h
    · exact h
    · exact absurd (IntOp.cmpi_eq.1 h) ha
  rw [this]
  have h0 : ∀ z : BitVec 1, IntOp.andi z 0#1 = 0#1 := by decide
  rw [h0]; rfl

end Cert.ExpertsReferenceIdeal.Ffn

end
-- ==== Proof.Experts.Pre.lean ====
/-
The precondition, read: every expert's number is at least 0 and less than 8.
-/
module

public import proofs.«01_k».proof.Pre_experts_in_range
public import Idealize.ShloMosaic.Lib.ReduceAll
public import Idealize.ShloMosaic.Lib.Pointwise
public import Idealize.ShloMosaic.Lib.Claim

@[expose] public section

set_option maxRecDepth 16384

noncomputable section

namespace Cert.Pre_experts_in_range

open Idealize.ShloMosaic Idealize.ShloMosaic.TcCoe

theorem facts : Facts where
  bcast_S_S136 := by decide
  reducesTo_S136_S_d0 := by decide
  h_S_ := by decide

theorem lt_of_bits (x : BitVec 32) (h0 : IntOp.cmpi .sge x 0#32 = 1#1) (h1 : IntOp.cmpi .slt x 8#32 = 1#1) : x.toNat < 8 := by
  have a := IntOp.cmpi_sge.1 h0
  have b := IntOp.cmpi_slt.1 h1
  have c : (0#32).toInt = 0 := by decide
  have d : (8#32).toInt = 8 := by decide
  rw [c] at a; rw [d] at b
  rw [BitVec.toInt_eq_toNat_cond] at a b
  split at a <;> omega

/-- The precondition says that every tile's expert is one of the eight. -/
theorem in_range [Facts] {F : FTy → Type} [FloatOps F] (x0 : FVec F S69632x2048 .f32) (x1 : FVec F S1x2048 .f32) (x2 x3 : FVec F S2x8x2048x7168 .bf16)
    (x4 : FVec F S2x8x7168x2048 .bf16) (x5 x6 : IVec S136 32)
    (h : fn (F := F) x0 x1 x2 x3 x4 x5 x6 = fun _ => 1#1) (i : S136.Idx) : (x5 i).toNat < 8 := by
  have e := congrFun h ix0
  unfold fn at e
  simp only at e
  have e1 := IntOp.andi_eq_one.1 (Host.reduce_andi_all _ _ _ _ ix0 e i)
  exact lt_of_bits (x5 i) e1.1 e1.2

end Cert.Pre_experts_in_range

end
-- ==== Proof.Experts.Equal.lean ====
/-
The experts' kernel and their reference compute the same array, and the value claim.
-/
module

public import proofs.«01_k».proof.Proof.Experts.Result
public import proofs.«01_k».proof.Proof.Experts.RefValue
public import proofs.«01_k».proof.Proof.Experts.Pre
public import proofs.«01_k».proof.Proof.Gen.ExpertsReferenceIdeal.Run
public import proofs.«01_k».proof.Defs

@[expose] public section

set_option maxRecDepth 16384

noncomputable section

namespace Cert.ExpertLayer

open Idealize.ShloMosaic Idealize.ShloMosaic.TcCoe Idealize.SL.Sem

/-- The precondition gives the range of the table the pipeline runs at. -/
theorem inRange (m : (ℓ : Loc Cert.ExpertsIdeal.nD Cert.ExpertsIdeal.τ Cert.ExpertsIdeal.sig) → Buf (Elt Ideal) ℓ)
    (hpre : Cert.Pre_ExpertsIdeal (hPre_experts_in_range := Cert.Pre_experts_in_range.facts) m) : Cert.ExpertsIdeal.Ffn.InRange m := by
  have := Cert.Pre_experts_in_range.facts
  exact fun i => Cert.Pre_experts_in_range.in_range _ _ _ _ _ _ _ (hpre Cert.ExpertsIdeal.Ffn.dev0) i

/-- The kernel's output rows are the reference's result. -/
theorem rows_eq (m : (ℓ : Loc Cert.ExpertsIdeal.nD Cert.ExpertsIdeal.τ Cert.ExpertsIdeal.sig) → Buf (Elt Ideal) ℓ) (c : Dev Cert.ExpertsIdeal.nD)
    (h : Cert.ExpertsIdeal.Ffn.InRange m) :
    Cert.ExpertsReferenceIdeal.Read.val_main_v43 (F := Ideal) (m ((c.tc : Thread Cert.ExpertsIdeal.nD Cert.ExpertsIdeal.τ).loc Cert.ExpertsIdeal.main_arg0))
      (m ((c.tc : Thread Cert.ExpertsIdeal.nD Cert.ExpertsIdeal.τ).loc Cert.ExpertsIdeal.main_arg1))
      (m ((c.tc : Thread Cert.ExpertsIdeal.nD Cert.ExpertsIdeal.τ).loc Cert.ExpertsIdeal.main_arg2))
      (m ((c.tc : Thread Cert.ExpertsIdeal.nD Cert.ExpertsIdeal.τ).loc Cert.ExpertsIdeal.main_arg3))
      (m ((c.tc : Thread Cert.ExpertsIdeal.nD Cert.ExpertsIdeal.τ).loc Cert.ExpertsIdeal.main_arg4))
      (m ((c.tc : Thread Cert.ExpertsIdeal.nD Cert.ExpertsIdeal.τ).loc Cert.ExpertsIdeal.main_arg5))
      (m ((c.tc : Thread Cert.ExpertsIdeal.nD Cert.ExpertsIdeal.τ).loc Cert.ExpertsIdeal.main_arg6))
      = Cert.ExpertsIdeal.Ffn.rows m (Cert.ExpertsIdeal.Ffn.adm m h) c := by
  obtain rfl := Cert.ExpertsIdeal.Ffn.dev_eq c
  refine funext fun z => ?_
  obtain ⟨R, k, rfl⟩ : ∃ (R : Fin 69632) (k : Fin 2048), z = ix2 R k := ⟨z 0, z 1, eq_ix2 z⟩
  have hi : R.val / 512 < 136 := by have := R.isLt; omega
  have hR : R.val = 512 * (R.val / 512) + R.val % 512 := by omega
  have hE := h (ix1 ⟨R.val / 512, hi⟩)
  by_cases ha : (Cert.ExpertsIdeal.Ffn.tblA (Cert.ExpertsIdeal.Ffn.adm m h) (ix1 ⟨R.val / 512, hi⟩) : BitVec 32) = 1#32
  · refine (Cert.ExpertsReferenceIdeal.Ffn.active_apply _ _ _ _ _ _ _ R k ⟨R.val / 512, hi⟩ rfl ⟨_, hE⟩ rfl ha).trans ?_
    exact (Cert.ExpertsIdeal.Ffn.last_active m (Cert.ExpertsIdeal.Ffn.adm m h) Cert.ExpertsIdeal.Ffn.dev0 ⟨R.val / 512, hi⟩ ⟨_, hE⟩ rfl ha
      ⟨R.val % 512, Nat.mod_lt _ (by decide)⟩ R hR k).symm
  · refine (Cert.ExpertsReferenceIdeal.Ffn.idle_apply _ _ _ _ _ _ _ R k ⟨R.val / 512, hi⟩ rfl ha).trans ?_
    exact (Cert.ExpertsIdeal.Ffn.acc_idle m (Cert.ExpertsIdeal.Ffn.adm m h) Cert.ExpertsIdeal.Ffn.dev0 ⟨R.val / 512, hi⟩ ha _ 6 (by decide)).symm

/-- The value claim. -/
theorem algebraic : Cert.algebraic_ExpertsIdeal_ExpertsReferenceIdeal (hExpertsIdeal := Cert.ExpertsIdeal.Gen.facts)
    (hExpertsReferenceIdeal := Cert.ExpertsReferenceIdeal.Gen.facts) (hPre_experts_in_range := Cert.Pre_experts_in_range.facts) := by
  intro m g m' g' hpre hagree
  have h := inRange m hpre
  refine ⟨fun c => Cert.ExpertsIdeal.Ffn.rows m (Cert.ExpertsIdeal.Ffn.adm m h) c, Cert.ExpertsIdeal.Ffn.run m g h,
    (θ_run _ _ _).mono (fun r hr c => ?_) (Cert.ExpertsReferenceIdeal.Value.run m' g')⟩
  obtain ⟨hv, h0, h1, h2, h3, h4, h5, h6⟩ := hr c
  obtain ⟨a0, a1, a2, a3, a4, a5, a6⟩ := hagree c
  refine ⟨?_, h0, h1, h2, h3, h4, h5, h6⟩
  rw [hv, Cert.ExpertsReferenceIdeal.Read.val_main_v43_eq, a0, a1, a2, a3, a4, a5, a6]
  exact rows_eq m c h

end Cert.ExpertLayer

end
-- ==== Proof.Experts.RefFrame.lean ====
/-
  The frame of the experts' reference: it runs to completion, its arguments end unchanged, and, declaring no semaphore, it
  ends with every counter at zero.
-/
module

public import proofs.«01_k».proof.Proof.Gen.ExpertsReferenceIdeal.Run
public import Idealize.ShloMosaic.Lib.Quiescent

@[expose] public section

noncomputable section

namespace Cert.ExpertsReferenceIdeal.Ffn

open Cert.ExpertsReferenceIdeal
open Idealize.ShloMosaic Idealize.ShloMosaic.TcCoe Idealize.SL.Sem

variable {F : FTy → Type} [FloatOps F]

/-- The reference's arguments end unchanged and every counter at zero. -/
theorem frame [Facts] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => (h c).2, sem_eq_zero_of_no_sems (by decide) r.2⟩) (Value.run m ρ)

end Cert.ExpertsReferenceIdeal.Ffn

end
-- ==== Proof.Experts.Printed.lean ====
/-
  The frame of the experts' kernel as printed: its definitions are those of the kernel over the extended reals, which its
  frame is proved for at any arithmetic.
-/
module

public import proofs.«01_k».proof.Proof.Gen.Experts
public import proofs.«01_k».proof.Proof.Gen.Experts.Launch
public import proofs.«01_k».proof.Proof.Experts.Frame

@[expose] public section

set_option maxRecDepth 16384

noncomputable section

namespace Cert.Experts.Ffn
open Idealize.ShloMosaic Idealize.ShloMosaic.TcCoe Idealize.SL.Sem

variable {F : FTy → Type} [FloatOps F]

/-- The two bodies are one function, -/
theorem body_eq : @Cert.Experts.cc0_swiglu_grouped F _ Cert.Experts.Gen.facts = @Cert.ExpertsIdeal.cc0_swiglu_grouped F _ Cert.ExpertsIdeal.Gen.facts := by
  unfold Cert.Experts.cc0_swiglu_grouped Cert.ExpertsIdeal.cc0_swiglu_grouped
  rfl

/-- the two tables of bodies one table, -/
theorem defs₀_eq : @Cert.Experts.defs₀ F _ Cert.Experts.Gen.facts = @Cert.ExpertsIdeal.defs₀ F _ Cert.ExpertsIdeal.Gen.facts := by
  unfold Cert.Experts.defs₀ Cert.ExpertsIdeal.defs₀
  refine congrArg (Defs.onTc (Λ := Cert.Experts.Λ₀)) (funext fun l => funext fun a => ?_)
  match l, a with
  | ⟨0, _⟩, (t, s) => exact congrFun (congrFun (congrFun (congrFun (congrFun (congrFun (congrFun (congrFun (congrFun (congrFun (congrFun (congrFun (congrFun (congrFun (congrFun (congrFun (congrFun (congrFun (congrFun body_eq _) _) _) _) _) _) _) _) _) _) _) _) _) _) _) _) _) _) _
  | ⟨_ + 1, h⟩, _ => exact absurd h (Nat.not_lt.2 (Nat.le_add_left _ _))

/-- and so the two programs run by the same definitions. -/
theorem defs_eq : @Cert.Experts.defs F _ Cert.Experts.Gen.facts = @Cert.ExpertsIdeal.defs F _ Cert.ExpertsIdeal.Gen.facts := by
  unfold Cert.Experts.defs Cert.ExpertsIdeal.defs
  rw [defs₀_eq]
  rfl

variable (m : (ℓ : Loc nD τ sig) → Buf (Elt F) ℓ) (ρ : Dev nD → PrngReg)

/-- The frame: the argument arrays unchanged and every counter at zero. -/
theorem frame (h : Cert.ExpertsIdeal.Ffn.InRange (F := F) m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  have H := Cert.ExpertsIdeal.Ffn.frame (F := F) m ρ h
  rw [← defs_eq] at H
  exact H

end Cert.Experts.Ffn

end
-- ==== Proof.Dense.Runs.lean ====
/-
  What the runs of the body share: its branch conditions in closed form, the two tables, and the scratch buffer.
-/
module

public import proofs.«01_k».proof.Proof.Gen.DenseIdeal.Skeleton
public import proofs.«01_k».proof.Proof.Gen.DenseIdeal.Loops
public import proofs.«01_k».proof.Proof.Gen.DenseIdeal.Launch
public import Idealize.ShloMosaic.Lib.Pipeline.FrameBody
public import Idealize.ShloMosaic.Lib.Pipeline.TableIdle
public import Idealize.ShloMosaic.Lib.Ring
public import Idealize.ShloMosaic.Lib.WholeRead
public import Idealize.ShloMosaic.Lib.Pointwise
public import Idealize.ShloMosaic.Lib.Tactic
public import Idealize.ShloMosaic.Lib.WordCmp

@[expose] public section

set_option maxRecDepth 16384

noncomputable section

namespace Cert.DenseIdeal.Ffn

open Cert.DenseIdeal Cert.DenseIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The body starts a row tile (its first block of hidden columns). -/
abbrev condS (i : grid0.Coords) : Prop := k0_cond1 i = 1#1

theorem hcondS : ∀ t : Fin grid0.N, condS (grid0.coords t) ↔ t.val % 14 = 0 :=
  (fun t => by
    have ht : t.val < 448 := Nat.lt_of_lt_of_eq t.isLt N_0
    have e0 : (grid0.coords t 0).val = t.val / 14 % 32 := Pipeline.Grid.coords_val t 0 (by decide) rfl
    have e1 : (grid0.coords t 1).val = t.val / 1 % 14 := Pipeline.Grid.coords_val t 1 (by decide) rfl
    simp only [condS, k0_cond1, e0, e1]
    word_cmp
   : ∀ t : Fin grid0.N, condS (grid0.coords t) ↔ t.val % 14 = 0)

/-- The activity word of the row tile a grid point belongs to. -/
def actWord (x : Vec F S32 .i32) (i : grid0.Coords) : BitVec 32 :=
  x (fun a => ⟨k0_off1 i a, by have := k0_off1_inb i a; have h1 : S1.size a = 1 := by fin_cases a; rfl
                               omega⟩)

/-- The row tile is an active one. -/
abbrev condA (x : Vec F S32 .i32) (i : grid0.Coords) : Prop := k0_cond2 (actWord (F := F) x i) = 1#1

/-- The word the body loads is the tile's activity word. -/
theorem load_act {arg3 : Memref sig .tc .smem S32 .i32} (harg3 : arg3.IsWhole) (x : Vec F S32 .i32) (i : grid0.Coords)
    (inb : ∀ a, (k0_off1 i) a + S1.size a ≤ S32.size a) (z) :
    View.readAt (Elt F) arg3.view (Rect.unit (s := S32) (k0_off1 i) S1.size inb).toLoadRect (harg3.unread x) z
      = actWord (F := F) x i := by
  rw [harg3.readAt_unread]
  unfold actWord
  congr 1
  funext a
  refine Fin.ext ?_
  fin_cases a
  have : (z 0).val < 1 := (z 0).isLt
  show k0_off1 i 0 + 1 * (z 0).val = k0_off1 i 0
  omega

/-- The scratch buffer of normalised rows. -/
abbrev scM : Memref sig .tc .vmem S1024x2048 .bf16 := Memref.whole cc0_scratch0

theorem PhiA_eq (c : Dev nD) :
    (Pipeline.ΦA spec0 c : sProp 𝕄)
      = iprop((∃ d, owns (c : Thread nD τ) scM fullShare d) ∗ (∃ r, prngReg c r)) := by
  unfold Pipeline.ΦA; rw [scopedRest0_eq]; simp only [scM, owns_whole]; try rfl

end Cert.DenseIdeal.Ffn

end
-- ==== Proof.Dense.RunStartActive.lean ====
/-
  The body at the first block of hidden columns of an active row tile, run from its stored instructions.
-/
module

public import proofs.«01_k».proof.Proof.Dense.Runs

@[expose] public section

set_option maxRecDepth 16384

noncomputable section

namespace Cert.DenseIdeal.Ffn

open Cert.DenseIdeal Cert.DenseIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option backward.proofsInPublic true in
set_option maxHeartbeats 1000000 in
/-- The body at the first block of hidden columns of an active row tile: on whole staging memrefs it runs and leaves the pieces found here. -/
noncomputable def runStartActive (c : Dev nD) (i : grid0.Coords) (arg2 : Memref sig .tc .smem S32 .i32) (harg2 : arg2.IsWhole) (arg3 : Memref sig .tc .smem S32 .i32) (harg3 : arg3.IsWhole) (arg4 : Memref sig .tc .vmem S1024x2048 .f32) (harg4 : arg4.IsWhole) (arg5 : Memref sig .tc .vmem S1x2048 .f32) (harg5 : arg5.IsWhole) (arg6 : Memref sig .tc .vmem S1x1x2048x512 .bf16) (harg6 : arg6.IsWhole) (arg7 : Memref sig .tc .vmem S1x1x2048x512 .bf16) (harg7 : arg7.IsWhole) (arg8 : Memref sig .tc .vmem S1x1x512x2048 .bf16) (harg8 : arg8.IsWhole) (arg9 : Memref sig .tc .vmem S1024x2048 .f32) (harg9 : arg9.IsWhole) (arg10 : Memref sig .tc .vmem S1024x2048 .bf16) (harg10 : arg10.IsWhole)
    (xa : Vec F S32 .i32) (x0 : Vec F S1024x2048 .f32) (x1 : Vec F S1x2048 .f32) (x2 : Vec F S1x1x2048x512 .bf16) (x3 : Vec F S1x1x2048x512 .bf16) (x4 : Vec F S1x1x512x2048 .bf16) (hs : condS i) (ha : condA (F := F) xa i) :
    Σ' (L9 : List (View.Piece (Elt F) S1024x2048 .f32)), { LS : List (View.Piece (Elt F) S1024x2048 .bf16) //
      ∀ (E : Set ℕ) (K : PUnit → sProp 𝕄),
        iprop(owns (c : Thread nD τ) arg3 fullShare.right xa ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ (∃ d, owns (c : Thread nD τ) arg10 fullShare d)
            ∗ (iprop(owns (c : Thread nD τ) arg3 fullShare.right xa ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f LS)) -∗ K PUnit.unit))
          ⊢ wp frame (wpE (defs₀ (F := F)) Variants.none c none) E (cc0_swiglu_residual i arg2 harg2 arg3 harg3 arg4 harg4 arg5 harg5 arg6 harg6 arg7 harg7 arg8 harg8 arg9 harg9 arg10 harg10) K } := by
  refine ⟨?_, ?_, fun E K => ?run⟩
  case run =>
    simp only [cc0_swiglu_residual_eq_skeleton]; unfold cc0_swiglu_residual_skel
    unfold owns
    iintro ⟨⟨%fa, %hfa, HA⟩, ⟨%f0, %hf0, H0⟩, ⟨%f1, %hf1, H1⟩, ⟨%f2, %hf2, H2⟩, ⟨%f3, %hf3, H3⟩, ⟨%f4, %hf4, H4⟩, ⟨%d9, %f9, -, H9⟩, ⟨%ds, %fs, -, HS⟩, Hk⟩
    obtain rfl := harg3.eq_unread hfa; obtain rfl := harg4.eq_unread hf0; obtain rfl := harg5.eq_unread hf1; obtain rfl := harg6.eq_unread hf2; obtain rfl := harg7.eq_unread hf3; obtain rfl := harg8.eq_unread hf4
    have hrd0 : ∀ (𝒱 : Variants) (c : Dev nD) (bd : Option 𝒱.V) (i : grid0.Coords) (arg2 : Memref sig .tc .smem S32 .i32) (harg2 : arg2.IsWhole) (arg3 : Memref sig .tc .smem S32 .i32) (harg3 : arg3.IsWhole) (arg4 : Memref sig .tc .vmem S1024x2048 .f32) (harg4 : arg4.IsWhole) (arg5 : Memref sig .tc .vmem S1x2048 .f32) (harg5 : arg5.IsWhole) (arg6 : Memref sig .tc .vmem S1x1x2048x512 .bf16) (harg6 : arg6.IsWhole) (arg7 : Memref sig .tc .vmem S1x1x2048x512 .bf16) (harg7 : arg7.IsWhole) (arg8 : Memref sig .tc .vmem S1x1x512x2048 .bf16) (harg8 : arg8.IsWhole) (arg9 : Memref sig .tc .vmem S1024x2048 .f32) (harg9 : arg9.IsWhole) (arg10 : Memref sig .tc .vmem S1024x2048 .bf16) (harg10 : arg10.IsWhole) (k0_h1 : k0_cond1 i = 1#1) (X_arg4 : BufTy.Contents (Elt F) arg4.view.ty) (X_arg5 : BufTy.Contents (Elt F) arg5.view.ty) (hrdF : BufTy.Contents (Elt F) arg10.view.ty) (hrdB : LoadRect S1024x2048), arg10.view.readAt (Elt F) hrdB (arg10.view.writes (Elt F) hrdF (pb_k0_t1 (F := F) 𝒱 c bd i arg2 harg2 arg3 harg3 arg4 harg4 arg5 harg5 arg6 harg6 arg7 harg7 arg8 harg8 arg9 harg9 arg10 harg10 k0_h1 X_arg4 X_arg5 (Scf.trips k0_t1_loop.lb k0_t1_loop.ub k0_t1_loop.st))) = arg10.view.readCov (pb_k0_t1 (F := F) 𝒱 c bd i arg2 harg2 arg3 harg3 arg4 harg4 arg5 harg5 arg6 harg6 arg7 harg7 arg8 harg8 arg9 harg9 arg10 harg10 k0_h1 X_arg4 X_arg5 (Scf.trips k0_t1_loop.lb k0_t1_loop.ub k0_t1_loop.st)) hrdB := fun 𝒱 c bd i arg2 harg2 arg3 harg3 arg4 harg4 arg5 harg5 arg6 harg6 arg7 harg7 arg8 harg8 arg9 harg9 arg10 harg10 k0_h1 X_arg4 X_arg5 hrdF hrdB => View.readAt_writes_of_cover _ hrdF _ hrdB (fun hrdJ => View.cover_of_tiledL (pb_k0_t1 (F := F) 𝒱 c bd i arg2 harg2 arg3 harg3 arg4 harg4 arg5 harg5 arg6 harg6 arg7 harg7 arg8 harg8 arg9 harg9 arg10 harg10 k0_h1 X_arg4 X_arg5 (Scf.trips k0_t1_loop.lb k0_t1_loop.ub k0_t1_loop.st)) S64x2048.size (by sl_kernel_rfl) (hrdB.idx hrdJ))
    have hA : ∀ inb z, k0_cond2 (View.readAt (Elt F) arg3.view (Rect.unit (s := S32) (k0_off1 i) S1.size inb).toLoadRect (harg3.unread xa) z) = 1#1 := fun inb z => (congrArg k0_cond2 (load_act (F := F) harg3 xa i inb z)).trans ha
    sl_exec (disch := first | sl_exact hs | exact hA _ _)
    sl_step
    iapply Hk
    isplitl [HA]
    · iexists _; isplitr; · ipureintro; exact harg3.read_unread _
      iexact HA
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H9]; · iexists _; iexact H9
    iexists _; iexact HS

end Cert.DenseIdeal.Ffn

end
-- ==== Proof.Dense.RunNextActive.lean ====
/-
  The body at a later block of hidden columns of an active row tile, run from its stored instructions.
-/
module

public import proofs.«01_k».proof.Proof.Dense.Runs

@[expose] public section

set_option maxRecDepth 16384

noncomputable section

namespace Cert.DenseIdeal.Ffn

open Cert.DenseIdeal Cert.DenseIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option backward.proofsInPublic true in
set_option maxHeartbeats 1000000 in
/-- The body at a later block of hidden columns of an active row tile: on whole staging memrefs it runs and leaves the pieces found here. -/
noncomputable def runNextActive (c : Dev nD) (i : grid0.Coords) (arg2 : Memref sig .tc .smem S32 .i32) (harg2 : arg2.IsWhole) (arg3 : Memref sig .tc .smem S32 .i32) (harg3 : arg3.IsWhole) (arg4 : Memref sig .tc .vmem S1024x2048 .f32) (harg4 : arg4.IsWhole) (arg5 : Memref sig .tc .vmem S1x2048 .f32) (harg5 : arg5.IsWhole) (arg6 : Memref sig .tc .vmem S1x1x2048x512 .bf16) (harg6 : arg6.IsWhole) (arg7 : Memref sig .tc .vmem S1x1x2048x512 .bf16) (harg7 : arg7.IsWhole) (arg8 : Memref sig .tc .vmem S1x1x512x2048 .bf16) (harg8 : arg8.IsWhole) (arg9 : Memref sig .tc .vmem S1024x2048 .f32) (harg9 : arg9.IsWhole) (arg10 : Memref sig .tc .vmem S1024x2048 .bf16) (harg10 : arg10.IsWhole)
    (xa : Vec F S32 .i32) (x0 : Vec F S1024x2048 .f32) (x1 : Vec F S1x2048 .f32) (x2 : Vec F S1x1x2048x512 .bf16) (x3 : Vec F S1x1x2048x512 .bf16) (x4 : Vec F S1x1x512x2048 .bf16) (y : Vec F S1024x2048 .f32) (h : Vec F S1024x2048 .bf16) (hs : ¬condS i) (ha : condA (F := F) xa i) :
    { L9 : List (View.Piece (Elt F) S1024x2048 .f32) //
      ∀ (E : Set ℕ) (K : PUnit → sProp 𝕄),
        iprop(owns (c : Thread nD τ) arg3 fullShare.right xa ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare y ∗ owns (c : Thread nD τ) arg10 fullShare h
            ∗ (iprop(owns (c : Thread nD τ) arg3 fullShare.right xa ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ f, arg9.view.loc (c : Thread nD τ) ↦[arg9.view.set]{fullShare} arg9.view.writes (Elt F) f L9) ∗ owns (c : Thread nD τ) arg10 fullShare h) -∗ K PUnit.unit))
          ⊢ wp frame (wpE (defs₀ (F := F)) Variants.none c none) E (cc0_swiglu_residual i arg2 harg2 arg3 harg3 arg4 harg4 arg5 harg5 arg6 harg6 arg7 harg7 arg8 harg8 arg9 harg9 arg10 harg10) K } := by
  refine ⟨?_, fun E K => ?run⟩
  case run =>
    simp only [cc0_swiglu_residual_eq_skeleton]; unfold cc0_swiglu_residual_skel
    unfold owns
    iintro ⟨⟨%fa, %hfa, HA⟩, ⟨%f0, %hf0, H0⟩, ⟨%f1, %hf1, H1⟩, ⟨%f2, %hf2, H2⟩, ⟨%f3, %hf3, H3⟩, ⟨%f4, %hf4, H4⟩, ⟨%f9, %hf9, H9⟩, ⟨%fs, %hfs, HS⟩, Hk⟩
    obtain rfl := harg3.eq_unread hfa; obtain rfl := harg4.eq_unread hf0; obtain rfl := harg5.eq_unread hf1; obtain rfl := harg6.eq_unread hf2; obtain rfl := harg7.eq_unread hf3; obtain rfl := harg8.eq_unread hf4; obtain rfl := harg9.eq_unread hf9; obtain rfl := harg10.eq_unread hfs
    have hA : ∀ inb z, k0_cond2 (View.readAt (Elt F) arg3.view (Rect.unit (s := S32) (k0_off1 i) S1.size inb).toLoadRect (harg3.unread xa) z) = 1#1 := fun inb z => (congrArg k0_cond2 (load_act (F := F) harg3 xa i inb z)).trans ha
    sl_exec (disch := first | sl_exact hs | exact hA _ _)
    sl_step
    iapply Hk
    isplitl [HA]
    · iexists _; isplitr; · ipureintro; exact harg3.read_unread _
      iexact HA
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H9]; · iexists _; iexact H9
    iexists _; isplitr; · ipureintro; exact harg10.read_unread _
    iexact HS

end Cert.DenseIdeal.Ffn

end
-- ==== Proof.Dense.Pieces.lean ====
/-
  The blocks the body stores, as functions of the blocks it loads, and the pieces of its runs read back as them.
-/
module

public import proofs.«01_k».proof.Proof.Dense.RunStartActive
public import proofs.«01_k».proof.Proof.Dense.RunNextActive
public import Idealize.ShloMosaic.Lib.VecWindow
public import Idealize.ShloMosaic.Lib.Pipeline.ReadBack
public import Idealize.ShloMosaic.Lib.Pipeline.ValueKit

@[expose] public section

set_option maxRecDepth 16384

noncomputable section

namespace Cert.DenseIdeal.Ffn

open Cert.DenseIdeal Cert.DenseIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Rows `64 r` to `64 r + 63` of a row tile. -/
def rowTile (x : Vec F S1024x2048 .f32) (r : Fin 16) : Vec F S64x2048 .f32 := fun z =>
  x (ix2 ⟨64 * r.val + (z 0).val, by have := r.isLt; have : (z 0).val < 64 := (z 0).isLt; omega⟩ ⟨(z 1).val, (z 1).isLt⟩)

/-- The row tile normalised. -/
def hBlk (x0 : Vec F S1024x2048 .f32) (x1 : Vec F S1x2048 .f32) : Vec F S1024x2048 .bf16 := fun y =>
  k0_pay1 (rowTile x0 ⟨(y 0).val / 64, by have : (y 0).val < 1024 := (y 0).isLt; omega⟩) x1
    (ix2 ⟨(y 0).val % 64, Nat.mod_lt _ (by decide)⟩ ⟨(y 1).val, (y 1).isLt⟩)

theorem trips_le (k : Fin k0_t1_loop.trips) : k.val < 16 := k.isLt

theorem hBlk_emb (x0 : Vec F S1024x2048 .f32) (x1 : Vec F S1x2048 .f32) (r : Fin 16) (off : Fin 2 → ℕ)
    (hoff : off = ![64 * r.val, 0]) (inb : ∀ a, off a + S64x2048.size a ≤ S1024x2048.size a) (z : S64x2048.Idx) :
    hBlk x0 x1 ((Rect.unit (s := S1024x2048) off S64x2048.size inb).emb z) = k0_pay1 (rowTile x0 r) x1 z := by
  subst hoff
  have h0 : (z 0).val < 64 := (z 0).isLt
  have e0 : (((Rect.unit (s := S1024x2048) ![64 * r.val, 0] S64x2048.size inb).emb z) 0).val = 64 * r.val + (z 0).val := by
    show 64 * r.val + 1 * (z 0).val = _; omega
  have e1 : (((Rect.unit (s := S1024x2048) ![64 * r.val, 0] S64x2048.size inb).emb z) 1).val = (z 1).val := by
    show 0 + 1 * (z 1).val = _; omega
  have a0 : (64 * r.val + (z 0).val) / 64 = r.val := by omega
  have b0 : (64 * r.val + (z 0).val) % 64 = (z 0).val := by omega
  unfold hBlk
  have hr : (⟨(((Rect.unit (s := S1024x2048) ![64 * r.val, 0] S64x2048.size inb).emb z) 0).val / 64, by rw [e0, a0]; exact r.isLt⟩ : Fin 16) = r :=
    Fin.ext (by show (((Rect.unit (s := S1024x2048) ![64 * r.val, 0] S64x2048.size inb).emb z) 0).val / 64 = r.val; rw [e0, a0])
  rw [hr]
  congr 1
  funext a
  refine Fin.ext ?_
  fin_cases a
  · show (((Rect.unit (s := S1024x2048) ![64 * r.val, 0] S64x2048.size inb).emb z) 0).val % 64 = (z 0).val; rw [e0, b0]
  · exact e1

theorem rowTile_read {arg : Memref sig .tc .vmem S1024x2048 .f32} (harg : arg.IsWhole) (x : Vec F S1024x2048 .f32)
    (r : Fin 16) (off : Fin 2 → ℕ) (hoff : off = ![64 * r.val, 0]) (inb : ∀ a, off a + S64x2048.size a ≤ S1024x2048.size a) :
    View.readAt (Elt F) arg.view (Rect.unit (s := S1024x2048) off S64x2048.size inb).toLoadRect (harg.unread x) = rowTile x r := by
  subst hoff
  funext z
  rw [harg.readAt_unread]
  unfold rowTile
  congr 1
  funext a
  refine Fin.ext ?_
  fin_cases a
  · show 64 * r.val + 1 * (z 0).val = 64 * r.val + (z 0).val; omega
  · show 0 + 1 * (z 1).val = (z 1).val; omega

/-- A load of a whole block is the block. -/
theorem full_read {sp : Space} {s : Shape} {e : EltTy} {arg : Memref sig .tc sp s e} (harg : arg.IsWhole) (x : Vec F s e)
    (off : Fin s.rank → ℕ) (inb : ∀ a, off a + s.size a ≤ s.size a) :
    View.readAt (Elt F) arg.view (Rect.unit (s := s) off s.size inb).toLoadRect (harg.unread x) = x := by
  rw [View.readAt_full, harg.read_unread]

theorem mem_rows (off : Fin 2 → ℕ) (r : Fin 16) (hoff : off = ![64 * r.val, 0])
    (inb : ∀ a, off a + S64x2048.size a ≤ S1024x2048.size a) (y : S1024x2048.Idx) (h0 : (y 0).val / 64 = r.val) :
    y ∈ (Rect.unit (s := S1024x2048) off S64x2048.size inb).set := by
  subst hoff
  rw [Rect.mem_set_unit]
  intro a
  fin_cases a
  · show 64 * r.val ≤ (y 0).val ∧ (y 0).val < 64 * r.val + 64; omega
  · have : (y 1).val < 2048 := (y 1).isLt
    show 0 ≤ (y 1).val ∧ (y 1).val < 0 + 2048; omega

theorem pay2_congr {a a' : Vec F S1024x2048 .bf16} {b b' d d' : Vec F S1x1x2048x512 .bf16} {e e' : Vec F S1024x2048 .f32}
    {g g' : Vec F S1x1x512x2048 .bf16} (h1 : a = a') (h2 : b = b') (h3 : d = d') (h4 : e = e') (h5 : g = g') :
    k0_pay2 a b d e g = k0_pay2 a' b' d' e' g' := by
  subst h1 h2 h3 h4 h5; rfl

theorem pay1_congr {a a' : Vec F S64x2048 .f32} {b b' : Vec F S1x2048 .f32} (h1 : a = a') (h2 : b = b') :
    k0_pay1 a b = k0_pay1 a' b' := by
  subst h1 h2; rfl

variable (c : Dev nD) (i : grid0.Coords) (arg2 : Memref sig .tc .smem S32 .i32) (harg2 : arg2.IsWhole) (arg3 : Memref sig .tc .smem S32 .i32) (harg3 : arg3.IsWhole) (arg4 : Memref sig .tc .vmem S1024x2048 .f32) (harg4 : arg4.IsWhole) (arg5 : Memref sig .tc .vmem S1x2048 .f32) (harg5 : arg5.IsWhole) (arg6 : Memref sig .tc .vmem S1x1x2048x512 .bf16) (harg6 : arg6.IsWhole) (arg7 : Memref sig .tc .vmem S1x1x2048x512 .bf16) (harg7 : arg7.IsWhole) (arg8 : Memref sig .tc .vmem S1x1x512x2048 .bf16) (harg8 : arg8.IsWhole) (arg9 : Memref sig .tc .vmem S1024x2048 .f32) (harg9 : arg9.IsWhole) (arg10 : Memref sig .tc .vmem S1024x2048 .bf16) (harg10 : arg10.IsWhole)
    (xa : Vec F S32 .i32) (x0 : Vec F S1024x2048 .f32) (x1 : Vec F S1x2048 .f32) (x2 : Vec F S1x1x2048x512 .bf16) (x3 : Vec F S1x1x2048x512 .bf16) (x4 : Vec F S1x1x512x2048 .bf16)

/-- The rows one trip stores are the normalised rows. -/
theorem row_pieces (hs : condS i) (k : Fin k0_t1_loop.trips) :
    View.PiecesOf (hBlk x0 x1) (tripL_k0_t1 (F := F) Variants.none c none i arg2 harg2 arg3 harg3 arg4 harg4 arg5 harg5 arg6 harg6 arg7 harg7 arg8 harg8 arg9 harg9 arg10 harg10 hs (harg4.unread x0) (harg5.unread x1) k) := by
  unfold tripL_k0_t1 trip_k0_t1; dsimp only
  refine ⟨?_, trivial⟩
  intro z
  refine Eq.trans ?_ (hBlk_emb x0 x1 ⟨k.val, trips_le k⟩ _ (k0_off2_eq k) (k0_off2_inb i k hs) z).symm
  refine congrFun (pay1_congr ?_ ?_) z
  · exact rowTile_read harg4 x0 ⟨k.val, trips_le k⟩ _ (k0_off2_eq k) (k0_off2_inb i k hs)
  · exact full_read harg5 x1 _ _

/-- The rows one trip stores are its own. -/
theorem row_cover (hs : condS i) (k : Fin k0_t1_loop.trips) (y : S1024x2048.Idx) (hy : (y 0).val / 64 = k.val) :
    ∃ p ∈ tripL_k0_t1 (F := F) Variants.none c none i arg2 harg2 arg3 harg3 arg4 harg4 arg5 harg5 arg6 harg6 arg7 harg7 arg8 harg8 arg9 harg9 arg10 harg10 hs (harg4.unread x0) (harg5.unread x1) k, y ∈ p.1.set := by
  unfold tripL_k0_t1 trip_k0_t1; dsimp only
  exact ⟨_, List.mem_cons_self, mem_rows _ ⟨k.val, trips_le k⟩ (k0_off2_eq k) (k0_off2_inb i k hs) y hy⟩

theorem row_pb (hs : condS i) : ∀ n : ℕ, n ≤ 16 →
    (∀ p ∈ pb_k0_t1 (F := F) Variants.none c none i arg2 harg2 arg3 harg3 arg4 harg4 arg5 harg5 arg6 harg6 arg7 harg7 arg8 harg8 arg9 harg9 arg10 harg10 hs (harg4.unread x0) (harg5.unread x1) n, ∀ x : p.1.shape.Idx, p.2 x = hBlk x0 x1 (p.1.emb x))
      ∧ ∀ y : S1024x2048.Idx, (y 0).val < 64 * n → ∃ p ∈ pb_k0_t1 (F := F) Variants.none c none i arg2 harg2 arg3 harg3 arg4 harg4 arg5 harg5 arg6 harg6 arg7 harg7 arg8 harg8 arg9 harg9 arg10 harg10 hs (harg4.unread x0) (harg5.unread x1) n, y ∈ p.1.set
  | 0, _ => ⟨fun p hp => absurd hp (by rw [pb_k0_t1.eq_1]; exact List.not_mem_nil), fun y hy => absurd hy (by omega)⟩
  | n + 1, hn => by
    obtain ⟨ih, ihc⟩ := row_pb hs n (by omega)
    have e := pb_k0_t1_succ (F := F) Variants.none c none i arg2 harg2 arg3 harg3 arg4 harg4 arg5 harg5 arg6 harg6 arg7 harg7 arg8 harg8 arg9 harg9 arg10 harg10 hs (harg4.unread x0) (harg5.unread x1) ⟨n, hn⟩
    rw [show n + 1 = (⟨n, hn⟩ : Fin k0_t1_loop.trips).val + 1 from rfl, e]
    refine ⟨fun p hp x => ?_, fun y hy => ?_⟩
    · rcases List.mem_append.mp hp with hp | hp
      · exact View.PiecesOf.mem (row_pieces c i arg2 harg2 arg3 harg3 arg4 harg4 arg5 harg5 arg6 harg6 arg7 harg7 arg8 harg8 arg9 harg9 arg10 harg10 x0 x1 hs ⟨n, hn⟩) p hp x
      · exact ih p hp x
    · by_cases h : (y 0).val < 64 * n
      · obtain ⟨p, hp, hm⟩ := ihc y h
        exact ⟨p, List.mem_append_right _ hp, hm⟩
      · obtain ⟨p, hp, hm⟩ := row_cover c i arg2 harg2 arg3 harg3 arg4 harg4 arg5 harg5 arg6 harg6 arg7 harg7 arg8 harg8 arg9 harg9 arg10 harg10 x0 x1 hs ⟨n, hn⟩ y (by
          have hy' : (y 0).val < 64 * (n + 1) := hy
          show (y 0).val / 64 = n; omega)
        exact ⟨p, List.mem_append_left _ hp, hm⟩

theorem row_all (hs : condS i) (y : S1024x2048.Idx) :
    ∃ p ∈ pb_k0_t1 (F := F) Variants.none c none i arg2 harg2 arg3 harg3 arg4 harg4 arg5 harg5 arg6 harg6 arg7 harg7 arg8 harg8 arg9 harg9 arg10 harg10 hs (harg4.unread x0) (harg5.unread x1) (Scf.trips k0_t1_loop.lb k0_t1_loop.ub k0_t1_loop.st), y ∈ p.1.set :=
  (row_pb c i arg2 harg2 arg3 harg3 arg4 harg4 arg5 harg5 arg6 harg6 arg7 harg7 arg8 harg8 arg9 harg9 arg10 harg10 x0 x1 hs 16 le_rfl).2 y (by have : (y 0).val < 1024 := (y 0).isLt; omega)

theorem row_canon (hs : condS i) : View.canon (pb_k0_t1 (F := F) Variants.none c none i arg2 harg2 arg3 harg3 arg4 harg4 arg5 harg5 arg6 harg6 arg7 harg7 arg8 harg8 arg9 harg9 arg10 harg10 hs (harg4.unread x0) (harg5.unread x1) (Scf.trips k0_t1_loop.lb k0_t1_loop.ub k0_t1_loop.st)) = hBlk x0 x1 := by
  funext y
  exact View.canon_apply_of_pieces _ _ (row_pb c i arg2 harg2 arg3 harg3 arg4 harg4 arg5 harg5 arg6 harg6 arg7 harg7 arg8 harg8 arg9 harg9 arg10 harg10 x0 x1 hs 16 le_rfl).1 y (row_all c i arg2 harg2 arg3 harg3 arg4 harg4 arg5 harg5 arg6 harg6 arg7 harg7 arg8 harg8 arg9 harg9 arg10 harg10 x0 x1 hs y)

/-- The scratch buffer after the loop, loaded whole: the normalised rows. -/
theorem row_readCov (hs : condS i) (inb : ∀ a, ![0, 0] a + S1024x2048.size a ≤ S1024x2048.size a) :
    arg10.view.readCov (pb_k0_t1 (F := F) Variants.none c none i arg2 harg2 arg3 harg3 arg4 harg4 arg5 harg5 arg6 harg6 arg7 harg7 arg8 harg8 arg9 harg9 arg10 harg10 hs (harg4.unread x0) (harg5.unread x1) (Scf.trips k0_t1_loop.lb k0_t1_loop.ub k0_t1_loop.st))
      (Rect.unit (s := S1024x2048) ![0, 0] S1024x2048.size inb).toLoadRect = hBlk x0 x1 := by
  rw [View.readCov_eq_canon', row_canon]
  funext z
  congr 1
  funext a
  refine Fin.ext ?_
  fin_cases a
  · show 0 + 1 * (z 0).val = (z 0).val; omega
  · show 0 + 1 * (z 1).val = (z 1).val; omega

/-! ## The runs read back -/

theorem scratch_startActive (hs : condS i) (ha : condA (F := F) xa i) (f) :
    arg10.view.read (Elt F) (arg10.view.writes (Elt F) f (runStartActive c i arg2 harg2 arg3 harg3 arg4 harg4 arg5 harg5 arg6 harg6 arg7 harg7 arg8 harg8 arg9 harg9 arg10 harg10 xa x0 x1 x2 x3 x4 hs ha).2.1) = hBlk x0 x1 :=
  (View.read_writes_eq_canon _ _ _ (row_all c i arg2 harg2 arg3 harg3 arg4 harg4 arg5 harg5 arg6 harg6 arg7 harg7 arg8 harg8 arg9 harg9 arg10 harg10 x0 x1 hs)).trans (row_canon c i arg2 harg2 arg3 harg3 arg4 harg4 arg5 harg5 arg6 harg6 arg7 harg7 arg8 harg8 arg9 harg9 arg10 harg10 x0 x1 hs)

theorem out_startActive (hs : condS i) (ha : condA (F := F) xa i) (f) :
    arg9.view.read (Elt F) (arg9.view.writes (Elt F) f (runStartActive c i arg2 harg2 arg3 harg3 arg4 harg4 arg5 harg5 arg6 harg6 arg7 harg7 arg8 harg8 arg9 harg9 arg10 harg10 xa x0 x1 x2 x3 x4 hs ha).1)
      = k0_pay2 (hBlk x0 x1) x2 x3 x0 x4 := by
  refine (View.read_writes_full _ _ _ _ _).trans ?_
  exact pay2_congr (row_readCov c i arg2 harg2 arg3 harg3 arg4 harg4 arg5 harg5 arg6 harg6 arg7 harg7 arg8 harg8 arg9 harg9 arg10 harg10 x0 x1 hs _) (full_read harg6 x2 _ _) (full_read harg7 x3 _ _)
    ((View.readCov_full _ _ _ _ _).trans (full_read harg4 x0 _ _)) (full_read harg8 x4 _ _)

theorem out_nextActive (y : Vec F S1024x2048 .f32) (h : Vec F S1024x2048 .bf16) (hs : ¬condS i) (ha : condA (F := F) xa i) (f) :
    arg9.view.read (Elt F) (arg9.view.writes (Elt F) f (runNextActive c i arg2 harg2 arg3 harg3 arg4 harg4 arg5 harg5 arg6 harg6 arg7 harg7 arg8 harg8 arg9 harg9 arg10 harg10 xa x0 x1 x2 x3 x4 y h hs ha).1)
      = k0_pay2 h x2 x3 y x4 := by
  refine (View.read_writes_full _ _ _ _ _).trans ?_
  exact pay2_congr (full_read harg10 h _ _) (full_read harg6 x2 _ _) (full_read harg7 x3 _ _) (full_read harg9 y _ _)
    (full_read harg8 x4 _ _)

end Cert.DenseIdeal.Ffn

end
-- ==== Proof.Dense.Input.lean ====
/-
  The blocks the body loads at a grid point, as entries of the arrays they come from, and what the body leaves in
  the output block and the scratch buffer after each point.
-/
module

public import proofs.«01_k».proof.Proof.Dense.Pieces

@[expose] public section

set_option maxRecDepth 16384

noncomputable section

namespace Cert.DenseIdeal.Ffn

open Cert.DenseIdeal Cert.DenseIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (a : (pcfg0 (F := F)).Adm)

/-- Window `w`'s block at point `t`, read off its array at the call. -/
def iblk (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V c (Pipeline.arrRef spec0 w))

/-! ## The tables -/

/-- The table of the weights' blocks, -/
def tblE : Vec F S32 .i32 := a.1 0
/-- and the activity table. -/
def tblA : Vec F S32 .i32 := a.1 1

theorem point_lt (t : Fin (cfg0 a).N) : t.val < 448 := lt_of_lt_of_eq t.isLt N_0

theorem coord0 (t : Fin grid0.N) : (grid0.coords t 0).val = t.val / 14 := by
  have ht : t.val < 448 := Nat.lt_of_lt_of_eq t.isLt N_0
  have e0 : (grid0.coords t 0).val = t.val / 14 % 32 := Pipeline.Grid.coords_val t 0 (by decide) rfl
  omega

theorem coord1 (t : Fin grid0.N) : (grid0.coords t 1).val = t.val % 14 := by
  have e1 : (grid0.coords t 1).val = t.val / 1 % 14 := Pipeline.Grid.coords_val t 1 (by decide) rfl
  omega

/-- The activity word at a point depends on the row tile only. -/
theorem actWord_eq (x : Vec F S32 .i32) (i : grid0.Coords) : actWord (F := F) x i = x (ix1 (i 0)) := by
  unfold actWord
  congr 1
  funext k
  refine Fin.ext ?_
  fin_cases k
  show k0_off1 i 0 = (i 0).val
  rw [k0_off1_eq]; rfl

theorem condA_congr (x : Vec F S32 .i32) (t t' : Fin grid0.N) (h : t.val / 14 = t'.val / 14) :
    condA (F := F) x (grid0.coords t) ↔ condA (F := F) x (grid0.coords t') := by
  have : grid0.coords t 0 = grid0.coords t' 0 := Fin.ext (by rw [coord0, coord0, h])
  unfold condA
  rw [actWord_eq, actWord_eq, this]

/-! ## The blocks' indices in their arrays -/

theorem ofNat_toNat (n : ℕ) (h : n < 448) : (BitVec.ofNat 32 n).toNat = n := by
  rw [BitVec.toNat_ofNat]; omega

theorem idx0 (t : Fin (cfg0 a).N) : ((pcfg0 (F := F)).win a 0).index t = ![t.val / 14, 0] := by
  have ht := point_lt a t
  show ![(BitVec.ofNat 32 (grid0.coords t 0).val).toNat, (0#32).toNat] = _
  rw [coord0, ofNat_toNat _ (by omega)]; rfl
theorem idx1 (t : Fin (cfg0 a).N) : ((pcfg0 (F := F)).win a 1).index t = ![0, 0] := rfl
theorem idx5 (t : Fin (cfg0 a).N) : ((pcfg0 (F := F)).win a 5).index t = ![t.val / 14, 0] := by
  have ht := point_lt a t
  show ![(BitVec.ofNat 32 (grid0.coords t 0).val).toNat, (0#32).toNat] = _
  rw [coord0, ofNat_toNat _ (by omega)]; rfl

/-- The table word a transform loads at a row tile. -/
theorem at_word (x : Vec F S32 .i32) (i : grid0.Coords) (inb : ∀ k, k0_off1 i k + S1.size k ≤ S32.size k)
    (z : (Rect.unit (s := S32) (k0_off1 i) S1.size inb).shape.Idx) :
    x ((Rect.unit (s := S32) (k0_off1 i) S1.size inb).emb z) = x (ix1 (i 0)) := by
  congr 1
  funext k
  refine Fin.ext ?_
  fin_cases k
  have h1 : k0_off1 i 0 = (i 0).val := by rw [k0_off1_eq]; rfl
  have : (z 0).val < 1 := (z 0).isLt
  show k0_off1 i 0 + 1 * (z 0).val = (i 0).val
  omega

/-- The block of weights of a row tile, -/
def expertOf (x : Vec F S32 .i32) (i : grid0.Coords) : BitVec 32 := x (ix1 (i 0))
/-- and the block of hidden columns a point asks for. -/
def blockOf (x : Vec F S32 .i32) (i : grid0.Coords) : BitVec 32 :=
  Scalar.select (Scalar.cmpi .eq (x (ix1 (i 0))) 1#32) (BitVec.ofNat 32 (i 1).val) 13#32

theorem blockOf_lt (x : Vec F S32 .i32) (i : grid0.Coords) : (blockOf (F := F) x i).toNat < 14 := by
  have h : (i 1).val < 14 := (i 1).isLt
  unfold blockOf
  rcases BitVec.eq_zero_or_eq_one (Scalar.cmpi .eq (x (ix1 (i 0))) 1#32) with e | e
  · rw [e]; show (13#32).toNat < 14; decide
  · rw [e]; show (BitVec.ofNat 32 (i 1).val).toNat < 14
    rw [ofNat_toNat _ (by omega)]; exact h

theorem transform2 (pf : pre0.Contents (Elt F)) (i : grid0.Coords) : cc0_transform_2 k0_off1_inb numel1_S1 pf i
    = ![0, (expertOf (F := F) (pf 0) i).toNat, 0, (blockOf (F := F) (pf 1) i).toNat] := by
  have e := at_word (F := F) (pf 0) i (k0_off1_inb i) (Shape.Idx.first (numel1_S1.symm ▸ Nat.one_pos))
  have e' := at_word (F := F) (pf 1) i (k0_off1_inb i) (Shape.Idx.first (numel1_S1.symm ▸ Nat.one_pos))
  unfold expertOf blockOf
  rw [← e, ← e']; rfl
theorem transform3 (pf : pre0.Contents (Elt F)) (i : grid0.Coords) : cc0_transform_3 k0_off1_inb numel1_S1 pf i
    = ![0, (expertOf (F := F) (pf 0) i).toNat, 0, (blockOf (F := F) (pf 1) i).toNat] := transform2 pf i
theorem transform4 (pf : pre0.Contents (Elt F)) (i : grid0.Coords) : cc0_transform_4 k0_off1_inb numel1_S1 pf i
    = ![0, (expertOf (F := F) (pf 0) i).toNat, (blockOf (F := F) (pf 1) i).toNat, 0] := by
  have e := at_word (F := F) (pf 0) i (k0_off1_inb i) (Shape.Idx.first (numel1_S1.symm ▸ Nat.one_pos))
  have e' := at_word (F := F) (pf 1) i (k0_off1_inb i) (Shape.Idx.first (numel1_S1.symm ▸ Nat.one_pos))
  unfold expertOf blockOf
  rw [← e, ← e']; rfl

/-- The block of weights of a point's row tile, -/
abbrev eW (i : grid0.Coords) : BitVec 32 := expertOf (F := F) (tblE a) i
/-- and its block of hidden columns. -/
abbrev selW (i : grid0.Coords) : BitVec 32 := blockOf (F := F) (tblA a) i

theorem idx2 (t : Fin (cfg0 a).N) : ((pcfg0 (F := F)).win a 2).index t = ![0, (eW a (grid0.coords t)).toNat, 0, (selW a (grid0.coords t)).toNat] := transform2 a.1 _
theorem idx3 (t : Fin (cfg0 a).N) : ((pcfg0 (F := F)).win a 3).index t = ![0, (eW a (grid0.coords t)).toNat, 0, (selW a (grid0.coords t)).toNat] := transform3 a.1 _
theorem idx4 (t : Fin (cfg0 a).N) : ((pcfg0 (F := F)).win a 4).index t = ![0, (eW a (grid0.coords t)).toNat, (selW a (grid0.coords t)).toNat, 0] := transform4 a.1 _

/-! ## The blocks, named at their shapes -/

/-- The rows of point `t`'s row tile, -/
abbrev xBlk (c : Dev nD) (t : Fin (cfg0 a).N) : Vec F S1024x2048 .f32 := iblk V a c 0 t
/-- the scale, -/
abbrev gBlk (c : Dev nD) (t : Fin (cfg0 a).N) : Vec F S1x2048 .f32 := iblk V a c 1 t
/-- the gate's block of hidden columns, -/
abbrev wgBlk (c : Dev nD) (t : Fin (cfg0 a).N) : Vec F S1x1x2048x512 .bf16 := iblk V a c 2 t
/-- the other factor's, -/
abbrev wuBlk (c : Dev nD) (t : Fin (cfg0 a).N) : Vec F S1x1x2048x512 .bf16 := iblk V a c 3 t
/-- and the rows of the second weight. -/
abbrev wdBlk (c : Dev nD) (t : Fin (cfg0 a).N) : Vec F S1x1x512x2048 .bf16 := iblk V a c 4 t

theorem xBlk_apply (c : Dev nD) (t : Fin (cfg0 a).N) (y : S1024x2048.Idx) :
    xBlk V a c t y = V c main_arg0 (ix2 ⟨1024 * (t.val / 14) + (y 0).val, by
      have := point_lt a t; have : (y 0).val < 1024 := (y 0).isLt; omega⟩ ⟨(y 1).val, by
      have : (y 1).val < 2048 := (y 1).isLt; omega⟩) := by
  unfold xBlk
  blk_ext [iblk]
  · refine (congrArg (fun k : ℕ => k * 1024 + (y 0).val) (congrFun (idx0 a t) _)).trans ?_
    show t.val / 14 * 1024 + (y 0).val = _; omega
  · refine (congrArg (fun k : ℕ => k * 2048 + (y 1).val) (congrFun (idx0 a t) _)).trans ?_
    show 0 * 2048 + (y 1).val = _; omega

theorem gBlk_apply (c : Dev nD) (t : Fin (cfg0 a).N) (y : S1x2048.Idx) :
    gBlk V a c t y = V c main_arg1 y := by
  unfold gBlk iblk
  refine congrArg (V c main_arg1) ?_
  funext k
  refine Fin.ext ?_
  fin_cases k
  · show 0 * 1 + 1 * (y 0).val = (y 0).val; omega
  · show 0 * 2048 + 1 * (y 1).val = (y 1).val; omega

theorem gBlk_eq (c : Dev nD) (t : Fin (cfg0 a).N) : gBlk V a c t = V c main_arg1 := funext (gBlk_apply V a c t)

theorem xBlk_congr (c : Dev nD) (t t' : Fin (cfg0 a).N) (h : t.val / 14 = t'.val / 14) : xBlk V a c t = xBlk V a c t' := by
  funext y
  rw [xBlk_apply, xBlk_apply]
  simp only [h]

/-! ## What the body leaves -/

/-- The normalised rows of point `t`'s row tile. -/
def hAt (c : Dev nD) (t : Fin (cfg0 a).N) : Vec F S1024x2048 .bf16 := hBlk (xBlk V a c t) (gBlk V a c t)

theorem hAt_congr (c : Dev nD) (t t' : Fin (cfg0 a).N) (h : t.val / 14 = t'.val / 14) : hAt V a c t = hAt V a c t' := by
  unfold hAt
  rw [xBlk_congr V a c t t' h, gBlk_eq, gBlk_eq]

/-- One point's step from the sum so far: it adds its block of hidden columns. -/
def step (c : Dev nD) (t : Fin (cfg0 a).N) (y : Vec F S1024x2048 .f32) : Vec F S1024x2048 .f32 :=
  k0_pay2 (hAt V a c t) (wgBlk V a c t) (wuBlk V a c t) y (wdBlk V a c t)

/-- The output block after point `n`. -/
def accN (c : Dev nD) : (n : ℕ) → n < (cfg0 a).N → Vec F S1024x2048 .f32
  | 0, h => step V a c ⟨0, h⟩ (xBlk V a c ⟨0, h⟩)
  | n + 1, h => step V a c ⟨n + 1, h⟩ (if (n + 1) % 14 = 0 then xBlk V a c ⟨n + 1, h⟩ else accN c n (Nat.lt_of_succ_lt h))

/-- The output block after point `t`. -/
def accAt (c : Dev nD) (t : Fin (cfg0 a).N) : Vec F S1024x2048 .f32 := accN V a c t.val t.isLt

theorem accAt_start (c : Dev nD) (t : Fin (cfg0 a).N) (h : t.val % 14 = 0) : accAt V a c t = step V a c t (xBlk V a c t) := by
  obtain ⟨n, hn⟩ := t
  cases n with
  | zero => unfold accAt; exact accN.eq_1 V a c hn
  | succ n =>
    unfold accAt
    refine (accN.eq_2 V a c n hn).trans ?_
    rw [if_pos h]

theorem accAt_next (c : Dev nD) (t : Fin (cfg0 a).N) (h : t.val % 14 ≠ 0) :
    accAt V a c t = step V a c t (accAt V a c ⟨t.val - 1, by omega⟩) := by
  obtain ⟨n, hn⟩ := t
  cases n with
  | zero => exact absurd rfl h
  | succ n =>
    unfold accAt
    refine (accN.eq_2 V a c n hn).trans ?_
    rw [if_neg h]; rfl

end Cert.DenseIdeal.Ffn

end
-- ==== Proof.Dense.Body.lean ====
/-
  The body's obligation at every grid point: the region's proof data, what each window's buffer holds before the body, and
  the body's two cases.
-/
module

public import proofs.«01_k».proof.Proof.Dense.Input
public import proofs.«01_k».proof.Proof.Gen.DenseIdeal.Launch
public import Idealize.ShloMosaic.Lib.Pipeline.TableIdle

@[expose] public section

set_option maxRecDepth 16384

noncomputable section

namespace Cert.DenseIdeal.Ffn

open Cert.DenseIdeal Cert.DenseIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (a : (pcfg0 (F := F)).Adm)

/-! ## The body's operands at a point -/

abbrev ms0_0 (t : Fin (cfg0 a).N) : Memref sig .tc .vmem S1024x2048 .f32 := spec0_0.stage ((cfg0 a).slots t 0)
theorem hs0_0 (t : Fin (cfg0 a).N) : (ms0_0 a t).IsWhole := hstage0_0 (((cfg0 a).slots t 0).cast nbuf0_0)
abbrev ms0_1 (t : Fin (cfg0 a).N) : Memref sig .tc .vmem S1x2048 .f32 := spec0_1.stage ((cfg0 a).slots t 1)
theorem hs0_1 (t : Fin (cfg0 a).N) : (ms0_1 a t).IsWhole := hstage0_1 (((cfg0 a).slots t 1).cast nbuf0_1)
abbrev ms0_2 (t : Fin (cfg0 a).N) : Memref sig .tc .vmem S1x1x2048x512 .bf16 := spec0_2.stage ((cfg0 a).slots t 2)
theorem hs0_2 (t : Fin (cfg0 a).N) : (ms0_2 a t).IsWhole := hstage0_2 (((cfg0 a).slots t 2).cast nbuf0_2)
abbrev ms0_3 (t : Fin (cfg0 a).N) : Memref sig .tc .vmem S1x1x2048x512 .bf16 := spec0_3.stage ((cfg0 a).slots t 3)
theorem hs0_3 (t : Fin (cfg0 a).N) : (ms0_3 a t).IsWhole := hstage0_3 (((cfg0 a).slots t 3).cast nbuf0_3)
abbrev ms0_4 (t : Fin (cfg0 a).N) : Memref sig .tc .vmem S1x1x512x2048 .bf16 := spec0_4.stage ((cfg0 a).slots t 4)
theorem hs0_4 (t : Fin (cfg0 a).N) : (ms0_4 a t).IsWhole := hstage0_4 (((cfg0 a).slots t 4).cast nbuf0_4)
abbrev ms0_5 (t : Fin (cfg0 a).N) : Memref sig .tc .vmem S1024x2048 .f32 := spec0_5.stage ((cfg0 a).slots t 5)
theorem hs0_5 (t : Fin (cfg0 a).N) : (ms0_5 a t).IsWhole := hstage0_5 (((cfg0 a).slots t 5).cast nbuf0_5)
/-- The body at a point's operands. -/
abbrev bodyAt0 (t : Fin (cfg0 a).N) : Prog (TpuEff nD τ sig (Elt F) Λ₀ .tc) PUnit :=
  cc0_swiglu_residual (grid0.coords t) (Memref.whole main_v0) (Memref.isWhole_whole _) (Memref.whole main_v5) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) scM (Memref.isWhole_whole _)

/-- Every row tile is an active one. -/
def Active : Prop := ∀ t : Fin (cfg0 a).N, condA (F := F) (tblA a) (grid0.coords t)

/-! ## The invariant between points -/

/-- The tables' halves, as memrefs. -/
def tabs (c : Dev nD) : sProp 𝕄 :=
  iprop(owns (c : Thread nD τ) (Memref.whole main_v0) fullShare.right (tblE a) ∗ owns (c : Thread nD τ) (Memref.whole main_v5) fullShare.right (tblA a))

theorem PhiT_eq (c : Dev nD) : (Pipeline.ΦT pre0 a.1 c : sProp 𝕄) = tabs a c := by
  unfold Pipeline.ΦT Pipeline.prefHeld tabs
  rw [show (Finset.univ : Finset (Fin 2)) = insert (0 : Fin 2) {(1 : Fin 2)} from by decide,
    bigSep_insert (by decide), bigSep_singleton]
  simp only [owns_whole]; rfl

/-- What holds before position `n`: before the first point the scratch buffer is at anything; afterwards it holds the
    normalised rows of the row tile of the point before. The tables' halves are held throughout. -/
def PhiS (c : Dev nD) : (n : ℕ) → n ≤ (cfg0 a).N → sProp 𝕄
  | 0, _ => iprop(Pipeline.ΦA spec0 c ∗ tabs a c)
  | n + 1, hn => iprop((owns (c : Thread nD τ) scM fullShare (hAt V a c ⟨n, hn⟩) ∗ (∃ r, prngReg c r)) ∗ tabs a c)

theorem PhiS_succ (c : Dev nD) (n : ℕ) (hn : n < (cfg0 a).N) : PhiS V a c (n + 1) hn
    = iprop((owns (c : Thread nD τ) scM fullShare (hAt V a c ⟨n, hn⟩) ∗ (∃ r, prngReg c r)) ∗ tabs a c) := rfl

theorem PhiS_pos (c : Dev nD) (n : ℕ) (h : n ≤ (cfg0 a).N) (hz : n ≠ 0) : PhiS V a c n h
    = iprop((owns (c : Thread nD τ) scM fullShare (hAt V a c ⟨n - 1, by omega⟩) ∗ (∃ r, prngReg c r)) ∗ tabs a c) := by
  cases n with
  | zero => exact absurd rfl hz
  | succ n => rfl

/-- At any position the scratch buffer is at something. -/
theorem PhiS_any (c : Dev nD) (n : ℕ) (h : n ≤ (cfg0 a).N) :
    PhiS V a c n h ⊢ iprop(((∃ d, owns (c : Thread nD τ) scM fullShare d) ∗ (∃ r, prngReg c r)) ∗ tabs a c) := by
  cases n with
  | zero =>
    show iprop(Pipeline.ΦA spec0 c ∗ tabs a c) ⊢ _
    rw [PhiA_eq]
  | succ n =>
    rw [PhiS_succ]
    iintro ⟨⟨H, Hg⟩, Ht⟩
    isplitr [Ht]
    · isplitl [H]
      · iexists _; iexact H
      iexact Hg
    iexact Ht

/-! ## The region's proof data -/

/-- The arrays as the region finds them; each input's buffer at its block after the body, the output's at the sum so far;
    the invariant `PhiS`; nothing owed. -/
def dat (c : Dev nD) : Dat τ (Elt F) Unit ℕ (UR sig nD τ) ℕ (cfg0 a) c where
  A w := V c (Pipeline.arrRef spec0 w)
  after w t := match w with
    | ⟨0, _⟩ => iblk V a c 0 t
    | ⟨1, _⟩ => iblk V a c 1 t
    | ⟨2, _⟩ => iblk V a c 2 t
    | ⟨3, _⟩ => iblk V a c 3 t
    | ⟨4, _⟩ => iblk V a c 4 t
    | ⟨5, _⟩ => accAt V a c t
  Φ t := PhiS V a c t.val (Nat.le_of_lt_succ t.isLt)
  q _ := fullShare
  owed _ := 0

theorem A_eq (c : Dev nD) (w : Fin (cfg0 a).W) : (dat V a c).A w = V c (Pipeline.arrRef spec0 w) := by
  dsimp only [dat]

theorem Phi_castSucc (c : Dev nD) (t : Fin (cfg0 a).N) :
    (dat V a c).Φ t.castSucc = PhiS V a c t.val (Nat.le_of_lt t.isLt) := by
  dsimp only [dat]; exact Pipeline.Dat.Φ_castSucc (PhiS V a c) t

theorem after0_0 (c : Dev nD) (t : Fin (cfg0 a).N) : (dat V a c).after 0 t = iblk V a c 0 t := by dsimp only [dat]; rfl
theorem after0_1 (c : Dev nD) (t : Fin (cfg0 a).N) : (dat V a c).after 1 t = iblk V a c 1 t := by dsimp only [dat]; rfl
theorem after0_2 (c : Dev nD) (t : Fin (cfg0 a).N) : (dat V a c).after 2 t = iblk V a c 2 t := by dsimp only [dat]; rfl
theorem after0_3 (c : Dev nD) (t : Fin (cfg0 a).N) : (dat V a c).after 3 t = iblk V a c 3 t := by dsimp only [dat]; rfl
theorem after0_4 (c : Dev nD) (t : Fin (cfg0 a).N) : (dat V a c).after 4 t = iblk V a c 4 t := by dsimp only [dat]; rfl
theorem after0_5 (c : Dev nD) (t : Fin (cfg0 a).N) : (dat V a c).after 5 t = accAt V a c t := by dsimp only [dat]; rfl

theorem before0_0 (c : Dev nD) (t : Fin (cfg0 a).N) (d) : (dat V a c).before 0 t d = iblk V a c 0 t :=
  ((dat V a c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfg0 a).N) (d) : (dat V a c).before 1 t d = iblk V a c 1 t :=
  ((dat V a c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (cfg0 a).N) (d) : (dat V a c).before 2 t d = iblk V a c 2 t :=
  ((dat V a c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin (cfg0 a).N) (d) : (dat V a c).before 3 t d = iblk V a c 3 t :=
  ((dat V a c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin (cfg0 a).N) (d) : (dat V a c).before 4 t d = iblk V a c 4 t :=
  ((dat V a c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

/-! ## The output's buffer before the body -/

/-- The body stores nothing exactly past the first block of an inactive row tile. -/
theorem idle5 (t : Fin (cfg0 a).N) : (cfg0 a).idle 5 (grid0.coords t) = true
    ↔ ¬condS (grid0.coords t) ∧ ¬condA (F := F) (tblA a) (grid0.coords t) := by
  have e : (a.1).atD 1 (k0_off1 (grid0.coords t)) = actWord (F := F) (tblA a) (grid0.coords t) := by
    unfold Pipeline.Prefetch.Contents.atD
    exact dif_pos (fun x => by
      have := k0_off1_inb (grid0.coords t) x
      have h1 : S1.size x = 1 := by fin_cases x; rfl
      show k0_off1 (grid0.coords t) x + 1 ≤ S32.size x
      omega)
  show (!(k0_cond1 (grid0.coords t) == 1#1) && !(k0_cond2 ((a.1).atD 1 (k0_off1 (grid0.coords t))) == 1#1)) = true ↔ _
  rw [e]
  simp only [Bool.and_eq_true, Bool.not_eq_true', beq_eq_false_iff_ne, ne_eq, condS, condA]

/-- The output's block is written back at a row tile's last block of hidden columns. -/
theorem flush5 (t : Fin (cfg0 a).N) : ((cfg0 a).win 5).flush t = true ↔ t.val % 14 = 13 :=
  Pipeline.Window.flush_reads ((cfg0 a).win 5) rfl 0 (show 1 < grid0.bound 0 by decide) (show grid0.fixedAfter reads0_5 0 = true by decide) (Pipeline.Window.sep_of_coord cc0_transform_5 0 0 (fun _ => rfl) (by decide)) (P := 14) (m := 13) (show grid0.stride 0 = 14 by decide) rfl t

theorem fresh5 (n : ℕ) (h : n ≤ (cfg0 a).N) : (cfg0 a).fresh 5 n = decide (n % 14 = 0) := by
  refine Pipeline.Cfg.fresh_tab (cfg0 a) 5 (fun n => decide (n % 14 = 0)) (by decide) (fun t => ?_) n h
  have hs := hcondS t
  have hi := idle5 a t
  have hf := flush5 a t
  by_cases h6 : t.val % 14 = 13
  · rw [hf.mpr h6]
    simp only [Bool.true_or, decide_eq_true_eq]; omega
  · have hf' : ((cfg0 a).win 5).flush t = false := by rw [← Bool.not_eq_true]; exact fun h => h6 (hf.mp h)
    rw [hf', Bool.false_or]
    have h1 : decide ((t.val + 1) % 14 = 0) = false := by simp only [decide_eq_false_iff_not]; omega
    rw [h1]
    by_cases h0 : t.val % 14 = 0
    · have hi' : (cfg0 a).idle 5 (grid0.coords t) = false := by
        rw [← Bool.not_eq_true]; exact fun h => (hi.mp h).1 (hs.mpr h0)
      exact (congrArg (· && decide (t.val % 14 = 0)) hi').symm
    · rw [show decide (t.val % 14 = 0) = false from by simp only [decide_eq_false_iff_not]; exact h0, Bool.and_false]

/-- Every point stores. -/
theorem busy5 (act : Active a) (t : Fin (cfg0 a).N) : (cfg0 a).idle 5 (grid0.coords t) = false := by
  rw [← Bool.not_eq_true]; exact fun h => ((idle5 a t).mp h).2 (act t)

/-- Past a row tile's first block, the output's buffer holds the sum so far. -/
theorem before0_5 (act : Active a) (c : Dev nD) (t : Fin (cfg0 a).N) (h0 : t.val % 14 ≠ 0) (d) :
    (dat V a c).before 5 t d = accAt V a c ⟨t.val - 1, by omega⟩ := by
  refine ((dat V a c).before_out_traj 5 rfl (fun _ _ => rfl) (fun t _ hi hf => ?_) t.val t rfl d).trans ?_
  · exact absurd (hi.symm.trans (busy5 a act t)) (by decide)
  · rw [fresh5 a t.val (Nat.le_of_lt t.isLt), after0_5]
    exact if_neg (by simp only [decide_eq_true_eq]; exact h0)

/-! ## The body's obligation -/

/-- What the body is called with at point `t`, -/
def bodyPre (c : Dev nD) (t : Fin (cfg0 a).N) : sProp 𝕄 :=
  iprop((dat V a c).Φ t.castSucc ∗ (dat V a c).owesAt () t.castSucc
    ∗ (∃ d, owns (c : Thread nD τ) (ms0_0 a t) fullShare ((dat V a c).before 0 t d))
    ∗ (∃ d, owns (c : Thread nD τ) (ms0_1 a t) fullShare ((dat V a c).before 1 t d))
    ∗ (∃ d, owns (c : Thread nD τ) (ms0_2 a t) fullShare ((dat V a c).before 2 t d))
    ∗ (∃ d, owns (c : Thread nD τ) (ms0_3 a t) fullShare ((dat V a c).before 3 t d))
    ∗ (∃ d, owns (c : Thread nD τ) (ms0_4 a t) fullShare ((dat V a c).before 4 t d))
    ∗ (∃ d, owns (c : Thread nD τ) (ms0_5 a t) fullShare ((dat V a c).before 5 t d)))

/-- and what it returns. -/
def bodyPost (c : Dev nD) (t : Fin (cfg0 a).N) : sProp 𝕄 :=
  iprop((dat V a c).Φ t.succ ∗ (dat V a c).owesAt () t.succ
    ∗ owns (c : Thread nD τ) (ms0_0 a t) fullShare ((dat V a c).after 0 t)
    ∗ owns (c : Thread nD τ) (ms0_1 a t) fullShare ((dat V a c).after 1 t)
    ∗ owns (c : Thread nD τ) (ms0_2 a t) fullShare ((dat V a c).after 2 t)
    ∗ owns (c : Thread nD τ) (ms0_3 a t) fullShare ((dat V a c).after 3 t)
    ∗ owns (c : Thread nD τ) (ms0_4 a t) fullShare ((dat V a c).after 4 t)
    ∗ owns (c : Thread nD τ) (ms0_5 a t) fullShare ((dat V a c).after 5 t))

set_option maxHeartbeats 3200000 in
/-- The body at any point, by its case. -/
theorem sound_body (act : Active a) (c : Dev nD) (t : Fin (cfg0 a).N) :
    bodyPre V a c t ⊢ wp frame (wpE (defs₀ (F := F)) Variants.none c none) Set.univ (bodyAt0 a t) (fun _ => bodyPost V a c t) := by
  unfold bodyPre bodyPost bodyAt0
  simp only [before0_0, before0_1, before0_2, before0_3, before0_4]
  rw [show (dat V a c).owesAt () t.succ = (dat V a c).owesAt () t.castSucc from rfl,
    after0_0, after0_1, after0_2, after0_3, after0_4, after0_5]
  rw [show (dat V a c).Φ t.succ = PhiS V a c (t.val + 1) t.isLt from rfl, PhiS_succ, Phi_castSucc V a c t]
  by_cases h0 : t.val % 14 = 0
  · have hs := (hcondS t).mpr h0
    refine (sep_mono (PhiS_any V a c _ _) .rfl).trans ?_
    unfold tabs
    · have ha := act t
      iintro ⟨⟨⟨HS, Hg⟩, HE, HA⟩, Ho, ⟨%d0, H0⟩, ⟨%d1, H1⟩, ⟨%d2, H2⟩, ⟨%d3, H3⟩, ⟨%d4, H4⟩, ⟨%d5, H5⟩⟩
      iapply ((runStartActive c (grid0.coords t) (Memref.whole main_v0) (Memref.isWhole_whole _) (Memref.whole main_v5) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) scM (Memref.isWhole_whole _) (tblA a) (xBlk V a c t) (gBlk V a c t) (wgBlk V a c t) (wuBlk V a c t) (wdBlk V a c t) hs ha).2.2 Set.univ _)
      isplitl [HA]; · iexact HA
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨HA, H0, H1, H2, H3, H4, ⟨%e5, H5⟩, ⟨%es, HS⟩⟩
      isplitl [HS Hg HE HA]
      · isplitl [HS Hg]
        · isplitl [HS]
          · unfold owns; iexists _; isplitr
            swap; · iexact HS
            ipureintro; exact scratch_startActive _ _ _ _ _ _ _ _ _ _ _ _ _ _ _ _ _ _ _ _ _ _ _ _ _ _ hs ha es
          iexact Hg
        isplitl [HE]; · iexact HE
        iexact HA
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; rw [accAt_start V a c t h0]; unfold step; exact out_startActive _ _ _ _ _ _ _ _ _ _ _ _ _ _ _ _ _ _ _ _ _ _ _ _ _ _ hs ha e5
  · have hs : ¬condS (grid0.coords t) := fun h => h0 ((hcondS t).mp h)
    have hz : t.val ≠ 0 := fun h => h0 (by rw [h])
    simp only [before0_5 V a act c t h0]
    rw [PhiS_pos V a c _ _ hz, hAt_congr V a c ⟨t.val - 1, by omega⟩ t (by show (t.val - 1) / 14 = t.val / 14; omega)]
    unfold tabs
    · have ha := act t
      iintro ⟨⟨⟨HS, Hg⟩, HE, HA⟩, Ho, ⟨%d0, H0⟩, ⟨%d1, H1⟩, ⟨%d2, H2⟩, ⟨%d3, H3⟩, ⟨%d4, H4⟩, ⟨%d5, H5⟩⟩
      iapply ((runNextActive c (grid0.coords t) (Memref.whole main_v0) (Memref.isWhole_whole _) (Memref.whole main_v5) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) scM (Memref.isWhole_whole _) (tblA a) (xBlk V a c t) (gBlk V a c t) (wgBlk V a c t) (wuBlk V a c t) (wdBlk V a c t) (accAt V a c ⟨t.val - 1, by omega⟩) (hAt V a c t) hs ha).2 Set.univ _)
      isplitl [HA]; · iexact HA
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨HA, H0, H1, H2, H3, H4, ⟨%e5, H5⟩, HS⟩
      isplitl [HS Hg HE HA]
      · isplitl [HS Hg]
        · isplitl [HS]
          · iexact HS
          iexact Hg
        isplitl [HE]; · iexact HE
        iexact HA
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; rw [accAt_next V a c t h0]; unfold step; exact out_nextActive _ _ _ _ _ _ _ _ _ _ _ _ _ _ _ _ _ _ _ _ _ _ _ _ _ _ _ _ hs ha e5

/-- The body table's row at point `t`'s slots is the body at that point. -/
theorem defs₀_row (t : Fin (cfg0 a).N) :
    defs₀ (F := F) .tc (cfg0 a).body ((cfg0 a).bodyArgs t ((cfg0 a).slots t)) = bodyAt0 a t := by
  unfold defs₀; rw [Defs.onTc_tc]

theorem body_obligation (act : Active a) (c : Dev nD) : BodyObligation (dat (F := F) V a c) (defs₀ (F := F)) Variants.none () Set.univ := fun t => by
  rw [bigSep_W0, bigSep_W0, defs₀_row]
  refine triple_restated (sound_body V a act c t) rfl .rfl fun _ => ?_
  refine sep_mono .rfl (sep_mono .rfl (sep_mono .rfl (sep_mono .rfl (sep_mono .rfl (sep_mono .rfl (sep_mono .rfl ?_))))))
  show owns (c : Thread nD τ) (ms0_5 a t) fullShare ((dat V a c).after 5 t) ⊢ (dat V a c).leavesExact 5 t
  unfold Dat.leavesExact
  rw [show (cfg0 a).idle 5 ((cfg0 a).grid.coords t) = false from busy5 a act t]
  exact .rfl

end Cert.DenseIdeal.Ffn

end
-- ==== Proof.Dense.Host.lean ====
/-
  What the host prepares before the call: a table of zeros, a table of ones, and the three weights with an axis of length
  one inserted.
-/
module

public import proofs.«01_k».proof.Proof.Dense.Input
public import Idealize.ShloMosaic.Lib.Pipeline.ValueKit
public import Idealize.ShloMosaic.Lib.Pointwise

@[expose] public section

set_option maxRecDepth 16384

noncomputable section

namespace Cert.DenseIdeal.Ffn

open Cert.DenseIdeal Cert.DenseIdeal.Gen
open Idealize.ShloMosaic Idealize.ShloMosaic.TcCoe Idealize.ShloMosaic.Tactic

variable {F : FTy → Type} [FloatOps F]

variable (m : (ℓ : Loc nD τ sig) → Buf (Elt F) ℓ)

/-- A buffer when the call is reached. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

theorem V_of (b : Ref sig .tc) (hb : ∀ r ∈ [main_c, main_v0, main_v1, main_v2, main_v3, main_c_0, main_v4, main_v5], b ≠ r) (c : Dev nD) :
    V m c b = m ((c : Thread nD τ).loc b) :=
  StableHlo.after_of_forall_not_mem (b := Proc.devRef .tc b) _ _ (List.forall_iff_forall_mem.mp (by
    simp only [hostOps0, List.Forall, StableHlo.nullary_writes, StableHlo.unary_writes, StableHlo.binary_writes, Finset.mem_singleton]
    simp only [List.forall_mem_cons] at hb
    obtain ⟨h1, h2, h3, h4, h5, h6, h7, h8, -⟩ := hb
    exact ⟨StableHlo.devRef_ne_of_ne h1, StableHlo.devRef_ne_of_ne h2, StableHlo.devRef_ne_of_ne h3, StableHlo.devRef_ne_of_ne h4,
      StableHlo.devRef_ne_of_ne h5, StableHlo.devRef_ne_of_ne h6, StableHlo.devRef_ne_of_ne h7, StableHlo.devRef_ne_of_ne h8⟩))

/-- The first table is zero, -/
theorem first_table (c : Dev nD) (i : Fin 32) : (V m c main_v0 (ix1 i) : BitVec 32) = 0#32 := by
  unfold V
  entry_read
  rfl

/-- the second one. -/
theorem second_table (c : Dev nD) (i : Fin 32) : (V m c main_v5 (ix1 i) : BitVec 32) = 1#32 := by
  unfold V
  entry_read
  rfl

/-- The gate's weight, -/
theorem gate_entry (c : Dev nD) (p : Fin 2) (e : Fin 1) (j : Fin 2048) (f : Fin 7168) :
    V m c main_v1 (ix4 p e j f) = m ((c : Thread nD τ).loc main_arg2) (ix3 p j f) := by
  unfold V
  entry_read
  refine congrArg (m ((c : Thread nD τ).loc main_arg2)) (funext fun b => Fin.ext ?_)
  match b with
  | ⟨0, _⟩ => rfl
  | ⟨1, _⟩ => rfl
  | ⟨2, _⟩ => rfl

/-- the other first weight, -/
theorem up_entry (c : Dev nD) (p : Fin 2) (e : Fin 1) (j : Fin 2048) (f : Fin 7168) :
    V m c main_v2 (ix4 p e j f) = m ((c : Thread nD τ).loc main_arg3) (ix3 p j f) := by
  unfold V
  entry_read
  refine congrArg (m ((c : Thread nD τ).loc main_arg3)) (funext fun b => Fin.ext ?_)
  match b with
  | ⟨0, _⟩ => rfl
  | ⟨1, _⟩ => rfl
  | ⟨2, _⟩ => rfl

/-- and the second weight, entry by entry. -/
theorem down_entry (c : Dev nD) (p : Fin 2) (e : Fin 1) (f : Fin 7168) (k : Fin 2048) :
    V m c main_v3 (ix4 p e f k) = m ((c : Thread nD τ).loc main_arg4) (ix3 p f k) := by
  unfold V
  entry_read
  refine congrArg (m ((c : Thread nD τ).loc main_arg4)) (funext fun b => Fin.ext ?_)
  match b with
  | ⟨0, _⟩ => rfl
  | ⟨1, _⟩ => rfl
  | ⟨2, _⟩ => rfl

end Cert.DenseIdeal.Ffn

end
-- ==== Proof.Dense.Frame.lean ====
/-
  The launch of the dense feed-forward: the tables it is launched with, the run, and the argument arrays unchanged.
-/
module

public import proofs.«01_k».proof.Proof.Dense.Body
public import proofs.«01_k».proof.Proof.Dense.Host
public import Idealize.ShloMosaic.Lib.Pipeline.Frame

@[expose] public section

set_option maxRecDepth 16384

noncomputable section

namespace Cert.DenseIdeal.Ffn

open Cert.DenseIdeal Cert.DenseIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tables as launched -/

/-- The one device. -/
abbrev dev0 : Dev nD := (0 : Fin 1)

/-- The tables' contents at the launch. -/
def tbl : pre0.Contents (Elt F) := fun k => V m dev0 (pre0.ref k)

theorem tbl_zero (i : Fin 32) : ((tbl m 0 : Vec F S32 .i32) (ix1 i) : BitVec 32) = 0#32 := first_table m dev0 i

theorem tbl_one (i : Fin 32) : ((tbl m 1 : Vec F S32 .i32) (ix1 i) : BitVec 32) = 1#32 := second_table m dev0 i

theorem ok_tbl : ok0 (tbl m) := by
  have he : ∀ i, (expertOf (F := F) (tbl m 0) i).toNat = 0 := fun i => by
    unfold expertOf; exact congrArg BitVec.toNat (tbl_zero m (i 0))
  have hb : ∀ i, (blockOf (F := F) (tbl m 1) i).toNat < 14 := fun i => blockOf_lt _ i
  refine ⟨fun i => ⟨fun k => ?_, .inr (Affine.block_words_dvd (of_decide_eq_true rfl) (by decide))⟩,
    fun i => ⟨fun k => ?_, .inr (Affine.block_words_dvd (of_decide_eq_true rfl) (by decide))⟩,
    fun i => ⟨fun k => ?_, .inr (Affine.block_words_dvd (of_decide_eq_true rfl) (by decide))⟩⟩
  · rw [transform2]
    have := he i; have := hb i
    fin_cases k
    · show (0 + 1) * 1 ≤ 2; omega
    · show ((expertOf (F := F) (tbl m 0) i).toNat + 1) * 1 ≤ 1; omega
    · show (0 + 1) * 2048 ≤ 2048; omega
    · show ((blockOf (F := F) (tbl m 1) i).toNat + 1) * 512 ≤ 7168; omega
  · rw [transform3]
    have := he i; have := hb i
    fin_cases k
    · show (0 + 1) * 1 ≤ 2; omega
    · show ((expertOf (F := F) (tbl m 0) i).toNat + 1) * 1 ≤ 1; omega
    · show (0 + 1) * 2048 ≤ 2048; omega
    · show ((blockOf (F := F) (tbl m 1) i).toNat + 1) * 512 ≤ 7168; omega
  · rw [transform4]
    have := he i; have := hb i
    fin_cases k
    · show (0 + 1) * 1 ≤ 2; omega
    · show ((expertOf (F := F) (tbl m 0) i).toNat + 1) * 1 ≤ 1; omega
    · show ((blockOf (F := F) (tbl m 1) i).toNat + 1) * 512 ≤ 7168; omega
    · show (0 + 1) * 2048 ≤ 2048; omega

/-- The tables the pipeline runs at. -/
def adm : (pcfg0 (F := F)).Adm := ⟨tbl m, ok_tbl m⟩

/-- Every row tile is active. -/
theorem active : Active (adm m) := fun t => by
  unfold condA
  rw [actWord_eq]
  refine (congrArg k0_cond2 (tbl_one m (grid0.coords t 0))).trans ?_
  decide

theorem dev_eq (c : Dev nD) : c = dev0 := Subsingleton.elim _ _

theorem hpf (c : Dev nD) (k : Fin pre0.K) : V m c (pre0.ref k) = (adm m).1 k := by
  rw [dev_eq c]; rfl

/-! ## The run -/

/-- What the launch hands the region is the invariant before the first point. -/
theorem hin (c : Dev nD) :
    iprop(Pipeline.ΦA spec0 c ∗ Pipeline.ΦT pre0 (adm m).1 c) ⊢ (dat (V m) (adm m) c).Φ 0 := by
  rw [PhiT_eq, show (dat (V m) (adm m) c).Φ 0 = iprop(Pipeline.ΦA spec0 c ∗ tabs (adm m) c) from rfl]

/-- After the last point the named contents are forgotten. -/
theorem hout (c : Dev nD) : (dat (V m) (adm m) c).Φ (Fin.last (cfg0 (adm m)).N) ⊢ Pipeline.ΦA spec0 c := by
  rw [show (dat (V m) (adm m) c).Φ (Fin.last (cfg0 (adm m)).N) = PhiS (V m) (adm m) c (Fin.last (cfg0 (adm m)).N).val (Nat.le_of_lt_succ (Fin.last (cfg0 (adm m)).N).isLt) from rfl]
  refine (PhiS_any (V m) (adm m) c _ _).trans ?_
  rw [PhiA_eq]
  iintro ⟨H, -⟩
  iexact H

set_option backward.isDefEq.respectTransparency.types false in
/-- The launch: every execution ends with the arrays at what the proof data gives, and every counter at zero. -/
theorem run_main_quiescent : θ_run defs (onTc (τ := τ) (main (F := F))) (s₀ m ρ)
    (fun r => (Pipeline.FramePost (Pipeline.pin (pcfgs (F := F)) (fun _ => adm m)) (fun _ c => dat (V m) (adm m) c) 0 (V m)) r ∧ r.2.sem = fun _ => 0) :=
  Pipeline.θ_run_frameP_track (Q' := _) pcfgs (fun _ => adm m) (fun _ c => dat (V m) (adm m) c) (0 : Fin 1) launch0 defs₀ Variants.none m ρ main
    (hbody := fun c => (body_obligation (V m) (adm m) (active m) c).loose) (hshare := fun c w => by unfold Dat.share; dsimp only [dat]; split <;> rfl)
    (howed := fun _ _ => rfl) (V := V m) (hmain := Pipeline.hmainP_prefix pcfgs 0 defs₀ Variants.none m main hostOps0 hostOps0_sub hostOps0_fresh (fun c => main_chain c))
    (hA := A_eq (V m) (adm m)) (hpf := hpf m) (hin := hin m) (hout := hout m)

theorem run_main : θ_run defs (onTc (τ := τ) (main (F := F))) (s₀ m ρ)
    (Pipeline.FramePost (Pipeline.pin (pcfgs (F := F)) (fun _ => adm m)) (fun _ c => dat (V m) (adm m) c) 0 (V m)) :=
  (θ_run defs _ _).mono (fun _ h => h.1) (run_main_quiescent m ρ)

/-- The argument arrays end unchanged. -/
theorem unchanged_of (r : PUnit × MemSt nD τ sig (Elt F))
    (hr : Pipeline.FramePost (Pipeline.pin (pcfgs (F := F)) (fun _ => adm m)) (fun _ c => dat (V m) (adm m) c) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(((hr c).1 0).trans (((dat (V m) (adm m) c).arrAt_in 0 rfl _).trans (A_eq (V m) (adm m) c 0))).trans (V_of m main_arg0 (by decide) c),
    (((hr c).1 1).trans (((dat (V m) (adm m) c).arrAt_in 1 rfl _).trans (A_eq (V m) (adm m) c 1))).trans (V_of m main_arg1 (by decide) c),
    ((hr c).2 main_arg2 (Pipeline.mem_restRefs_of main_arg2 (by decide) (show ∀ w : Fin 6, (spec0 w).arr.view.ref ≠ main_arg2 by decide))).trans (V_of m main_arg2 (by decide) c),
    ((hr c).2 main_arg3 (Pipeline.mem_restRefs_of main_arg3 (by decide) (show ∀ w : Fin 6, (spec0 w).arr.view.ref ≠ main_arg3 by decide))).trans (V_of m main_arg3 (by decide) c),
    ((hr c).2 main_arg4 (Pipeline.mem_restRefs_of main_arg4 (by decide) (show ∀ w : Fin 6, (spec0 w).arr.view.ref ≠ main_arg4 by decide))).trans (V_of m main_arg4 (by decide) c)⟩

/-- The frame: the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r hr => ⟨unchanged_of m r hr.1, hr.2⟩) (run_main_quiescent m ρ)

end Cert.DenseIdeal.Ffn

end
-- ==== Proof.Dense.Spec.lean ====
/-
The sum over all hidden columns split in fourteen blocks.
-/
module

public import proofs.«01_k».proof.Proof.Experts.Spec

@[expose] public section

noncomputable section

namespace Cert.DenseLayer

/-- Hidden column `l` of block `q`. -/
def block (q : ℕ) (l : Fin 512) : Fin 7168 := ⟨(512 * q + l.val) % 7168, Nat.mod_lt _ (by decide)⟩

/-- A sum over the hidden columns, block by block. -/
theorem sum_blocks (f : Fin 7168 → EReal) : ∑ q ∈ Finset.range 14, ∑ l : Fin 512, f (block q l) = ∑ x, f x := by
  rw [Finset.sum_range, ← Fintype.sum_prod_type' (f := fun (q : Fin 14) (l : Fin 512) => f (block q.val l))]
  refine Fintype.sum_equiv (finProdFinEquiv (m := 14) (n := 512)) _ (fun x : Fin 7168 => f x) fun p => congrArg f (Fin.ext ?_)
  obtain ⟨q, l⟩ := p
  show (512 * q.val + l.val) % 7168 = l.val + 512 * q.val
  omega

end Cert.DenseLayer

end
-- ==== Proof.Dense.Pay.lean ====
/-
The feed-forward's arithmetic and the blocks it loads, read at an index.
-/
module

public import proofs.«01_k».proof.Proof.Dense.Input
public import proofs.«01_k».proof.Proof.Dense.Spec
public import Idealize.ShloMosaic.Lib.Pointwise

@[expose] public section

set_option maxRecDepth 16384

noncomputable section

namespace Cert.DenseIdeal.Ffn

open Cert.DenseIdeal Cert.DenseIdeal.Gen Cert.ExpertLayer Cert.DenseLayer
open Idealize.ShloMosaic Idealize.ShloMosaic.TcCoe Idealize.ShloMosaic.Tactic

/-- A row of a row tile, normalised. -/
theorem pay1_apply (x : Vec Ideal S64x2048 .f32) (g : Vec Ideal S1x2048 .f32) (r : Fin 64) (k : Fin 2048) :
    k0_pay1 (F := Ideal) x g (ix2 r k) = normRow (fun j => x (ix2 r j)) (fun j => g (ix2 0 j)) k := by
  pointwise [k0_pay1]
  rfl

/-- A block of hidden columns added to the sum so far. -/
theorem pay2_apply (h : Vec Ideal S1024x2048 .bf16) (wg wu : Vec Ideal S1x1x2048x512 .bf16) (y : Vec Ideal S1024x2048 .f32)
    (wd : Vec Ideal S1x1x512x2048 .bf16) (r : Fin 1024) (k : Fin 2048) :
    k0_pay2 (F := Ideal) h wg wu y wd (ix2 r k)
      = y (ix2 r k) + ∑ l : Fin 512, gated (fun j => h (ix2 r j)) (fun j => wg (ix4 0 0 j l)) (fun j => wu (ix4 0 0 j l)) * wd (ix4 0 0 l k) := by
  pointwise [k0_pay2]
  rfl

variable (V : (c : Dev nD) → (b : Ref sig .tc) → Buf (Elt Ideal) ((c : Thread nD τ).loc b)) (a : (pcfg0 (F := Ideal)).Adm) (c : Dev nD)

/-- The rows, -/
def xOf (R : Fin 32768) (j : Fin 2048) : EReal := V c main_arg0 (ix2 R j)
/-- the scale, -/
def gOf (j : Fin 2048) : EReal := V c main_arg1 (ix2 0 j)
/-- the gate's weight, -/
def wgOf (e : Fin 1) (j : Fin 2048) (f : Fin 7168) : EReal := V c main_v1 (ix4 0 e j f)
/-- the other first weight, -/
def wuOf (e : Fin 1) (j : Fin 2048) (f : Fin 7168) : EReal := V c main_v2 (ix4 0 e j f)
/-- and the second weight, at the call. -/
def wdOf (e : Fin 1) (f : Fin 7168) (k : Fin 2048) : EReal := V c main_v3 (ix4 0 e f k)

/-- The normalised rows of a point's row tile. -/
theorem hAt_apply (t : Fin (cfg0 a).N) (r : Fin 1024) (R : Fin 32768) (hR : R.val = 1024 * (t.val / 14) + r.val) (k : Fin 2048) :
    hAt V a c t (ix2 r k) = normRow (xOf V c R) (gOf V c) k := by
  unfold hAt hBlk
  refine (pay1_apply _ _ _ _).trans ?_
  refine congrArg₂ (fun u v => normRow u v k) (funext fun j => ?_) (funext fun j => ?_)
  · refine (xBlk_apply V a c t _).trans ?_
    unfold xOf
    refine congrArg (V c main_arg0) (congrArg₂ ix2 (Fin.ext ?_) (Fin.ext ?_))
    · show 1024 * (t.val / 14) + (64 * (r.val / 64) + r.val % 64) = R.val; omega
    · rfl
  · exact gBlk_apply V a c t _

theorem wgBlk_apply (t : Fin (cfg0 a).N) (e : Fin 1) (he : (eW a (grid0.coords t)).toNat = e.val) (q : ℕ) (hq7 : q < 14)
    (hq : (selW a (grid0.coords t)).toNat = q) (j : Fin 2048) (l : Fin 512) :
    wgBlk V a c t (ix4 0 0 j l) = wgOf V c e j (block q l) := by
  unfold wgBlk wgOf
  blk_ext [iblk]
  · refine (congrArg (fun k : ℕ => k + 0) (congrFun (idx2 a t) 0)).trans ?_
    rfl
  · refine (congrArg (fun k : ℕ => k + 0) (congrFun (idx2 a t) 1)).trans ?_
    show (eW a (grid0.coords t)).toNat + 0 = 0; omega
  · refine (congrArg (fun k : ℕ => k * 2048 + j.val) (congrFun (idx2 a t) _)).trans ?_
    show 0 * 2048 + j.val = j.val; omega
  · refine (congrArg (fun k : ℕ => k * 512 + l.val) (congrFun (idx2 a t) _)).trans ?_
    show (selW a (grid0.coords t)).toNat * 512 + l.val = (512 * q + l.val) % 7168; omega

theorem wuBlk_apply (t : Fin (cfg0 a).N) (e : Fin 1) (he : (eW a (grid0.coords t)).toNat = e.val) (q : ℕ) (hq7 : q < 14)
    (hq : (selW a (grid0.coords t)).toNat = q) (j : Fin 2048) (l : Fin 512) :
    wuBlk V a c t (ix4 0 0 j l) = wuOf V c e j (block q l) := by
  unfold wuBlk wuOf
  blk_ext [iblk]
  · refine (congrArg (fun k : ℕ => k + 0) (congrFun (idx3 a t) 0)).trans ?_
    rfl
  · refine (congrArg (fun k : ℕ => k + 0) (congrFun (idx3 a t) 1)).trans ?_
    show (eW a (grid0.coords t)).toNat + 0 = 0; omega
  · refine (congrArg (fun k : ℕ => k * 2048 + j.val) (congrFun (idx3 a t) _)).trans ?_
    show 0 * 2048 + j.val = j.val; omega
  · refine (congrArg (fun k : ℕ => k * 512 + l.val) (congrFun (idx3 a t) _)).trans ?_
    show (selW a (grid0.coords t)).toNat * 512 + l.val = (512 * q + l.val) % 7168; omega

theorem wdBlk_apply (t : Fin (cfg0 a).N) (e : Fin 1) (he : (eW a (grid0.coords t)).toNat = e.val) (q : ℕ) (hq7 : q < 14)
    (hq : (selW a (grid0.coords t)).toNat = q) (l : Fin 512) (k : Fin 2048) :
    wdBlk V a c t (ix4 0 0 l k) = wdOf V c e (block q l) k := by
  unfold wdBlk wdOf
  blk_ext [iblk]
  · refine (congrArg (fun k : ℕ => k + 0) (congrFun (idx4 a t) 0)).trans ?_
    rfl
  · refine (congrArg (fun k : ℕ => k + 0) (congrFun (idx4 a t) 1)).trans ?_
    show (eW a (grid0.coords t)).toNat + 0 = 0; omega
  · refine (congrArg (fun k : ℕ => k * 512 + l.val) (congrFun (idx4 a t) _)).trans ?_
    show (selW a (grid0.coords t)).toNat * 512 + l.val = (512 * q + l.val) % 7168; omega
  · refine (congrArg (fun i : ℕ => i * 2048 + k.val) (congrFun (idx4 a t) _)).trans ?_
    show 0 * 2048 + k.val = k.val; omega

end Cert.DenseIdeal.Ffn

end
-- ==== Proof.Dense.Sum.lean ====
/-
What the output block holds after a row tile's last point: each row plus the feed-forward of it.
-/
module

public import proofs.«01_k».proof.Proof.Dense.Pay

@[expose] public section

set_option maxRecDepth 16384

noncomputable section

namespace Cert.DenseIdeal.Ffn

open Cert.DenseIdeal Cert.DenseIdeal.Gen Cert.ExpertLayer Cert.DenseLayer
open Idealize.ShloMosaic Idealize.ShloMosaic.TcCoe Idealize.ShloMosaic.Tactic

variable (V : (c : Dev nD) → (b : Ref sig .tc) → Buf (Elt Ideal) ((c : Thread nD τ).loc b)) (a : (pcfg0 (F := Ideal)).Adm) (c : Dev nD)

theorem tile_point (i : Fin 32) (n : ℕ) (hn : n < 14) : 14 * i.val + n < (cfg0 a).N :=
  lt_of_lt_of_eq (show 14 * i.val + n < 448 by have := i.isLt; omega) N_0.symm

/-- Point `n` of row tile `i`. -/
def tp (i : Fin 32) (n : ℕ) (hn : n < 14) : Fin (cfg0 a).N := ⟨14 * i.val + n, tile_point a i n hn⟩

theorem tp_coord0 (i : Fin 32) (n : ℕ) (hn : n < 14) : grid0.coords (tp a i n hn) 0 = i :=
  Fin.ext ((coord0 _).trans (by show (14 * i.val + n) / 14 = i.val; omega))

theorem tp_coord1 (i : Fin 32) (n : ℕ) (hn : n < 14) : (grid0.coords (tp a i n hn) 1).val = n :=
  (coord1 _).trans (by show (14 * i.val + n) % 14 = n; omega)

/-- The part of the sum that block `q` of the hidden columns gives. -/
def part (e : Fin 1) (R : Fin 32768) (k : Fin 2048) (q : ℕ) : EReal :=
  ∑ l : Fin 512, gated (normRow (xOf V c R) (gOf V c)) (fun j => wgOf V c e j (block q l)) (fun j => wuOf V c e j (block q l)) * wdOf V c e (block q l) k

/-- The rows themselves, before any part is added. -/
theorem xBlk_row (t : Fin (cfg0 a).N) (r : Fin 1024) (R : Fin 32768) (hR : R.val = 1024 * (t.val / 14) + r.val) (k : Fin 2048) :
    xBlk V a c t (ix2 r k) = xOf V c R k := by
  refine (xBlk_apply V a c t _).trans ?_
  unfold xOf
  exact congrArg (V c main_arg0) (congrArg₂ ix2 (Fin.ext hR.symm) (Fin.ext rfl))

/-- One point adds its part. -/
theorem step_apply (i : Fin 32) (n : ℕ) (hn : n < 14) (e : Fin 1) (he : (tblE a (ix1 i) : BitVec 32).toNat = e.val) (ha : (tblA a (ix1 i) : BitVec 32) = 1#32)
    (y : Vec Ideal S1024x2048 .f32) (r : Fin 1024) (R : Fin 32768) (hR : R.val = 1024 * i.val + r.val) (k : Fin 2048) :
    step V a c (tp a i n hn) y (ix2 r k) = y (ix2 r k) + part V c e R k n := by
  have hc0 := tp_coord0 a i n hn
  have hE : (eW a (grid0.coords (tp a i n hn))).toNat = e.val := by
    unfold eW expertOf; rw [hc0]; exact he
  have hS : (selW a (grid0.coords (tp a i n hn))).toNat = n := by
    unfold selW blockOf
    rw [hc0, tp_coord1, ha]
    show (BitVec.ofNat 32 n).toNat = n
    exact ofNat_toNat n (by omega)
  have hd : (tp a i n hn).val / 14 = i.val := by show (14 * i.val + n) / 14 = i.val; omega
  unfold step
  refine (pay2_apply _ _ _ _ _ r k).trans (congrArg (fun u : EReal => y (ix2 r k) + u) (Finset.sum_congr rfl fun l _ => ?_))
  refine congrArg₂ (fun u v : EReal => u * v) ?_ (wdBlk_apply V a c _ e hE n hn hS l k)
  have h1 : (fun j => hAt V a c (tp a i n hn) (ix2 r j)) = normRow (xOf V c R) (gOf V c) := funext fun j => hAt_apply V a c _ r R (by rw [hd]; exact hR) j
  have h2 : (fun j => wgBlk V a c (tp a i n hn) (ix4 0 0 j l)) = fun j => wgOf V c e j (block n l) := funext fun j => wgBlk_apply V a c _ e hE n hn hS j l
  have h3 : (fun j => wuBlk V a c (tp a i n hn) (ix4 0 0 j l)) = fun j => wuOf V c e j (block n l) := funext fun j => wuBlk_apply V a c _ e hE n hn hS j l
  exact congr (congr (congrArg gated h1) h2) h3

/-- After a tile's first point, -/
theorem acc_first (i : Fin 32) (e : Fin 1) (he : (tblE a (ix1 i) : BitVec 32).toNat = e.val) (ha : (tblA a (ix1 i) : BitVec 32) = 1#32)
    (r : Fin 1024) (R : Fin 32768) (hR : R.val = 1024 * i.val + r.val) (k : Fin 2048) (hn : 0 < 14) :
    accAt V a c (tp a i 0 hn) (ix2 r k) = xOf V c R k + part V c e R k 0 := by
  have h1 := accAt_start V a c (tp a i 0 hn) (show (14 * i.val + 0) % 14 = 0 by omega)
  have h2 := step_apply V a c i 0 hn e he ha (xBlk V a c (tp a i 0 hn)) r R hR k
  have h3 := xBlk_row V a c (tp a i 0 hn) r R (by show R.val = 1024 * ((14 * i.val + 0) / 14) + r.val; omega) k
  rw [h1, h2, h3]

/-- after a later point, -/
theorem acc_later (i : Fin 32) (e : Fin 1) (he : (tblE a (ix1 i) : BitVec 32).toNat = e.val) (ha : (tblA a (ix1 i) : BitVec 32) = 1#32)
    (r : Fin 1024) (R : Fin 32768) (hR : R.val = 1024 * i.val + r.val) (k : Fin 2048) (n : ℕ) (hn : n + 1 < 14) :
    accAt V a c (tp a i (n + 1) hn) (ix2 r k) = accAt V a c (tp a i n (Nat.lt_of_succ_lt hn)) (ix2 r k) + part V c e R k (n + 1) := by
  have h1 := accAt_next V a c (tp a i (n + 1) hn) (show (14 * i.val + (n + 1)) % 14 ≠ 0 by omega)
  rw [h1]
  exact step_apply V a c i (n + 1) hn e he ha _ r R hR k

/-- and so after point `n` the block holds the rows plus the first `n + 1` parts. -/
theorem acc_active (i : Fin 32) (e : Fin 1) (he : (tblE a (ix1 i) : BitVec 32).toNat = e.val) (ha : (tblA a (ix1 i) : BitVec 32) = 1#32)
    (r : Fin 1024) (R : Fin 32768) (hR : R.val = 1024 * i.val + r.val) (k : Fin 2048) (n : ℕ) :
    ∀ hn : n < 14, accAt V a c (tp a i n hn) (ix2 r k) = xOf V c R k + ∑ q ∈ Finset.range (n + 1), part V c e R k q := by
  induction n with
  | zero =>
    intro hn
    rw [Finset.sum_range_one]
    exact acc_first V a c i e he ha r R hR k hn
  | succ n ih =>
    intro hn
    rw [Finset.sum_range_succ _ (n + 1), acc_later V a c i e he ha r R hR k n hn, ih (Nat.lt_of_succ_lt hn)]
    exact add_assoc _ _ _

/-- A tile's rows at its last point. -/
theorem last_active (i : Fin 32) (e : Fin 1) (he : (tblE a (ix1 i) : BitVec 32).toNat = e.val) (ha : (tblA a (ix1 i) : BitVec 32) = 1#32)
    (r : Fin 1024) (R : Fin 32768) (hR : R.val = 1024 * i.val + r.val) (k : Fin 2048) :
    accAt V a c (tp a i 13 (by decide)) (ix2 r k)
      = xOf V c R k + expertRow (normRow (xOf V c R) (gOf V c)) (wgOf V c e) (wuOf V c e) (fun f => wdOf V c e f k) :=
  (acc_active V a c i e he ha r R hR k 13 (by decide)).trans (congrArg (fun u : EReal => xOf V c R k + u) (Cert.DenseLayer.sum_blocks fun f =>
    gated (normRow (xOf V c R) (gOf V c)) (fun j => wgOf V c e j f) (fun j => wuOf V c e j f) * wdOf V c e f k))

end Cert.DenseIdeal.Ffn

end
-- ==== Proof.Dense.Result.lean ====
/-
The feed-forward's output array after the run.
-/
module

public import proofs.«01_k».proof.Proof.Dense.Frame
public import proofs.«01_k».proof.Proof.Dense.Sum
public import Idealize.ShloMosaic.Lib.Pipeline.ValueKit

@[expose] public section

set_option maxRecDepth 16384

noncomputable section

namespace Cert.DenseIdeal.Ffn

open Cert.DenseIdeal Cert.DenseIdeal.Gen Cert.ExpertLayer Cert.DenseLayer
open Idealize.ShloMosaic Idealize.ShloMosaic.TcCoe Idealize.ShloMosaic.Tactic

variable (V : (c : Dev nD) → (b : Ref sig .tc) → Buf (Elt Ideal) ((c : Thread nD τ).loc b)) (m : (ℓ : Loc nD τ sig) → Buf (Elt Ideal) ℓ) (a : (pcfg0 (F := Ideal)).Adm) (c : Dev nD) (ρ : Dev nD → PrngReg)

/-- The array of output rows: each row tile's block after its last point. -/
def rows : (⟨S32768x2048, .f32⟩ : BufTy).Contents (Elt Ideal) := fun y =>
  accAt V a c (tp a ⟨(y 0).val / 1024, by have : (y 0).val < 32768 := (y 0).isLt; omega⟩ 13 (by decide))
    (ix2 ⟨(y 0).val % 1024, Nat.mod_lt _ (by decide)⟩ ⟨(y 1).val, (y 1).isLt⟩)

theorem rows_emb (t : Fin (cfg0 a).N) (h6 : t.val % 14 = 13) (y : S1024x2048.Idx) (z : S32768x2048.Idx)
    (h0 : (z 0).val = t.val / 14 * 1024 + (y 0).val) (h1 : (z 1).val = (y 1).val) : rows V a c z = accAt V a c t y := by
  have hy : (y 0).val < 1024 := (y 0).isLt
  unfold rows
  refine congrArg₂ (fun u v => accAt V a c u v) (Fin.ext ?_) (funext fun b => Fin.ext ?_)
  · show 14 * ((z 0).val / 1024) + 13 = t.val; omega
  · match b with
    | ⟨0, _⟩ => show (z 0).val % 1024 = (y 0).val; omega
    | ⟨1, _⟩ => exact h1

/-- The flushed blocks cover the output array. -/
theorem covers5 : ((cfg0 a).win 5).Covers := by
  refine ⟨show ∀ k : Fin 2, 0 < S1024x2048.size k by decide, fun β => ?_⟩
  have b0 : (β (0 : Fin 2)).val < 32 := lt_of_lt_of_eq (β (0 : Fin 2)).isLt (show (S32768x2048.size 0 + S1024x2048.size 0 - 1) / S1024x2048.size 0 = 32 by decide)
  have b1 : (β (1 : Fin 2)).val < 1 := lt_of_lt_of_eq (β (1 : Fin 2)).isLt (show (S32768x2048.size 1 + S1024x2048.size 1 - 1) / S1024x2048.size 1 = 1 by decide)
  refine ⟨tp a ⟨(β (0 : Fin 2)).val, b0⟩ 13 (by decide), (flush5 a _).2 (by show (14 * (β (0 : Fin 2)).val + 13) % 14 = 13; omega), fun k => ⟨?_, Or.inl ?_⟩⟩
  · refine (congrFun (idx5 a _) k).trans ?_
    match k with
    | ⟨0, _⟩ => show (14 * (β (0 : Fin 2)).val + 13) / 14 = (β (0 : Fin 2)).val; omega
    | ⟨1, _⟩ => show 0 = (β (1 : Fin 2)).val; omega
  · rfl

/-- After the run the output array holds each row tile's block. -/
theorem final_rows : (dat V a c).arrAt 5 (cfg0 a).N = rows V a c := by
  refine (dat V a c).arrAt_eq_of_covers 5 _ ?_ fun t hf y => ?_
  · exact covers5 a
  · have h6 := (flush5 a t).1 hf
    refine Eq.trans (b := accAt V a c t y) ?_ (rows_emb V a c t h6 y _ ?_ ?_).symm
    · refine (cast_eq _ _).trans ?_
      rw [after0_5]
    · refine Eq.trans ?_ (congrArg (fun k : ℕ => k * 1024 + (y (0 : Fin 2)).val) (congrFun (idx5 a t) 0))
      show _ * 1024 + 1 * (y (0 : Fin 2)).val = _ * 1024 + (y (0 : Fin 2)).val
      rw [one_mul]; rfl
    · refine Eq.trans ?_ ((congrArg (fun k : ℕ => k * 2048 + (y (1 : Fin 2)).val) (congrFun (idx5 a t) 1)).trans (by show 0 * 2048 + (y (1 : Fin 2)).val = (y (1 : Fin 2)).val; omega))
      show _ * 2048 + 1 * (y (1 : Fin 2)).val = _ * 2048 + (y (1 : Fin 2)).val
      rw [one_mul]; rfl

/-- The run: the output array at those rows, the arguments unchanged. -/
theorem run : θ_run defs (onTc (τ := τ) (main (F := Ideal))) ⟨m, fun _ => 0, ρ⟩ fun r => ∀ c : Dev nD,
      r.2.mem ((c.tc : Thread nD τ).loc main_v6) = rows (Ffn.V m) (adm m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r hr c => ⟨((hr c).1 5).trans (final_rows (Ffn.V m) (adm m) c), unchanged_of m r hr c⟩) (run_main m ρ)

end Cert.DenseIdeal.Ffn

end
-- ==== Proof.Dense.Equal.lean ====
/-
The dense feed-forward's reference read at an index, its frame, and the value claim: the kernel and the reference compute
the same array.
-/
module

public import proofs.«01_k».proof.Proof.Dense.Result
public import proofs.«01_k».proof.Proof.Gen.DenseReferenceIdeal.Read
public import proofs.«01_k».proof.Proof.Gen.DenseReferenceIdeal.Run
public import Idealize.ShloMosaic.Lib.IdealHost
public import Idealize.ShloMosaic.Lib.Quiescent
public import proofs.«01_k».proof.Defs

@[expose] public section

set_option maxRecDepth 16384

noncomputable section

namespace Cert.DenseReferenceIdeal.Ffn

open Cert.DenseReferenceIdeal Cert.DenseReferenceIdeal.Gen Cert.DenseReferenceIdeal.Read Cert.ExpertLayer
open Idealize.ShloMosaic Idealize.ShloMosaic.TcCoe Idealize.SL.Sem

variable (x0 : (⟨S32768x2048, .f32⟩ : BufTy).Contents (Elt Ideal)) (x1 : (⟨S1x2048, .f32⟩ : BufTy).Contents (Elt Ideal))
  (x2 x3 : (⟨S2x2048x7168, .bf16⟩ : BufTy).Contents (Elt Ideal)) (x4 : (⟨S2x7168x2048, .bf16⟩ : BufTy).Contents (Elt Ideal))

theorem zero_bits : (FloatOps.ofBits .f32 0x00000000#32 : Ideal .f32) = (0 : EReal) := Ideal.ofBits_zero _
theorem one_bits : (FloatOps.ofBits .f32 0x3F800000#32 : Ideal .f32) = (1 : EReal) := Ideal.ofBits_one_f32

/-- The normalised rows. -/
theorem norm_apply (R : Fin 32768) (k : Fin 2048) :
    val_main_v11 (F := Ideal) x0 x1 (ix2 R k) = normRow (fun j => x0 (ix2 R j)) (fun j => x1 (ix2 0 j)) k := by
  rw [val_main_v11_apply, val_main_v9_apply, val_main_v8_apply, val_main_v7_apply, val_main_v6_apply, val_main_v4_apply,
    val_main_v2_apply, val_main_v1_apply, val_main_v3_apply, val_main_v5_apply, val_main_v10_apply, val_main_cst_apply, zero_bits]
  unfold normRow
  have hs : ∑ j, val_main_v0 (F := Ideal) x0 (idx_main_v1 (idx_main_v2 (idx_main_v8 (ix2 R k))) j) = ∑ j : Fin 2048, (x0 (ix2 R j) * x0 (ix2 R j) : EReal) :=
    Finset.sum_congr rfl fun j _ => by
      have : idx_main_v1 (idx_main_v2 (idx_main_v8 (ix2 R k))) j = ix2 R j := funext fun b => Fin.ext (by match b with | ⟨0, _⟩ => rfl | ⟨1, _⟩ => rfl)
      rw [this]; rfl
  refine congrArg₂ (fun u v : EReal => u * v) (congrArg (fun u : EReal => x0 (ix2 R k) * Ideal.rsqrt (Ideal.div u (Ideal.ofBits .f32 0x45000000#32) + Ideal.ofBits .f32 0x358637BD#32)) ((zero_add _).trans hs)) ?_
  exact congrArg x1 (funext fun b => Fin.ext (by match b with | ⟨0, _⟩ => rfl | ⟨1, _⟩ => rfl))

theorem gate_weight (j : Fin 2048) (f : Fin 7168) : val_main_v14 (F := Ideal) x2 (ix2 j f) = x2 (ix3 0 j f) := by
  rw [val_main_v14_apply, val_main_v13_apply, val_main_v12_apply]
  refine congrArg x2 (funext fun b => Fin.ext ?_)
  have := j.isLt; have := f.isLt
  match b with
  | ⟨0, _⟩ => rfl
  | ⟨1, _⟩ => show (j.val * 7168 + f.val) / 7168 % 2048 = j.val; omega
  | ⟨2, _⟩ => show (j.val * 7168 + f.val) % 7168 = f.val; omega

theorem up_weight (j : Fin 2048) (f : Fin 7168) : val_main_v18 (F := Ideal) x3 (ix2 j f) = x3 (ix3 0 j f) := by
  rw [val_main_v18_apply, val_main_v17_apply, val_main_v16_apply]
  refine congrArg x3 (funext fun b => Fin.ext ?_)
  have := j.isLt; have := f.isLt
  match b with
  | ⟨0, _⟩ => rfl
  | ⟨1, _⟩ => show (j.val * 7168 + f.val) / 7168 % 2048 = j.val; omega
  | ⟨2, _⟩ => show (j.val * 7168 + f.val) % 7168 = f.val; omega

theorem down_weight (f : Fin 7168) (k : Fin 2048) : val_main_v24 (F := Ideal) x4 (ix2 f k) = x4 (ix3 0 f k) := by
  rw [val_main_v24_apply, val_main_v23_apply, val_main_v22_apply]
  refine congrArg x4 (funext fun b => Fin.ext ?_)
  have := f.isLt; have := k.isLt
  match b with
  | ⟨0, _⟩ => rfl
  | ⟨1, _⟩ => show (f.val * 2048 + k.val) / 2048 % 7168 = f.val; omega
  | ⟨2, _⟩ => show (f.val * 2048 + k.val) % 2048 = k.val; omega

/-- The gate's product, -/
theorem gate_apply (R : Fin 32768) (f : Fin 7168) : val_main_v15 (F := Ideal) x0 x1 x2 (ix2 R f)
    = ∑ j, normRow (fun j => x0 (ix2 R j)) (fun j => x1 (ix2 0 j)) j * x2 (ix3 0 j f) := by
  rw [val_main_v15_apply]
  refine Finset.sum_congr rfl fun j _ => ?_
  exact congrArg₂ (fun u v : EReal => u * v)
    ((congrArg (val_main_v11 (F := Ideal) x0 x1) (funext fun b => Fin.ext (by match b with | ⟨0, _⟩ => rfl | ⟨1, _⟩ => rfl))).trans (norm_apply x0 x1 R j))
    ((congrArg (val_main_v14 (F := Ideal) x2) (funext fun b => Fin.ext (by match b with | ⟨0, _⟩ => rfl | ⟨1, _⟩ => rfl))).trans (gate_weight x2 j f))

/-- and the other factor's. -/
theorem up_apply (R : Fin 32768) (f : Fin 7168) : val_main_v19 (F := Ideal) x0 x1 x3 (ix2 R f)
    = ∑ j, normRow (fun j => x0 (ix2 R j)) (fun j => x1 (ix2 0 j)) j * x3 (ix3 0 j f) := by
  rw [val_main_v19_apply]
  refine Finset.sum_congr rfl fun j _ => ?_
  exact congrArg₂ (fun u v : EReal => u * v)
    ((congrArg (val_main_v11 (F := Ideal) x0 x1) (funext fun b => Fin.ext (by match b with | ⟨0, _⟩ => rfl | ⟨1, _⟩ => rfl))).trans (norm_apply x0 x1 R j))
    ((congrArg (val_main_v18 (F := Ideal) x3) (funext fun b => Fin.ext (by match b with | ⟨0, _⟩ => rfl | ⟨1, _⟩ => rfl))).trans (up_weight x3 j f))

/-- One hidden column. -/
theorem hidden_apply (R : Fin 32768) (f : Fin 7168) : val_main_v21 (F := Ideal) x0 x1 x2 x3 (ix2 R f)
    = gated (normRow (fun j => x0 (ix2 R j)) (fun j => x1 (ix2 0 j))) (fun j => x2 (ix3 0 j f)) (fun j => x3 (ix3 0 j f)) := by
  rw [val_main_v21_apply, val_main_v20_apply, val_main_call0_v5_apply, val_main_call0_v3_apply, val_main_call0_v1_apply,
    val_main_call0_v0_apply, val_main_call0_v2_apply, val_main_call0_v4_apply, val_main_call0_cst_apply, val_main_call0_cst_0_apply, gate_apply, up_apply, one_bits]
  rfl

/-- The result at an entry: the row plus its feed-forward. -/
theorem result_apply (R : Fin 32768) (k : Fin 2048) : val_main_v26 (F := Ideal) x0 x1 x2 x3 x4 (ix2 R k)
    = x0 (ix2 R k) + expertRow (normRow (fun j => x0 (ix2 R j)) (fun j => x1 (ix2 0 j))) (fun j f => x2 (ix3 0 j f)) (fun j f => x3 (ix3 0 j f)) (fun f => x4 (ix3 0 f k)) := by
  rw [val_main_v26_apply, val_main_v25_apply]
  unfold expertRow
  refine congrArg (fun u : EReal => x0 (ix2 R k) + u) (Finset.sum_congr rfl fun f _ => ?_)
  exact congrArg₂ (fun u v : EReal => u * v)
    ((congrArg (val_main_v21 (F := Ideal) x0 x1 x2 x3) (funext fun b => Fin.ext (by match b with | ⟨0, _⟩ => rfl | ⟨1, _⟩ => rfl))).trans (hidden_apply x0 x1 x2 x3 R f))
    ((congrArg (val_main_v24 (F := Ideal) x4) (funext fun b => Fin.ext (by match b with | ⟨0, _⟩ => rfl | ⟨1, _⟩ => rfl))).trans (down_weight x4 f k))

/-- The reference's arguments end unchanged and every counter at zero. -/
theorem frame {F : FTy → Type} [FloatOps F] [Facts] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2, sem_eq_zero_of_no_sems (by decide) r.2⟩) (Value.run m ρ)

end Cert.DenseReferenceIdeal.Ffn

namespace Cert.DenseLayer

open Cert.ExpertLayer
open Idealize.ShloMosaic Idealize.ShloMosaic.TcCoe Idealize.SL.Sem

open Cert.DenseIdeal Cert.DenseIdeal.Ffn in
/-- The kernel's output rows at an entry: the row plus its feed-forward. -/
theorem rows_apply (m : (ℓ : Loc nD τ sig) → Buf (Elt Ideal) ℓ) (c : Dev nD) (R : Fin 32768) (k : Fin 2048) :
    rows (V m) (adm m) c (ix2 R k)
      = HAdd.hAdd (α := EReal) (β := EReal) (γ := EReal) (m ((c : Thread nD τ).loc main_arg0) (ix2 R k))
        (expertRow (normRow (fun j => m ((c : Thread nD τ).loc main_arg0) (ix2 R j)) (fun j => m ((c : Thread nD τ).loc main_arg1) (ix2 0 j)))
          (fun j f => m ((c : Thread nD τ).loc main_arg2) (ix3 0 j f)) (fun j f => m ((c : Thread nD τ).loc main_arg3) (ix3 0 j f))
          (fun f => m ((c : Thread nD τ).loc main_arg4) (ix3 0 f k))) := by
  have hi : R.val / 1024 < 32 := by have := R.isLt; omega
  have hR : R.val = 1024 * (R.val / 1024) + R.val % 1024 := by omega
  have hz : (tblE (adm m) (ix1 ⟨R.val / 1024, hi⟩) : BitVec 32) = 0#32 := tbl_zero m ⟨R.val / 1024, hi⟩
  have h0 : (tblE (adm m) (ix1 ⟨R.val / 1024, hi⟩) : BitVec 32).toNat = (0 : Fin 1).val := by rw [hz]; rfl
  have h := last_active (V m) (adm m) c ⟨R.val / 1024, hi⟩ 0 h0 (tbl_one m ⟨R.val / 1024, hi⟩) ⟨R.val % 1024, Nat.mod_lt _ (by decide)⟩ R hR k
  have e0 : ∀ j, xOf (V m) c R j = m ((c : Thread nD τ).loc main_arg0) (ix2 R j) := fun j => congrFun (V_of m main_arg0 (by decide) c) _
  have e1 : gOf (V m) c = fun j => m ((c : Thread nD τ).loc main_arg1) (ix2 0 j) := funext fun j => congrFun (V_of m main_arg1 (by decide) c) _
  have e2 : wgOf (V m) c 0 = fun j f => m ((c : Thread nD τ).loc main_arg2) (ix3 0 j f) := funext fun j => funext fun f => gate_entry m c 0 0 j f
  have e3 : wuOf (V m) c 0 = fun j f => m ((c : Thread nD τ).loc main_arg3) (ix3 0 j f) := funext fun j => funext fun f => up_entry m c 0 0 j f
  have e4 : (fun f => wdOf (V m) c 0 f k) = fun f => m ((c : Thread nD τ).loc main_arg4) (ix3 0 f k) := funext fun f => down_entry m c 0 0 f k
  refine Eq.trans ?_ (h.trans ?_)
  · rfl
  · rw [e0, funext e0, e1, e2, e3, e4]

/-- The value claim. -/
theorem algebraic : Cert.algebraic_DenseIdeal_DenseReferenceIdeal (hDenseIdeal := Cert.DenseIdeal.Gen.facts)
    (hDenseReferenceIdeal := Cert.DenseReferenceIdeal.Gen.facts) := by
  intro m g m' g' _ hagree
  refine ⟨fun c => Cert.DenseIdeal.Ffn.rows (Cert.DenseIdeal.Ffn.V m) (Cert.DenseIdeal.Ffn.adm m) c, Cert.DenseIdeal.Ffn.run m g,
    (θ_run _ _ _).mono (fun r hr c => ?_) (Cert.DenseReferenceIdeal.Value.run m' g')⟩
  obtain ⟨hv, h0, h1, h2, h3, h4⟩ := hr c
  obtain ⟨a0, a1, a2, a3, a4⟩ := hagree c
  refine ⟨?_, h0, h1, h2, h3, h4⟩
  rw [hv, Cert.DenseReferenceIdeal.Read.val_main_v26_eq, a0, a1, a2, a3, a4]
  funext z
  obtain ⟨R, k, rfl⟩ : ∃ (R : Fin 32768) (k : Fin 2048), z = ix2 R k := ⟨z 0, z 1, eq_ix2 z⟩
  exact (Cert.DenseReferenceIdeal.Ffn.result_apply _ _ _ _ _ R k).trans (rows_apply m c R k).symm

end Cert.DenseLayer

end
-- ==== Proof.Dense.Printed.lean ====
/-
  The frame of the dense feed-forward's kernel as printed: its definitions are those of the kernel over the extended reals, which its
  frame is proved for at any arithmetic.
-/
module

public import proofs.«01_k».proof.Proof.Gen.Dense
public import proofs.«01_k».proof.Proof.Gen.Dense.Launch
public import proofs.«01_k».proof.Proof.Dense.Frame

@[expose] public section

set_option maxRecDepth 16384

noncomputable section

namespace Cert.Dense.Ffn
open Idealize.ShloMosaic Idealize.ShloMosaic.TcCoe Idealize.SL.Sem

variable {F : FTy → Type} [FloatOps F]

/-- The two bodies are one function, -/
theorem body_eq : @Cert.Dense.cc0_swiglu_residual F _ Cert.Dense.Gen.facts = @Cert.DenseIdeal.cc0_swiglu_residual F _ Cert.DenseIdeal.Gen.facts := by
  unfold Cert.Dense.cc0_swiglu_residual Cert.DenseIdeal.cc0_swiglu_residual
  rfl

/-- the two tables of bodies one table, -/
theorem defs₀_eq : @Cert.Dense.defs₀ F _ Cert.Dense.Gen.facts = @Cert.DenseIdeal.defs₀ F _ Cert.DenseIdeal.Gen.facts := by
  unfold Cert.Dense.defs₀ Cert.DenseIdeal.defs₀
  refine congrArg (Defs.onTc (Λ := Cert.Dense.Λ₀)) (funext fun l => funext fun a => ?_)
  match l, a with
  | ⟨0, _⟩, (t, s) => exact congrFun (congrFun (congrFun (congrFun (congrFun (congrFun (congrFun (congrFun (congrFun (congrFun (congrFun (congrFun (congrFun (congrFun (congrFun (congrFun (congrFun (congrFun (congrFun body_eq _) _) _) _) _) _) _) _) _) _) _) _) _) _) _) _) _) _) _
  | ⟨_ + 1, h⟩, _ => exact absurd h (Nat.not_lt.2 (Nat.le_add_left _ _))

/-- and so the two programs run by the same definitions. -/
theorem defs_eq : @Cert.Dense.defs F _ Cert.Dense.Gen.facts = @Cert.DenseIdeal.defs F _ Cert.DenseIdeal.Gen.facts := by
  unfold Cert.Dense.defs Cert.DenseIdeal.defs
  rw [defs₀_eq]
  rfl

/-- The two programs are one. -/
theorem main_eq : @Cert.Dense.main F _ Cert.Dense.Gen.facts = @Cert.DenseIdeal.main F _ Cert.DenseIdeal.Gen.facts := by
  unfold Cert.Dense.main Cert.DenseIdeal.main
  rfl

variable (m : (ℓ : Loc nD τ sig) → Buf (Elt F) ℓ) (ρ : Dev nD → PrngReg)

/-- The frame: the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  have H := Cert.DenseIdeal.Ffn.frame (F := F) m ρ
  rw [← defs_eq, ← main_eq] at H
  exact H

end Cert.Dense.Ffn

end
-- ==== Proof.InProj.Blocks.lean ====
/-
  The blocks the input projection's body stores, as functions of the blocks it loads: the row tile normalised, kept in the
  scratch buffer, and its product with a block of the weight's columns.
-/
module

public import proofs.«01_k».proof.Proof.Gen.InProjIdeal.Value
public import Idealize.ShloMosaic.Lib.WholeRead
public import Idealize.ShloMosaic.Lib.VecWindow
public import Idealize.ShloMosaic.Lib.Pipeline.ReadBack
public import Idealize.ShloMosaic.Lib.Pipeline.ValueKit

@[expose] public section

set_option maxRecDepth 16384

noncomputable section

namespace Cert.InProjIdeal.Proj

open Cert.InProjIdeal Cert.InProjIdeal.Gen
open Idealize.ShloMosaic Idealize.ShloMosaic.TcCoe Idealize.ShloMosaic.Tactic

variable {F : FTy → Type} [FloatOps F]

/-- Rows `64 r` to `64 r + 63` of a row tile. -/
def rowTile (x : Vec F S1024x2048 .f32) (r : Fin 16) : Vec F S64x2048 .f32 := fun z =>
  x (ix2 ⟨64 * r.val + (z 0).val, by have := r.isLt; have : (z 0).val < 64 := (z 0).isLt; omega⟩ ⟨(z 1).val, (z 1).isLt⟩)

/-- The row tile normalised. -/
def hBlk (x0 : Vec F S1024x2048 .f32) (x1 : Vec F S1x2048 .f32) : Vec F S1024x2048 .bf16 := fun y =>
  k0_pay1 (rowTile x0 ⟨(y 0).val / 64, by have : (y 0).val < 1024 := (y 0).isLt; omega⟩) x1
    (ix2 ⟨(y 0).val % 64, Nat.mod_lt _ (by decide)⟩ ⟨(y 1).val, (y 1).isLt⟩)

theorem trips_le (k : Fin k0_t1_loop.trips) : k.val < 16 := k.isLt

theorem hBlk_emb (x0 : Vec F S1024x2048 .f32) (x1 : Vec F S1x2048 .f32) (r : Fin 16) (off : Fin 2 → ℕ)
    (hoff : off = ![64 * r.val, 0]) (inb : ∀ a, off a + S64x2048.size a ≤ S1024x2048.size a) (z : S64x2048.Idx) :
    hBlk x0 x1 ((Rect.unit (s := S1024x2048) off S64x2048.size inb).emb z) = k0_pay1 (rowTile x0 r) x1 z := by
  subst hoff
  have h0 : (z 0).val < 64 := (z 0).isLt
  have e0 : (((Rect.unit (s := S1024x2048) ![64 * r.val, 0] S64x2048.size inb).emb z) 0).val = 64 * r.val + (z 0).val := by
    show 64 * r.val + 1 * (z 0).val = _; omega
  have e1 : (((Rect.unit (s := S1024x2048) ![64 * r.val, 0] S64x2048.size inb).emb z) 1).val = (z 1).val := by
    show 0 + 1 * (z 1).val = _; omega
  have a0 : (64 * r.val + (z 0).val) / 64 = r.val := by omega
  have b0 : (64 * r.val + (z 0).val) % 64 = (z 0).val := by omega
  unfold hBlk
  have hr : (⟨(((Rect.unit (s := S1024x2048) ![64 * r.val, 0] S64x2048.size inb).emb z) 0).val / 64, by rw [e0, a0]; exact r.isLt⟩ : Fin 16) = r :=
    Fin.ext (by show (((Rect.unit (s := S1024x2048) ![64 * r.val, 0] S64x2048.size inb).emb z) 0).val / 64 = r.val; rw [e0, a0])
  rw [hr]
  congr 1
  funext a
  refine Fin.ext ?_
  fin_cases a
  · show (((Rect.unit (s := S1024x2048) ![64 * r.val, 0] S64x2048.size inb).emb z) 0).val % 64 = (z 0).val; rw [e0, b0]
  · exact e1

theorem rowTile_read {arg : Memref sig .tc .vmem S1024x2048 .f32} (harg : arg.IsWhole) (x : Vec F S1024x2048 .f32)
    (r : Fin 16) (off : Fin 2 → ℕ) (hoff : off = ![64 * r.val, 0]) (inb : ∀ a, off a + S64x2048.size a ≤ S1024x2048.size a) :
    View.readAt (Elt F) arg.view (Rect.unit (s := S1024x2048) off S64x2048.size inb).toLoadRect (harg.unread x) = rowTile x r := by
  subst hoff
  funext z
  rw [harg.readAt_unread]
  unfold rowTile
  congr 1
  funext a
  refine Fin.ext ?_
  fin_cases a
  · show 64 * r.val + 1 * (z 0).val = 64 * r.val + (z 0).val; omega
  · show 0 + 1 * (z 1).val = (z 1).val; omega

/-- A load of a whole block is the block. -/
theorem full_read {sp : Space} {s : Shape} {e : EltTy} {arg : Memref sig .tc sp s e} (harg : arg.IsWhole) (x : Vec F s e)
    (off : Fin s.rank → ℕ) (inb : ∀ a, off a + s.size a ≤ s.size a) :
    View.readAt (Elt F) arg.view (Rect.unit (s := s) off s.size inb).toLoadRect (harg.unread x) = x := by
  rw [View.readAt_full, harg.read_unread]

theorem mem_rows (off : Fin 2 → ℕ) (r : Fin 16) (hoff : off = ![64 * r.val, 0])
    (inb : ∀ a, off a + S64x2048.size a ≤ S1024x2048.size a) (y : S1024x2048.Idx) (h0 : (y 0).val / 64 = r.val) :
    y ∈ (Rect.unit (s := S1024x2048) off S64x2048.size inb).set := by
  subst hoff
  rw [Rect.mem_set_unit]
  intro a
  fin_cases a
  · show 64 * r.val ≤ (y 0).val ∧ (y 0).val < 64 * r.val + 64; omega
  · have : (y 1).val < 2048 := (y 1).isLt
    show 0 ≤ (y 1).val ∧ (y 1).val < 0 + 2048; omega

theorem pay2_congr {a a' : Vec F S1024x2048 .bf16} {b b' : Vec F S1x2048x2304 .bf16} (h1 : a = a') (h2 : b = b') :
    k0_pay2 a b = k0_pay2 a' b' := by
  subst h1 h2; rfl

theorem pay1_congr {a a' : Vec F S64x2048 .f32} {b b' : Vec F S1x2048 .f32} (h1 : a = a') (h2 : b = b') :
    k0_pay1 a b = k0_pay1 a' b' := by
  subst h1 h2; rfl

variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x2304 .bf16) (harg4 : arg4.IsWhole) (arg5 : Memref sig .tc .vmem S1024x2304 .bf16) (harg5 : arg5.IsWhole) (arg6 : Memref sig .tc .vmem S1024x2048 .bf16) (harg6 : arg6.IsWhole)
    (x0 : Vec F S1024x2048 .f32) (x1 : Vec F S1x2048 .f32) (x2 : Vec F S1x2048x2304 .bf16)

/-- The rows one trip stores are the normalised rows. -/
theorem row_pieces (hs : cond0_0 i) (k : Fin k0_t1_loop.trips) :
    View.PiecesOf (hBlk x0 x1) (tripL_k0_t1 (F := F) Variants.none c none i arg2 harg2 arg3 harg3 arg4 harg4 arg5 harg5 arg6 harg6 hs (harg2.unread x0) (harg3.unread x1) k) := by
  unfold tripL_k0_t1 trip_k0_t1; dsimp only
  refine ⟨?_, trivial⟩
  intro z
  refine Eq.trans ?_ (hBlk_emb x0 x1 ⟨k.val, trips_le k⟩ _ (k0_off1_eq k) (k0_off1_inb i k hs) z).symm
  refine congrFun (pay1_congr ?_ ?_) z
  · exact rowTile_read harg2 x0 ⟨k.val, trips_le k⟩ _ (k0_off1_eq k) (k0_off1_inb i k hs)
  · exact full_read harg3 x1 _ _

/-- The rows one trip stores are its own. -/
theorem row_cover (hs : cond0_0 i) (k : Fin k0_t1_loop.trips) (y : S1024x2048.Idx) (hy : (y 0).val / 64 = k.val) :
    ∃ p ∈ tripL_k0_t1 (F := F) Variants.none c none i arg2 harg2 arg3 harg3 arg4 harg4 arg5 harg5 arg6 harg6 hs (harg2.unread x0) (harg3.unread x1) k, y ∈ p.1.set := by
  unfold tripL_k0_t1 trip_k0_t1; dsimp only
  exact ⟨_, List.mem_cons_self, mem_rows _ ⟨k.val, trips_le k⟩ (k0_off1_eq k) (k0_off1_inb i k hs) y hy⟩

theorem row_pb (hs : cond0_0 i) : ∀ n : ℕ, n ≤ 16 →
    (∀ p ∈ pb_k0_t1 (F := F) Variants.none c none i arg2 harg2 arg3 harg3 arg4 harg4 arg5 harg5 arg6 harg6 hs (harg2.unread x0) (harg3.unread x1) n, ∀ x : p.1.shape.Idx, p.2 x = hBlk x0 x1 (p.1.emb x))
      ∧ ∀ y : S1024x2048.Idx, (y 0).val < 64 * n → ∃ p ∈ pb_k0_t1 (F := F) Variants.none c none i arg2 harg2 arg3 harg3 arg4 harg4 arg5 harg5 arg6 harg6 hs (harg2.unread x0) (harg3.unread x1) n, y ∈ p.1.set
  | 0, _ => ⟨fun p hp => absurd hp (by rw [pb_k0_t1.eq_1]; exact List.not_mem_nil), fun y hy => absurd hy (by omega)⟩
  | n + 1, hn => by
    obtain ⟨ih, ihc⟩ := row_pb hs n (by omega)
    have e := pb_k0_t1_succ (F := F) Variants.none c none i arg2 harg2 arg3 harg3 arg4 harg4 arg5 harg5 arg6 harg6 hs (harg2.unread x0) (harg3.unread x1) ⟨n, hn⟩
    rw [show n + 1 = (⟨n, hn⟩ : Fin k0_t1_loop.trips).val + 1 from rfl, e]
    refine ⟨fun p hp x => ?_, fun y hy => ?_⟩
    · rcases List.mem_append.mp hp with hp | hp
      · exact View.PiecesOf.mem (row_pieces c i arg2 harg2 arg3 harg3 arg4 harg4 arg5 harg5 arg6 harg6 x0 x1 hs ⟨n, hn⟩) p hp x
      · exact ih p hp x
    · by_cases h : (y 0).val < 64 * n
      · obtain ⟨p, hp, hm⟩ := ihc y h
        exact ⟨p, List.mem_append_right _ hp, hm⟩
      · obtain ⟨p, hp, hm⟩ := row_cover c i arg2 harg2 arg3 harg3 arg4 harg4 arg5 harg5 arg6 harg6 x0 x1 hs ⟨n, hn⟩ y (by
          have hy' : (y 0).val < 64 * (n + 1) := hy
          show (y 0).val / 64 = n; omega)
        exact ⟨p, List.mem_append_left _ hp, hm⟩

theorem row_all (hs : cond0_0 i) (y : S1024x2048.Idx) :
    ∃ p ∈ pb_k0_t1 (F := F) Variants.none c none i arg2 harg2 arg3 harg3 arg4 harg4 arg5 harg5 arg6 harg6 hs (harg2.unread x0) (harg3.unread x1) (Scf.trips k0_t1_loop.lb k0_t1_loop.ub k0_t1_loop.st), y ∈ p.1.set :=
  (row_pb c i arg2 harg2 arg3 harg3 arg4 harg4 arg5 harg5 arg6 harg6 x0 x1 hs 16 le_rfl).2 y (by have : (y 0).val < 1024 := (y 0).isLt; omega)

theorem row_canon (hs : cond0_0 i) : View.canon (pb_k0_t1 (F := F) Variants.none c none i arg2 harg2 arg3 harg3 arg4 harg4 arg5 harg5 arg6 harg6 hs (harg2.unread x0) (harg3.unread x1) (Scf.trips k0_t1_loop.lb k0_t1_loop.ub k0_t1_loop.st)) = hBlk x0 x1 := by
  funext y
  exact View.canon_apply_of_pieces _ _ (row_pb c i arg2 harg2 arg3 harg3 arg4 harg4 arg5 harg5 arg6 harg6 x0 x1 hs 16 le_rfl).1 y (row_all c i arg2 harg2 arg3 harg3 arg4 harg4 arg5 harg5 arg6 harg6 x0 x1 hs y)

/-- The scratch buffer after the loop, loaded whole: the normalised rows. -/
theorem row_readCov (hs : cond0_0 i) (inb : ∀ a, ![0, 0] a + S1024x2048.size a ≤ S1024x2048.size a) :
    arg6.view.readCov (pb_k0_t1 (F := F) Variants.none c none i arg2 harg2 arg3 harg3 arg4 harg4 arg5 harg5 arg6 harg6 hs (harg2.unread x0) (harg3.unread x1) (Scf.trips k0_t1_loop.lb k0_t1_loop.ub k0_t1_loop.st))
      (Rect.unit (s := S1024x2048) ![0, 0] S1024x2048.size inb).toLoadRect = hBlk x0 x1 := by
  rw [View.readCov_eq_canon', row_canon]
  funext z
  congr 1
  funext a
  refine Fin.ext ?_
  fin_cases a
  · show 0 + 1 * (z 0).val = (z 0).val; omega
  · show 0 + 1 * (z 1).val = (z 1).val; omega

/-- A row tile's first point leaves the normalised rows in the scratch buffer, -/
theorem scratch_first (hs : cond0_0 i) : sout0_A_0 c i arg2 harg2 arg3 harg3 arg4 harg4 arg5 harg5 arg6 harg6 hs x0 x1 x2 = hBlk x0 x1 :=
  (View.read_writes_eq_canon _ _ _ (row_all c i arg2 harg2 arg3 harg3 arg4 harg4 arg5 harg5 arg6 harg6 x0 x1 hs)).trans (row_canon c i arg2 harg2 arg3 harg3 arg4 harg4 arg5 harg5 arg6 harg6 x0 x1 hs)

/-- and their product in the output block. -/
theorem out_first (hs : cond0_0 i) : out0_A_3 c i arg2 harg2 arg3 harg3 arg4 harg4 arg5 harg5 arg6 harg6 hs x0 x1 x2 = k0_pay2 (hBlk x0 x1) x2 := by
  refine (View.read_writes_full _ _ _ _ _).trans ?_
  exact pay2_congr (row_readCov c i arg2 harg2 arg3 harg3 arg4 harg4 arg5 harg5 arg6 harg6 x0 x1 hs _) (full_read harg4 x2 _ _)

/-- A later point leaves the product of what the scratch buffer holds. -/
theorem out_next (hs : ¬cond0_0 i) (h : Vec F S1024x2048 .bf16) : out0_B_3 c i arg2 harg2 arg3 harg3 arg4 harg4 arg5 harg5 arg6 harg6 hs x0 x1 x2 h = k0_pay2 h x2 := by
  refine (View.read_writes_full _ _ _ _ _).trans ?_
  exact pay2_congr (full_read harg6 h _ _) (full_read harg4 x2 _ _)

end Cert.InProjIdeal.Proj

end
-- ==== Proof.InProj.Result.lean ====
/-
  The input projection's output array after the run: each row normalised and scaled, times the weight.
-/
module

public import proofs.«01_k».proof.Proof.InProj.Blocks
public import proofs.«01_k».proof.Proof.Experts.Spec
public import Idealize.ShloMosaic.Lib.Pointwise

@[expose] public section

set_option maxRecDepth 16384

noncomputable section

namespace Cert.InProjIdeal.Proj

open Cert.InProjIdeal Cert.InProjIdeal.Gen Cert.ExpertLayer
open Idealize.ShloMosaic Idealize.ShloMosaic.TcCoe Idealize.ShloMosaic.Tactic

/-- A row of a row tile, normalised. -/
theorem pay1_apply (x : Vec Ideal S64x2048 .f32) (g : Vec Ideal S1x2048 .f32) (r : Fin 64) (k : Fin 2048) :
    k0_pay1 (F := Ideal) x g (ix2 r k) = normRow (fun j => x (ix2 r j)) (fun j => g (ix2 0 j)) k := by
  pointwise [k0_pay1]
  rfl

/-- The product with a block of the weight's columns. -/
theorem pay2_apply (h : Vec Ideal S1024x2048 .bf16) (w : Vec Ideal S1x2048x2304 .bf16) (r : Fin 1024) (k : Fin 2304) :
    k0_pay2 (F := Ideal) h w (ix2 r k) = ∑ j : Fin 2048, h (ix2 r j) * w (ix3 0 j k) := by
  pointwise [k0_pay2]

variable (m : (ℓ : Loc nD τ sig) → Buf (Elt Ideal) ℓ) (c : Dev nD)

theorem point_lt (t : Fin cfg0.N) : t.val < 128 := lt_of_lt_of_eq t.isLt N_0

/-- The rows of point `t`'s row tile, -/
abbrev xBlk (t : Fin cfg0.N) : Vec Ideal S1024x2048 .f32 := iblk m c 0 t
/-- the scale, -/
abbrev gBlk (t : Fin cfg0.N) : Vec Ideal S1x2048 .f32 := iblk m c 1 t
/-- and the weight's columns. -/
abbrev wBlk (t : Fin cfg0.N) : Vec Ideal S1x2048x2304 .bf16 := iblk m c 2 t

theorem idx0 : ∀ t : Fin cfg0.N, win0_0.index t = ![t.val / 4, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0, t.val % 4] := (by decide +kernel : ∀ t : Fin grid0.N, _)

theorem xBlk_apply (t : Fin cfg0.N) (r : Fin 1024) (j : Fin 2048) :
    xBlk m c t (ix2 r j) = m ((c : Thread nD τ).loc main_arg0) (ix2 ⟨1024 * (t.val / 4) + r.val, by have := point_lt t; have := r.isLt; omega⟩ j) := by
  unfold xBlk
  blk_ext [iblk, idx0]

theorem gBlk_apply (t : Fin cfg0.N) (j : Fin 2048) : gBlk m c t (ix2 0 j) = m ((c : Thread nD τ).loc main_arg1) (ix2 0 j) := by
  unfold gBlk
  blk_ext [iblk, idx1]

theorem wBlk_apply (t : Fin cfg0.N) (j : Fin 2048) (k : Fin 2304) :
    wBlk m c t (ix3 0 j k) = m ((c : Thread nD τ).loc main_arg2) (ix3 0 j ⟨2304 * (t.val % 4) + k.val, by have := k.isLt; omega⟩) := by
  unfold wBlk
  blk_ext [iblk, idx2]

/-- Row `R` of the array of rows, normalised and scaled. -/
def rowOf (R : Fin 32768) : Fin 2048 → EReal :=
  normRow (fun j => m ((c : Thread nD τ).loc main_arg0) (ix2 R j)) (fun j => m ((c : Thread nD τ).loc main_arg1) (ix2 0 j))

/-- A row of a row tile's normalised rows. -/
theorem hBlk_apply (t : Fin cfg0.N) (r : Fin 1024) (R : Fin 32768) (hR : R.val = 1024 * (t.val / 4) + r.val) (k : Fin 2048) :
    hBlk (xBlk m c t) (gBlk m c t) (ix2 r k) = rowOf m c R k := by
  unfold hBlk rowOf
  refine (pay1_apply _ _ _ _).trans ?_
  refine congrArg₂ (fun u v => normRow u v k) (funext fun j => ?_) (funext fun j => gBlk_apply m c t j)
  refine (xBlk_apply m c t _ _).trans ?_
  refine congrArg (m ((c : Thread nD τ).loc main_arg0)) (congrArg₂ ix2 (Fin.ext ?_) (Fin.ext rfl))
  show 1024 * (t.val / 4) + (64 * (r.val / 64) + r.val % 64) = R.val; omega

/-- The scratch buffer after each point: the normalised rows of the point's row tile. -/
theorem scratch_apply : ∀ (n : ℕ) (hn : n < cfg0.N) (r : Fin 1024) (R : Fin 32768) (_ : R.val = 1024 * (n / 4) + r.val) (k : Fin 2048),
    (outsAt0 m c n hn).2 (ix2 r k) = rowOf m c R k := by
  intro n
  induction n with
  | zero =>
    intro hn r R hR k
    rw [outsAt0_A m c ⟨0, hn⟩ rfl]
    exact (congrFun (scratch_first c _ _ _ _ _ _ _ _ _ _ _ _ _ _ _) _).trans (hBlk_apply m c ⟨0, hn⟩ r R hR k)
  | succ n ih =>
    intro hn r R hR k
    by_cases h0 : (n + 1) % 4 = 0
    · rw [outsAt0_A m c ⟨n + 1, hn⟩ h0]
      exact (congrFun (scratch_first c _ _ _ _ _ _ _ _ _ _ _ _ _ _ _) _).trans (hBlk_apply m c ⟨n + 1, hn⟩ r R hR k)
    · rw [outsAt0_B m c ⟨n + 1, hn⟩ h0]
      exact ih (Nat.lt_of_succ_lt hn) r R (by omega) k

/-- A row tile's first output block, -/
theorem out_eq_first (n : ℕ) (hn : n < cfg0.N) (h0 : n % 4 = 0) :
    (outsAt0 m c n hn).1 = k0_pay2 (hBlk (xBlk m c ⟨n, hn⟩) (gBlk m c ⟨n, hn⟩)) (wBlk m c ⟨n, hn⟩) := by
  rw [outsAt0_A m c ⟨n, hn⟩ h0]
  dsimp only
  refine (out_first c _ _ _ _ _ _ _ _ _ _ _ _ _ _ _).trans ?_
  rfl

/-- and a later one. -/
theorem out_eq_next (n : ℕ) (hn : n + 1 < cfg0.N) (h0 : (n + 1) % 4 ≠ 0) :
    (outsAt0 m c (n + 1) hn).1 = k0_pay2 (outsAt0 m c n (Nat.lt_of_succ_lt hn)).2 (wBlk m c ⟨n + 1, hn⟩) := by
  rw [outsAt0_B m c ⟨n + 1, hn⟩ h0]
  dsimp only
  refine (out_next c _ _ _ _ _ _ _ _ _ _ _ _ _ _ _ _).trans ?_
  rfl

/-- The output block after each point. -/
theorem out_apply (n : ℕ) (hn : n < cfg0.N) (r : Fin 1024) (R : Fin 32768) (hR : R.val = 1024 * (n / 4) + r.val)
    (k : Fin 2304) (K : Fin 9216) (hK : K.val = 2304 * (n % 4) + k.val) :
    (outsAt0 m c n hn).1 (ix2 r k) = ∑ j : Fin 2048, rowOf m c R j * m ((c : Thread nD τ).loc main_arg2) (ix3 0 j K) := by
  have hw : ∀ j : Fin 2048, wBlk m c ⟨n, hn⟩ (ix3 0 j k) = m ((c : Thread nD τ).loc main_arg2) (ix3 0 j K) := fun j =>
    (wBlk_apply m c ⟨n, hn⟩ j k).trans (congrArg (fun q => m ((c : Thread nD τ).loc main_arg2) (ix3 0 j q)) (Fin.ext hK.symm))
  by_cases h0 : n % 4 = 0
  · rw [out_eq_first m c n hn h0, pay2_apply]
    exact Finset.sum_congr rfl fun j _ => congrArg₂ (fun u v : EReal => u * v) (hBlk_apply m c ⟨n, hn⟩ r R hR j) (hw j)
  · obtain ⟨n, rfl⟩ : ∃ p, n = p + 1 := ⟨n - 1, by omega⟩
    rw [out_eq_next m c n hn h0, pay2_apply]
    exact Finset.sum_congr rfl fun j _ => congrArg₂ (fun u v : EReal => u * v) (scratch_apply m c n _ r R (by omega) j) (hw j)

/-- The output array after the run, at an entry. -/
theorem result_apply (R : Fin 32768) (K : Fin 9216) :
    Value.G3 m c (ix2 R K) = ∑ j : Fin 2048, rowOf m c R j * m ((c : Thread nD τ).loc main_arg2) (ix3 0 j K) := by
  have hR := R.isLt
  have hK := K.isLt
  have hp : Value.pt3Of (ix2 R K) < cfg0.N := by
    refine lt_of_lt_of_eq ?_ N_0.symm
    show 4 * (R.val / 1024 - 0) + 1 * (K.val / 2304 - 0) < 128
    omega
  unfold Value.G3
  rw [dif_pos hp]
  refine (congrFun (congrArg Prod.fst (Value.outsAt0_sweep m c _ hp).symm) _).trans ?_
  have e : Value.loc3Of (ix2 R K) = ix2 ⟨R.val % 1024, Nat.mod_lt _ (by decide)⟩ ⟨K.val % 2304, Nat.mod_lt _ (by decide)⟩ :=
    funext fun a => Fin.ext (by match a with | ⟨0, _⟩ => rfl | ⟨1, _⟩ => rfl)
  rw [e]
  refine out_apply m c _ hp _ R ?_ _ K ?_
  · show R.val = 1024 * ((4 * (R.val / 1024 - 0) + 1 * (K.val / 2304 - 0)) / 4) + R.val % 1024; omega
  · show K.val = 2304 * ((4 * (R.val / 1024 - 0) + 1 * (K.val / 2304 - 0)) % 4) + K.val % 2304; omega

end Cert.InProjIdeal.Proj

end
-- ==== Proof.InProj.Equal.lean ====
/-
  The input projection and its reference compute the same array; the value claim, and the frame of the reference.
-/
module

public import proofs.«01_k».proof.Proof.InProj.Result
public import proofs.«01_k».proof.Proof.Gen.InProjReferenceIdeal.Read
public import proofs.«01_k».proof.Proof.Gen.InProjReferenceIdeal.Run
public import Idealize.ShloMosaic.Lib.IdealHost
public import Idealize.ShloMosaic.Lib.Quiescent
public import proofs.«01_k».proof.Defs

@[expose] public section

set_option maxRecDepth 16384

noncomputable section

namespace Cert.InProjReferenceIdeal.Proj

open Cert.InProjReferenceIdeal Cert.InProjReferenceIdeal.Gen Cert.InProjReferenceIdeal.Read Cert.ExpertLayer
open Idealize.ShloMosaic Idealize.ShloMosaic.TcCoe Idealize.SL.Sem

variable (x0 : (⟨S32768x2048, .f32⟩ : BufTy).Contents (Elt Ideal)) (x1 : (⟨S1x2048, .f32⟩ : BufTy).Contents (Elt Ideal))
  (x2 : (⟨S4x2048x9216, .bf16⟩ : BufTy).Contents (Elt Ideal))

theorem zero_bits : (FloatOps.ofBits .f32 0x00000000#32 : Ideal .f32) = (0 : EReal) := Ideal.ofBits_zero _

/-- The normalised rows. -/
theorem norm_apply (R : Fin 32768) (k : Fin 2048) :
    val_main_v11 (F := Ideal) x0 x1 (ix2 R k) = normRow (fun j => x0 (ix2 R j)) (fun j => x1 (ix2 0 j)) k := by
  rw [val_main_v11_apply, val_main_v9_apply, val_main_v8_apply, val_main_v7_apply, val_main_v6_apply, val_main_v4_apply,
    val_main_v2_apply, val_main_v1_apply, val_main_v3_apply, val_main_v5_apply, val_main_v10_apply, val_main_cst_apply, zero_bits]
  unfold normRow
  have hs : ∑ j, val_main_v0 (F := Ideal) x0 (idx_main_v1 (idx_main_v2 (idx_main_v8 (ix2 R k))) j) = ∑ j : Fin 2048, (x0 (ix2 R j) * x0 (ix2 R j) : EReal) :=
    Finset.sum_congr rfl fun j _ => by
      have : idx_main_v1 (idx_main_v2 (idx_main_v8 (ix2 R k))) j = ix2 R j := funext fun b => Fin.ext (by match b with | ⟨0, _⟩ => rfl | ⟨1, _⟩ => rfl)
      rw [this]; rfl
  refine congrArg₂ (fun u v : EReal => u * v) (congrArg (fun u : EReal => x0 (ix2 R k) * Ideal.rsqrt (Ideal.div u (Ideal.ofBits .f32 0x45000000#32) + Ideal.ofBits .f32 0x358637BD#32)) ((zero_add _).trans hs)) ?_
  exact congrArg x1 (funext fun b => Fin.ext (by match b with | ⟨0, _⟩ => rfl | ⟨1, _⟩ => rfl))

theorem weight_apply (j : Fin 2048) (K : Fin 9216) : val_main_v14 (F := Ideal) x2 (ix2 j K) = x2 (ix3 0 j K) := by
  rw [val_main_v14_apply, val_main_v13_apply, val_main_v12_apply]
  refine congrArg x2 (funext fun b => Fin.ext ?_)
  have := j.isLt; have := K.isLt
  match b with
  | ⟨0, _⟩ => rfl
  | ⟨1, _⟩ => show (j.val * 9216 + K.val) / 9216 % 2048 = j.val; omega
  | ⟨2, _⟩ => show (j.val * 9216 + K.val) % 9216 = K.val; omega

/-- The reference's result at an entry. -/
theorem result_apply (R : Fin 32768) (K : Fin 9216) : val_main_v16 (F := Ideal) x0 x1 x2 (ix2 R K)
    = ∑ j : Fin 2048, normRow (fun j => x0 (ix2 R j)) (fun j => x1 (ix2 0 j)) j * x2 (ix3 0 j K) := by
  rw [val_main_v16_apply]
  refine (val_main_v15_apply x0 x1 x2 (ix2 R K)).trans (Finset.sum_congr rfl fun j _ => ?_)
  exact congrArg₂ (fun u v : EReal => u * v)
    ((congrArg (val_main_v11 (F := Ideal) x0 x1) (funext fun b => Fin.ext (by match b with | ⟨0, _⟩ => rfl | ⟨1, _⟩ => rfl))).trans (norm_apply x0 x1 R j))
    ((congrArg (val_main_v14 (F := Ideal) x2) (funext fun b => Fin.ext (by match b with | ⟨0, _⟩ => rfl | ⟨1, _⟩ => rfl))).trans (weight_apply x2 j K))

/-- The reference's arguments end unchanged and every counter at zero. -/
theorem frame {F : FTy → Type} [FloatOps F] [Facts] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by decide) r.2⟩) (Value.run m ρ)

end Cert.InProjReferenceIdeal.Proj

namespace Cert.InputProjection

open Idealize.ShloMosaic Idealize.ShloMosaic.TcCoe Idealize.SL.Sem

/-- The value claim. -/
theorem algebraic : Cert.algebraic_InProjIdeal_InProjReferenceIdeal (hInProjIdeal := Cert.InProjIdeal.Gen.facts)
    (hInProjReferenceIdeal := Cert.InProjReferenceIdeal.Gen.facts) := by
  intro m g m' g' _ hagree
  refine ⟨fun c => Cert.InProjIdeal.Value.G3 m c, Cert.InProjIdeal.Value.run m g,
    (θ_run _ _ _).mono (fun r hr c => ?_) (Cert.InProjReferenceIdeal.Value.run m' g')⟩
  obtain ⟨hv, h0, h1, h2⟩ := hr c
  obtain ⟨a0, a1, a2⟩ := hagree c
  refine ⟨?_, h0, h1, h2⟩
  rw [hv, Cert.InProjReferenceIdeal.Read.val_main_v16_eq, a0, a1, a2]
  funext z
  obtain ⟨R, K, rfl⟩ : ∃ (R : Fin 32768) (K : Fin 9216), z = ix2 R K := ⟨z 0, z 1, eq_ix2 z⟩
  exact (Cert.InProjReferenceIdeal.Proj.result_apply _ _ _ R K).trans (Cert.InProjIdeal.Proj.result_apply m c R K).symm

end Cert.InputProjection

end
-- ==== Proof.Merge.Blocks.lean ====
/-
  The blocks the merge and output projection's body stores, as functions of the blocks it loads: the gated sum of the two
  branches, kept in the scratch buffer, and the residual plus its product with the output weight.
-/
module

public import proofs.«01_k».proof.Proof.Gen.MergeIdeal.Value
public import Idealize.ShloMosaic.Lib.WholeRead
public import Idealize.ShloMosaic.Lib.VecWindow
public import Idealize.ShloMosaic.Lib.Pipeline.ReadBack
public import Idealize.ShloMosaic.Lib.Pipeline.ValueKit
public import Idealize.ShloMosaic.Lib.Pointwise

@[expose] public section

set_option maxRecDepth 16384

noncomputable section

namespace Cert.MergeLayer

open Idealize.ShloMosaic

/-- An entry of the gated sum: each branch's row times a column of its weight, under the logistic of its gate. -/
def mix (ga gc : EReal) (a wa c wc : Fin 1024 → EReal) : EReal :=
  Ideal.logistic ga * (∑ j, a j * wa j) + Ideal.logistic gc * (∑ j, c j * wc j)

end Cert.MergeLayer

namespace Cert.MergeIdeal.Proj

open Cert.MergeIdeal Cert.MergeIdeal.Gen Cert.MergeLayer
open Idealize.ShloMosaic Idealize.ShloMosaic.TcCoe Idealize.ShloMosaic.Tactic

theorem pay4_apply (a : Vec Ideal S512x1024 .bf16) (wa : Vec Ideal S1x1024x512 .bf16) (c : Vec Ideal S512x1024 .bf16) (wc : Vec Ideal S1x1024x512 .bf16)
    (ga gc : Vec Ideal S512x512 .bf16) (r k : Fin 512) :
    k0_pay4 (F := Ideal) a wa c wc ga gc (ix2 r k) = mix (ga (ix2 r k)) (gc (ix2 r k)) (fun j => a (ix2 r j)) (fun j => wa (ix3 0 j k)) (fun j => c (ix2 r j)) (fun j => wc (ix3 0 j k)) := by
  pointwise [k0_pay4]
  rfl

theorem pay8_apply (a : Vec Ideal S512x1024 .bf16) (wa : Vec Ideal S1x1024x512 .bf16) (c : Vec Ideal S512x1024 .bf16) (wc : Vec Ideal S1x1024x512 .bf16)
    (ga gc : Vec Ideal S512x512 .bf16) (r k : Fin 512) :
    k0_pay8 (F := Ideal) a wa c wc ga gc (ix2 r k) = mix (ga (ix2 r k)) (gc (ix2 r k)) (fun j => a (ix2 r j)) (fun j => wa (ix3 0 j k)) (fun j => c (ix2 r j)) (fun j => wc (ix3 0 j k)) := by
  pointwise [k0_pay8]
  rfl

theorem pay9_apply (a : Vec Ideal S512x1024 .bf16) (wa : Vec Ideal S1x1024x512 .bf16) (c : Vec Ideal S512x1024 .bf16) (wc : Vec Ideal S1x1024x512 .bf16)
    (ga gc : Vec Ideal S512x512 .bf16) (r k : Fin 512) :
    k0_pay9 (F := Ideal) a wa c wc ga gc (ix2 r k) = mix (ga (ix2 r k)) (gc (ix2 r k)) (fun j => a (ix2 r j)) (fun j => wa (ix3 0 j k)) (fun j => c (ix2 r j)) (fun j => wc (ix3 0 j k)) := by
  pointwise [k0_pay9]
  rfl

theorem pay7_apply (a : Vec Ideal S512x1024 .bf16) (wa : Vec Ideal S1x1024x512 .bf16) (c : Vec Ideal S512x1024 .bf16) (wc : Vec Ideal S1x1024x512 .bf16)
    (ga gc : Vec Ideal S512x512 .bf16) (r k : Fin 512) :
    k0_pay7 (F := Ideal) (k0_pay5 a wa) c (k0_pay6 wc) (constant S512x512 .f32 0x00000000#32) ga gc (ix2 r k) = mix (ga (ix2 r k)) (gc (ix2 r k)) (fun j => a (ix2 r j)) (fun j => wa (ix3 0 j k)) (fun j => c (ix2 r j)) (fun j => wc (ix3 0 j k)) := by
  pointwise [k0_pay7, k0_pay5, k0_pay6]
  rfl

theorem pay10_apply (x : Vec Ideal S512x512 .f32) (h : Vec Ideal S512x2048 .bf16) (w : Vec Ideal S1x2048x512 .bf16) (r k : Fin 512) :
    k0_pay10 (F := Ideal) x h w (ix2 r k) = x (ix2 r k) + ∑ j : Fin 2048, h (ix2 r j) * w (ix3 0 j k) := by
  pointwise [k0_pay10]

theorem pay1_apply (x : Vec Ideal S512x512 .f32) (h : Vec Ideal S512x2048 .bf16) (w : Vec Ideal S1x2048x512 .bf16) (r k : Fin 512) :
    k0_pay1 (F := Ideal) x h w (ix2 r k) = x (ix2 r k) + ∑ j : Fin 2048, h (ix2 r j) * w (ix3 0 j k) := by
  pointwise [k0_pay1]

theorem pay2_apply (x : Vec Ideal S512x512 .f32) (h : Vec Ideal S512x2048 .bf16) (w : Vec Ideal S1x2048x512 .bf16) (r k : Fin 512) :
    k0_pay2 (F := Ideal) x h w (ix2 r k) = x (ix2 r k) + ∑ j : Fin 2048, h (ix2 r j) * w (ix3 0 j k) := by
  pointwise [k0_pay2]

theorem pay3_apply (x : Vec Ideal S512x512 .f32) (h : Vec Ideal S512x2048 .bf16) (w : Vec Ideal S1x2048x512 .bf16) (r k : Fin 512) :
    k0_pay3 (F := Ideal) x h w (ix2 r k) = x (ix2 r k) + ∑ j : Fin 2048, h (ix2 r j) * w (ix3 0 j k) := by
  pointwise [k0_pay3]

/-- A load of a whole block is the block. -/
theorem full_read {sp : Space} {s : Shape} {e : EltTy} {arg : Memref sig .tc sp s e} (harg : arg.IsWhole) (x : Vec Ideal s e)
    (off : Fin s.rank → ℕ) (inb : ∀ a, off a + s.size a ≤ s.size a) :
    View.readAt (Elt Ideal) arg.view (Rect.unit (s := s) off s.size inb).toLoadRect (harg.unread x) = x := by
  rw [View.readAt_full, harg.read_unread]

/-- A load of 512 columns of a gate, -/
theorem gate_read {arg : Memref sig .tc .vmem S512x1024 .bf16} (harg : arg.IsWhole) (x : Vec Ideal S512x1024 .bf16)
    (o : ℕ) (inb : ∀ a, ![0, o] a + S512x512.size a ≤ S512x1024.size a) (r k : Fin 512) (K : Fin 1024) (hK : K.val = o + k.val) :
    View.readAt (Elt Ideal) arg.view (Rect.unit (s := S512x1024) ![0, o] S512x512.size inb).toLoadRect (harg.unread x) (ix2 r k) = x (ix2 r K) := by
  rw [harg.readAt_unread]
  refine congrArg x (funext fun a => Fin.ext ?_)
  fin_cases a
  · show 0 + 1 * r.val = r.val; omega
  · show o + 1 * k.val = K.val; omega

/-- of the residual rows, -/
theorem rows_read {arg : Memref sig .tc .vmem S512x2048 .f32} (harg : arg.IsWhole) (x : Vec Ideal S512x2048 .f32)
    (o : ℕ) (inb : ∀ a, ![0, o] a + S512x512.size a ≤ S512x2048.size a) (r k : Fin 512) (K : Fin 2048) (hK : K.val = o + k.val) :
    View.readAt (Elt Ideal) arg.view (Rect.unit (s := S512x2048) ![0, o] S512x512.size inb).toLoadRect (harg.unread x) (ix2 r k) = x (ix2 r K) := by
  rw [harg.readAt_unread]
  refine congrArg x (funext fun a => Fin.ext ?_)
  fin_cases a
  · show 0 + 1 * r.val = r.val; omega
  · show o + 1 * k.val = K.val; omega

/-- of a branch's weight, -/
theorem weight_read {arg : Memref sig .tc .vmem S1x1024x2048 .bf16} (harg : arg.IsWhole) (x : Vec Ideal S1x1024x2048 .bf16)
    (o : ℕ) (inb : ∀ a, ![0, 0, o] a + S1x1024x512.size a ≤ S1x1024x2048.size a) (j : Fin 1024) (k : Fin 512) (K : Fin 2048) (hK : K.val = o + k.val) :
    View.readAt (Elt Ideal) arg.view (Rect.unit (s := S1x1024x2048) ![0, 0, o] S1x1024x512.size inb).toLoadRect (harg.unread x) (ix3 0 j k) = x (ix3 0 j K) := by
  rw [harg.readAt_unread]
  refine congrArg x (funext fun a => Fin.ext ?_)
  fin_cases a
  · rfl
  · show 0 + 1 * j.val = j.val; omega
  · show o + 1 * k.val = K.val; omega

/-- and of the output weight. -/
theorem outWeight_read {arg : Memref sig .tc .vmem S1x2048x2048 .bf16} (harg : arg.IsWhole) (x : Vec Ideal S1x2048x2048 .bf16)
    (o : ℕ) (inb : ∀ a, ![0, 0, o] a + S1x2048x512.size a ≤ S1x2048x2048.size a) (j : Fin 2048) (k : Fin 512) (K : Fin 2048) (hK : K.val = o + k.val) :
    View.readAt (Elt Ideal) arg.view (Rect.unit (s := S1x2048x2048) ![0, 0, o] S1x2048x512.size inb).toLoadRect (harg.unread x) (ix3 0 j k) = x (ix3 0 j K) := by
  rw [harg.readAt_unread]
  refine congrArg x (funext fun a => Fin.ext ?_)
  fin_cases a
  · rfl
  · show 0 + 1 * j.val = j.val; omega
  · show o + 1 * k.val = K.val; omega

/-- Where an entry of 512 stored columns lies in the block. -/
theorem cols_emb (o : ℕ) (inb : ∀ a, ![0, o] a + S512x512.size a ≤ S512x2048.size a) (r k : Fin 512) (K : Fin 2048) (hK : K.val = o + k.val) :
    (Rect.unit (s := S512x2048) ![0, o] S512x512.size inb).emb (ix2 r k) = ix2 r K := by
  refine funext fun a => Fin.ext ?_
  fin_cases a
  · show 0 + 1 * r.val = r.val; omega
  · show o + 1 * k.val = K.val; omega

theorem mem_cols (o : ℕ) (inb : ∀ a, ![0, o] a + S512x512.size a ≤ S512x2048.size a) (y : S512x2048.Idx) (h0 : o ≤ (y 1).val) (h1 : (y 1).val < o + 512) :
    y ∈ (Rect.unit (s := S512x2048) ![0, o] S512x512.size inb).set := by
  rw [Rect.mem_set_unit]
  intro a
  fin_cases a
  · have : (y 0).val < 512 := (y 0).isLt
    show 0 ≤ (y 0).val ∧ (y 0).val < 0 + 512; omega
  · exact ⟨h0, h1⟩

/-- Two half gates side by side. -/
def joined (lo hi : Vec Ideal S512x1024 .bf16) (r : Fin 512) (K : Fin 2048) : EReal :=
  if h : K.val < 1024 then lo (ix2 r ⟨K.val, h⟩) else hi (ix2 r ⟨K.val - 1024, by have := K.isLt; omega⟩)

theorem joined_lo (lo hi : Vec Ideal S512x1024 .bf16) (r : Fin 512) (K : Fin 2048) (k : Fin 1024) (h : K.val = k.val) :
    joined lo hi r K = lo (ix2 r k) := by
  unfold joined
  rw [dif_pos (show K.val < 1024 by have := k.isLt; omega)]
  exact congrArg (fun q => lo (ix2 r q)) (Fin.ext h)

theorem joined_hi (lo hi : Vec Ideal S512x1024 .bf16) (r : Fin 512) (K : Fin 2048) (k : Fin 1024) (h : K.val = 1024 + k.val) :
    joined lo hi r K = hi (ix2 r k) := by
  unfold joined
  rw [dif_neg (show ¬K.val < 1024 by omega)]
  exact congrArg (fun q => hi (ix2 r q)) (Fin.ext (by show K.val - 1024 = k.val; omega))

variable (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x2048 .f32) (harg7 : arg7.IsWhole) (arg8 : Memref sig .tc .vmem S1x1024x2048 .bf16) (harg8 : arg8.IsWhole) (arg9 : Memref sig .tc .vmem S1x1024x2048 .bf16) (harg9 : arg9.IsWhole) (arg10 : Memref sig .tc .vmem S1x2048x2048 .bf16) (harg10 : arg10.IsWhole) (arg11 : Memref sig .tc .vmem S512x2048 .f32) (harg11 : arg11.IsWhole) (arg12 : Memref sig .tc .vmem S512x2048 .bf16) (harg12 : arg12.IsWhole)
  (x0 : Vec Ideal S512x1024 .bf16) (x1 : Vec Ideal S512x1024 .bf16) (x2 : Vec Ideal S512x1024 .bf16) (x3 : Vec Ideal S512x1024 .bf16) (x4 : Vec Ideal S512x1024 .bf16) (x5 : Vec Ideal S512x1024 .bf16) (x6 : Vec Ideal S512x2048 .f32) (x7 : Vec Ideal S1x1024x2048 .bf16) (x8 : Vec Ideal S1x1024x2048 .bf16) (x9 : Vec Ideal S1x2048x2048 .bf16)

/-- The gated sum of the branches. -/
def mBlk (x0 x1 x2 x3 x4 x5 : Vec Ideal S512x1024 .bf16) (x7 x8 : Vec Ideal S1x1024x2048 .bf16) : Vec Ideal S512x2048 .bf16 := fun y =>
  mix (joined x2 x3 ⟨(y 0).val, (y 0).isLt⟩ ⟨(y 1).val, (y 1).isLt⟩) (joined x4 x5 ⟨(y 0).val, (y 0).isLt⟩ ⟨(y 1).val, (y 1).isLt⟩)
    (fun j => x0 (ix2 ⟨(y 0).val, (y 0).isLt⟩ j)) (fun j => x7 (ix3 0 j ⟨(y 1).val, (y 1).isLt⟩))
    (fun j => x1 (ix2 ⟨(y 0).val, (y 0).isLt⟩ j)) (fun j => x8 (ix3 0 j ⟨(y 1).val, (y 1).isLt⟩))

/-- The output block. -/
def oBlk (h : Vec Ideal S512x2048 .bf16) (x6 : Vec Ideal S512x2048 .f32) (x9 : Vec Ideal S1x2048x2048 .bf16) : Vec Ideal S512x2048 .f32 := fun y =>
  x6 (ix2 ⟨(y 0).val, (y 0).isLt⟩ ⟨(y 1).val, (y 1).isLt⟩) + ∑ j : Fin 2048, h (ix2 ⟨(y 0).val, (y 0).isLt⟩ j) * x9 (ix3 0 j ⟨(y 1).val, (y 1).isLt⟩)

theorem mBlk_ix2 (x0 x1 x2 x3 x4 x5 : Vec Ideal S512x1024 .bf16) (x7 x8 : Vec Ideal S1x1024x2048 .bf16) (r : Fin 512) (K : Fin 2048) :
    mBlk x0 x1 x2 x3 x4 x5 x7 x8 (ix2 r K) = mix (joined x2 x3 r K) (joined x4 x5 r K) (fun j => x0 (ix2 r j)) (fun j => x7 (ix3 0 j K)) (fun j => x1 (ix2 r j)) (fun j => x8 (ix3 0 j K)) := rfl

theorem mix_congr {ga ga' gc gc' : EReal} {a a' wa wa' b b' wb wb' : Fin 1024 → EReal} (h1 : ga = ga') (h2 : gc = gc') (h3 : a = a') (h4 : wa = wa')
    (h5 : b = b') (h6 : wb = wb') : mix ga gc a wa b wb = mix ga' gc' a' wa' b' wb' := by
  subst h1 h2 h3 h4 h5 h6; rfl

/-- The gated sum is stored in four blocks of columns. -/
theorem mix_pieces : View.PiecesOf (mBlk x0 x1 x2 x3 x4 x5 x7 x8) (kernelRun0_A c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9).2.1 := by
  unfold kernelRun0_A; dsimp only
  refine ⟨?_, ?_, ?_, ?_, trivial⟩
  · intro z
    obtain ⟨r, k, rfl⟩ : ∃ (r k : Fin 512), z = ix2 r k := ⟨z 0, z 1, eq_ix2 z⟩
    have hk := k.isLt
    refine Eq.trans ?_ (congrArg (mBlk x0 x1 x2 x3 x4 x5 x7 x8) (cols_emb 1536 inb_S512x2048_S512x512_0_1536 r k ⟨1536 + k.val, by omega⟩ rfl)).symm
    refine (pay9_apply _ _ _ _ _ _ r k).trans ?_
    refine Eq.trans ?_ (mBlk_ix2 x0 x1 x2 x3 x4 x5 x7 x8 r _).symm
    refine mix_congr ?_ ?_ (funext fun j => congrFun (full_read harg1 x0 _ _) _) (funext fun j => weight_read harg8 x7 1536 _ j k _ rfl)
      (funext fun j => congrFun (full_read harg2 x1 _ _) _) (funext fun j => weight_read harg9 x8 1536 _ j k _ rfl)
    · exact (gate_read harg4 x3 512 _ r k ⟨512 + k.val, by omega⟩ rfl).trans (joined_hi _ _ r _ _ (by show 1536 + k.val = 1024 + (512 + k.val); omega)).symm
    · exact (gate_read harg6 x5 512 _ r k ⟨512 + k.val, by omega⟩ rfl).trans (joined_hi _ _ r _ _ (by show 1536 + k.val = 1024 + (512 + k.val); omega)).symm
  · intro z
    obtain ⟨r, k, rfl⟩ : ∃ (r k : Fin 512), z = ix2 r k := ⟨z 0, z 1, eq_ix2 z⟩
    have hk := k.isLt
    refine Eq.trans ?_ (congrArg (mBlk x0 x1 x2 x3 x4 x5 x7 x8) (cols_emb 1024 inb_S512x2048_S512x512_0_1024 r k ⟨1024 + k.val, by omega⟩ rfl)).symm
    refine (pay8_apply _ _ _ _ _ _ r k).trans ?_
    refine Eq.trans ?_ (mBlk_ix2 x0 x1 x2 x3 x4 x5 x7 x8 r _).symm
    refine mix_congr ?_ ?_ (funext fun j => congrFun (full_read harg1 x0 _ _) _) (funext fun j => weight_read harg8 x7 1024 _ j k _ rfl)
      (funext fun j => congrFun (full_read harg2 x1 _ _) _) (funext fun j => weight_read harg9 x8 1024 _ j k _ rfl)
    · exact (gate_read harg4 x3 0 _ r k ⟨0 + k.val, by omega⟩ rfl).trans (joined_hi _ _ r _ _ (by show 1024 + k.val = 1024 + (0 + k.val); omega)).symm
    · exact (gate_read harg6 x5 0 _ r k ⟨0 + k.val, by omega⟩ rfl).trans (joined_hi _ _ r _ _ (by show 1024 + k.val = 1024 + (0 + k.val); omega)).symm
  · intro z
    obtain ⟨r, k, rfl⟩ : ∃ (r k : Fin 512), z = ix2 r k := ⟨z 0, z 1, eq_ix2 z⟩
    have hk := k.isLt
    refine Eq.trans ?_ (congrArg (mBlk x0 x1 x2 x3 x4 x5 x7 x8) (cols_emb 512 inb_S512x2048_S512x512_0_512 r k ⟨512 + k.val, by omega⟩ rfl)).symm
    refine (pay7_apply _ _ _ _ _ _ r k).trans ?_
    refine Eq.trans ?_ (mBlk_ix2 x0 x1 x2 x3 x4 x5 x7 x8 r _).symm
    refine mix_congr ?_ ?_ (funext fun j => congrFun (full_read harg1 x0 _ _) _) (funext fun j => weight_read harg8 x7 512 _ j k _ rfl)
      (funext fun j => congrFun (full_read harg2 x1 _ _) _) (funext fun j => weight_read harg9 x8 512 _ j k _ rfl)
    · exact (gate_read harg3 x2 512 _ r k ⟨512 + k.val, by omega⟩ rfl).trans (joined_lo _ _ r _ _ (by show 512 + k.val = (512 + k.val); omega)).symm
    · exact (gate_read harg5 x4 512 _ r k ⟨512 + k.val, by omega⟩ rfl).trans (joined_lo _ _ r _ _ (by show 512 + k.val = (512 + k.val); omega)).symm
  · intro z
    obtain ⟨r, k, rfl⟩ : ∃ (r k : Fin 512), z = ix2 r k := ⟨z 0, z 1, eq_ix2 z⟩
    have hk := k.isLt
    refine Eq.trans ?_ (congrArg (mBlk x0 x1 x2 x3 x4 x5 x7 x8) (cols_emb 0 inb_S512x2048_S512x512_0_0 r k ⟨0 + k.val, by omega⟩ rfl)).symm
    refine (pay4_apply _ _ _ _ _ _ r k).trans ?_
    refine Eq.trans ?_ (mBlk_ix2 x0 x1 x2 x3 x4 x5 x7 x8 r _).symm
    refine mix_congr ?_ ?_ (funext fun j => congrFun (full_read harg1 x0 _ _) _) (funext fun j => weight_read harg8 x7 0 _ j k _ rfl)
      (funext fun j => congrFun (full_read harg2 x1 _ _) _) (funext fun j => weight_read harg9 x8 0 _ j k _ rfl)
    · exact (gate_read harg3 x2 0 _ r k ⟨0 + k.val, by omega⟩ rfl).trans (joined_lo _ _ r _ _ (by show 0 + k.val = (0 + k.val); omega)).symm
    · exact (gate_read harg5 x4 0 _ r k ⟨0 + k.val, by omega⟩ rfl).trans (joined_lo _ _ r _ _ (by show 0 + k.val = (0 + k.val); omega)).symm

theorem mix_cover (y : S512x2048.Idx) : ∃ p ∈ (kernelRun0_A c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9).2.1, y ∈ p.1.set := by
  unfold kernelRun0_A; dsimp only
  have hy : (y 1).val < 2048 := (y 1).isLt
  by_cases h3 : 1536 ≤ (y 1).val
  · exact ⟨_, List.mem_cons_self, mem_cols 1536 inb_S512x2048_S512x512_0_1536 y h3 (by omega)⟩
  by_cases h2 : 1024 ≤ (y 1).val
  · exact ⟨_, List.mem_cons_of_mem _ List.mem_cons_self, mem_cols 1024 inb_S512x2048_S512x512_0_1024 y h2 (by omega)⟩
  by_cases h1 : 512 ≤ (y 1).val
  · exact ⟨_, List.mem_cons_of_mem _ (List.mem_cons_of_mem _ List.mem_cons_self), mem_cols 512 inb_S512x2048_S512x512_0_512 y h1 (by omega)⟩
  · exact ⟨_, List.mem_cons_of_mem _ (List.mem_cons_of_mem _ (List.mem_cons_of_mem _ List.mem_cons_self)), mem_cols 0 inb_S512x2048_S512x512_0_0 y (Nat.zero_le _) (by omega)⟩

/-- The scratch buffer, loaded whole: the gated sum. -/
theorem mix_readCov (inb : ∀ a, ![0, 0] a + S512x2048.size a ≤ S512x2048.size a) :
    arg12.view.readCov (kernelRun0_A c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9).2.1 (Rect.unit (s := S512x2048) ![0, 0] S512x2048.size inb).toLoadRect = mBlk x0 x1 x2 x3 x4 x5 x7 x8 := by
  rw [View.readCov_eq_canon']
  funext z
  refine (View.canon_apply_of_pieces _ _ (View.PiecesOf.mem (mix_pieces c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9)) _ (mix_cover c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 _)).trans (congrArg _ (funext fun a => Fin.ext ?_))
  fin_cases a
  · show 0 + 1 * (z 0).val = (z 0).val; omega
  · show 0 + 1 * (z 1).val = (z 1).val; omega

/-- The output is stored in four blocks of columns. -/
theorem out_pieces : View.PiecesOf (oBlk (mBlk x0 x1 x2 x3 x4 x5 x7 x8) x6 x9) (kernelRun0_A c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9).1 := by
  have hm := mix_readCov c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 inb_S512x2048_S512x2048_0_0
  unfold kernelRun0_A; dsimp only
  refine ⟨?_, ?_, ?_, ?_, trivial⟩
  · intro z
    obtain ⟨r, k, rfl⟩ : ∃ (r k : Fin 512), z = ix2 r k := ⟨z 0, z 1, eq_ix2 z⟩
    have hk := k.isLt
    refine Eq.trans ?_ (congrArg (oBlk (mBlk x0 x1 x2 x3 x4 x5 x7 x8) x6 x9) (cols_emb 1536 inb_S512x2048_S512x512_0_1536 r k ⟨1536 + k.val, by omega⟩ rfl)).symm
    refine (pay3_apply _ _ _ r k).trans ?_
    exact congrArg₂ (fun u v : EReal => u + v) (rows_read harg7 x6 1536 _ r k _ rfl)
      (Finset.sum_congr rfl fun j _ => congrArg₂ (fun u v : EReal => u * v) (congrFun hm _) (outWeight_read harg10 x9 1536 _ j k _ rfl))
  · intro z
    obtain ⟨r, k, rfl⟩ : ∃ (r k : Fin 512), z = ix2 r k := ⟨z 0, z 1, eq_ix2 z⟩
    have hk := k.isLt
    refine Eq.trans ?_ (congrArg (oBlk (mBlk x0 x1 x2 x3 x4 x5 x7 x8) x6 x9) (cols_emb 1024 inb_S512x2048_S512x512_0_1024 r k ⟨1024 + k.val, by omega⟩ rfl)).symm
    refine (pay2_apply _ _ _ r k).trans ?_
    exact congrArg₂ (fun u v : EReal => u + v) (rows_read harg7 x6 1024 _ r k _ rfl)
      (Finset.sum_congr rfl fun j _ => congrArg₂ (fun u v : EReal => u * v) (congrFun hm _) (outWeight_read harg10 x9 1024 _ j k _ rfl))
  · intro z
    obtain ⟨r, k, rfl⟩ : ∃ (r k : Fin 512), z = ix2 r k := ⟨z 0, z 1, eq_ix2 z⟩
    have hk := k.isLt
    refine Eq.trans ?_ (congrArg (oBlk (mBlk x0 x1 x2 x3 x4 x5 x7 x8) x6 x9) (cols_emb 512 inb_S512x2048_S512x512_0_512 r k ⟨512 + k.val, by omega⟩ rfl)).symm
    refine (pay1_apply _ _ _ r k).trans ?_
    exact congrArg₂ (fun u v : EReal => u + v) (rows_read harg7 x6 512 _ r k _ rfl)
      (Finset.sum_congr rfl fun j _ => congrArg₂ (fun u v : EReal => u * v) (congrFun hm _) (outWeight_read harg10 x9 512 _ j k _ rfl))
  · intro z
    obtain ⟨r, k, rfl⟩ : ∃ (r k : Fin 512), z = ix2 r k := ⟨z 0, z 1, eq_ix2 z⟩
    have hk := k.isLt
    refine Eq.trans ?_ (congrArg (oBlk (mBlk x0 x1 x2 x3 x4 x5 x7 x8) x6 x9) (cols_emb 0 inb_S512x2048_S512x512_0_0 r k ⟨0 + k.val, by omega⟩ rfl)).symm
    refine (pay10_apply _ _ _ r k).trans ?_
    exact congrArg₂ (fun u v : EReal => u + v) (rows_read harg7 x6 0 _ r k _ rfl)
      (Finset.sum_congr rfl fun j _ => congrArg₂ (fun u v : EReal => u * v) (congrFun hm _) (outWeight_read harg10 x9 0 _ j k _ rfl))

theorem out_cover (y : S512x2048.Idx) : ∃ p ∈ (kernelRun0_A c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9).1, y ∈ p.1.set := by
  unfold kernelRun0_A; dsimp only
  have hy : (y 1).val < 2048 := (y 1).isLt
  by_cases h3 : 1536 ≤ (y 1).val
  · exact ⟨_, List.mem_cons_self, mem_cols 1536 inb_S512x2048_S512x512_0_1536 y h3 (by omega)⟩
  by_cases h2 : 1024 ≤ (y 1).val
  · exact ⟨_, List.mem_cons_of_mem _ List.mem_cons_self, mem_cols 1024 inb_S512x2048_S512x512_0_1024 y h2 (by omega)⟩
  by_cases h1 : 512 ≤ (y 1).val
  · exact ⟨_, List.mem_cons_of_mem _ (List.mem_cons_of_mem _ List.mem_cons_self), mem_cols 512 inb_S512x2048_S512x512_0_512 y h1 (by omega)⟩
  · exact ⟨_, List.mem_cons_of_mem _ (List.mem_cons_of_mem _ (List.mem_cons_of_mem _ List.mem_cons_self)), mem_cols 0 inb_S512x2048_S512x512_0_0 y (Nat.zero_le _) (by omega)⟩

/-- The body leaves the residual plus the product. -/
theorem out_eq : out0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 = oBlk (mBlk x0 x1 x2 x3 x4 x5 x7 x8) x6 x9 := by
  refine (View.read_writes_eq_canon _ _ _ (out_cover c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9)).trans ?_
  funext y
  exact View.canon_apply_of_pieces _ _ (View.PiecesOf.mem (out_pieces c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9)) y (out_cover c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 y)

end Cert.MergeIdeal.Proj

end
-- ==== Proof.Merge.Result.lean ====
/-
  The merge and output projection's output array after the run: each row of the residual plus the gated sum of the two
  branches times the output weight.
-/
module

public import proofs.«01_k».proof.Proof.Merge.Blocks

@[expose] public section

set_option maxRecDepth 16384

noncomputable section

namespace Cert.MergeIdeal.Proj

open Cert.MergeIdeal Cert.MergeIdeal.Gen Cert.MergeLayer
open Idealize.ShloMosaic Idealize.ShloMosaic.TcCoe Idealize.ShloMosaic.Tactic

variable (m : (ℓ : Loc nD τ sig) → Buf (Elt Ideal) ℓ) (c : Dev nD)

theorem point_lt (t : Fin cfg0.N) : t.val < 64 := lt_of_lt_of_eq t.isLt N_0

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 5] := (by decide +kernel : ∀ t : Fin grid0.N, _)
theorem idx3 : ∀ t : Fin cfg0.N, win0_3.index t = ![t.val, 6] := (by decide +kernel : ∀ t : Fin grid0.N, _)
theorem idx4 : ∀ t : Fin cfg0.N, win0_4.index t = ![t.val, 7] := (by decide +kernel : ∀ t : Fin grid0.N, _)
theorem idx5 : ∀ t : Fin cfg0.N, win0_5.index t = ![t.val, 8] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![0, 0, 0] := (by decide +kernel : ∀ t : Fin grid0.N, _)
theorem idx8 : ∀ t : Fin cfg0.N, win0_8.index t = ![0, 0, 0] := (by decide +kernel : ∀ t : Fin grid0.N, _)
theorem idx9 : ∀ t : Fin cfg0.N, win0_9.index t = ![0, 0, 0] := (by decide +kernel : ∀ t : Fin grid0.N, _)
theorem idx10 : ∀ t : Fin cfg0.N, win0_10.index t = ![t.val, 0] := (by decide +kernel : ∀ t : Fin grid0.N, _)

/-- The first branch's rows at point `t`, -/
abbrev aBlk (t : Fin cfg0.N) : Vec Ideal S512x1024 .bf16 := iblk m c 0 t
/-- the second branch's, -/
abbrev cBlk (t : Fin cfg0.N) : Vec Ideal S512x1024 .bf16 := iblk m c 1 t
/-- the two halves of the first gate, -/
abbrev gaLo (t : Fin cfg0.N) : Vec Ideal S512x1024 .bf16 := iblk m c 2 t
abbrev gaHi (t : Fin cfg0.N) : Vec Ideal S512x1024 .bf16 := iblk m c 3 t
/-- the two halves of the second, -/
abbrev gcLo (t : Fin cfg0.N) : Vec Ideal S512x1024 .bf16 := iblk m c 4 t
abbrev gcHi (t : Fin cfg0.N) : Vec Ideal S512x1024 .bf16 := iblk m c 5 t
/-- the residual rows, -/
abbrev xBlk (t : Fin cfg0.N) : Vec Ideal S512x2048 .f32 := iblk m c 6 t
/-- and the three weights. -/
abbrev waBlk (t : Fin cfg0.N) : Vec Ideal S1x1024x2048 .bf16 := iblk m c 7 t
abbrev wcBlk (t : Fin cfg0.N) : Vec Ideal S1x1024x2048 .bf16 := iblk m c 8 t
abbrev woBlk (t : Fin cfg0.N) : Vec Ideal S1x2048x2048 .bf16 := iblk m c 9 t

section
variable (t : Fin cfg0.N) (r : Fin 512) (R : Fin 32768) (hR : R.val = t.val * 512 + r.val)
include hR

theorem aBlk_apply (j : Fin 1024) : aBlk m c t (ix2 r j) = m ((c : Thread nD τ).loc main_arg1) (ix2 R j) := by
  unfold aBlk
  blk_ext [iblk, idx0]

theorem cBlk_apply (j : Fin 1024) : cBlk m c t (ix2 r j) = m ((c : Thread nD τ).loc main_arg2) (ix2 R j) := by
  unfold cBlk
  blk_ext [iblk, idx1]

theorem xBlk_apply (j : Fin 2048) : xBlk m c t (ix2 r j) = m ((c : Thread nD τ).loc main_arg3) (ix2 R j) := by
  unfold xBlk
  blk_ext [iblk, idx6]

theorem gaLo_apply (k : Fin 1024) (K : Fin 9216) (hK : K.val = 5120 + k.val) : gaLo m c t (ix2 r k) = m ((c : Thread nD τ).loc main_arg0) (ix2 R K) := by
  unfold gaLo
  blk_ext [iblk, idx2]

theorem gaHi_apply (k : Fin 1024) (K : Fin 9216) (hK : K.val = 6144 + k.val) : gaHi m c t (ix2 r k) = m ((c : Thread nD τ).loc main_arg0) (ix2 R K) := by
  unfold gaHi
  blk_ext [iblk, idx3]

theorem gcLo_apply (k : Fin 1024) (K : Fin 9216) (hK : K.val = 7168 + k.val) : gcLo m c t (ix2 r k) = m ((c : Thread nD τ).loc main_arg0) (ix2 R K) := by
  unfold gcLo
  blk_ext [iblk, idx4]

theorem gcHi_apply (k : Fin 1024) (K : Fin 9216) (hK : K.val = 8192 + k.val) : gcHi m c t (ix2 r k) = m ((c : Thread nD τ).loc main_arg0) (ix2 R K) := by
  unfold gcHi
  blk_ext [iblk, idx5]

/-- The first gate's row, -/
theorem ga_apply (K : Fin 2048) (Q : Fin 9216) (hQ : Q.val = 5120 + K.val) :
    joined (gaLo m c t) (gaHi m c t) r K = m ((c : Thread nD τ).loc main_arg0) (ix2 R Q) := by
  by_cases h : K.val < 1024
  · exact (joined_lo _ _ r K ⟨K.val, h⟩ rfl).trans (gaLo_apply m c t r R hR _ Q hQ)
  · exact (joined_hi _ _ r K ⟨K.val - 1024, by omega⟩ (by show K.val = 1024 + (K.val - 1024); omega)).trans
      (gaHi_apply m c t r R hR _ Q (by show Q.val = 6144 + (K.val - 1024); omega))

/-- and the second's. -/
theorem gc_apply (K : Fin 2048) (Q : Fin 9216) (hQ : Q.val = 7168 + K.val) :
    joined (gcLo m c t) (gcHi m c t) r K = m ((c : Thread nD τ).loc main_arg0) (ix2 R Q) := by
  by_cases h : K.val < 1024
  · exact (joined_lo _ _ r K ⟨K.val, h⟩ rfl).trans (gcLo_apply m c t r R hR _ Q hQ)
  · exact (joined_hi _ _ r K ⟨K.val - 1024, by omega⟩ (by show K.val = 1024 + (K.val - 1024); omega)).trans
      (gcHi_apply m c t r R hR _ Q (by show Q.val = 8192 + (K.val - 1024); omega))

end

theorem waBlk_apply (t : Fin cfg0.N) (j : Fin 1024) (k : Fin 2048) : waBlk m c t (ix3 0 j k) = m ((c : Thread nD τ).loc main_arg4) (ix3 0 j k) := by
  unfold waBlk
  blk_ext [iblk, idx7]

theorem wcBlk_apply (t : Fin cfg0.N) (j : Fin 1024) (k : Fin 2048) : wcBlk m c t (ix3 0 j k) = m ((c : Thread nD τ).loc main_arg5) (ix3 0 j k) := by
  unfold wcBlk
  blk_ext [iblk, idx8]

theorem woBlk_apply (t : Fin cfg0.N) (j : Fin 2048) (k : Fin 2048) : woBlk m c t (ix3 0 j k) = m ((c : Thread nD τ).loc main_arg6) (ix3 0 j k) := by
  unfold woBlk
  blk_ext [iblk, idx9]

/-- An entry of the gated sum of the branches. -/
def mixAt (R : Fin 32768) (K : Fin 2048) : EReal :=
  mix (m ((c : Thread nD τ).loc main_arg0) (ix2 R ⟨5120 + K.val, by omega⟩)) (m ((c : Thread nD τ).loc main_arg0) (ix2 R ⟨7168 + K.val, by omega⟩))
    (fun j => m ((c : Thread nD τ).loc main_arg1) (ix2 R j)) (fun j => m ((c : Thread nD τ).loc main_arg4) (ix3 0 j K))
    (fun j => m ((c : Thread nD τ).loc main_arg2) (ix2 R j)) (fun j => m ((c : Thread nD τ).loc main_arg5) (ix3 0 j K))

/-- An entry of the residual. -/
def residAt (R : Fin 32768) (K : Fin 2048) : EReal := m ((c : Thread nD τ).loc main_arg3) (ix2 R K)

/-- An entry of the output. -/
def outAt (R : Fin 32768) (K : Fin 2048) : EReal :=
  residAt m c R K + ∑ j : Fin 2048, mixAt m c R j * m ((c : Thread nD τ).loc main_arg6) (ix3 0 j K)

/-- The array of output rows. -/
def rows : (⟨S32768x2048, .f32⟩ : BufTy).Contents (Elt Ideal) := fun y => outAt m c ⟨(y 0).val, (y 0).isLt⟩ ⟨(y 1).val, (y 1).isLt⟩

theorem mixAt_eq (t : Fin cfg0.N) (r : Fin 512) (R : Fin 32768) (hR : R.val = t.val * 512 + r.val) (K : Fin 2048) :
    mBlk (aBlk m c t) (cBlk m c t) (gaLo m c t) (gaHi m c t) (gcLo m c t) (gcHi m c t) (waBlk m c t) (wcBlk m c t) (ix2 r K) = mixAt m c R K :=
  (mBlk_ix2 _ _ _ _ _ _ _ _ r K).trans (mix_congr (ga_apply m c t r R hR K _ rfl) (gc_apply m c t r R hR K _ rfl)
    (funext fun j => aBlk_apply m c t r R hR j) (funext fun j => waBlk_apply m c t j K)
    (funext fun j => cBlk_apply m c t r R hR j) (funext fun j => wcBlk_apply m c t j K))

theorem outsAt0_eq (t : Fin cfg0.N) : outsAt0 m c t
    = oBlk (mBlk (aBlk m c t) (cBlk m c t) (gaLo m c t) (gaHi m c t) (gcLo m c t) (gcHi m c t) (waBlk m c t) (wcBlk m c t)) (xBlk m c t) (woBlk m c t) :=
  out_eq c _ _ _ _ _ _ _ _ _ _ _ _ _ _ _ _ _ _ _ _ _ _ _ _ _ _ _ _ _ _ _ _ _ _ _

/-- The output block after each point. -/
theorem out_apply (t : Fin cfg0.N) (r : Fin 512) (R : Fin 32768) (hR : R.val = t.val * 512 + r.val) (K : Fin 2048) :
    outsAt0 m c t (ix2 r K) = outAt m c R K := by
  rw [outsAt0_eq]
  exact congrArg₂ (fun u v : EReal => u + v) (xBlk_apply m c t r R hR K)
    (Finset.sum_congr rfl fun j _ => congrArg₂ (fun u v : EReal => u * v) (mixAt_eq m c t r R hR j) (woBlk_apply m c t j K))

/-- After the run the output array holds those rows. -/
theorem final_rows : (dats m 0 c).arrAt 10 cfg0.N = rows m c := by
  refine (dats m 0 c).arrAt_eq_of_covers 10 _ (by decide +kernel) fun t hf y => ?_
  blk_simp
  rw [after0_10]
  have ht := point_lt t
  have h0 : (y 0).val < 512 := (y 0).isLt
  have h1 : (y 1).val < 2048 := (y 1).isLt
  have e0 : ((win0_10.blk t).view.emb y 0).val = t.val * 512 + (y 0).val := by blk_simp [idx10]
  have e1 : ((win0_10.blk t).view.emb y 1).val = (y 1).val := by blk_simp [idx10]
  have ey : (fun a => y a) = ix2 (⟨(y 0).val, h0⟩ : Fin 512) (⟨(y 1).val, h1⟩ : Fin 2048) := funext fun a => Fin.ext (by match a with | ⟨0, _⟩ => rfl | ⟨1, _⟩ => rfl)
  refine (congrArg (outsAt0 m c t) ey).trans ((out_apply m c t ⟨(y 0).val, h0⟩ ⟨((win0_10.blk t).view.emb y 0).val, ((win0_10.blk t).view.emb y 0).isLt⟩ e0 _).trans ?_)
  exact congrArg (outAt m c _) (Fin.ext e1.symm)

end Cert.MergeIdeal.Proj

end
-- ==== Proof.Merge.Equal.lean ====
/-
  The merge and output projection and its reference compute the same array; the value claim, and the frame of the reference.
-/
module

public import proofs.«01_k».proof.Proof.Merge.Result
public import proofs.«01_k».proof.Proof.Gen.MergeReferenceIdeal.Read
public import proofs.«01_k».proof.Proof.Gen.MergeReferenceIdeal.Run
public import Idealize.ShloMosaic.Lib.IdealHost
public import Idealize.ShloMosaic.Lib.Quiescent
public import proofs.«01_k».proof.Defs

@[expose] public section

set_option maxRecDepth 16384

noncomputable section

namespace Cert.MergeReferenceIdeal.Proj

open Cert.MergeReferenceIdeal Cert.MergeReferenceIdeal.Gen Cert.MergeReferenceIdeal.Read Cert.MergeLayer
open Idealize.ShloMosaic Idealize.ShloMosaic.TcCoe Idealize.SL.Sem

variable (x0 : (⟨S32768x9216, .bf16⟩ : BufTy).Contents (Elt Ideal)) (x1 x2 : (⟨S32768x1024, .bf16⟩ : BufTy).Contents (Elt Ideal))
  (x3 : (⟨S32768x2048, .f32⟩ : BufTy).Contents (Elt Ideal)) (x4 x5 : (⟨S4x1024x2048, .bf16⟩ : BufTy).Contents (Elt Ideal))
  (x6 : (⟨S4x2048x2048, .bf16⟩ : BufTy).Contents (Elt Ideal))

theorem one_bits : (FloatOps.ofBits .f32 0x3F800000#32 : Ideal .f32) = (1 : EReal) := Ideal.ofBits_one_f32

/-- The first gate, -/
theorem gateA_apply (R : Fin 32768) (K : Fin 2048) :
    val_main_v7 (F := Ideal) x0 (ix2 R K) = Ideal.logistic (x0 (ix2 R ⟨5120 + K.val, by omega⟩)) := by
  rw [val_main_v7_apply, val_main_v6_apply, val_main_cst_0_apply, val_main_v5_apply, val_main_v4_apply, val_main_cst_apply, val_main_v3_apply,
    val_main_v2_apply, val_main_v1_apply, val_main_v0_apply, one_bits]
  have e : idx_main_v0 (ix2 R K) = ix2 R ⟨5120 + K.val, by omega⟩ := funext fun b => Fin.ext (by match b with | ⟨0, _⟩ => rfl | ⟨1, _⟩ => rfl)
  rw [e]
  rfl

/-- and the second. -/
theorem gateC_apply (R : Fin 32768) (K : Fin 2048) :
    val_main_v15 (F := Ideal) x0 (ix2 R K) = Ideal.logistic (x0 (ix2 R ⟨7168 + K.val, by omega⟩)) := by
  rw [val_main_v15_apply, val_main_v14_apply, val_main_cst_2_apply, val_main_v13_apply, val_main_v12_apply, val_main_cst_1_apply, val_main_v11_apply,
    val_main_v10_apply, val_main_v9_apply, val_main_v8_apply, one_bits]
  have e : idx_main_v8 (ix2 R K) = ix2 R ⟨7168 + K.val, by omega⟩ := funext fun b => Fin.ext (by match b with | ⟨0, _⟩ => rfl | ⟨1, _⟩ => rfl)
  rw [e]
  rfl

/-- The first branch's weight, -/
theorem weightA_apply (j : Fin 1024) (K : Fin 2048) : val_main_v19 (F := Ideal) x4 (ix2 j K) = x4 (ix3 0 j K) := by
  rw [val_main_v19_apply, val_main_v18_apply, val_main_v17_apply]
  refine congrArg x4 (funext fun b => Fin.ext ?_)
  have := j.isLt; have := K.isLt
  match b with
  | ⟨0, _⟩ => rfl
  | ⟨1, _⟩ => show (j.val * 2048 + K.val) / 2048 % 1024 = j.val; omega
  | ⟨2, _⟩ => show (j.val * 2048 + K.val) % 2048 = K.val; omega

/-- the second's, -/
theorem weightC_apply (j : Fin 1024) (K : Fin 2048) : val_main_v24 (F := Ideal) x5 (ix2 j K) = x5 (ix3 0 j K) := by
  rw [val_main_v24_apply, val_main_v23_apply, val_main_v22_apply]
  refine congrArg x5 (funext fun b => Fin.ext ?_)
  have := j.isLt; have := K.isLt
  match b with
  | ⟨0, _⟩ => rfl
  | ⟨1, _⟩ => show (j.val * 2048 + K.val) / 2048 % 1024 = j.val; omega
  | ⟨2, _⟩ => show (j.val * 2048 + K.val) % 2048 = K.val; omega

/-- and the output weight. -/
theorem weightO_apply (j : Fin 2048) (K : Fin 2048) : val_main_v31 (F := Ideal) x6 (ix2 j K) = x6 (ix3 0 j K) := by
  rw [val_main_v31_apply, val_main_v30_apply, val_main_v29_apply]
  refine congrArg x6 (funext fun b => Fin.ext ?_)
  have := j.isLt; have := K.isLt
  match b with
  | ⟨0, _⟩ => rfl
  | ⟨1, _⟩ => show (j.val * 2048 + K.val) / 2048 % 2048 = j.val; omega
  | ⟨2, _⟩ => show (j.val * 2048 + K.val) % 2048 = K.val; omega

/-- The first branch's product, -/
theorem branchA_apply (R : Fin 32768) (K : Fin 2048) : val_main_v20 (F := Ideal) x1 x4 (ix2 R K) = ∑ j : Fin 1024, x1 (ix2 R j) * x4 (ix3 0 j K) := by
  refine (val_main_v20_apply x1 x4 (ix2 R K)).trans (Finset.sum_congr rfl fun j _ => ?_)
  exact congrArg₂ (fun u v : EReal => u * v)
    (congrArg x1 (funext fun b => Fin.ext (by match b with | ⟨0, _⟩ => rfl | ⟨1, _⟩ => rfl) : lidx_main_v20 (ix2 R K) j = ix2 R j))
    ((congrArg (val_main_v19 (F := Ideal) x4) (funext fun b => Fin.ext (by match b with | ⟨0, _⟩ => rfl | ⟨1, _⟩ => rfl))).trans (weightA_apply x4 j K))

/-- and the second's. -/
theorem branchC_apply (R : Fin 32768) (K : Fin 2048) : val_main_v25 (F := Ideal) x2 x5 (ix2 R K) = ∑ j : Fin 1024, x2 (ix2 R j) * x5 (ix3 0 j K) := by
  refine (val_main_v25_apply x2 x5 (ix2 R K)).trans (Finset.sum_congr rfl fun j _ => ?_)
  exact congrArg₂ (fun u v : EReal => u * v)
    (congrArg x2 (funext fun b => Fin.ext (by match b with | ⟨0, _⟩ => rfl | ⟨1, _⟩ => rfl) : lidx_main_v25 (ix2 R K) j = ix2 R j))
    ((congrArg (val_main_v24 (F := Ideal) x5) (funext fun b => Fin.ext (by match b with | ⟨0, _⟩ => rfl | ⟨1, _⟩ => rfl))).trans (weightC_apply x5 j K))

/-- The gated sum of the branches. -/
theorem mix_apply (R : Fin 32768) (K : Fin 2048) : val_main_v28 (F := Ideal) x0 x1 x2 x4 x5 (ix2 R K)
    = mix (x0 (ix2 R ⟨5120 + K.val, by omega⟩)) (x0 (ix2 R ⟨7168 + K.val, by omega⟩)) (fun j => x1 (ix2 R j)) (fun j => x4 (ix3 0 j K))
      (fun j => x2 (ix2 R j)) (fun j => x5 (ix3 0 j K)) := by
  rw [val_main_v28_apply, val_main_v26_apply, val_main_v27_apply, gateA_apply, gateC_apply, branchA_apply, branchC_apply]
  rfl

/-- The reference's result at an entry. -/
theorem result_apply (R : Fin 32768) (K : Fin 2048) : val_main_v33 (F := Ideal) x0 x1 x2 x3 x4 x5 x6 (ix2 R K)
    = x3 (ix2 R K) + ∑ j : Fin 2048, mix (x0 (ix2 R ⟨5120 + j.val, by omega⟩)) (x0 (ix2 R ⟨7168 + j.val, by omega⟩)) (fun q => x1 (ix2 R q)) (fun q => x4 (ix3 0 q j))
      (fun q => x2 (ix2 R q)) (fun q => x5 (ix3 0 q j)) * x6 (ix3 0 j K) := by
  rw [val_main_v33_apply]
  refine congrArg (fun u : EReal => x3 (ix2 R K) + u) ((val_main_v32_apply x0 x1 x2 x4 x5 x6 (ix2 R K)).trans (Finset.sum_congr rfl fun j _ => ?_))
  exact congrArg₂ (fun u v : EReal => u * v)
    ((congrArg (val_main_v28 (F := Ideal) x0 x1 x2 x4 x5) (funext fun b => Fin.ext (by match b with | ⟨0, _⟩ => rfl | ⟨1, _⟩ => rfl))).trans (mix_apply x0 x1 x2 x4 x5 R j))
    ((congrArg (val_main_v31 (F := Ideal) x6) (funext fun b => Fin.ext (by match b with | ⟨0, _⟩ => rfl | ⟨1, _⟩ => rfl))).trans (weightO_apply x6 j K))

/-- The reference's arguments end unchanged and every counter at zero. -/
theorem frame {F : FTy → Type} [FloatOps F] [Facts] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => (h c).2, sem_eq_zero_of_no_sems (by decide) r.2⟩) (Value.run m ρ)

end Cert.MergeReferenceIdeal.Proj

namespace Cert.MergeProjection

open Idealize.ShloMosaic Idealize.ShloMosaic.TcCoe Idealize.SL.Sem

/-- The value claim. -/
theorem algebraic : Cert.algebraic_MergeIdeal_MergeReferenceIdeal (hMergeIdeal := Cert.MergeIdeal.Gen.facts)
    (hMergeReferenceIdeal := Cert.MergeReferenceIdeal.Gen.facts) := by
  intro m g m' g' _ hagree
  refine ⟨fun c => Cert.MergeIdeal.Proj.rows m c,
    (θ_run _ _ _).mono (fun r hr c => ⟨(hr c).1.trans (Cert.MergeIdeal.Proj.final_rows m c), (hr c).2⟩) (Cert.MergeIdeal.Value.run_blocks m g),
    (θ_run _ _ _).mono (fun r hr c => ?_) (Cert.MergeReferenceIdeal.Value.run m' g')⟩
  obtain ⟨hv, hr⟩ := hr c
  obtain ⟨a0, a1, a2, a3, a4, a5, a6⟩ := hagree c
  refine ⟨?_, hr⟩
  rw [hv, Cert.MergeReferenceIdeal.Read.val_main_v33_eq, a0, a1, a2, a3, a4, a5, a6]
  funext z
  obtain ⟨R, K, rfl⟩ : ∃ (R : Fin 32768) (K : Fin 2048), z = ix2 R K := ⟨z 0, z 1, eq_ix2 z⟩
  exact Cert.MergeReferenceIdeal.Proj.result_apply _ _ _ _ _ _ _ R K

end Cert.MergeProjection

end
-- ==== Proof.lean ====
/-
  The claim, assembled: for the attention, the experts' layer, the input
  projection, the merge and output projection, and the dense feed-forward, the frames of the kernel as printed and as idealized, the frame of
  the reference, and the equality of the kernel's result with the reference's.
-/
module

public import proofs.«01_k».proof.Defs
public import proofs.«01_k».proof.Proof.Attn.Equal
public import proofs.«01_k».proof.Proof.Attn.RefFrame
public import proofs.«01_k».proof.Proof.AttnFrame.Frame
public import proofs.«01_k».proof.Proof.Experts.Equal
public import proofs.«01_k».proof.Proof.Experts.RefFrame
public import proofs.«01_k».proof.Proof.Experts.Printed
public import proofs.«01_k».proof.Proof.Dense.Equal
public import proofs.«01_k».proof.Proof.Dense.Printed
public import proofs.«01_k».proof.Proof.InProj.Equal
public import proofs.«01_k».proof.Proof.Merge.Equal
public import proofs.«01_k».proof.Proof.Gen.Experts
public import proofs.«01_k».proof.Proof.Gen.Dense
public import proofs.«01_k».proof.Proof.Gen.Dense.Launch
public import proofs.«01_k».proof.Proof.Gen.Dense.Skeleton
public import proofs.«01_k».proof.Proof.Gen.Dense.Loops
public import proofs.«01_k».proof.Proof.Gen.DenseIdeal
public import proofs.«01_k».proof.Proof.Gen.DenseIdeal.Launch
public import proofs.«01_k».proof.Proof.Gen.DenseIdeal.Skeleton
public import proofs.«01_k».proof.Proof.Gen.DenseIdeal.Loops
public import proofs.«01_k».proof.Proof.Gen.DenseReferenceIdeal
public import proofs.«01_k».proof.Proof.Gen.DenseReferenceIdeal.Read
public import proofs.«01_k».proof.Proof.Gen.DenseReferenceIdeal.Run
public import proofs.«01_k».proof.Proof.Gen.ExpertsIdeal
public import proofs.«01_k».proof.Proof.Gen.ExpertsReferenceIdeal
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjReferenceIdeal
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeReferenceIdeal
public import proofs.«01_k».proof.Proof.Gen.Kernel
public import proofs.«01_k».proof.Proof.Gen.KernelIdeal
public import proofs.«01_k».proof.Proof.Gen.ReferenceIdeal

@[expose] public section

noncomputable section

namespace Cert.Proof

open Idealize.ShloMosaic

/-- The experts' precondition gives the range of the table at the bits the kernel as printed runs on. -/
theorem inRange (m : (ℓ : Loc Cert.Experts.nD Cert.Experts.τ Cert.Experts.sig) → Buf (Elt Bits) ℓ)
    (hpre : Cert.Pre_Experts (hPre_experts_in_range := Cert.Pre_experts_in_range.facts) m) : Cert.ExpertsIdeal.Ffn.InRange (F := Bits) m := by
  have := Cert.Pre_experts_in_range.facts
  exact fun i => Cert.Pre_experts_in_range.in_range _ _ _ _ _ _ _ (hpre Cert.ExpertsIdeal.Ffn.dev0) i

theorem claim : Cert.Claim :=
  ⟨Cert.Kernel.Gen.facts, Cert.KernelIdeal.Gen.facts, Cert.ReferenceIdeal.Gen.facts, Cert.Experts.Gen.facts,
    Cert.ExpertsIdeal.Gen.facts, Cert.ExpertsReferenceIdeal.Gen.facts, Cert.InProj.Gen.facts,
    Cert.InProjIdeal.Gen.facts, Cert.InProjReferenceIdeal.Gen.facts, Cert.Merge.Gen.facts, Cert.MergeIdeal.Gen.facts,
    Cert.MergeReferenceIdeal.Gen.facts, Cert.Dense.Gen.facts, Cert.DenseIdeal.Gen.facts,
    Cert.DenseReferenceIdeal.Gen.facts, Cert.Pre_finite_parameters.facts, Cert.Pre_experts_in_range.facts,
    fun m ρ _ => Cert.Kernel.Attn.frame m ρ,
    fun m ρ _ => Cert.KernelIdeal.Attn.frame m ρ,
    fun m ρ _ => Cert.KernelIdeal.Attn.frame m ρ,
    fun m ρ _ => Cert.ReferenceIdeal.Attn.frame m ρ,
    fun m ρ _ => Cert.ReferenceIdeal.Attn.frame m ρ,
    fun m ρ hpre => Cert.Experts.Ffn.frame m ρ (inRange m hpre),
    fun m ρ hpre => Cert.ExpertsIdeal.Ffn.frame m ρ (Cert.ExpertLayer.inRange m hpre),
    fun m ρ _ => Cert.ExpertsReferenceIdeal.Ffn.frame m ρ,
    fun m ρ _ => Cert.ExpertsReferenceIdeal.Ffn.frame m ρ,
    fun m ρ _ => Cert.InProj.Gen.frame m ρ,
    fun m ρ _ => Cert.InProjIdeal.Gen.frame m ρ,
    fun m ρ _ => Cert.InProjReferenceIdeal.Proj.frame m ρ,
    fun m ρ _ => Cert.Merge.Gen.frame m ρ,
    fun m ρ _ => Cert.MergeIdeal.Gen.frame m ρ,
    fun m ρ _ => Cert.MergeReferenceIdeal.Proj.frame m ρ,
    fun m ρ _ => Cert.Dense.Ffn.frame m ρ,
    fun m ρ _ => Cert.DenseIdeal.Ffn.frame m ρ,
    fun m ρ _ => Cert.DenseReferenceIdeal.Ffn.frame m ρ,
    trivial,
    Cert.Attn.algebraic,
    trivial,
    Cert.ExpertLayer.algebraic,
    trivial,
    Cert.InputProjection.algebraic,
    trivial,
    Cert.MergeProjection.algebraic,
    trivial,
    Cert.DenseLayer.algebraic⟩

end Cert.Proof

end
